-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Experts [hPre_known_experts : Cert.Pre_known_experts.Facts] (m : (ℓ : Loc Cert.Experts.nD Cert.Experts.τ Cert.Experts.sig) → Buf (Elt Bits) ℓ) : Prop :=
  ∀ c : Dev Cert.Experts.nD,
    (Cert.Pre_known_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_known_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_known_experts : Cert.Pre_known_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_known_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_known_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_known_experts [hPre_known_experts : Cert.Pre_known_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_known_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_known_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2 = (fun _ => 1#1)

def Pre_LateExperts [hPre_known_late_experts : Cert.Pre_known_late_experts.Facts] (m : (ℓ : Loc Cert.LateExperts.nD Cert.LateExperts.τ Cert.LateExperts.sig) → Buf (Elt Bits) ℓ) : Prop :=
  ∀ c : Dev Cert.LateExperts.nD,
    (Cert.Pre_known_late_experts.fn (F := Bits) (m ((c.tc : Thread Cert.LateExperts.nD Cert.LateExperts.τ).loc Cert.LateExperts.main_arg0)) (m ((c.tc : Thread Cert.LateExperts.nD Cert.LateExperts.τ).loc Cert.LateExperts.main_arg1)) (m ((c.tc : Thread Cert.LateExperts.nD Cert.LateExperts.τ).loc Cert.LateExperts.main_arg2)) (m ((c.tc : Thread Cert.LateExperts.nD Cert.LateExperts.τ).loc Cert.LateExperts.main_arg3)) (m ((c.tc : Thread Cert.LateExperts.nD Cert.LateExperts.τ).loc Cert.LateExperts.main_arg4)) (m ((c.tc : Thread Cert.LateExperts.nD Cert.LateExperts.τ).loc Cert.LateExperts.main_arg5)) (m ((c.tc : Thread Cert.LateExperts.nD Cert.LateExperts.τ).loc Cert.LateExperts.main_arg6))).1 = (fun _ => 1#1)
    ∧ (Cert.Pre_known_late_experts.fn (F := Bits) (m ((c.tc : Thread Cert.LateExperts.nD Cert.LateExperts.τ).loc Cert.LateExperts.main_arg0)) (m ((c.tc : Thread Cert.LateExperts.nD Cert.LateExperts.τ).loc Cert.LateExperts.main_arg1)) (m ((c.tc : Thread Cert.LateExperts.nD Cert.LateExperts.τ).loc Cert.LateExperts.main_arg2)) (m ((c.tc : Thread Cert.LateExperts.nD Cert.LateExperts.τ).loc Cert.LateExperts.main_arg3)) (m ((c.tc : Thread Cert.LateExperts.nD Cert.LateExperts.τ).loc Cert.LateExperts.main_arg4)) (m ((c.tc : Thread Cert.LateExperts.nD Cert.LateExperts.τ).loc Cert.LateExperts.main_arg5)) (m ((c.tc : Thread Cert.LateExperts.nD Cert.LateExperts.τ).loc Cert.LateExperts.main_arg6))).2 = (fun _ => 1#1)

def Pre_LateExpertsIdeal [hPre_known_late_experts : Cert.Pre_known_late_experts.Facts] (m : (ℓ : Loc Cert.LateExpertsIdeal.nD Cert.LateExpertsIdeal.τ Cert.LateExpertsIdeal.sig) → Buf (Elt Ideal) ℓ) : Prop :=
  ∀ c : Dev Cert.LateExpertsIdeal.nD,
    (Cert.Pre_known_late_experts.fn (F := Ideal) (m ((c.tc : Thread Cert.LateExpertsIdeal.nD Cert.LateExpertsIdeal.τ).loc Cert.LateExpertsIdeal.main_arg0)) (m ((c.tc : Thread Cert.LateExpertsIdeal.nD Cert.LateExpertsIdeal.τ).loc Cert.LateExpertsIdeal.main_arg1)) (m ((c.tc : Thread Cert.LateExpertsIdeal.nD Cert.LateExpertsIdeal.τ).loc Cert.LateExpertsIdeal.main_arg2)) (m ((c.tc : Thread Cert.LateExpertsIdeal.nD Cert.LateExpertsIdeal.τ).loc Cert.LateExpertsIdeal.main_arg3)) (m ((c.tc : Thread Cert.LateExpertsIdeal.nD Cert.LateExpertsIdeal.τ).loc Cert.LateExpertsIdeal.main_arg4)) (m ((c.tc : Thread Cert.LateExpertsIdeal.nD Cert.LateExpertsIdeal.τ).loc Cert.LateExpertsIdeal.main_arg5)) (m ((c.tc : Thread Cert.LateExpertsIdeal.nD Cert.LateExpertsIdeal.τ).loc Cert.LateExpertsIdeal.main_arg6))).1 = (fun _ => 1#1)
    ∧ (Cert.Pre_known_late_experts.fn (F := Ideal) (m ((c.tc : Thread Cert.LateExpertsIdeal.nD Cert.LateExpertsIdeal.τ).loc Cert.LateExpertsIdeal.main_arg0)) (m ((c.tc : Thread Cert.LateExpertsIdeal.nD Cert.LateExpertsIdeal.τ).loc Cert.LateExpertsIdeal.main_arg1)) (m ((c.tc : Thread Cert.LateExpertsIdeal.nD Cert.LateExpertsIdeal.τ).loc Cert.LateExpertsIdeal.main_arg2)) (m ((c.tc : Thread Cert.LateExpertsIdeal.nD Cert.LateExpertsIdeal.τ).loc Cert.LateExpertsIdeal.main_arg3)) (m ((c.tc : Thread Cert.LateExpertsIdeal.nD Cert.LateExpertsIdeal.τ).loc Cert.LateExpertsIdeal.main_arg4)) (m ((c.tc : Thread Cert.LateExpertsIdeal.nD Cert.LateExpertsIdeal.τ).loc Cert.LateExpertsIdeal.main_arg5)) (m ((c.tc : Thread Cert.LateExpertsIdeal.nD Cert.LateExpertsIdeal.τ).loc Cert.LateExpertsIdeal.main_arg6))).2 = (fun _ => 1#1)

def Pre_LateExpertsReferenceIdeal (m : (ℓ : Loc Cert.LateExpertsReferenceIdeal.nD Cert.LateExpertsReferenceIdeal.τ Cert.LateExpertsReferenceIdeal.sig) → Buf (Elt Ideal) ℓ) : Prop :=
  True

def Pre_LateExpertsReferenceIdeal_known_late_experts [hPre_known_late_experts : Cert.Pre_known_late_experts.Facts] (m : (ℓ : Loc Cert.LateExpertsReferenceIdeal.nD Cert.LateExpertsReferenceIdeal.τ Cert.LateExpertsReferenceIdeal.sig) → Buf (Elt Ideal) ℓ) : Prop :=
  ∀ c : Dev Cert.LateExpertsReferenceIdeal.nD,
    (Cert.Pre_known_late_experts.fn (F := Ideal) (m ((c.tc : Thread Cert.LateExpertsReferenceIdeal.nD Cert.LateExpertsReferenceIdeal.τ).loc Cert.LateExpertsReferenceIdeal.main_arg0)) (m ((c.tc : Thread Cert.LateExpertsReferenceIdeal.nD Cert.LateExpertsReferenceIdeal.τ).loc Cert.LateExpertsReferenceIdeal.main_arg1)) (m ((c.tc : Thread Cert.LateExpertsReferenceIdeal.nD Cert.LateExpertsReferenceIdeal.τ).loc Cert.LateExpertsReferenceIdeal.main_arg2)) (m ((c.tc : Thread Cert.LateExpertsReferenceIdeal.nD Cert.LateExpertsReferenceIdeal.τ).loc Cert.LateExpertsReferenceIdeal.main_arg3)) (m ((c.tc : Thread Cert.LateExpertsReferenceIdeal.nD Cert.LateExpertsReferenceIdeal.τ).loc Cert.LateExpertsReferenceIdeal.main_arg4)) (m ((c.tc : Thread Cert.LateExpertsReferenceIdeal.nD Cert.LateExpertsReferenceIdeal.τ).loc Cert.LateExpertsReferenceIdeal.main_arg5)) (m ((c.tc : Thread Cert.LateExpertsReferenceIdeal.nD Cert.LateExpertsReferenceIdeal.τ).loc Cert.LateExpertsReferenceIdeal.main_arg6))).1 = (fun _ => 1#1)
    ∧ (Cert.Pre_known_late_experts.fn (F := Ideal) (m ((c.tc : Thread Cert.LateExpertsReferenceIdeal.nD Cert.LateExpertsReferenceIdeal.τ).loc Cert.LateExpertsReferenceIdeal.main_arg0)) (m ((c.tc : Thread Cert.LateExpertsReferenceIdeal.nD Cert.LateExpertsReferenceIdeal.τ).loc Cert.LateExpertsReferenceIdeal.main_arg1)) (m ((c.tc : Thread Cert.LateExpertsReferenceIdeal.nD Cert.LateExpertsReferenceIdeal.τ).loc Cert.LateExpertsReferenceIdeal.main_arg2)) (m ((c.tc : Thread Cert.LateExpertsReferenceIdeal.nD Cert.LateExpertsReferenceIdeal.τ).loc Cert.LateExpertsReferenceIdeal.main_arg3)) (m ((c.tc : Thread Cert.LateExpertsReferenceIdeal.nD Cert.LateExpertsReferenceIdeal.τ).loc Cert.LateExpertsReferenceIdeal.main_arg4)) (m ((c.tc : Thread Cert.LateExpertsReferenceIdeal.nD Cert.LateExpertsReferenceIdeal.τ).loc Cert.LateExpertsReferenceIdeal.main_arg5)) (m ((c.tc : Thread Cert.LateExpertsReferenceIdeal.nD Cert.LateExpertsReferenceIdeal.τ).loc Cert.LateExpertsReferenceIdeal.main_arg6))).2 = (fun _ => 1#1)

def Pre_MidExperts [hPre_known_mid_experts : Cert.Pre_known_mid_experts.Facts] (m : (ℓ : Loc Cert.MidExperts.nD Cert.MidExperts.τ Cert.MidExperts.sig) → Buf (Elt Bits) ℓ) : Prop :=
  ∀ c : Dev Cert.MidExperts.nD,
    (Cert.Pre_known_mid_experts.fn (F := Bits) (m ((c.tc : Thread Cert.MidExperts.nD Cert.MidExperts.τ).loc Cert.MidExperts.main_arg0)) (m ((c.tc : Thread Cert.MidExperts.nD Cert.MidExperts.τ).loc Cert.MidExperts.main_arg1)) (m ((c.tc : Thread Cert.MidExperts.nD Cert.MidExperts.τ).loc Cert.MidExperts.main_arg2)) (m ((c.tc : Thread Cert.MidExperts.nD Cert.MidExperts.τ).loc Cert.MidExperts.main_arg3)) (m ((c.tc : Thread Cert.MidExperts.nD Cert.MidExperts.τ).loc Cert.MidExperts.main_arg4)) (m ((c.tc : Thread Cert.MidExperts.nD Cert.MidExperts.τ).loc Cert.MidExperts.main_arg5)) (m ((c.tc : Thread Cert.MidExperts.nD Cert.MidExperts.τ).loc Cert.MidExperts.main_arg6))).1 = (fun _ => 1#1)
    ∧ (Cert.Pre_known_mid_experts.fn (F := Bits) (m ((c.tc : Thread Cert.MidExperts.nD Cert.MidExperts.τ).loc Cert.MidExperts.main_arg0)) (m ((c.tc : Thread Cert.MidExperts.nD Cert.MidExperts.τ).loc Cert.MidExperts.main_arg1)) (m ((c.tc : Thread Cert.MidExperts.nD Cert.MidExperts.τ).loc Cert.MidExperts.main_arg2)) (m ((c.tc : Thread Cert.MidExperts.nD Cert.MidExperts.τ).loc Cert.MidExperts.main_arg3)) (m ((c.tc : Thread Cert.MidExperts.nD Cert.MidExperts.τ).loc Cert.MidExperts.main_arg4)) (m ((c.tc : Thread Cert.MidExperts.nD Cert.MidExperts.τ).loc Cert.MidExperts.main_arg5)) (m ((c.tc : Thread Cert.MidExperts.nD Cert.MidExperts.τ).loc Cert.MidExperts.main_arg6))).2 = (fun _ => 1#1)

def Pre_MidExpertsIdeal [hPre_known_mid_experts : Cert.Pre_known_mid_experts.Facts] (m : (ℓ : Loc Cert.MidExpertsIdeal.nD Cert.MidExpertsIdeal.τ Cert.MidExpertsIdeal.sig) → Buf (Elt Ideal) ℓ) : Prop :=
  ∀ c : Dev Cert.MidExpertsIdeal.nD,
    (Cert.Pre_known_mid_experts.fn (F := Ideal) (m ((c.tc : Thread Cert.MidExpertsIdeal.nD Cert.MidExpertsIdeal.τ).loc Cert.MidExpertsIdeal.main_arg0)) (m ((c.tc : Thread Cert.MidExpertsIdeal.nD Cert.MidExpertsIdeal.τ).loc Cert.MidExpertsIdeal.main_arg1)) (m ((c.tc : Thread Cert.MidExpertsIdeal.nD Cert.MidExpertsIdeal.τ).loc Cert.MidExpertsIdeal.main_arg2)) (m ((c.tc : Thread Cert.MidExpertsIdeal.nD Cert.MidExpertsIdeal.τ).loc Cert.MidExpertsIdeal.main_arg3)) (m ((c.tc : Thread Cert.MidExpertsIdeal.nD Cert.MidExpertsIdeal.τ).loc Cert.MidExpertsIdeal.main_arg4)) (m ((c.tc : Thread Cert.MidExpertsIdeal.nD Cert.MidExpertsIdeal.τ).loc Cert.MidExpertsIdeal.main_arg5)) (m ((c.tc : Thread Cert.MidExpertsIdeal.nD Cert.MidExpertsIdeal.τ).loc Cert.MidExpertsIdeal.main_arg6))).1 = (fun _ => 1#1)
    ∧ (Cert.Pre_known_mid_experts.fn (F := Ideal) (m ((c.tc : Thread Cert.MidExpertsIdeal.nD Cert.MidExpertsIdeal.τ).loc Cert.MidExpertsIdeal.main_arg0)) (m ((c.tc : Thread Cert.MidExpertsIdeal.nD Cert.MidExpertsIdeal.τ).loc Cert.MidExpertsIdeal.main_arg1)) (m ((c.tc : Thread Cert.MidExpertsIdeal.nD Cert.MidExpertsIdeal.τ).loc Cert.MidExpertsIdeal.main_arg2)) (m ((c.tc : Thread Cert.MidExpertsIdeal.nD Cert.MidExpertsIdeal.τ).loc Cert.MidExpertsIdeal.main_arg3)) (m ((c.tc : Thread Cert.MidExpertsIdeal.nD Cert.MidExpertsIdeal.τ).loc Cert.MidExpertsIdeal.main_arg4)) (m ((c.tc : Thread Cert.MidExpertsIdeal.nD Cert.MidExpertsIdeal.τ).loc Cert.MidExpertsIdeal.main_arg5)) (m ((c.tc : Thread Cert.MidExpertsIdeal.nD Cert.MidExpertsIdeal.τ).loc Cert.MidExpertsIdeal.main_arg6))).2 = (fun _ => 1#1)

def Pre_MidExpertsReferenceIdeal (m : (ℓ : Loc Cert.MidExpertsReferenceIdeal.nD Cert.MidExpertsReferenceIdeal.τ Cert.MidExpertsReferenceIdeal.sig) → Buf (Elt Ideal) ℓ) : Prop :=
  True

def Pre_MidExpertsReferenceIdeal_known_mid_experts [hPre_known_mid_experts : Cert.Pre_known_mid_experts.Facts] (m : (ℓ : Loc Cert.MidExpertsReferenceIdeal.nD Cert.MidExpertsReferenceIdeal.τ Cert.MidExpertsReferenceIdeal.sig) → Buf (Elt Ideal) ℓ) : Prop :=
  ∀ c : Dev Cert.MidExpertsReferenceIdeal.nD,
    (Cert.Pre_known_mid_experts.fn (F := Ideal) (m ((c.tc : Thread Cert.MidExpertsReferenceIdeal.nD Cert.MidExpertsReferenceIdeal.τ).loc Cert.MidExpertsReferenceIdeal.main_arg0)) (m ((c.tc : Thread Cert.MidExpertsReferenceIdeal.nD Cert.MidExpertsReferenceIdeal.τ).loc Cert.MidExpertsReferenceIdeal.main_arg1)) (m ((c.tc : Thread Cert.MidExpertsReferenceIdeal.nD Cert.MidExpertsReferenceIdeal.τ).loc Cert.MidExpertsReferenceIdeal.main_arg2)) (m ((c.tc : Thread Cert.MidExpertsReferenceIdeal.nD Cert.MidExpertsReferenceIdeal.τ).loc Cert.MidExpertsReferenceIdeal.main_arg3)) (m ((c.tc : Thread Cert.MidExpertsReferenceIdeal.nD Cert.MidExpertsReferenceIdeal.τ).loc Cert.MidExpertsReferenceIdeal.main_arg4)) (m ((c.tc : Thread Cert.MidExpertsReferenceIdeal.nD Cert.MidExpertsReferenceIdeal.τ).loc Cert.MidExpertsReferenceIdeal.main_arg5)) (m ((c.tc : Thread Cert.MidExpertsReferenceIdeal.nD Cert.MidExpertsReferenceIdeal.τ).loc Cert.MidExpertsReferenceIdeal.main_arg6))).1 = (fun _ => 1#1)
    ∧ (Cert.Pre_known_mid_experts.fn (F := Ideal) (m ((c.tc : Thread Cert.MidExpertsReferenceIdeal.nD Cert.MidExpertsReferenceIdeal.τ).loc Cert.MidExpertsReferenceIdeal.main_arg0)) (m ((c.tc : Thread Cert.MidExpertsReferenceIdeal.nD Cert.MidExpertsReferenceIdeal.τ).loc Cert.MidExpertsReferenceIdeal.main_arg1)) (m ((c.tc : Thread Cert.MidExpertsReferenceIdeal.nD Cert.MidExpertsReferenceIdeal.τ).loc Cert.MidExpertsReferenceIdeal.main_arg2)) (m ((c.tc : Thread Cert.MidExpertsReferenceIdeal.nD Cert.MidExpertsReferenceIdeal.τ).loc Cert.MidExpertsReferenceIdeal.main_arg3)) (m ((c.tc : Thread Cert.MidExpertsReferenceIdeal.nD Cert.MidExpertsReferenceIdeal.τ).loc Cert.MidExpertsReferenceIdeal.main_arg4)) (m ((c.tc : Thread Cert.MidExpertsReferenceIdeal.nD Cert.MidExpertsReferenceIdeal.τ).loc Cert.MidExpertsReferenceIdeal.main_arg5)) (m ((c.tc : Thread Cert.MidExpertsReferenceIdeal.nD Cert.MidExpertsReferenceIdeal.τ).loc Cert.MidExpertsReferenceIdeal.main_arg6))).2 = (fun _ => 1#1)

def Pre_LateMidExperts [hPre_known_late_mid_experts : Cert.Pre_known_late_mid_experts.Facts] (m : (ℓ : Loc Cert.LateMidExperts.nD Cert.LateMidExperts.τ Cert.LateMidExperts.sig) → Buf (Elt Bits) ℓ) : Prop :=
  ∀ c : Dev Cert.LateMidExperts.nD,
    (Cert.Pre_known_late_mid_experts.fn (F := Bits) (m ((c.tc : Thread Cert.LateMidExperts.nD Cert.LateMidExperts.τ).loc Cert.LateMidExperts.main_arg0)) (m ((c.tc : Thread Cert.LateMidExperts.nD Cert.LateMidExperts.τ).loc Cert.LateMidExperts.main_arg1)) (m ((c.tc : Thread Cert.LateMidExperts.nD Cert.LateMidExperts.τ).loc Cert.LateMidExperts.main_arg2)) (m ((c.tc : Thread Cert.LateMidExperts.nD Cert.LateMidExperts.τ).loc Cert.LateMidExperts.main_arg3)) (m ((c.tc : Thread Cert.LateMidExperts.nD Cert.LateMidExperts.τ).loc Cert.LateMidExperts.main_arg4)) (m ((c.tc : Thread Cert.LateMidExperts.nD Cert.LateMidExperts.τ).loc Cert.LateMidExperts.main_arg5)) (m ((c.tc : Thread Cert.LateMidExperts.nD Cert.LateMidExperts.τ).loc Cert.LateMidExperts.main_arg6))).1 = (fun _ => 1#1)
    ∧ (Cert.Pre_known_late_mid_experts.fn (F := Bits) (m ((c.tc : Thread Cert.LateMidExperts.nD Cert.LateMidExperts.τ).loc Cert.LateMidExperts.main_arg0)) (m ((c.tc : Thread Cert.LateMidExperts.nD Cert.LateMidExperts.τ).loc Cert.LateMidExperts.main_arg1)) (m ((c.tc : Thread Cert.LateMidExperts.nD Cert.LateMidExperts.τ).loc Cert.LateMidExperts.main_arg2)) (m ((c.tc : Thread Cert.LateMidExperts.nD Cert.LateMidExperts.τ).loc Cert.LateMidExperts.main_arg3)) (m ((c.tc : Thread Cert.LateMidExperts.nD Cert.LateMidExperts.τ).loc Cert.LateMidExperts.main_arg4)) (m ((c.tc : Thread Cert.LateMidExperts.nD Cert.LateMidExperts.τ).loc Cert.LateMidExperts.main_arg5)) (m ((c.tc : Thread Cert.LateMidExperts.nD Cert.LateMidExperts.τ).loc Cert.LateMidExperts.main_arg6))).2 = (fun _ => 1#1)

def Pre_LateMidExpertsIdeal [hPre_known_late_mid_experts : Cert.Pre_known_late_mid_experts.Facts] (m : (ℓ : Loc Cert.LateMidExpertsIdeal.nD Cert.LateMidExpertsIdeal.τ Cert.LateMidExpertsIdeal.sig) → Buf (Elt Ideal) ℓ) : Prop :=
  ∀ c : Dev Cert.LateMidExpertsIdeal.nD,
    (Cert.Pre_known_late_mid_experts.fn (F := Ideal) (m ((c.tc : Thread Cert.LateMidExpertsIdeal.nD Cert.LateMidExpertsIdeal.τ).loc Cert.LateMidExpertsIdeal.main_arg0)) (m ((c.tc : Thread Cert.LateMidExpertsIdeal.nD Cert.LateMidExpertsIdeal.τ).loc Cert.LateMidExpertsIdeal.main_arg1)) (m ((c.tc : Thread Cert.LateMidExpertsIdeal.nD Cert.LateMidExpertsIdeal.τ).loc Cert.LateMidExpertsIdeal.main_arg2)) (m ((c.tc : Thread Cert.LateMidExpertsIdeal.nD Cert.LateMidExpertsIdeal.τ).loc Cert.LateMidExpertsIdeal.main_arg3)) (m ((c.tc : Thread Cert.LateMidExpertsIdeal.nD Cert.LateMidExpertsIdeal.τ).loc Cert.LateMidExpertsIdeal.main_arg4)) (m ((c.tc : Thread Cert.LateMidExpertsIdeal.nD Cert.LateMidExpertsIdeal.τ).loc Cert.LateMidExpertsIdeal.main_arg5)) (m ((c.tc : Thread Cert.LateMidExpertsIdeal.nD Cert.LateMidExpertsIdeal.τ).loc Cert.LateMidExpertsIdeal.main_arg6))).1 = (fun _ => 1#1)
    ∧ (Cert.Pre_known_late_mid_experts.fn (F := Ideal) (m ((c.tc : Thread Cert.LateMidExpertsIdeal.nD Cert.LateMidExpertsIdeal.τ).loc Cert.LateMidExpertsIdeal.main_arg0)) (m ((c.tc : Thread Cert.LateMidExpertsIdeal.nD Cert.LateMidExpertsIdeal.τ).loc Cert.LateMidExpertsIdeal.main_arg1)) (m ((c.tc : Thread Cert.LateMidExpertsIdeal.nD Cert.LateMidExpertsIdeal.τ).loc Cert.LateMidExpertsIdeal.main_arg2)) (m ((c.tc : Thread Cert.LateMidExpertsIdeal.nD Cert.LateMidExpertsIdeal.τ).loc Cert.LateMidExpertsIdeal.main_arg3)) (m ((c.tc : Thread Cert.LateMidExpertsIdeal.nD Cert.LateMidExpertsIdeal.τ).loc Cert.LateMidExpertsIdeal.main_arg4)) (m ((c.tc : Thread Cert.LateMidExpertsIdeal.nD Cert.LateMidExpertsIdeal.τ).loc Cert.LateMidExpertsIdeal.main_arg5)) (m ((c.tc : Thread Cert.LateMidExpertsIdeal.nD Cert.LateMidExpertsIdeal.τ).loc Cert.LateMidExpertsIdeal.main_arg6))).2 = (fun _ => 1#1)

def Pre_LateMidExpertsReferenceIdeal (m : (ℓ : Loc Cert.LateMidExpertsReferenceIdeal.nD Cert.LateMidExpertsReferenceIdeal.τ Cert.LateMidExpertsReferenceIdeal.sig) → Buf (Elt Ideal) ℓ) : Prop :=
  True

def Pre_LateMidExpertsReferenceIdeal_known_late_mid_experts [hPre_known_late_mid_experts : Cert.Pre_known_late_mid_experts.Facts] (m : (ℓ : Loc Cert.LateMidExpertsReferenceIdeal.nD Cert.LateMidExpertsReferenceIdeal.τ Cert.LateMidExpertsReferenceIdeal.sig) → Buf (Elt Ideal) ℓ) : Prop :=
  ∀ c : Dev Cert.LateMidExpertsReferenceIdeal.nD,
    (Cert.Pre_known_late_mid_experts.fn (F := Ideal) (m ((c.tc : Thread Cert.LateMidExpertsReferenceIdeal.nD Cert.LateMidExpertsReferenceIdeal.τ).loc Cert.LateMidExpertsReferenceIdeal.main_arg0)) (m ((c.tc : Thread Cert.LateMidExpertsReferenceIdeal.nD Cert.LateMidExpertsReferenceIdeal.τ).loc Cert.LateMidExpertsReferenceIdeal.main_arg1)) (m ((c.tc : Thread Cert.LateMidExpertsReferenceIdeal.nD Cert.LateMidExpertsReferenceIdeal.τ).loc Cert.LateMidExpertsReferenceIdeal.main_arg2)) (m ((c.tc : Thread Cert.LateMidExpertsReferenceIdeal.nD Cert.LateMidExpertsReferenceIdeal.τ).loc Cert.LateMidExpertsReferenceIdeal.main_arg3)) (m ((c.tc : Thread Cert.LateMidExpertsReferenceIdeal.nD Cert.LateMidExpertsReferenceIdeal.τ).loc Cert.LateMidExpertsReferenceIdeal.main_arg4)) (m ((c.tc : Thread Cert.LateMidExpertsReferenceIdeal.nD Cert.LateMidExpertsReferenceIdeal.τ).loc Cert.LateMidExpertsReferenceIdeal.main_arg5)) (m ((c.tc : Thread Cert.LateMidExpertsReferenceIdeal.nD Cert.LateMidExpertsReferenceIdeal.τ).loc Cert.LateMidExpertsReferenceIdeal.main_arg6))).1 = (fun _ => 1#1)
    ∧ (Cert.Pre_known_late_mid_experts.fn (F := Ideal) (m ((c.tc : Thread Cert.LateMidExpertsReferenceIdeal.nD Cert.LateMidExpertsReferenceIdeal.τ).loc Cert.LateMidExpertsReferenceIdeal.main_arg0)) (m ((c.tc : Thread Cert.LateMidExpertsReferenceIdeal.nD Cert.LateMidExpertsReferenceIdeal.τ).loc Cert.LateMidExpertsReferenceIdeal.main_arg1)) (m ((c.tc : Thread Cert.LateMidExpertsReferenceIdeal.nD Cert.LateMidExpertsReferenceIdeal.τ).loc Cert.LateMidExpertsReferenceIdeal.main_arg2)) (m ((c.tc : Thread Cert.LateMidExpertsReferenceIdeal.nD Cert.LateMidExpertsReferenceIdeal.τ).loc Cert.LateMidExpertsReferenceIdeal.main_arg3)) (m ((c.tc : Thread Cert.LateMidExpertsReferenceIdeal.nD Cert.LateMidExpertsReferenceIdeal.τ).loc Cert.LateMidExpertsReferenceIdeal.main_arg4)) (m ((c.tc : Thread Cert.LateMidExpertsReferenceIdeal.nD Cert.LateMidExpertsReferenceIdeal.τ).loc Cert.LateMidExpertsReferenceIdeal.main_arg5)) (m ((c.tc : Thread Cert.LateMidExpertsReferenceIdeal.nD Cert.LateMidExpertsReferenceIdeal.τ).loc Cert.LateMidExpertsReferenceIdeal.main_arg6))).2 = (fun _ => 1#1)

def Pre_LowExperts [hPre_known_low_experts : Cert.Pre_known_low_experts.Facts] (m : (ℓ : Loc Cert.LowExperts.nD Cert.LowExperts.τ Cert.LowExperts.sig) → Buf (Elt Bits) ℓ) : Prop :=
  ∀ c : Dev Cert.LowExperts.nD,
    (Cert.Pre_known_low_experts.fn (F := Bits) (m ((c.tc : Thread Cert.LowExperts.nD Cert.LowExperts.τ).loc Cert.LowExperts.main_arg0)) (m ((c.tc : Thread Cert.LowExperts.nD Cert.LowExperts.τ).loc Cert.LowExperts.main_arg1)) (m ((c.tc : Thread Cert.LowExperts.nD Cert.LowExperts.τ).loc Cert.LowExperts.main_arg2)) (m ((c.tc : Thread Cert.LowExperts.nD Cert.LowExperts.τ).loc Cert.LowExperts.main_arg3)) (m ((c.tc : Thread Cert.LowExperts.nD Cert.LowExperts.τ).loc Cert.LowExperts.main_arg4)) (m ((c.tc : Thread Cert.LowExperts.nD Cert.LowExperts.τ).loc Cert.LowExperts.main_arg5)) (m ((c.tc : Thread Cert.LowExperts.nD Cert.LowExperts.τ).loc Cert.LowExperts.main_arg6))).1 = (fun _ => 1#1)
    ∧ (Cert.Pre_known_low_experts.fn (F := Bits) (m ((c.tc : Thread Cert.LowExperts.nD Cert.LowExperts.τ).loc Cert.LowExperts.main_arg0)) (m ((c.tc : Thread Cert.LowExperts.nD Cert.LowExperts.τ).loc Cert.LowExperts.main_arg1)) (m ((c.tc : Thread Cert.LowExperts.nD Cert.LowExperts.τ).loc Cert.LowExperts.main_arg2)) (m ((c.tc : Thread Cert.LowExperts.nD Cert.LowExperts.τ).loc Cert.LowExperts.main_arg3)) (m ((c.tc : Thread Cert.LowExperts.nD Cert.LowExperts.τ).loc Cert.LowExperts.main_arg4)) (m ((c.tc : Thread Cert.LowExperts.nD Cert.LowExperts.τ).loc Cert.LowExperts.main_arg5)) (m ((c.tc : Thread Cert.LowExperts.nD Cert.LowExperts.τ).loc Cert.LowExperts.main_arg6))).2 = (fun _ => 1#1)

def Pre_LowExpertsIdeal [hPre_known_low_experts : Cert.Pre_known_low_experts.Facts] (m : (ℓ : Loc Cert.LowExpertsIdeal.nD Cert.LowExpertsIdeal.τ Cert.LowExpertsIdeal.sig) → Buf (Elt Ideal) ℓ) : Prop :=
  ∀ c : Dev Cert.LowExpertsIdeal.nD,
    (Cert.Pre_known_low_experts.fn (F := Ideal) (m ((c.tc : Thread Cert.LowExpertsIdeal.nD Cert.LowExpertsIdeal.τ).loc Cert.LowExpertsIdeal.main_arg0)) (m ((c.tc : Thread Cert.LowExpertsIdeal.nD Cert.LowExpertsIdeal.τ).loc Cert.LowExpertsIdeal.main_arg1)) (m ((c.tc : Thread Cert.LowExpertsIdeal.nD Cert.LowExpertsIdeal.τ).loc Cert.LowExpertsIdeal.main_arg2)) (m ((c.tc : Thread Cert.LowExpertsIdeal.nD Cert.LowExpertsIdeal.τ).loc Cert.LowExpertsIdeal.main_arg3)) (m ((c.tc : Thread Cert.LowExpertsIdeal.nD Cert.LowExpertsIdeal.τ).loc Cert.LowExpertsIdeal.main_arg4)) (m ((c.tc : Thread Cert.LowExpertsIdeal.nD Cert.LowExpertsIdeal.τ).loc Cert.LowExpertsIdeal.main_arg5)) (m ((c.tc : Thread Cert.LowExpertsIdeal.nD Cert.LowExpertsIdeal.τ).loc Cert.LowExpertsIdeal.main_arg6))).1 = (fun _ => 1#1)
    ∧ (Cert.Pre_known_low_experts.fn (F := Ideal) (m ((c.tc : Thread Cert.LowExpertsIdeal.nD Cert.LowExpertsIdeal.τ).loc Cert.LowExpertsIdeal.main_arg0)) (m ((c.tc : Thread Cert.LowExpertsIdeal.nD Cert.LowExpertsIdeal.τ).loc Cert.LowExpertsIdeal.main_arg1)) (m ((c.tc : Thread Cert.LowExpertsIdeal.nD Cert.LowExpertsIdeal.τ).loc Cert.LowExpertsIdeal.main_arg2)) (m ((c.tc : Thread Cert.LowExpertsIdeal.nD Cert.LowExpertsIdeal.τ).loc Cert.LowExpertsIdeal.main_arg3)) (m ((c.tc : Thread Cert.LowExpertsIdeal.nD Cert.LowExpertsIdeal.τ).loc Cert.LowExpertsIdeal.main_arg4)) (m ((c.tc : Thread Cert.LowExpertsIdeal.nD Cert.LowExpertsIdeal.τ).loc Cert.LowExpertsIdeal.main_arg5)) (m ((c.tc : Thread Cert.LowExpertsIdeal.nD Cert.LowExpertsIdeal.τ).loc Cert.LowExpertsIdeal.main_arg6))).2 = (fun _ => 1#1)

def Pre_LowExpertsReferenceIdeal (m : (ℓ : Loc Cert.LowExpertsReferenceIdeal.nD Cert.LowExpertsReferenceIdeal.τ Cert.LowExpertsReferenceIdeal.sig) → Buf (Elt Ideal) ℓ) : Prop :=
  True

def Pre_LowExpertsReferenceIdeal_known_low_experts [hPre_known_low_experts : Cert.Pre_known_low_experts.Facts] (m : (ℓ : Loc Cert.LowExpertsReferenceIdeal.nD Cert.LowExpertsReferenceIdeal.τ Cert.LowExpertsReferenceIdeal.sig) → Buf (Elt Ideal) ℓ) : Prop :=
  ∀ c : Dev Cert.LowExpertsReferenceIdeal.nD,
    (Cert.Pre_known_low_experts.fn (F := Ideal) (m ((c.tc : Thread Cert.LowExpertsReferenceIdeal.nD Cert.LowExpertsReferenceIdeal.τ).loc Cert.LowExpertsReferenceIdeal.main_arg0)) (m ((c.tc : Thread Cert.LowExpertsReferenceIdeal.nD Cert.LowExpertsReferenceIdeal.τ).loc Cert.LowExpertsReferenceIdeal.main_arg1)) (m ((c.tc : Thread Cert.LowExpertsReferenceIdeal.nD Cert.LowExpertsReferenceIdeal.τ).loc Cert.LowExpertsReferenceIdeal.main_arg2)) (m ((c.tc : Thread Cert.LowExpertsReferenceIdeal.nD Cert.LowExpertsReferenceIdeal.τ).loc Cert.LowExpertsReferenceIdeal.main_arg3)) (m ((c.tc : Thread Cert.LowExpertsReferenceIdeal.nD Cert.LowExpertsReferenceIdeal.τ).loc Cert.LowExpertsReferenceIdeal.main_arg4)) (m ((c.tc : Thread Cert.LowExpertsReferenceIdeal.nD Cert.LowExpertsReferenceIdeal.τ).loc Cert.LowExpertsReferenceIdeal.main_arg5)) (m ((c.tc : Thread Cert.LowExpertsReferenceIdeal.nD Cert.LowExpertsReferenceIdeal.τ).loc Cert.LowExpertsReferenceIdeal.main_arg6))).1 = (fun _ => 1#1)
    ∧ (Cert.Pre_known_low_experts.fn (F := Ideal) (m ((c.tc : Thread Cert.LowExpertsReferenceIdeal.nD Cert.LowExpertsReferenceIdeal.τ).loc Cert.LowExpertsReferenceIdeal.main_arg0)) (m ((c.tc : Thread Cert.LowExpertsReferenceIdeal.nD Cert.LowExpertsReferenceIdeal.τ).loc Cert.LowExpertsReferenceIdeal.main_arg1)) (m ((c.tc : Thread Cert.LowExpertsReferenceIdeal.nD Cert.LowExpertsReferenceIdeal.τ).loc Cert.LowExpertsReferenceIdeal.main_arg2)) (m ((c.tc : Thread Cert.LowExpertsReferenceIdeal.nD Cert.LowExpertsReferenceIdeal.τ).loc Cert.LowExpertsReferenceIdeal.main_arg3)) (m ((c.tc : Thread Cert.LowExpertsReferenceIdeal.nD Cert.LowExpertsReferenceIdeal.τ).loc Cert.LowExpertsReferenceIdeal.main_arg4)) (m ((c.tc : Thread Cert.LowExpertsReferenceIdeal.nD Cert.LowExpertsReferenceIdeal.τ).loc Cert.LowExpertsReferenceIdeal.main_arg5)) (m ((c.tc : Thread Cert.LowExpertsReferenceIdeal.nD Cert.LowExpertsReferenceIdeal.τ).loc Cert.LowExpertsReferenceIdeal.main_arg6))).2 = (fun _ => 1#1)

def Pre_LateLowExperts [hPre_known_late_low_experts : Cert.Pre_known_late_low_experts.Facts] (m : (ℓ : Loc Cert.LateLowExperts.nD Cert.LateLowExperts.τ Cert.LateLowExperts.sig) → Buf (Elt Bits) ℓ) : Prop :=
  ∀ c : Dev Cert.LateLowExperts.nD,
    (Cert.Pre_known_late_low_experts.fn (F := Bits) (m ((c.tc : Thread Cert.LateLowExperts.nD Cert.LateLowExperts.τ).loc Cert.LateLowExperts.main_arg0)) (m ((c.tc : Thread Cert.LateLowExperts.nD Cert.LateLowExperts.τ).loc Cert.LateLowExperts.main_arg1)) (m ((c.tc : Thread Cert.LateLowExperts.nD Cert.LateLowExperts.τ).loc Cert.LateLowExperts.main_arg2)) (m ((c.tc : Thread Cert.LateLowExperts.nD Cert.LateLowExperts.τ).loc Cert.LateLowExperts.main_arg3)) (m ((c.tc : Thread Cert.LateLowExperts.nD Cert.LateLowExperts.τ).loc Cert.LateLowExperts.main_arg4)) (m ((c.tc : Thread Cert.LateLowExperts.nD Cert.LateLowExperts.τ).loc Cert.LateLowExperts.main_arg5)) (m ((c.tc : Thread Cert.LateLowExperts.nD Cert.LateLowExperts.τ).loc Cert.LateLowExperts.main_arg6))).1 = (fun _ => 1#1)
    ∧ (Cert.Pre_known_late_low_experts.fn (F := Bits) (m ((c.tc : Thread Cert.LateLowExperts.nD Cert.LateLowExperts.τ).loc Cert.LateLowExperts.main_arg0)) (m ((c.tc : Thread Cert.LateLowExperts.nD Cert.LateLowExperts.τ).loc Cert.LateLowExperts.main_arg1)) (m ((c.tc : Thread Cert.LateLowExperts.nD Cert.LateLowExperts.τ).loc Cert.LateLowExperts.main_arg2)) (m ((c.tc : Thread Cert.LateLowExperts.nD Cert.LateLowExperts.τ).loc Cert.LateLowExperts.main_arg3)) (m ((c.tc : Thread Cert.LateLowExperts.nD Cert.LateLowExperts.τ).loc Cert.LateLowExperts.main_arg4)) (m ((c.tc : Thread Cert.LateLowExperts.nD Cert.LateLowExperts.τ).loc Cert.LateLowExperts.main_arg5)) (m ((c.tc : Thread Cert.LateLowExperts.nD Cert.LateLowExperts.τ).loc Cert.LateLowExperts.main_arg6))).2 = (fun _ => 1#1)

def Pre_LateLowExpertsIdeal [hPre_known_late_low_experts : Cert.Pre_known_late_low_experts.Facts] (m : (ℓ : Loc Cert.LateLowExpertsIdeal.nD Cert.LateLowExpertsIdeal.τ Cert.LateLowExpertsIdeal.sig) → Buf (Elt Ideal) ℓ) : Prop :=
  ∀ c : Dev Cert.LateLowExpertsIdeal.nD,
    (Cert.Pre_known_late_low_experts.fn (F := Ideal) (m ((c.tc : Thread Cert.LateLowExpertsIdeal.nD Cert.LateLowExpertsIdeal.τ).loc Cert.LateLowExpertsIdeal.main_arg0)) (m ((c.tc : Thread Cert.LateLowExpertsIdeal.nD Cert.LateLowExpertsIdeal.τ).loc Cert.LateLowExpertsIdeal.main_arg1)) (m ((c.tc : Thread Cert.LateLowExpertsIdeal.nD Cert.LateLowExpertsIdeal.τ).loc Cert.LateLowExpertsIdeal.main_arg2)) (m ((c.tc : Thread Cert.LateLowExpertsIdeal.nD Cert.LateLowExpertsIdeal.τ).loc Cert.LateLowExpertsIdeal.main_arg3)) (m ((c.tc : Thread Cert.LateLowExpertsIdeal.nD Cert.LateLowExpertsIdeal.τ).loc Cert.LateLowExpertsIdeal.main_arg4)) (m ((c.tc : Thread Cert.LateLowExpertsIdeal.nD Cert.LateLowExpertsIdeal.τ).loc Cert.LateLowExpertsIdeal.main_arg5)) (m ((c.tc : Thread Cert.LateLowExpertsIdeal.nD Cert.LateLowExpertsIdeal.τ).loc Cert.LateLowExpertsIdeal.main_arg6))).1 = (fun _ => 1#1)
    ∧ (Cert.Pre_known_late_low_experts.fn (F := Ideal) (m ((c.tc : Thread Cert.LateLowExpertsIdeal.nD Cert.LateLowExpertsIdeal.τ).loc Cert.LateLowExpertsIdeal.main_arg0)) (m ((c.tc : Thread Cert.LateLowExpertsIdeal.nD Cert.LateLowExpertsIdeal.τ).loc Cert.LateLowExpertsIdeal.main_arg1)) (m ((c.tc : Thread Cert.LateLowExpertsIdeal.nD Cert.LateLowExpertsIdeal.τ).loc Cert.LateLowExpertsIdeal.main_arg2)) (m ((c.tc : Thread Cert.LateLowExpertsIdeal.nD Cert.LateLowExpertsIdeal.τ).loc Cert.LateLowExpertsIdeal.main_arg3)) (m ((c.tc : Thread Cert.LateLowExpertsIdeal.nD Cert.LateLowExpertsIdeal.τ).loc Cert.LateLowExpertsIdeal.main_arg4)) (m ((c.tc : Thread Cert.LateLowExpertsIdeal.nD Cert.LateLowExpertsIdeal.τ).loc Cert.LateLowExpertsIdeal.main_arg5)) (m ((c.tc : Thread Cert.LateLowExpertsIdeal.nD Cert.LateLowExpertsIdeal.τ).loc Cert.LateLowExpertsIdeal.main_arg6))).2 = (fun _ => 1#1)

def Pre_LateLowExpertsReferenceIdeal (m : (ℓ : Loc Cert.LateLowExpertsReferenceIdeal.nD Cert.LateLowExpertsReferenceIdeal.τ Cert.LateLowExpertsReferenceIdeal.sig) → Buf (Elt Ideal) ℓ) : Prop :=
  True

def Pre_LateLowExpertsReferenceIdeal_known_late_low_experts [hPre_known_late_low_experts : Cert.Pre_known_late_low_experts.Facts] (m : (ℓ : Loc Cert.LateLowExpertsReferenceIdeal.nD Cert.LateLowExpertsReferenceIdeal.τ Cert.LateLowExpertsReferenceIdeal.sig) → Buf (Elt Ideal) ℓ) : Prop :=
  ∀ c : Dev Cert.LateLowExpertsReferenceIdeal.nD,
    (Cert.Pre_known_late_low_experts.fn (F := Ideal) (m ((c.tc : Thread Cert.LateLowExpertsReferenceIdeal.nD Cert.LateLowExpertsReferenceIdeal.τ).loc Cert.LateLowExpertsReferenceIdeal.main_arg0)) (m ((c.tc : Thread Cert.LateLowExpertsReferenceIdeal.nD Cert.LateLowExpertsReferenceIdeal.τ).loc Cert.LateLowExpertsReferenceIdeal.main_arg1)) (m ((c.tc : Thread Cert.LateLowExpertsReferenceIdeal.nD Cert.LateLowExpertsReferenceIdeal.τ).loc Cert.LateLowExpertsReferenceIdeal.main_arg2)) (m ((c.tc : Thread Cert.LateLowExpertsReferenceIdeal.nD Cert.LateLowExpertsReferenceIdeal.τ).loc Cert.LateLowExpertsReferenceIdeal.main_arg3)) (m ((c.tc : Thread Cert.LateLowExpertsReferenceIdeal.nD Cert.LateLowExpertsReferenceIdeal.τ).loc Cert.LateLowExpertsReferenceIdeal.main_arg4)) (m ((c.tc : Thread Cert.LateLowExpertsReferenceIdeal.nD Cert.LateLowExpertsReferenceIdeal.τ).loc Cert.LateLowExpertsReferenceIdeal.main_arg5)) (m ((c.tc : Thread Cert.LateLowExpertsReferenceIdeal.nD Cert.LateLowExpertsReferenceIdeal.τ).loc Cert.LateLowExpertsReferenceIdeal.main_arg6))).1 = (fun _ => 1#1)
    ∧ (Cert.Pre_known_late_low_experts.fn (F := Ideal) (m ((c.tc : Thread Cert.LateLowExpertsReferenceIdeal.nD Cert.LateLowExpertsReferenceIdeal.τ).loc Cert.LateLowExpertsReferenceIdeal.main_arg0)) (m ((c.tc : Thread Cert.LateLowExpertsReferenceIdeal.nD Cert.LateLowExpertsReferenceIdeal.τ).loc Cert.LateLowExpertsReferenceIdeal.main_arg1)) (m ((c.tc : Thread Cert.LateLowExpertsReferenceIdeal.nD Cert.LateLowExpertsReferenceIdeal.τ).loc Cert.LateLowExpertsReferenceIdeal.main_arg2)) (m ((c.tc : Thread Cert.LateLowExpertsReferenceIdeal.nD Cert.LateLowExpertsReferenceIdeal.τ).loc Cert.LateLowExpertsReferenceIdeal.main_arg3)) (m ((c.tc : Thread Cert.LateLowExpertsReferenceIdeal.nD Cert.LateLowExpertsReferenceIdeal.τ).loc Cert.LateLowExpertsReferenceIdeal.main_arg4)) (m ((c.tc : Thread Cert.LateLowExpertsReferenceIdeal.nD Cert.LateLowExpertsReferenceIdeal.τ).loc Cert.LateLowExpertsReferenceIdeal.main_arg5)) (m ((c.tc : Thread Cert.LateLowExpertsReferenceIdeal.nD Cert.LateLowExpertsReferenceIdeal.τ).loc Cert.LateLowExpertsReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_known_experts : Cert.Pre_known_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_known_experts : Cert.Pre_known_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_known_experts [hExpertsReferenceIdeal : Cert.ExpertsReferenceIdeal.Facts] [hPre_known_experts : Cert.Pre_known_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_known_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_LateExperts [hLateExperts : Cert.LateExperts.Facts] [hPre_known_late_experts : Cert.Pre_known_late_experts.Facts] : Prop :=
  ∀ (m : (ℓ : Loc Cert.LateExperts.nD Cert.LateExperts.τ Cert.LateExperts.sig) → Buf (Elt Bits) ℓ) (g : Dev Cert.LateExperts.nD → PrngReg), Pre_LateExperts m →
    θ_run (Cert.LateExperts.defs (F := Bits)) (onTc (τ := Cert.LateExperts.τ) (Cert.LateExperts.main (F := Bits))) ⟨m, fun _ => 0, g⟩ (fun r => (∀ c : Dev Cert.LateExperts.nD,
      r.2.mem ((c.tc : Thread Cert.LateExperts.nD Cert.LateExperts.τ).loc Cert.LateExperts.main_arg0) = m ((c.tc : Thread Cert.LateExperts.nD Cert.LateExperts.τ).loc Cert.LateExperts.main_arg0)
      ∧ r.2.mem ((c.tc : Thread Cert.LateExperts.nD Cert.LateExperts.τ).loc Cert.LateExperts.main_arg1) = m ((c.tc : Thread Cert.LateExperts.nD Cert.LateExperts.τ).loc Cert.LateExperts.main_arg1)
      ∧ r.2.mem ((c.tc : Thread Cert.LateExperts.nD Cert.LateExperts.τ).loc Cert.LateExperts.main_arg2) = m ((c.tc : Thread Cert.LateExperts.nD Cert.LateExperts.τ).loc Cert.LateExperts.main_arg2)
      ∧ r.2.mem ((c.tc : Thread Cert.LateExperts.nD Cert.LateExperts.τ).loc Cert.LateExperts.main_arg3) = m ((c.tc : Thread Cert.LateExperts.nD Cert.LateExperts.τ).loc Cert.LateExperts.main_arg3)
      ∧ r.2.mem ((c.tc : Thread Cert.LateExperts.nD Cert.LateExperts.τ).loc Cert.LateExperts.main_arg4) = m ((c.tc : Thread Cert.LateExperts.nD Cert.LateExperts.τ).loc Cert.LateExperts.main_arg4)
      ∧ r.2.mem ((c.tc : Thread Cert.LateExperts.nD Cert.LateExperts.τ).loc Cert.LateExperts.main_arg5) = m ((c.tc : Thread Cert.LateExperts.nD Cert.LateExperts.τ).loc Cert.LateExperts.main_arg5)
      ∧ r.2.mem ((c.tc : Thread Cert.LateExperts.nD Cert.LateExperts.τ).loc Cert.LateExperts.main_arg6) = m ((c.tc : Thread Cert.LateExperts.nD Cert.LateExperts.τ).loc Cert.LateExperts.main_arg6))
      ∧ r.2.sem = fun _ => 0)

def quiescent_LateExpertsIdeal [hLateExpertsIdeal : Cert.LateExpertsIdeal.Facts] [hPre_known_late_experts : Cert.Pre_known_late_experts.Facts] : Prop :=
  ∀ (m : (ℓ : Loc Cert.LateExpertsIdeal.nD Cert.LateExpertsIdeal.τ Cert.LateExpertsIdeal.sig) → Buf (Elt Ideal) ℓ) (g : Dev Cert.LateExpertsIdeal.nD → PrngReg), Pre_LateExpertsIdeal m →
    θ_run (Cert.LateExpertsIdeal.defs (F := Ideal)) (onTc (τ := Cert.LateExpertsIdeal.τ) (Cert.LateExpertsIdeal.main (F := Ideal))) ⟨m, fun _ => 0, g⟩ (fun r => (∀ c : Dev Cert.LateExpertsIdeal.nD,
      r.2.mem ((c.tc : Thread Cert.LateExpertsIdeal.nD Cert.LateExpertsIdeal.τ).loc Cert.LateExpertsIdeal.main_arg0) = m ((c.tc : Thread Cert.LateExpertsIdeal.nD Cert.LateExpertsIdeal.τ).loc Cert.LateExpertsIdeal.main_arg0)
      ∧ r.2.mem ((c.tc : Thread Cert.LateExpertsIdeal.nD Cert.LateExpertsIdeal.τ).loc Cert.LateExpertsIdeal.main_arg1) = m ((c.tc : Thread Cert.LateExpertsIdeal.nD Cert.LateExpertsIdeal.τ).loc Cert.LateExpertsIdeal.main_arg1)
      ∧ r.2.mem ((c.tc : Thread Cert.LateExpertsIdeal.nD Cert.LateExpertsIdeal.τ).loc Cert.LateExpertsIdeal.main_arg2) = m ((c.tc : Thread Cert.LateExpertsIdeal.nD Cert.LateExpertsIdeal.τ).loc Cert.LateExpertsIdeal.main_arg2)
      ∧ r.2.mem ((c.tc : Thread Cert.LateExpertsIdeal.nD Cert.LateExpertsIdeal.τ).loc Cert.LateExpertsIdeal.main_arg3) = m ((c.tc : Thread Cert.LateExpertsIdeal.nD Cert.LateExpertsIdeal.τ).loc Cert.LateExpertsIdeal.main_arg3)
      ∧ r.2.mem ((c.tc : Thread Cert.LateExpertsIdeal.nD Cert.LateExpertsIdeal.τ).loc Cert.LateExpertsIdeal.main_arg4) = m ((c.tc : Thread Cert.LateExpertsIdeal.nD Cert.LateExpertsIdeal.τ).loc Cert.LateExpertsIdeal.main_arg4)
      ∧ r.2.mem ((c.tc : Thread Cert.LateExpertsIdeal.nD Cert.LateExpertsIdeal.τ).loc Cert.LateExpertsIdeal.main_arg5) = m ((c.tc : Thread Cert.LateExpertsIdeal.nD Cert.LateExpertsIdeal.τ).loc Cert.LateExpertsIdeal.main_arg5)
      ∧ r.2.mem ((c.tc : Thread Cert.LateExpertsIdeal.nD Cert.LateExpertsIdeal.τ).loc Cert.LateExpertsIdeal.main_arg6) = m ((c.tc : Thread Cert.LateExpertsIdeal.nD Cert.LateExpertsIdeal.τ).loc Cert.LateExpertsIdeal.main_arg6))
      ∧ r.2.sem = fun _ => 0)

def quiescent_LateExpertsReferenceIdeal [hLateExpertsReferenceIdeal : Cert.LateExpertsReferenceIdeal.Facts] : Prop :=
  ∀ (m : (ℓ : Loc Cert.LateExpertsReferenceIdeal.nD Cert.LateExpertsReferenceIdeal.τ Cert.LateExpertsReferenceIdeal.sig) → Buf (Elt Ideal) ℓ) (g : Dev Cert.LateExpertsReferenceIdeal.nD → PrngReg), Pre_LateExpertsReferenceIdeal m →
    θ_run (Cert.LateExpertsReferenceIdeal.defs (F := Ideal)) (onTc (τ := Cert.LateExpertsReferenceIdeal.τ) (Cert.LateExpertsReferenceIdeal.main (F := Ideal))) ⟨m, fun _ => 0, g⟩ (fun r => (∀ c : Dev Cert.LateExpertsReferenceIdeal.nD,
      r.2.mem ((c.tc : Thread Cert.LateExpertsReferenceIdeal.nD Cert.LateExpertsReferenceIdeal.τ).loc Cert.LateExpertsReferenceIdeal.main_arg0) = m ((c.tc : Thread Cert.LateExpertsReferenceIdeal.nD Cert.LateExpertsReferenceIdeal.τ).loc Cert.LateExpertsReferenceIdeal.main_arg0)
      ∧ r.2.mem ((c.tc : Thread Cert.LateExpertsReferenceIdeal.nD Cert.LateExpertsReferenceIdeal.τ).loc Cert.LateExpertsReferenceIdeal.main_arg1) = m ((c.tc : Thread Cert.LateExpertsReferenceIdeal.nD Cert.LateExpertsReferenceIdeal.τ).loc Cert.LateExpertsReferenceIdeal.main_arg1)
      ∧ r.2.mem ((c.tc : Thread Cert.LateExpertsReferenceIdeal.nD Cert.LateExpertsReferenceIdeal.τ).loc Cert.LateExpertsReferenceIdeal.main_arg2) = m ((c.tc : Thread Cert.LateExpertsReferenceIdeal.nD Cert.LateExpertsReferenceIdeal.τ).loc Cert.LateExpertsReferenceIdeal.main_arg2)
      ∧ r.2.mem ((c.tc : Thread Cert.LateExpertsReferenceIdeal.nD Cert.LateExpertsReferenceIdeal.τ).loc Cert.LateExpertsReferenceIdeal.main_arg3) = m ((c.tc : Thread Cert.LateExpertsReferenceIdeal.nD Cert.LateExpertsReferenceIdeal.τ).loc Cert.LateExpertsReferenceIdeal.main_arg3)
      ∧ r.2.mem ((c.tc : Thread Cert.LateExpertsReferenceIdeal.nD Cert.LateExpertsReferenceIdeal.τ).loc Cert.LateExpertsReferenceIdeal.main_arg4) = m ((c.tc : Thread Cert.LateExpertsReferenceIdeal.nD Cert.LateExpertsReferenceIdeal.τ).loc Cert.LateExpertsReferenceIdeal.main_arg4)
      ∧ r.2.mem ((c.tc : Thread Cert.LateExpertsReferenceIdeal.nD Cert.LateExpertsReferenceIdeal.τ).loc Cert.LateExpertsReferenceIdeal.main_arg5) = m ((c.tc : Thread Cert.LateExpertsReferenceIdeal.nD Cert.LateExpertsReferenceIdeal.τ).loc Cert.LateExpertsReferenceIdeal.main_arg5)
      ∧ r.2.mem ((c.tc : Thread Cert.LateExpertsReferenceIdeal.nD Cert.LateExpertsReferenceIdeal.τ).loc Cert.LateExpertsReferenceIdeal.main_arg6) = m ((c.tc : Thread Cert.LateExpertsReferenceIdeal.nD Cert.LateExpertsReferenceIdeal.τ).loc Cert.LateExpertsReferenceIdeal.main_arg6))
      ∧ r.2.sem = fun _ => 0)

def quiescent_LateExpertsReferenceIdeal_pre_known_late_experts [hLateExpertsReferenceIdeal : Cert.LateExpertsReferenceIdeal.Facts] [hPre_known_late_experts : Cert.Pre_known_late_experts.Facts] : Prop :=
  ∀ (m : (ℓ : Loc Cert.LateExpertsReferenceIdeal.nD Cert.LateExpertsReferenceIdeal.τ Cert.LateExpertsReferenceIdeal.sig) → Buf (Elt Ideal) ℓ) (g : Dev Cert.LateExpertsReferenceIdeal.nD → PrngReg), Pre_LateExpertsReferenceIdeal_known_late_experts m →
    θ_run (Cert.LateExpertsReferenceIdeal.defs (F := Ideal)) (onTc (τ := Cert.LateExpertsReferenceIdeal.τ) (Cert.LateExpertsReferenceIdeal.main (F := Ideal))) ⟨m, fun _ => 0, g⟩ (fun r => (∀ c : Dev Cert.LateExpertsReferenceIdeal.nD,
      r.2.mem ((c.tc : Thread Cert.LateExpertsReferenceIdeal.nD Cert.LateExpertsReferenceIdeal.τ).loc Cert.LateExpertsReferenceIdeal.main_arg0) = m ((c.tc : Thread Cert.LateExpertsReferenceIdeal.nD Cert.LateExpertsReferenceIdeal.τ).loc Cert.LateExpertsReferenceIdeal.main_arg0)
      ∧ r.2.mem ((c.tc : Thread Cert.LateExpertsReferenceIdeal.nD Cert.LateExpertsReferenceIdeal.τ).loc Cert.LateExpertsReferenceIdeal.main_arg1) = m ((c.tc : Thread Cert.LateExpertsReferenceIdeal.nD Cert.LateExpertsReferenceIdeal.τ).loc Cert.LateExpertsReferenceIdeal.main_arg1)
      ∧ r.2.mem ((c.tc : Thread Cert.LateExpertsReferenceIdeal.nD Cert.LateExpertsReferenceIdeal.τ).loc Cert.LateExpertsReferenceIdeal.main_arg2) = m ((c.tc : Thread Cert.LateExpertsReferenceIdeal.nD Cert.LateExpertsReferenceIdeal.τ).loc Cert.LateExpertsReferenceIdeal.main_arg2)
      ∧ r.2.mem ((c.tc : Thread Cert.LateExpertsReferenceIdeal.nD Cert.LateExpertsReferenceIdeal.τ).loc Cert.LateExpertsReferenceIdeal.main_arg3) = m ((c.tc : Thread Cert.LateExpertsReferenceIdeal.nD Cert.LateExpertsReferenceIdeal.τ).loc Cert.LateExpertsReferenceIdeal.main_arg3)
      ∧ r.2.mem ((c.tc : Thread Cert.LateExpertsReferenceIdeal.nD Cert.LateExpertsReferenceIdeal.τ).loc Cert.LateExpertsReferenceIdeal.main_arg4) = m ((c.tc : Thread Cert.LateExpertsReferenceIdeal.nD Cert.LateExpertsReferenceIdeal.τ).loc Cert.LateExpertsReferenceIdeal.main_arg4)
      ∧ r.2.mem ((c.tc : Thread Cert.LateExpertsReferenceIdeal.nD Cert.LateExpertsReferenceIdeal.τ).loc Cert.LateExpertsReferenceIdeal.main_arg5) = m ((c.tc : Thread Cert.LateExpertsReferenceIdeal.nD Cert.LateExpertsReferenceIdeal.τ).loc Cert.LateExpertsReferenceIdeal.main_arg5)
      ∧ r.2.mem ((c.tc : Thread Cert.LateExpertsReferenceIdeal.nD Cert.LateExpertsReferenceIdeal.τ).loc Cert.LateExpertsReferenceIdeal.main_arg6) = m ((c.tc : Thread Cert.LateExpertsReferenceIdeal.nD Cert.LateExpertsReferenceIdeal.τ).loc Cert.LateExpertsReferenceIdeal.main_arg6))
      ∧ r.2.sem = fun _ => 0)

def quiescent_MidExperts [hMidExperts : Cert.MidExperts.Facts] [hPre_known_mid_experts : Cert.Pre_known_mid_experts.Facts] : Prop :=
  ∀ (m : (ℓ : Loc Cert.MidExperts.nD Cert.MidExperts.τ Cert.MidExperts.sig) → Buf (Elt Bits) ℓ) (g : Dev Cert.MidExperts.nD → PrngReg), Pre_MidExperts m →
    θ_run (Cert.MidExperts.defs (F := Bits)) (onTc (τ := Cert.MidExperts.τ) (Cert.MidExperts.main (F := Bits))) ⟨m, fun _ => 0, g⟩ (fun r => (∀ c : Dev Cert.MidExperts.nD,
      r.2.mem ((c.tc : Thread Cert.MidExperts.nD Cert.MidExperts.τ).loc Cert.MidExperts.main_arg0) = m ((c.tc : Thread Cert.MidExperts.nD Cert.MidExperts.τ).loc Cert.MidExperts.main_arg0)
      ∧ r.2.mem ((c.tc : Thread Cert.MidExperts.nD Cert.MidExperts.τ).loc Cert.MidExperts.main_arg1) = m ((c.tc : Thread Cert.MidExperts.nD Cert.MidExperts.τ).loc Cert.MidExperts.main_arg1)
      ∧ r.2.mem ((c.tc : Thread Cert.MidExperts.nD Cert.MidExperts.τ).loc Cert.MidExperts.main_arg2) = m ((c.tc : Thread Cert.MidExperts.nD Cert.MidExperts.τ).loc Cert.MidExperts.main_arg2)
      ∧ r.2.mem ((c.tc : Thread Cert.MidExperts.nD Cert.MidExperts.τ).loc Cert.MidExperts.main_arg3) = m ((c.tc : Thread Cert.MidExperts.nD Cert.MidExperts.τ).loc Cert.MidExperts.main_arg3)
      ∧ r.2.mem ((c.tc : Thread Cert.MidExperts.nD Cert.MidExperts.τ).loc Cert.MidExperts.main_arg4) = m ((c.tc : Thread Cert.MidExperts.nD Cert.MidExperts.τ).loc Cert.MidExperts.main_arg4)
      ∧ r.2.mem ((c.tc : Thread Cert.MidExperts.nD Cert.MidExperts.τ).loc Cert.MidExperts.main_arg5) = m ((c.tc : Thread Cert.MidExperts.nD Cert.MidExperts.τ).loc Cert.MidExperts.main_arg5)
      ∧ r.2.mem ((c.tc : Thread Cert.MidExperts.nD Cert.MidExperts.τ).loc Cert.MidExperts.main_arg6) = m ((c.tc : Thread Cert.MidExperts.nD Cert.MidExperts.τ).loc Cert.MidExperts.main_arg6))
      ∧ r.2.sem = fun _ => 0)

def quiescent_MidExpertsIdeal [hMidExpertsIdeal : Cert.MidExpertsIdeal.Facts] [hPre_known_mid_experts : Cert.Pre_known_mid_experts.Facts] : Prop :=
  ∀ (m : (ℓ : Loc Cert.MidExpertsIdeal.nD Cert.MidExpertsIdeal.τ Cert.MidExpertsIdeal.sig) → Buf (Elt Ideal) ℓ) (g : Dev Cert.MidExpertsIdeal.nD → PrngReg), Pre_MidExpertsIdeal m →
    θ_run (Cert.MidExpertsIdeal.defs (F := Ideal)) (onTc (τ := Cert.MidExpertsIdeal.τ) (Cert.MidExpertsIdeal.main (F := Ideal))) ⟨m, fun _ => 0, g⟩ (fun r => (∀ c : Dev Cert.MidExpertsIdeal.nD,
      r.2.mem ((c.tc : Thread Cert.MidExpertsIdeal.nD Cert.MidExpertsIdeal.τ).loc Cert.MidExpertsIdeal.main_arg0) = m ((c.tc : Thread Cert.MidExpertsIdeal.nD Cert.MidExpertsIdeal.τ).loc Cert.MidExpertsIdeal.main_arg0)
      ∧ r.2.mem ((c.tc : Thread Cert.MidExpertsIdeal.nD Cert.MidExpertsIdeal.τ).loc Cert.MidExpertsIdeal.main_arg1) = m ((c.tc : Thread Cert.MidExpertsIdeal.nD Cert.MidExpertsIdeal.τ).loc Cert.MidExpertsIdeal.main_arg1)
      ∧ r.2.mem ((c.tc : Thread Cert.MidExpertsIdeal.nD Cert.MidExpertsIdeal.τ).loc Cert.MidExpertsIdeal.main_arg2) = m ((c.tc : Thread Cert.MidExpertsIdeal.nD Cert.MidExpertsIdeal.τ).loc Cert.MidExpertsIdeal.main_arg2)
      ∧ r.2.mem ((c.tc : Thread Cert.MidExpertsIdeal.nD Cert.MidExpertsIdeal.τ).loc Cert.MidExpertsIdeal.main_arg3) = m ((c.tc : Thread Cert.MidExpertsIdeal.nD Cert.MidExpertsIdeal.τ).loc Cert.MidExpertsIdeal.main_arg3)
      ∧ r.2.mem ((c.tc : Thread Cert.MidExpertsIdeal.nD Cert.MidExpertsIdeal.τ).loc Cert.MidExpertsIdeal.main_arg4) = m ((c.tc : Thread Cert.MidExpertsIdeal.nD Cert.MidExpertsIdeal.τ).loc Cert.MidExpertsIdeal.main_arg4)
      ∧ r.2.mem ((c.tc : Thread Cert.MidExpertsIdeal.nD Cert.MidExpertsIdeal.τ).loc Cert.MidExpertsIdeal.main_arg5) = m ((c.tc : Thread Cert.MidExpertsIdeal.nD Cert.MidExpertsIdeal.τ).loc Cert.MidExpertsIdeal.main_arg5)
      ∧ r.2.mem ((c.tc : Thread Cert.MidExpertsIdeal.nD Cert.MidExpertsIdeal.τ).loc Cert.MidExpertsIdeal.main_arg6) = m ((c.tc : Thread Cert.MidExpertsIdeal.nD Cert.MidExpertsIdeal.τ).loc Cert.MidExpertsIdeal.main_arg6))
      ∧ r.2.sem = fun _ => 0)

def quiescent_MidExpertsReferenceIdeal [hMidExpertsReferenceIdeal : Cert.MidExpertsReferenceIdeal.Facts] : Prop :=
  ∀ (m : (ℓ : Loc Cert.MidExpertsReferenceIdeal.nD Cert.MidExpertsReferenceIdeal.τ Cert.MidExpertsReferenceIdeal.sig) → Buf (Elt Ideal) ℓ) (g : Dev Cert.MidExpertsReferenceIdeal.nD → PrngReg), Pre_MidExpertsReferenceIdeal m →
    θ_run (Cert.MidExpertsReferenceIdeal.defs (F := Ideal)) (onTc (τ := Cert.MidExpertsReferenceIdeal.τ) (Cert.MidExpertsReferenceIdeal.main (F := Ideal))) ⟨m, fun _ => 0, g⟩ (fun r => (∀ c : Dev Cert.MidExpertsReferenceIdeal.nD,
      r.2.mem ((c.tc : Thread Cert.MidExpertsReferenceIdeal.nD Cert.MidExpertsReferenceIdeal.τ).loc Cert.MidExpertsReferenceIdeal.main_arg0) = m ((c.tc : Thread Cert.MidExpertsReferenceIdeal.nD Cert.MidExpertsReferenceIdeal.τ).loc Cert.MidExpertsReferenceIdeal.main_arg0)
      ∧ r.2.mem ((c.tc : Thread Cert.MidExpertsReferenceIdeal.nD Cert.MidExpertsReferenceIdeal.τ).loc Cert.MidExpertsReferenceIdeal.main_arg1) = m ((c.tc : Thread Cert.MidExpertsReferenceIdeal.nD Cert.MidExpertsReferenceIdeal.τ).loc Cert.MidExpertsReferenceIdeal.main_arg1)
      ∧ r.2.mem ((c.tc : Thread Cert.MidExpertsReferenceIdeal.nD Cert.MidExpertsReferenceIdeal.τ).loc Cert.MidExpertsReferenceIdeal.main_arg2) = m ((c.tc : Thread Cert.MidExpertsReferenceIdeal.nD Cert.MidExpertsReferenceIdeal.τ).loc Cert.MidExpertsReferenceIdeal.main_arg2)
      ∧ r.2.mem ((c.tc : Thread Cert.MidExpertsReferenceIdeal.nD Cert.MidExpertsReferenceIdeal.τ).loc Cert.MidExpertsReferenceIdeal.main_arg3) = m ((c.tc : Thread Cert.MidExpertsReferenceIdeal.nD Cert.MidExpertsReferenceIdeal.τ).loc Cert.MidExpertsReferenceIdeal.main_arg3)
      ∧ r.2.mem ((c.tc : Thread Cert.MidExpertsReferenceIdeal.nD Cert.MidExpertsReferenceIdeal.τ).loc Cert.MidExpertsReferenceIdeal.main_arg4) = m ((c.tc : Thread Cert.MidExpertsReferenceIdeal.nD Cert.MidExpertsReferenceIdeal.τ).loc Cert.MidExpertsReferenceIdeal.main_arg4)
      ∧ r.2.mem ((c.tc : Thread Cert.MidExpertsReferenceIdeal.nD Cert.MidExpertsReferenceIdeal.τ).loc Cert.MidExpertsReferenceIdeal.main_arg5) = m ((c.tc : Thread Cert.MidExpertsReferenceIdeal.nD Cert.MidExpertsReferenceIdeal.τ).loc Cert.MidExpertsReferenceIdeal.main_arg5)
      ∧ r.2.mem ((c.tc : Thread Cert.MidExpertsReferenceIdeal.nD Cert.MidExpertsReferenceIdeal.τ).loc Cert.MidExpertsReferenceIdeal.main_arg6) = m ((c.tc : Thread Cert.MidExpertsReferenceIdeal.nD Cert.MidExpertsReferenceIdeal.τ).loc Cert.MidExpertsReferenceIdeal.main_arg6))
      ∧ r.2.sem = fun _ => 0)

def quiescent_MidExpertsReferenceIdeal_pre_known_mid_experts [hMidExpertsReferenceIdeal : Cert.MidExpertsReferenceIdeal.Facts] [hPre_known_mid_experts : Cert.Pre_known_mid_experts.Facts] : Prop :=
  ∀ (m : (ℓ : Loc Cert.MidExpertsReferenceIdeal.nD Cert.MidExpertsReferenceIdeal.τ Cert.MidExpertsReferenceIdeal.sig) → Buf (Elt Ideal) ℓ) (g : Dev Cert.MidExpertsReferenceIdeal.nD → PrngReg), Pre_MidExpertsReferenceIdeal_known_mid_experts m →
    θ_run (Cert.MidExpertsReferenceIdeal.defs (F := Ideal)) (onTc (τ := Cert.MidExpertsReferenceIdeal.τ) (Cert.MidExpertsReferenceIdeal.main (F := Ideal))) ⟨m, fun _ => 0, g⟩ (fun r => (∀ c : Dev Cert.MidExpertsReferenceIdeal.nD,
      r.2.mem ((c.tc : Thread Cert.MidExpertsReferenceIdeal.nD Cert.MidExpertsReferenceIdeal.τ).loc Cert.MidExpertsReferenceIdeal.main_arg0) = m ((c.tc : Thread Cert.MidExpertsReferenceIdeal.nD Cert.MidExpertsReferenceIdeal.τ).loc Cert.MidExpertsReferenceIdeal.main_arg0)
      ∧ r.2.mem ((c.tc : Thread Cert.MidExpertsReferenceIdeal.nD Cert.MidExpertsReferenceIdeal.τ).loc Cert.MidExpertsReferenceIdeal.main_arg1) = m ((c.tc : Thread Cert.MidExpertsReferenceIdeal.nD Cert.MidExpertsReferenceIdeal.τ).loc Cert.MidExpertsReferenceIdeal.main_arg1)
      ∧ r.2.mem ((c.tc : Thread Cert.MidExpertsReferenceIdeal.nD Cert.MidExpertsReferenceIdeal.τ).loc Cert.MidExpertsReferenceIdeal.main_arg2) = m ((c.tc : Thread Cert.MidExpertsReferenceIdeal.nD Cert.MidExpertsReferenceIdeal.τ).loc Cert.MidExpertsReferenceIdeal.main_arg2)
      ∧ r.2.mem ((c.tc : Thread Cert.MidExpertsReferenceIdeal.nD Cert.MidExpertsReferenceIdeal.τ).loc Cert.MidExpertsReferenceIdeal.main_arg3) = m ((c.tc : Thread Cert.MidExpertsReferenceIdeal.nD Cert.MidExpertsReferenceIdeal.τ).loc Cert.MidExpertsReferenceIdeal.main_arg3)
      ∧ r.2.mem ((c.tc : Thread Cert.MidExpertsReferenceIdeal.nD Cert.MidExpertsReferenceIdeal.τ).loc Cert.MidExpertsReferenceIdeal.main_arg4) = m ((c.tc : Thread Cert.MidExpertsReferenceIdeal.nD Cert.MidExpertsReferenceIdeal.τ).loc Cert.MidExpertsReferenceIdeal.main_arg4)
      ∧ r.2.mem ((c.tc : Thread Cert.MidExpertsReferenceIdeal.nD Cert.MidExpertsReferenceIdeal.τ).loc Cert.MidExpertsReferenceIdeal.main_arg5) = m ((c.tc : Thread Cert.MidExpertsReferenceIdeal.nD Cert.MidExpertsReferenceIdeal.τ).loc Cert.MidExpertsReferenceIdeal.main_arg5)
      ∧ r.2.mem ((c.tc : Thread Cert.MidExpertsReferenceIdeal.nD Cert.MidExpertsReferenceIdeal.τ).loc Cert.MidExpertsReferenceIdeal.main_arg6) = m ((c.tc : Thread Cert.MidExpertsReferenceIdeal.nD Cert.MidExpertsReferenceIdeal.τ).loc Cert.MidExpertsReferenceIdeal.main_arg6))
      ∧ r.2.sem = fun _ => 0)

def quiescent_LateMidExperts [hLateMidExperts : Cert.LateMidExperts.Facts] [hPre_known_late_mid_experts : Cert.Pre_known_late_mid_experts.Facts] : Prop :=
  ∀ (m : (ℓ : Loc Cert.LateMidExperts.nD Cert.LateMidExperts.τ Cert.LateMidExperts.sig) → Buf (Elt Bits) ℓ) (g : Dev Cert.LateMidExperts.nD → PrngReg), Pre_LateMidExperts m →
    θ_run (Cert.LateMidExperts.defs (F := Bits)) (onTc (τ := Cert.LateMidExperts.τ) (Cert.LateMidExperts.main (F := Bits))) ⟨m, fun _ => 0, g⟩ (fun r => (∀ c : Dev Cert.LateMidExperts.nD,
      r.2.mem ((c.tc : Thread Cert.LateMidExperts.nD Cert.LateMidExperts.τ).loc Cert.LateMidExperts.main_arg0) = m ((c.tc : Thread Cert.LateMidExperts.nD Cert.LateMidExperts.τ).loc Cert.LateMidExperts.main_arg0)
      ∧ r.2.mem ((c.tc : Thread Cert.LateMidExperts.nD Cert.LateMidExperts.τ).loc Cert.LateMidExperts.main_arg1) = m ((c.tc : Thread Cert.LateMidExperts.nD Cert.LateMidExperts.τ).loc Cert.LateMidExperts.main_arg1)
      ∧ r.2.mem ((c.tc : Thread Cert.LateMidExperts.nD Cert.LateMidExperts.τ).loc Cert.LateMidExperts.main_arg2) = m ((c.tc : Thread Cert.LateMidExperts.nD Cert.LateMidExperts.τ).loc Cert.LateMidExperts.main_arg2)
      ∧ r.2.mem ((c.tc : Thread Cert.LateMidExperts.nD Cert.LateMidExperts.τ).loc Cert.LateMidExperts.main_arg3) = m ((c.tc : Thread Cert.LateMidExperts.nD Cert.LateMidExperts.τ).loc Cert.LateMidExperts.main_arg3)
      ∧ r.2.mem ((c.tc : Thread Cert.LateMidExperts.nD Cert.LateMidExperts.τ).loc Cert.LateMidExperts.main_arg4) = m ((c.tc : Thread Cert.LateMidExperts.nD Cert.LateMidExperts.τ).loc Cert.LateMidExperts.main_arg4)
      ∧ r.2.mem ((c.tc : Thread Cert.LateMidExperts.nD Cert.LateMidExperts.τ).loc Cert.LateMidExperts.main_arg5) = m ((c.tc : Thread Cert.LateMidExperts.nD Cert.LateMidExperts.τ).loc Cert.LateMidExperts.main_arg5)
      ∧ r.2.mem ((c.tc : Thread Cert.LateMidExperts.nD Cert.LateMidExperts.τ).loc Cert.LateMidExperts.main_arg6) = m ((c.tc : Thread Cert.LateMidExperts.nD Cert.LateMidExperts.τ).loc Cert.LateMidExperts.main_arg6))
      ∧ r.2.sem = fun _ => 0)

def quiescent_LateMidExpertsIdeal [hLateMidExpertsIdeal : Cert.LateMidExpertsIdeal.Facts] [hPre_known_late_mid_experts : Cert.Pre_known_late_mid_experts.Facts] : Prop :=
  ∀ (m : (ℓ : Loc Cert.LateMidExpertsIdeal.nD Cert.LateMidExpertsIdeal.τ Cert.LateMidExpertsIdeal.sig) → Buf (Elt Ideal) ℓ) (g : Dev Cert.LateMidExpertsIdeal.nD → PrngReg), Pre_LateMidExpertsIdeal m →
    θ_run (Cert.LateMidExpertsIdeal.defs (F := Ideal)) (onTc (τ := Cert.LateMidExpertsIdeal.τ) (Cert.LateMidExpertsIdeal.main (F := Ideal))) ⟨m, fun _ => 0, g⟩ (fun r => (∀ c : Dev Cert.LateMidExpertsIdeal.nD,
      r.2.mem ((c.tc : Thread Cert.LateMidExpertsIdeal.nD Cert.LateMidExpertsIdeal.τ).loc Cert.LateMidExpertsIdeal.main_arg0) = m ((c.tc : Thread Cert.LateMidExpertsIdeal.nD Cert.LateMidExpertsIdeal.τ).loc Cert.LateMidExpertsIdeal.main_arg0)
      ∧ r.2.mem ((c.tc : Thread Cert.LateMidExpertsIdeal.nD Cert.LateMidExpertsIdeal.τ).loc Cert.LateMidExpertsIdeal.main_arg1) = m ((c.tc : Thread Cert.LateMidExpertsIdeal.nD Cert.LateMidExpertsIdeal.τ).loc Cert.LateMidExpertsIdeal.main_arg1)
      ∧ r.2.mem ((c.tc : Thread Cert.LateMidExpertsIdeal.nD Cert.LateMidExpertsIdeal.τ).loc Cert.LateMidExpertsIdeal.main_arg2) = m ((c.tc : Thread Cert.LateMidExpertsIdeal.nD Cert.LateMidExpertsIdeal.τ).loc Cert.LateMidExpertsIdeal.main_arg2)
      ∧ r.2.mem ((c.tc : Thread Cert.LateMidExpertsIdeal.nD Cert.LateMidExpertsIdeal.τ).loc Cert.LateMidExpertsIdeal.main_arg3) = m ((c.tc : Thread Cert.LateMidExpertsIdeal.nD Cert.LateMidExpertsIdeal.τ).loc Cert.LateMidExpertsIdeal.main_arg3)
      ∧ r.2.mem ((c.tc : Thread Cert.LateMidExpertsIdeal.nD Cert.LateMidExpertsIdeal.τ).loc Cert.LateMidExpertsIdeal.main_arg4) = m ((c.tc : Thread Cert.LateMidExpertsIdeal.nD Cert.LateMidExpertsIdeal.τ).loc Cert.LateMidExpertsIdeal.main_arg4)
      ∧ r.2.mem ((c.tc : Thread Cert.LateMidExpertsIdeal.nD Cert.LateMidExpertsIdeal.τ).loc Cert.LateMidExpertsIdeal.main_arg5) = m ((c.tc : Thread Cert.LateMidExpertsIdeal.nD Cert.LateMidExpertsIdeal.τ).loc Cert.LateMidExpertsIdeal.main_arg5)
      ∧ r.2.mem ((c.tc : Thread Cert.LateMidExpertsIdeal.nD Cert.LateMidExpertsIdeal.τ).loc Cert.LateMidExpertsIdeal.main_arg6) = m ((c.tc : Thread Cert.LateMidExpertsIdeal.nD Cert.LateMidExpertsIdeal.τ).loc Cert.LateMidExpertsIdeal.main_arg6))
      ∧ r.2.sem = fun _ => 0)

def quiescent_LateMidExpertsReferenceIdeal [hLateMidExpertsReferenceIdeal : Cert.LateMidExpertsReferenceIdeal.Facts] : Prop :=
  ∀ (m : (ℓ : Loc Cert.LateMidExpertsReferenceIdeal.nD Cert.LateMidExpertsReferenceIdeal.τ Cert.LateMidExpertsReferenceIdeal.sig) → Buf (Elt Ideal) ℓ) (g : Dev Cert.LateMidExpertsReferenceIdeal.nD → PrngReg), Pre_LateMidExpertsReferenceIdeal m →
    θ_run (Cert.LateMidExpertsReferenceIdeal.defs (F := Ideal)) (onTc (τ := Cert.LateMidExpertsReferenceIdeal.τ) (Cert.LateMidExpertsReferenceIdeal.main (F := Ideal))) ⟨m, fun _ => 0, g⟩ (fun r => (∀ c : Dev Cert.LateMidExpertsReferenceIdeal.nD,
      r.2.mem ((c.tc : Thread Cert.LateMidExpertsReferenceIdeal.nD Cert.LateMidExpertsReferenceIdeal.τ).loc Cert.LateMidExpertsReferenceIdeal.main_arg0) = m ((c.tc : Thread Cert.LateMidExpertsReferenceIdeal.nD Cert.LateMidExpertsReferenceIdeal.τ).loc Cert.LateMidExpertsReferenceIdeal.main_arg0)
      ∧ r.2.mem ((c.tc : Thread Cert.LateMidExpertsReferenceIdeal.nD Cert.LateMidExpertsReferenceIdeal.τ).loc Cert.LateMidExpertsReferenceIdeal.main_arg1) = m ((c.tc : Thread Cert.LateMidExpertsReferenceIdeal.nD Cert.LateMidExpertsReferenceIdeal.τ).loc Cert.LateMidExpertsReferenceIdeal.main_arg1)
      ∧ r.2.mem ((c.tc : Thread Cert.LateMidExpertsReferenceIdeal.nD Cert.LateMidExpertsReferenceIdeal.τ).loc Cert.LateMidExpertsReferenceIdeal.main_arg2) = m ((c.tc : Thread Cert.LateMidExpertsReferenceIdeal.nD Cert.LateMidExpertsReferenceIdeal.τ).loc Cert.LateMidExpertsReferenceIdeal.main_arg2)
      ∧ r.2.mem ((c.tc : Thread Cert.LateMidExpertsReferenceIdeal.nD Cert.LateMidExpertsReferenceIdeal.τ).loc Cert.LateMidExpertsReferenceIdeal.main_arg3) = m ((c.tc : Thread Cert.LateMidExpertsReferenceIdeal.nD Cert.LateMidExpertsReferenceIdeal.τ).loc Cert.LateMidExpertsReferenceIdeal.main_arg3)
      ∧ r.2.mem ((c.tc : Thread Cert.LateMidExpertsReferenceIdeal.nD Cert.LateMidExpertsReferenceIdeal.τ).loc Cert.LateMidExpertsReferenceIdeal.main_arg4) = m ((c.tc : Thread Cert.LateMidExpertsReferenceIdeal.nD Cert.LateMidExpertsReferenceIdeal.τ).loc Cert.LateMidExpertsReferenceIdeal.main_arg4)
      ∧ r.2.mem ((c.tc : Thread Cert.LateMidExpertsReferenceIdeal.nD Cert.LateMidExpertsReferenceIdeal.τ).loc Cert.LateMidExpertsReferenceIdeal.main_arg5) = m ((c.tc : Thread Cert.LateMidExpertsReferenceIdeal.nD Cert.LateMidExpertsReferenceIdeal.τ).loc Cert.LateMidExpertsReferenceIdeal.main_arg5)
      ∧ r.2.mem ((c.tc : Thread Cert.LateMidExpertsReferenceIdeal.nD Cert.LateMidExpertsReferenceIdeal.τ).loc Cert.LateMidExpertsReferenceIdeal.main_arg6) = m ((c.tc : Thread Cert.LateMidExpertsReferenceIdeal.nD Cert.LateMidExpertsReferenceIdeal.τ).loc Cert.LateMidExpertsReferenceIdeal.main_arg6))
      ∧ r.2.sem = fun _ => 0)

def quiescent_LateMidExpertsReferenceIdeal_pre_known_late_mid_experts [hLateMidExpertsReferenceIdeal : Cert.LateMidExpertsReferenceIdeal.Facts] [hPre_known_late_mid_experts : Cert.Pre_known_late_mid_experts.Facts] : Prop :=
  ∀ (m : (ℓ : Loc Cert.LateMidExpertsReferenceIdeal.nD Cert.LateMidExpertsReferenceIdeal.τ Cert.LateMidExpertsReferenceIdeal.sig) → Buf (Elt Ideal) ℓ) (g : Dev Cert.LateMidExpertsReferenceIdeal.nD → PrngReg), Pre_LateMidExpertsReferenceIdeal_known_late_mid_experts m →
    θ_run (Cert.LateMidExpertsReferenceIdeal.defs (F := Ideal)) (onTc (τ := Cert.LateMidExpertsReferenceIdeal.τ) (Cert.LateMidExpertsReferenceIdeal.main (F := Ideal))) ⟨m, fun _ => 0, g⟩ (fun r => (∀ c : Dev Cert.LateMidExpertsReferenceIdeal.nD,
      r.2.mem ((c.tc : Thread Cert.LateMidExpertsReferenceIdeal.nD Cert.LateMidExpertsReferenceIdeal.τ).loc Cert.LateMidExpertsReferenceIdeal.main_arg0) = m ((c.tc : Thread Cert.LateMidExpertsReferenceIdeal.nD Cert.LateMidExpertsReferenceIdeal.τ).loc Cert.LateMidExpertsReferenceIdeal.main_arg0)
      ∧ r.2.mem ((c.tc : Thread Cert.LateMidExpertsReferenceIdeal.nD Cert.LateMidExpertsReferenceIdeal.τ).loc Cert.LateMidExpertsReferenceIdeal.main_arg1) = m ((c.tc : Thread Cert.LateMidExpertsReferenceIdeal.nD Cert.LateMidExpertsReferenceIdeal.τ).loc Cert.LateMidExpertsReferenceIdeal.main_arg1)
      ∧ r.2.mem ((c.tc : Thread Cert.LateMidExpertsReferenceIdeal.nD Cert.LateMidExpertsReferenceIdeal.τ).loc Cert.LateMidExpertsReferenceIdeal.main_arg2) = m ((c.tc : Thread Cert.LateMidExpertsReferenceIdeal.nD Cert.LateMidExpertsReferenceIdeal.τ).loc Cert.LateMidExpertsReferenceIdeal.main_arg2)
      ∧ r.2.mem ((c.tc : Thread Cert.LateMidExpertsReferenceIdeal.nD Cert.LateMidExpertsReferenceIdeal.τ).loc Cert.LateMidExpertsReferenceIdeal.main_arg3) = m ((c.tc : Thread Cert.LateMidExpertsReferenceIdeal.nD Cert.LateMidExpertsReferenceIdeal.τ).loc Cert.LateMidExpertsReferenceIdeal.main_arg3)
      ∧ r.2.mem ((c.tc : Thread Cert.LateMidExpertsReferenceIdeal.nD Cert.LateMidExpertsReferenceIdeal.τ).loc Cert.LateMidExpertsReferenceIdeal.main_arg4) = m ((c.tc : Thread Cert.LateMidExpertsReferenceIdeal.nD Cert.LateMidExpertsReferenceIdeal.τ).loc Cert.LateMidExpertsReferenceIdeal.main_arg4)
      ∧ r.2.mem ((c.tc : Thread Cert.LateMidExpertsReferenceIdeal.nD Cert.LateMidExpertsReferenceIdeal.τ).loc Cert.LateMidExpertsReferenceIdeal.main_arg5) = m ((c.tc : Thread Cert.LateMidExpertsReferenceIdeal.nD Cert.LateMidExpertsReferenceIdeal.τ).loc Cert.LateMidExpertsReferenceIdeal.main_arg5)
      ∧ r.2.mem ((c.tc : Thread Cert.LateMidExpertsReferenceIdeal.nD Cert.LateMidExpertsReferenceIdeal.τ).loc Cert.LateMidExpertsReferenceIdeal.main_arg6) = m ((c.tc : Thread Cert.LateMidExpertsReferenceIdeal.nD Cert.LateMidExpertsReferenceIdeal.τ).loc Cert.LateMidExpertsReferenceIdeal.main_arg6))
      ∧ r.2.sem = fun _ => 0)

def quiescent_LowExperts [hLowExperts : Cert.LowExperts.Facts] [hPre_known_low_experts : Cert.Pre_known_low_experts.Facts] : Prop :=
  ∀ (m : (ℓ : Loc Cert.LowExperts.nD Cert.LowExperts.τ Cert.LowExperts.sig) → Buf (Elt Bits) ℓ) (g : Dev Cert.LowExperts.nD → PrngReg), Pre_LowExperts m →
    θ_run (Cert.LowExperts.defs (F := Bits)) (onTc (τ := Cert.LowExperts.τ) (Cert.LowExperts.main (F := Bits))) ⟨m, fun _ => 0, g⟩ (fun r => (∀ c : Dev Cert.LowExperts.nD,
      r.2.mem ((c.tc : Thread Cert.LowExperts.nD Cert.LowExperts.τ).loc Cert.LowExperts.main_arg0) = m ((c.tc : Thread Cert.LowExperts.nD Cert.LowExperts.τ).loc Cert.LowExperts.main_arg0)
      ∧ r.2.mem ((c.tc : Thread Cert.LowExperts.nD Cert.LowExperts.τ).loc Cert.LowExperts.main_arg1) = m ((c.tc : Thread Cert.LowExperts.nD Cert.LowExperts.τ).loc Cert.LowExperts.main_arg1)
      ∧ r.2.mem ((c.tc : Thread Cert.LowExperts.nD Cert.LowExperts.τ).loc Cert.LowExperts.main_arg2) = m ((c.tc : Thread Cert.LowExperts.nD Cert.LowExperts.τ).loc Cert.LowExperts.main_arg2)
      ∧ r.2.mem ((c.tc : Thread Cert.LowExperts.nD Cert.LowExperts.τ).loc Cert.LowExperts.main_arg3) = m ((c.tc : Thread Cert.LowExperts.nD Cert.LowExperts.τ).loc Cert.LowExperts.main_arg3)
      ∧ r.2.mem ((c.tc : Thread Cert.LowExperts.nD Cert.LowExperts.τ).loc Cert.LowExperts.main_arg4) = m ((c.tc : Thread Cert.LowExperts.nD Cert.LowExperts.τ).loc Cert.LowExperts.main_arg4)
      ∧ r.2.mem ((c.tc : Thread Cert.LowExperts.nD Cert.LowExperts.τ).loc Cert.LowExperts.main_arg5) = m ((c.tc : Thread Cert.LowExperts.nD Cert.LowExperts.τ).loc Cert.LowExperts.main_arg5)
      ∧ r.2.mem ((c.tc : Thread Cert.LowExperts.nD Cert.LowExperts.τ).loc Cert.LowExperts.main_arg6) = m ((c.tc : Thread Cert.LowExperts.nD Cert.LowExperts.τ).loc Cert.LowExperts.main_arg6))
      ∧ r.2.sem = fun _ => 0)

def quiescent_LowExpertsIdeal [hLowExpertsIdeal : Cert.LowExpertsIdeal.Facts] [hPre_known_low_experts : Cert.Pre_known_low_experts.Facts] : Prop :=
  ∀ (m : (ℓ : Loc Cert.LowExpertsIdeal.nD Cert.LowExpertsIdeal.τ Cert.LowExpertsIdeal.sig) → Buf (Elt Ideal) ℓ) (g : Dev Cert.LowExpertsIdeal.nD → PrngReg), Pre_LowExpertsIdeal m →
    θ_run (Cert.LowExpertsIdeal.defs (F := Ideal)) (onTc (τ := Cert.LowExpertsIdeal.τ) (Cert.LowExpertsIdeal.main (F := Ideal))) ⟨m, fun _ => 0, g⟩ (fun r => (∀ c : Dev Cert.LowExpertsIdeal.nD,
      r.2.mem ((c.tc : Thread Cert.LowExpertsIdeal.nD Cert.LowExpertsIdeal.τ).loc Cert.LowExpertsIdeal.main_arg0) = m ((c.tc : Thread Cert.LowExpertsIdeal.nD Cert.LowExpertsIdeal.τ).loc Cert.LowExpertsIdeal.main_arg0)
      ∧ r.2.mem ((c.tc : Thread Cert.LowExpertsIdeal.nD Cert.LowExpertsIdeal.τ).loc Cert.LowExpertsIdeal.main_arg1) = m ((c.tc : Thread Cert.LowExpertsIdeal.nD Cert.LowExpertsIdeal.τ).loc Cert.LowExpertsIdeal.main_arg1)
      ∧ r.2.mem ((c.tc : Thread Cert.LowExpertsIdeal.nD Cert.LowExpertsIdeal.τ).loc Cert.LowExpertsIdeal.main_arg2) = m ((c.tc : Thread Cert.LowExpertsIdeal.nD Cert.LowExpertsIdeal.τ).loc Cert.LowExpertsIdeal.main_arg2)
      ∧ r.2.mem ((c.tc : Thread Cert.LowExpertsIdeal.nD Cert.LowExpertsIdeal.τ).loc Cert.LowExpertsIdeal.main_arg3) = m ((c.tc : Thread Cert.LowExpertsIdeal.nD Cert.LowExpertsIdeal.τ).loc Cert.LowExpertsIdeal.main_arg3)
      ∧ r.2.mem ((c.tc : Thread Cert.LowExpertsIdeal.nD Cert.LowExpertsIdeal.τ).loc Cert.LowExpertsIdeal.main_arg4) = m ((c.tc : Thread Cert.LowExpertsIdeal.nD Cert.LowExpertsIdeal.τ).loc Cert.LowExpertsIdeal.main_arg4)
      ∧ r.2.mem ((c.tc : Thread Cert.LowExpertsIdeal.nD Cert.LowExpertsIdeal.τ).loc Cert.LowExpertsIdeal.main_arg5) = m ((c.tc : Thread Cert.LowExpertsIdeal.nD Cert.LowExpertsIdeal.τ).loc Cert.LowExpertsIdeal.main_arg5)
      ∧ r.2.mem ((c.tc : Thread Cert.LowExpertsIdeal.nD Cert.LowExpertsIdeal.τ).loc Cert.LowExpertsIdeal.main_arg6) = m ((c.tc : Thread Cert.LowExpertsIdeal.nD Cert.LowExpertsIdeal.τ).loc Cert.LowExpertsIdeal.main_arg6))
      ∧ r.2.sem = fun _ => 0)

def quiescent_LowExpertsReferenceIdeal [hLowExpertsReferenceIdeal : Cert.LowExpertsReferenceIdeal.Facts] : Prop :=
  ∀ (m : (ℓ : Loc Cert.LowExpertsReferenceIdeal.nD Cert.LowExpertsReferenceIdeal.τ Cert.LowExpertsReferenceIdeal.sig) → Buf (Elt Ideal) ℓ) (g : Dev Cert.LowExpertsReferenceIdeal.nD → PrngReg), Pre_LowExpertsReferenceIdeal m →
    θ_run (Cert.LowExpertsReferenceIdeal.defs (F := Ideal)) (onTc (τ := Cert.LowExpertsReferenceIdeal.τ) (Cert.LowExpertsReferenceIdeal.main (F := Ideal))) ⟨m, fun _ => 0, g⟩ (fun r => (∀ c : Dev Cert.LowExpertsReferenceIdeal.nD,
      r.2.mem ((c.tc : Thread Cert.LowExpertsReferenceIdeal.nD Cert.LowExpertsReferenceIdeal.τ).loc Cert.LowExpertsReferenceIdeal.main_arg0) = m ((c.tc : Thread Cert.LowExpertsReferenceIdeal.nD Cert.LowExpertsReferenceIdeal.τ).loc Cert.LowExpertsReferenceIdeal.main_arg0)
      ∧ r.2.mem ((c.tc : Thread Cert.LowExpertsReferenceIdeal.nD Cert.LowExpertsReferenceIdeal.τ).loc Cert.LowExpertsReferenceIdeal.main_arg1) = m ((c.tc : Thread Cert.LowExpertsReferenceIdeal.nD Cert.LowExpertsReferenceIdeal.τ).loc Cert.LowExpertsReferenceIdeal.main_arg1)
      ∧ r.2.mem ((c.tc : Thread Cert.LowExpertsReferenceIdeal.nD Cert.LowExpertsReferenceIdeal.τ).loc Cert.LowExpertsReferenceIdeal.main_arg2) = m ((c.tc : Thread Cert.LowExpertsReferenceIdeal.nD Cert.LowExpertsReferenceIdeal.τ).loc Cert.LowExpertsReferenceIdeal.main_arg2)
      ∧ r.2.mem ((c.tc : Thread Cert.LowExpertsReferenceIdeal.nD Cert.LowExpertsReferenceIdeal.τ).loc Cert.LowExpertsReferenceIdeal.main_arg3) = m ((c.tc : Thread Cert.LowExpertsReferenceIdeal.nD Cert.LowExpertsReferenceIdeal.τ).loc Cert.LowExpertsReferenceIdeal.main_arg3)
      ∧ r.2.mem ((c.tc : Thread Cert.LowExpertsReferenceIdeal.nD Cert.LowExpertsReferenceIdeal.τ).loc Cert.LowExpertsReferenceIdeal.main_arg4) = m ((c.tc : Thread Cert.LowExpertsReferenceIdeal.nD Cert.LowExpertsReferenceIdeal.τ).loc Cert.LowExpertsReferenceIdeal.main_arg4)
      ∧ r.2.mem ((c.tc : Thread Cert.LowExpertsReferenceIdeal.nD Cert.LowExpertsReferenceIdeal.τ).loc Cert.LowExpertsReferenceIdeal.main_arg5) = m ((c.tc : Thread Cert.LowExpertsReferenceIdeal.nD Cert.LowExpertsReferenceIdeal.τ).loc Cert.LowExpertsReferenceIdeal.main_arg5)
      ∧ r.2.mem ((c.tc : Thread Cert.LowExpertsReferenceIdeal.nD Cert.LowExpertsReferenceIdeal.τ).loc Cert.LowExpertsReferenceIdeal.main_arg6) = m ((c.tc : Thread Cert.LowExpertsReferenceIdeal.nD Cert.LowExpertsReferenceIdeal.τ).loc Cert.LowExpertsReferenceIdeal.main_arg6))
      ∧ r.2.sem = fun _ => 0)

def quiescent_LowExpertsReferenceIdeal_pre_known_low_experts [hLowExpertsReferenceIdeal : Cert.LowExpertsReferenceIdeal.Facts] [hPre_known_low_experts : Cert.Pre_known_low_experts.Facts] : Prop :=
  ∀ (m : (ℓ : Loc Cert.LowExpertsReferenceIdeal.nD Cert.LowExpertsReferenceIdeal.τ Cert.LowExpertsReferenceIdeal.sig) → Buf (Elt Ideal) ℓ) (g : Dev Cert.LowExpertsReferenceIdeal.nD → PrngReg), Pre_LowExpertsReferenceIdeal_known_low_experts m →
    θ_run (Cert.LowExpertsReferenceIdeal.defs (F := Ideal)) (onTc (τ := Cert.LowExpertsReferenceIdeal.τ) (Cert.LowExpertsReferenceIdeal.main (F := Ideal))) ⟨m, fun _ => 0, g⟩ (fun r => (∀ c : Dev Cert.LowExpertsReferenceIdeal.nD,
      r.2.mem ((c.tc : Thread Cert.LowExpertsReferenceIdeal.nD Cert.LowExpertsReferenceIdeal.τ).loc Cert.LowExpertsReferenceIdeal.main_arg0) = m ((c.tc : Thread Cert.LowExpertsReferenceIdeal.nD Cert.LowExpertsReferenceIdeal.τ).loc Cert.LowExpertsReferenceIdeal.main_arg0)
      ∧ r.2.mem ((c.tc : Thread Cert.LowExpertsReferenceIdeal.nD Cert.LowExpertsReferenceIdeal.τ).loc Cert.LowExpertsReferenceIdeal.main_arg1) = m ((c.tc : Thread Cert.LowExpertsReferenceIdeal.nD Cert.LowExpertsReferenceIdeal.τ).loc Cert.LowExpertsReferenceIdeal.main_arg1)
      ∧ r.2.mem ((c.tc : Thread Cert.LowExpertsReferenceIdeal.nD Cert.LowExpertsReferenceIdeal.τ).loc Cert.LowExpertsReferenceIdeal.main_arg2) = m ((c.tc : Thread Cert.LowExpertsReferenceIdeal.nD Cert.LowExpertsReferenceIdeal.τ).loc Cert.LowExpertsReferenceIdeal.main_arg2)
      ∧ r.2.mem ((c.tc : Thread Cert.LowExpertsReferenceIdeal.nD Cert.LowExpertsReferenceIdeal.τ).loc Cert.LowExpertsReferenceIdeal.main_arg3) = m ((c.tc : Thread Cert.LowExpertsReferenceIdeal.nD Cert.LowExpertsReferenceIdeal.τ).loc Cert.LowExpertsReferenceIdeal.main_arg3)
      ∧ r.2.mem ((c.tc : Thread Cert.LowExpertsReferenceIdeal.nD Cert.LowExpertsReferenceIdeal.τ).loc Cert.LowExpertsReferenceIdeal.main_arg4) = m ((c.tc : Thread Cert.LowExpertsReferenceIdeal.nD Cert.LowExpertsReferenceIdeal.τ).loc Cert.LowExpertsReferenceIdeal.main_arg4)
      ∧ r.2.mem ((c.tc : Thread Cert.LowExpertsReferenceIdeal.nD Cert.LowExpertsReferenceIdeal.τ).loc Cert.LowExpertsReferenceIdeal.main_arg5) = m ((c.tc : Thread Cert.LowExpertsReferenceIdeal.nD Cert.LowExpertsReferenceIdeal.τ).loc Cert.LowExpertsReferenceIdeal.main_arg5)
      ∧ r.2.mem ((c.tc : Thread Cert.LowExpertsReferenceIdeal.nD Cert.LowExpertsReferenceIdeal.τ).loc Cert.LowExpertsReferenceIdeal.main_arg6) = m ((c.tc : Thread Cert.LowExpertsReferenceIdeal.nD Cert.LowExpertsReferenceIdeal.τ).loc Cert.LowExpertsReferenceIdeal.main_arg6))
      ∧ r.2.sem = fun _ => 0)

def quiescent_LateLowExperts [hLateLowExperts : Cert.LateLowExperts.Facts] [hPre_known_late_low_experts : Cert.Pre_known_late_low_experts.Facts] : Prop :=
  ∀ (m : (ℓ : Loc Cert.LateLowExperts.nD Cert.LateLowExperts.τ Cert.LateLowExperts.sig) → Buf (Elt Bits) ℓ) (g : Dev Cert.LateLowExperts.nD → PrngReg), Pre_LateLowExperts m →
    θ_run (Cert.LateLowExperts.defs (F := Bits)) (onTc (τ := Cert.LateLowExperts.τ) (Cert.LateLowExperts.main (F := Bits))) ⟨m, fun _ => 0, g⟩ (fun r => (∀ c : Dev Cert.LateLowExperts.nD,
      r.2.mem ((c.tc : Thread Cert.LateLowExperts.nD Cert.LateLowExperts.τ).loc Cert.LateLowExperts.main_arg0) = m ((c.tc : Thread Cert.LateLowExperts.nD Cert.LateLowExperts.τ).loc Cert.LateLowExperts.main_arg0)
      ∧ r.2.mem ((c.tc : Thread Cert.LateLowExperts.nD Cert.LateLowExperts.τ).loc Cert.LateLowExperts.main_arg1) = m ((c.tc : Thread Cert.LateLowExperts.nD Cert.LateLowExperts.τ).loc Cert.LateLowExperts.main_arg1)
      ∧ r.2.mem ((c.tc : Thread Cert.LateLowExperts.nD Cert.LateLowExperts.τ).loc Cert.LateLowExperts.main_arg2) = m ((c.tc : Thread Cert.LateLowExperts.nD Cert.LateLowExperts.τ).loc Cert.LateLowExperts.main_arg2)
      ∧ r.2.mem ((c.tc : Thread Cert.LateLowExperts.nD Cert.LateLowExperts.τ).loc Cert.LateLowExperts.main_arg3) = m ((c.tc : Thread Cert.LateLowExperts.nD Cert.LateLowExperts.τ).loc Cert.LateLowExperts.main_arg3)
      ∧ r.2.mem ((c.tc : Thread Cert.LateLowExperts.nD Cert.LateLowExperts.τ).loc Cert.LateLowExperts.main_arg4) = m ((c.tc : Thread Cert.LateLowExperts.nD Cert.LateLowExperts.τ).loc Cert.LateLowExperts.main_arg4)
      ∧ r.2.mem ((c.tc : Thread Cert.LateLowExperts.nD Cert.LateLowExperts.τ).loc Cert.LateLowExperts.main_arg5) = m ((c.tc : Thread Cert.LateLowExperts.nD Cert.LateLowExperts.τ).loc Cert.LateLowExperts.main_arg5)
      ∧ r.2.mem ((c.tc : Thread Cert.LateLowExperts.nD Cert.LateLowExperts.τ).loc Cert.LateLowExperts.main_arg6) = m ((c.tc : Thread Cert.LateLowExperts.nD Cert.LateLowExperts.τ).loc Cert.LateLowExperts.main_arg6))
      ∧ r.2.sem = fun _ => 0)

def quiescent_LateLowExpertsIdeal [hLateLowExpertsIdeal : Cert.LateLowExpertsIdeal.Facts] [hPre_known_late_low_experts : Cert.Pre_known_late_low_experts.Facts] : Prop :=
  ∀ (m : (ℓ : Loc Cert.LateLowExpertsIdeal.nD Cert.LateLowExpertsIdeal.τ Cert.LateLowExpertsIdeal.sig) → Buf (Elt Ideal) ℓ) (g : Dev Cert.LateLowExpertsIdeal.nD → PrngReg), Pre_LateLowExpertsIdeal m →
    θ_run (Cert.LateLowExpertsIdeal.defs (F := Ideal)) (onTc (τ := Cert.LateLowExpertsIdeal.τ) (Cert.LateLowExpertsIdeal.main (F := Ideal))) ⟨m, fun _ => 0, g⟩ (fun r => (∀ c : Dev Cert.LateLowExpertsIdeal.nD,
      r.2.mem ((c.tc : Thread Cert.LateLowExpertsIdeal.nD Cert.LateLowExpertsIdeal.τ).loc Cert.LateLowExpertsIdeal.main_arg0) = m ((c.tc : Thread Cert.LateLowExpertsIdeal.nD Cert.LateLowExpertsIdeal.τ).loc Cert.LateLowExpertsIdeal.main_arg0)
      ∧ r.2.mem ((c.tc : Thread Cert.LateLowExpertsIdeal.nD Cert.LateLowExpertsIdeal.τ).loc Cert.LateLowExpertsIdeal.main_arg1) = m ((c.tc : Thread Cert.LateLowExpertsIdeal.nD Cert.LateLowExpertsIdeal.τ).loc Cert.LateLowExpertsIdeal.main_arg1)
      ∧ r.2.mem ((c.tc : Thread Cert.LateLowExpertsIdeal.nD Cert.LateLowExpertsIdeal.τ).loc Cert.LateLowExpertsIdeal.main_arg2) = m ((c.tc : Thread Cert.LateLowExpertsIdeal.nD Cert.LateLowExpertsIdeal.τ).loc Cert.LateLowExpertsIdeal.main_arg2)
      ∧ r.2.mem ((c.tc : Thread Cert.LateLowExpertsIdeal.nD Cert.LateLowExpertsIdeal.τ).loc Cert.LateLowExpertsIdeal.main_arg3) = m ((c.tc : Thread Cert.LateLowExpertsIdeal.nD Cert.LateLowExpertsIdeal.τ).loc Cert.LateLowExpertsIdeal.main_arg3)
      ∧ r.2.mem ((c.tc : Thread Cert.LateLowExpertsIdeal.nD Cert.LateLowExpertsIdeal.τ).loc Cert.LateLowExpertsIdeal.main_arg4) = m ((c.tc : Thread Cert.LateLowExpertsIdeal.nD Cert.LateLowExpertsIdeal.τ).loc Cert.LateLowExpertsIdeal.main_arg4)
      ∧ r.2.mem ((c.tc : Thread Cert.LateLowExpertsIdeal.nD Cert.LateLowExpertsIdeal.τ).loc Cert.LateLowExpertsIdeal.main_arg5) = m ((c.tc : Thread Cert.LateLowExpertsIdeal.nD Cert.LateLowExpertsIdeal.τ).loc Cert.LateLowExpertsIdeal.main_arg5)
      ∧ r.2.mem ((c.tc : Thread Cert.LateLowExpertsIdeal.nD Cert.LateLowExpertsIdeal.τ).loc Cert.LateLowExpertsIdeal.main_arg6) = m ((c.tc : Thread Cert.LateLowExpertsIdeal.nD Cert.LateLowExpertsIdeal.τ).loc Cert.LateLowExpertsIdeal.main_arg6))
      ∧ r.2.sem = fun _ => 0)

def quiescent_LateLowExpertsReferenceIdeal [hLateLowExpertsReferenceIdeal : Cert.LateLowExpertsReferenceIdeal.Facts] : Prop :=
  ∀ (m : (ℓ : Loc Cert.LateLowExpertsReferenceIdeal.nD Cert.LateLowExpertsReferenceIdeal.τ Cert.LateLowExpertsReferenceIdeal.sig) → Buf (Elt Ideal) ℓ) (g : Dev Cert.LateLowExpertsReferenceIdeal.nD → PrngReg), Pre_LateLowExpertsReferenceIdeal m →
    θ_run (Cert.LateLowExpertsReferenceIdeal.defs (F := Ideal)) (onTc (τ := Cert.LateLowExpertsReferenceIdeal.τ) (Cert.LateLowExpertsReferenceIdeal.main (F := Ideal))) ⟨m, fun _ => 0, g⟩ (fun r => (∀ c : Dev Cert.LateLowExpertsReferenceIdeal.nD,
      r.2.mem ((c.tc : Thread Cert.LateLowExpertsReferenceIdeal.nD Cert.LateLowExpertsReferenceIdeal.τ).loc Cert.LateLowExpertsReferenceIdeal.main_arg0) = m ((c.tc : Thread Cert.LateLowExpertsReferenceIdeal.nD Cert.LateLowExpertsReferenceIdeal.τ).loc Cert.LateLowExpertsReferenceIdeal.main_arg0)
      ∧ r.2.mem ((c.tc : Thread Cert.LateLowExpertsReferenceIdeal.nD Cert.LateLowExpertsReferenceIdeal.τ).loc Cert.LateLowExpertsReferenceIdeal.main_arg1) = m ((c.tc : Thread Cert.LateLowExpertsReferenceIdeal.nD Cert.LateLowExpertsReferenceIdeal.τ).loc Cert.LateLowExpertsReferenceIdeal.main_arg1)
      ∧ r.2.mem ((c.tc : Thread Cert.LateLowExpertsReferenceIdeal.nD Cert.LateLowExpertsReferenceIdeal.τ).loc Cert.LateLowExpertsReferenceIdeal.main_arg2) = m ((c.tc : Thread Cert.LateLowExpertsReferenceIdeal.nD Cert.LateLowExpertsReferenceIdeal.τ).loc Cert.LateLowExpertsReferenceIdeal.main_arg2)
      ∧ r.2.mem ((c.tc : Thread Cert.LateLowExpertsReferenceIdeal.nD Cert.LateLowExpertsReferenceIdeal.τ).loc Cert.LateLowExpertsReferenceIdeal.main_arg3) = m ((c.tc : Thread Cert.LateLowExpertsReferenceIdeal.nD Cert.LateLowExpertsReferenceIdeal.τ).loc Cert.LateLowExpertsReferenceIdeal.main_arg3)
      ∧ r.2.mem ((c.tc : Thread Cert.LateLowExpertsReferenceIdeal.nD Cert.LateLowExpertsReferenceIdeal.τ).loc Cert.LateLowExpertsReferenceIdeal.main_arg4) = m ((c.tc : Thread Cert.LateLowExpertsReferenceIdeal.nD Cert.LateLowExpertsReferenceIdeal.τ).loc Cert.LateLowExpertsReferenceIdeal.main_arg4)
      ∧ r.2.mem ((c.tc : Thread Cert.LateLowExpertsReferenceIdeal.nD Cert.LateLowExpertsReferenceIdeal.τ).loc Cert.LateLowExpertsReferenceIdeal.main_arg5) = m ((c.tc : Thread Cert.LateLowExpertsReferenceIdeal.nD Cert.LateLowExpertsReferenceIdeal.τ).loc Cert.LateLowExpertsReferenceIdeal.main_arg5)
      ∧ r.2.mem ((c.tc : Thread Cert.LateLowExpertsReferenceIdeal.nD Cert.LateLowExpertsReferenceIdeal.τ).loc Cert.LateLowExpertsReferenceIdeal.main_arg6) = m ((c.tc : Thread Cert.LateLowExpertsReferenceIdeal.nD Cert.LateLowExpertsReferenceIdeal.τ).loc Cert.LateLowExpertsReferenceIdeal.main_arg6))
      ∧ r.2.sem = fun _ => 0)

def quiescent_LateLowExpertsReferenceIdeal_pre_known_late_low_experts [hLateLowExpertsReferenceIdeal : Cert.LateLowExpertsReferenceIdeal.Facts] [hPre_known_late_low_experts : Cert.Pre_known_late_low_experts.Facts] : Prop :=
  ∀ (m : (ℓ : Loc Cert.LateLowExpertsReferenceIdeal.nD Cert.LateLowExpertsReferenceIdeal.τ Cert.LateLowExpertsReferenceIdeal.sig) → Buf (Elt Ideal) ℓ) (g : Dev Cert.LateLowExpertsReferenceIdeal.nD → PrngReg), Pre_LateLowExpertsReferenceIdeal_known_late_low_experts m →
    θ_run (Cert.LateLowExpertsReferenceIdeal.defs (F := Ideal)) (onTc (τ := Cert.LateLowExpertsReferenceIdeal.τ) (Cert.LateLowExpertsReferenceIdeal.main (F := Ideal))) ⟨m, fun _ => 0, g⟩ (fun r => (∀ c : Dev Cert.LateLowExpertsReferenceIdeal.nD,
      r.2.mem ((c.tc : Thread Cert.LateLowExpertsReferenceIdeal.nD Cert.LateLowExpertsReferenceIdeal.τ).loc Cert.LateLowExpertsReferenceIdeal.main_arg0) = m ((c.tc : Thread Cert.LateLowExpertsReferenceIdeal.nD Cert.LateLowExpertsReferenceIdeal.τ).loc Cert.LateLowExpertsReferenceIdeal.main_arg0)
      ∧ r.2.mem ((c.tc : Thread Cert.LateLowExpertsReferenceIdeal.nD Cert.LateLowExpertsReferenceIdeal.τ).loc Cert.LateLowExpertsReferenceIdeal.main_arg1) = m ((c.tc : Thread Cert.LateLowExpertsReferenceIdeal.nD Cert.LateLowExpertsReferenceIdeal.τ).loc Cert.LateLowExpertsReferenceIdeal.main_arg1)
      ∧ r.2.mem ((c.tc : Thread Cert.LateLowExpertsReferenceIdeal.nD Cert.LateLowExpertsReferenceIdeal.τ).loc Cert.LateLowExpertsReferenceIdeal.main_arg2) = m ((c.tc : Thread Cert.LateLowExpertsReferenceIdeal.nD Cert.LateLowExpertsReferenceIdeal.τ).loc Cert.LateLowExpertsReferenceIdeal.main_arg2)
      ∧ r.2.mem ((c.tc : Thread Cert.LateLowExpertsReferenceIdeal.nD Cert.LateLowExpertsReferenceIdeal.τ).loc Cert.LateLowExpertsReferenceIdeal.main_arg3) = m ((c.tc : Thread Cert.LateLowExpertsReferenceIdeal.nD Cert.LateLowExpertsReferenceIdeal.τ).loc Cert.LateLowExpertsReferenceIdeal.main_arg3)
      ∧ r.2.mem ((c.tc : Thread Cert.LateLowExpertsReferenceIdeal.nD Cert.LateLowExpertsReferenceIdeal.τ).loc Cert.LateLowExpertsReferenceIdeal.main_arg4) = m ((c.tc : Thread Cert.LateLowExpertsReferenceIdeal.nD Cert.LateLowExpertsReferenceIdeal.τ).loc Cert.LateLowExpertsReferenceIdeal.main_arg4)
      ∧ r.2.mem ((c.tc : Thread Cert.LateLowExpertsReferenceIdeal.nD Cert.LateLowExpertsReferenceIdeal.τ).loc Cert.LateLowExpertsReferenceIdeal.main_arg5) = m ((c.tc : Thread Cert.LateLowExpertsReferenceIdeal.nD Cert.LateLowExpertsReferenceIdeal.τ).loc Cert.LateLowExpertsReferenceIdeal.main_arg5)
      ∧ r.2.mem ((c.tc : Thread Cert.LateLowExpertsReferenceIdeal.nD Cert.LateLowExpertsReferenceIdeal.τ).loc Cert.LateLowExpertsReferenceIdeal.main_arg6) = m ((c.tc : Thread Cert.LateLowExpertsReferenceIdeal.nD Cert.LateLowExpertsReferenceIdeal.τ).loc Cert.LateLowExpertsReferenceIdeal.main_arg6))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_known_experts : Cert.Pre_known_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v24)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v24) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v62) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_LateExperts_LateExpertsIdeal : Prop :=
  True

def algebraic_LateExpertsIdeal_LateExpertsReferenceIdeal [hLateExpertsIdeal : Cert.LateExpertsIdeal.Facts] [hLateExpertsReferenceIdeal : Cert.LateExpertsReferenceIdeal.Facts] [hPre_known_late_experts : Cert.Pre_known_late_experts.Facts] : Prop :=
  ∀ (m : (ℓ : Loc Cert.LateExpertsIdeal.nD Cert.LateExpertsIdeal.τ Cert.LateExpertsIdeal.sig) → Buf (Elt Ideal) ℓ) (g : Dev Cert.LateExpertsIdeal.nD → PrngReg)
    (m' : (ℓ : Loc Cert.LateExpertsReferenceIdeal.nD Cert.LateExpertsReferenceIdeal.τ Cert.LateExpertsReferenceIdeal.sig) → Buf (Elt Ideal) ℓ) (g' : Dev Cert.LateExpertsReferenceIdeal.nD → PrngReg), Pre_LateExpertsIdeal m →
    (∀ c : Dev Cert.LateExpertsIdeal.nD,
      m' ((c.tc : Thread Cert.LateExpertsReferenceIdeal.nD Cert.LateExpertsReferenceIdeal.τ).loc Cert.LateExpertsReferenceIdeal.main_arg0) = m ((c.tc : Thread Cert.LateExpertsIdeal.nD Cert.LateExpertsIdeal.τ).loc Cert.LateExpertsIdeal.main_arg0)
      ∧ m' ((c.tc : Thread Cert.LateExpertsReferenceIdeal.nD Cert.LateExpertsReferenceIdeal.τ).loc Cert.LateExpertsReferenceIdeal.main_arg1) = m ((c.tc : Thread Cert.LateExpertsIdeal.nD Cert.LateExpertsIdeal.τ).loc Cert.LateExpertsIdeal.main_arg1)
      ∧ m' ((c.tc : Thread Cert.LateExpertsReferenceIdeal.nD Cert.LateExpertsReferenceIdeal.τ).loc Cert.LateExpertsReferenceIdeal.main_arg2) = m ((c.tc : Thread Cert.LateExpertsIdeal.nD Cert.LateExpertsIdeal.τ).loc Cert.LateExpertsIdeal.main_arg2)
      ∧ m' ((c.tc : Thread Cert.LateExpertsReferenceIdeal.nD Cert.LateExpertsReferenceIdeal.τ).loc Cert.LateExpertsReferenceIdeal.main_arg3) = m ((c.tc : Thread Cert.LateExpertsIdeal.nD Cert.LateExpertsIdeal.τ).loc Cert.LateExpertsIdeal.main_arg3)
      ∧ m' ((c.tc : Thread Cert.LateExpertsReferenceIdeal.nD Cert.LateExpertsReferenceIdeal.τ).loc Cert.LateExpertsReferenceIdeal.main_arg4) = m ((c.tc : Thread Cert.LateExpertsIdeal.nD Cert.LateExpertsIdeal.τ).loc Cert.LateExpertsIdeal.main_arg4)
      ∧ m' ((c.tc : Thread Cert.LateExpertsReferenceIdeal.nD Cert.LateExpertsReferenceIdeal.τ).loc Cert.LateExpertsReferenceIdeal.main_arg5) = m ((c.tc : Thread Cert.LateExpertsIdeal.nD Cert.LateExpertsIdeal.τ).loc Cert.LateExpertsIdeal.main_arg5)
      ∧ m' ((c.tc : Thread Cert.LateExpertsReferenceIdeal.nD Cert.LateExpertsReferenceIdeal.τ).loc Cert.LateExpertsReferenceIdeal.main_arg6) = m ((c.tc : Thread Cert.LateExpertsIdeal.nD Cert.LateExpertsIdeal.τ).loc Cert.LateExpertsIdeal.main_arg6)) →
    ∃ (v0 : (c : Dev Cert.LateExpertsIdeal.nD) → Buf (Elt Ideal) ((c.tc : Thread Cert.LateExpertsIdeal.nD Cert.LateExpertsIdeal.τ).loc Cert.LateExpertsIdeal.main_v24)),
      θ_run (Cert.LateExpertsIdeal.defs (F := Ideal)) (onTc (τ := Cert.LateExpertsIdeal.τ) (Cert.LateExpertsIdeal.main (F := Ideal))) ⟨m, fun _ => 0, g⟩ (fun r => ∀ c : Dev Cert.LateExpertsIdeal.nD,
          r.2.mem ((c.tc : Thread Cert.LateExpertsIdeal.nD Cert.LateExpertsIdeal.τ).loc Cert.LateExpertsIdeal.main_v24) = v0 c
          ∧ r.2.mem ((c.tc : Thread Cert.LateExpertsIdeal.nD Cert.LateExpertsIdeal.τ).loc Cert.LateExpertsIdeal.main_arg0) = m ((c.tc : Thread Cert.LateExpertsIdeal.nD Cert.LateExpertsIdeal.τ).loc Cert.LateExpertsIdeal.main_arg0)
          ∧ r.2.mem ((c.tc : Thread Cert.LateExpertsIdeal.nD Cert.LateExpertsIdeal.τ).loc Cert.LateExpertsIdeal.main_arg1) = m ((c.tc : Thread Cert.LateExpertsIdeal.nD Cert.LateExpertsIdeal.τ).loc Cert.LateExpertsIdeal.main_arg1)
          ∧ r.2.mem ((c.tc : Thread Cert.LateExpertsIdeal.nD Cert.LateExpertsIdeal.τ).loc Cert.LateExpertsIdeal.main_arg2) = m ((c.tc : Thread Cert.LateExpertsIdeal.nD Cert.LateExpertsIdeal.τ).loc Cert.LateExpertsIdeal.main_arg2)
          ∧ r.2.mem ((c.tc : Thread Cert.LateExpertsIdeal.nD Cert.LateExpertsIdeal.τ).loc Cert.LateExpertsIdeal.main_arg3) = m ((c.tc : Thread Cert.LateExpertsIdeal.nD Cert.LateExpertsIdeal.τ).loc Cert.LateExpertsIdeal.main_arg3)
          ∧ r.2.mem ((c.tc : Thread Cert.LateExpertsIdeal.nD Cert.LateExpertsIdeal.τ).loc Cert.LateExpertsIdeal.main_arg4) = m ((c.tc : Thread Cert.LateExpertsIdeal.nD Cert.LateExpertsIdeal.τ).loc Cert.LateExpertsIdeal.main_arg4)
          ∧ r.2.mem ((c.tc : Thread Cert.LateExpertsIdeal.nD Cert.LateExpertsIdeal.τ).loc Cert.LateExpertsIdeal.main_arg5) = m ((c.tc : Thread Cert.LateExpertsIdeal.nD Cert.LateExpertsIdeal.τ).loc Cert.LateExpertsIdeal.main_arg5)
          ∧ r.2.mem ((c.tc : Thread Cert.LateExpertsIdeal.nD Cert.LateExpertsIdeal.τ).loc Cert.LateExpertsIdeal.main_arg6) = m ((c.tc : Thread Cert.LateExpertsIdeal.nD Cert.LateExpertsIdeal.τ).loc Cert.LateExpertsIdeal.main_arg6))
      ∧ θ_run (Cert.LateExpertsReferenceIdeal.defs (F := Ideal)) (onTc (τ := Cert.LateExpertsReferenceIdeal.τ) (Cert.LateExpertsReferenceIdeal.main (F := Ideal))) ⟨m', fun _ => 0, g'⟩ (fun r => ∀ c : Dev Cert.LateExpertsReferenceIdeal.nD,
          r.2.mem ((c.tc : Thread Cert.LateExpertsReferenceIdeal.nD Cert.LateExpertsReferenceIdeal.τ).loc Cert.LateExpertsReferenceIdeal.main_v62) = v0 c
          ∧ r.2.mem ((c.tc : Thread Cert.LateExpertsReferenceIdeal.nD Cert.LateExpertsReferenceIdeal.τ).loc Cert.LateExpertsReferenceIdeal.main_arg0) = m' ((c.tc : Thread Cert.LateExpertsReferenceIdeal.nD Cert.LateExpertsReferenceIdeal.τ).loc Cert.LateExpertsReferenceIdeal.main_arg0)
          ∧ r.2.mem ((c.tc : Thread Cert.LateExpertsReferenceIdeal.nD Cert.LateExpertsReferenceIdeal.τ).loc Cert.LateExpertsReferenceIdeal.main_arg1) = m' ((c.tc : Thread Cert.LateExpertsReferenceIdeal.nD Cert.LateExpertsReferenceIdeal.τ).loc Cert.LateExpertsReferenceIdeal.main_arg1)
          ∧ r.2.mem ((c.tc : Thread Cert.LateExpertsReferenceIdeal.nD Cert.LateExpertsReferenceIdeal.τ).loc Cert.LateExpertsReferenceIdeal.main_arg2) = m' ((c.tc : Thread Cert.LateExpertsReferenceIdeal.nD Cert.LateExpertsReferenceIdeal.τ).loc Cert.LateExpertsReferenceIdeal.main_arg2)
          ∧ r.2.mem ((c.tc : Thread Cert.LateExpertsReferenceIdeal.nD Cert.LateExpertsReferenceIdeal.τ).loc Cert.LateExpertsReferenceIdeal.main_arg3) = m' ((c.tc : Thread Cert.LateExpertsReferenceIdeal.nD Cert.LateExpertsReferenceIdeal.τ).loc Cert.LateExpertsReferenceIdeal.main_arg3)
          ∧ r.2.mem ((c.tc : Thread Cert.LateExpertsReferenceIdeal.nD Cert.LateExpertsReferenceIdeal.τ).loc Cert.LateExpertsReferenceIdeal.main_arg4) = m' ((c.tc : Thread Cert.LateExpertsReferenceIdeal.nD Cert.LateExpertsReferenceIdeal.τ).loc Cert.LateExpertsReferenceIdeal.main_arg4)
          ∧ r.2.mem ((c.tc : Thread Cert.LateExpertsReferenceIdeal.nD Cert.LateExpertsReferenceIdeal.τ).loc Cert.LateExpertsReferenceIdeal.main_arg5) = m' ((c.tc : Thread Cert.LateExpertsReferenceIdeal.nD Cert.LateExpertsReferenceIdeal.τ).loc Cert.LateExpertsReferenceIdeal.main_arg5)
          ∧ r.2.mem ((c.tc : Thread Cert.LateExpertsReferenceIdeal.nD Cert.LateExpertsReferenceIdeal.τ).loc Cert.LateExpertsReferenceIdeal.main_arg6) = m' ((c.tc : Thread Cert.LateExpertsReferenceIdeal.nD Cert.LateExpertsReferenceIdeal.τ).loc Cert.LateExpertsReferenceIdeal.main_arg6))

def preserves_MidExperts_MidExpertsIdeal : Prop :=
  True

def algebraic_MidExpertsIdeal_MidExpertsReferenceIdeal [hMidExpertsIdeal : Cert.MidExpertsIdeal.Facts] [hMidExpertsReferenceIdeal : Cert.MidExpertsReferenceIdeal.Facts] [hPre_known_mid_experts : Cert.Pre_known_mid_experts.Facts] : Prop :=
  ∀ (m : (ℓ : Loc Cert.MidExpertsIdeal.nD Cert.MidExpertsIdeal.τ Cert.MidExpertsIdeal.sig) → Buf (Elt Ideal) ℓ) (g : Dev Cert.MidExpertsIdeal.nD → PrngReg)
    (m' : (ℓ : Loc Cert.MidExpertsReferenceIdeal.nD Cert.MidExpertsReferenceIdeal.τ Cert.MidExpertsReferenceIdeal.sig) → Buf (Elt Ideal) ℓ) (g' : Dev Cert.MidExpertsReferenceIdeal.nD → PrngReg), Pre_MidExpertsIdeal m →
    (∀ c : Dev Cert.MidExpertsIdeal.nD,
      m' ((c.tc : Thread Cert.MidExpertsReferenceIdeal.nD Cert.MidExpertsReferenceIdeal.τ).loc Cert.MidExpertsReferenceIdeal.main_arg0) = m ((c.tc : Thread Cert.MidExpertsIdeal.nD Cert.MidExpertsIdeal.τ).loc Cert.MidExpertsIdeal.main_arg0)
      ∧ m' ((c.tc : Thread Cert.MidExpertsReferenceIdeal.nD Cert.MidExpertsReferenceIdeal.τ).loc Cert.MidExpertsReferenceIdeal.main_arg1) = m ((c.tc : Thread Cert.MidExpertsIdeal.nD Cert.MidExpertsIdeal.τ).loc Cert.MidExpertsIdeal.main_arg1)
      ∧ m' ((c.tc : Thread Cert.MidExpertsReferenceIdeal.nD Cert.MidExpertsReferenceIdeal.τ).loc Cert.MidExpertsReferenceIdeal.main_arg2) = m ((c.tc : Thread Cert.MidExpertsIdeal.nD Cert.MidExpertsIdeal.τ).loc Cert.MidExpertsIdeal.main_arg2)
      ∧ m' ((c.tc : Thread Cert.MidExpertsReferenceIdeal.nD Cert.MidExpertsReferenceIdeal.τ).loc Cert.MidExpertsReferenceIdeal.main_arg3) = m ((c.tc : Thread Cert.MidExpertsIdeal.nD Cert.MidExpertsIdeal.τ).loc Cert.MidExpertsIdeal.main_arg3)
      ∧ m' ((c.tc : Thread Cert.MidExpertsReferenceIdeal.nD Cert.MidExpertsReferenceIdeal.τ).loc Cert.MidExpertsReferenceIdeal.main_arg4) = m ((c.tc : Thread Cert.MidExpertsIdeal.nD Cert.MidExpertsIdeal.τ).loc Cert.MidExpertsIdeal.main_arg4)
      ∧ m' ((c.tc : Thread Cert.MidExpertsReferenceIdeal.nD Cert.MidExpertsReferenceIdeal.τ).loc Cert.MidExpertsReferenceIdeal.main_arg5) = m ((c.tc : Thread Cert.MidExpertsIdeal.nD Cert.MidExpertsIdeal.τ).loc Cert.MidExpertsIdeal.main_arg5)
      ∧ m' ((c.tc : Thread Cert.MidExpertsReferenceIdeal.nD Cert.MidExpertsReferenceIdeal.τ).loc Cert.MidExpertsReferenceIdeal.main_arg6) = m ((c.tc : Thread Cert.MidExpertsIdeal.nD Cert.MidExpertsIdeal.τ).loc Cert.MidExpertsIdeal.main_arg6)) →
    ∃ (v0 : (c : Dev Cert.MidExpertsIdeal.nD) → Buf (Elt Ideal) ((c.tc : Thread Cert.MidExpertsIdeal.nD Cert.MidExpertsIdeal.τ).loc Cert.MidExpertsIdeal.main_v24)),
      θ_run (Cert.MidExpertsIdeal.defs (F := Ideal)) (onTc (τ := Cert.MidExpertsIdeal.τ) (Cert.MidExpertsIdeal.main (F := Ideal))) ⟨m, fun _ => 0, g⟩ (fun r => ∀ c : Dev Cert.MidExpertsIdeal.nD,
          r.2.mem ((c.tc : Thread Cert.MidExpertsIdeal.nD Cert.MidExpertsIdeal.τ).loc Cert.MidExpertsIdeal.main_v24) = v0 c
          ∧ r.2.mem ((c.tc : Thread Cert.MidExpertsIdeal.nD Cert.MidExpertsIdeal.τ).loc Cert.MidExpertsIdeal.main_arg0) = m ((c.tc : Thread Cert.MidExpertsIdeal.nD Cert.MidExpertsIdeal.τ).loc Cert.MidExpertsIdeal.main_arg0)
          ∧ r.2.mem ((c.tc : Thread Cert.MidExpertsIdeal.nD Cert.MidExpertsIdeal.τ).loc Cert.MidExpertsIdeal.main_arg1) = m ((c.tc : Thread Cert.MidExpertsIdeal.nD Cert.MidExpertsIdeal.τ).loc Cert.MidExpertsIdeal.main_arg1)
          ∧ r.2.mem ((c.tc : Thread Cert.MidExpertsIdeal.nD Cert.MidExpertsIdeal.τ).loc Cert.MidExpertsIdeal.main_arg2) = m ((c.tc : Thread Cert.MidExpertsIdeal.nD Cert.MidExpertsIdeal.τ).loc Cert.MidExpertsIdeal.main_arg2)
          ∧ r.2.mem ((c.tc : Thread Cert.MidExpertsIdeal.nD Cert.MidExpertsIdeal.τ).loc Cert.MidExpertsIdeal.main_arg3) = m ((c.tc : Thread Cert.MidExpertsIdeal.nD Cert.MidExpertsIdeal.τ).loc Cert.MidExpertsIdeal.main_arg3)
          ∧ r.2.mem ((c.tc : Thread Cert.MidExpertsIdeal.nD Cert.MidExpertsIdeal.τ).loc Cert.MidExpertsIdeal.main_arg4) = m ((c.tc : Thread Cert.MidExpertsIdeal.nD Cert.MidExpertsIdeal.τ).loc Cert.MidExpertsIdeal.main_arg4)
          ∧ r.2.mem ((c.tc : Thread Cert.MidExpertsIdeal.nD Cert.MidExpertsIdeal.τ).loc Cert.MidExpertsIdeal.main_arg5) = m ((c.tc : Thread Cert.MidExpertsIdeal.nD Cert.MidExpertsIdeal.τ).loc Cert.MidExpertsIdeal.main_arg5)
          ∧ r.2.mem ((c.tc : Thread Cert.MidExpertsIdeal.nD Cert.MidExpertsIdeal.τ).loc Cert.MidExpertsIdeal.main_arg6) = m ((c.tc : Thread Cert.MidExpertsIdeal.nD Cert.MidExpertsIdeal.τ).loc Cert.MidExpertsIdeal.main_arg6))
      ∧ θ_run (Cert.MidExpertsReferenceIdeal.defs (F := Ideal)) (onTc (τ := Cert.MidExpertsReferenceIdeal.τ) (Cert.MidExpertsReferenceIdeal.main (F := Ideal))) ⟨m', fun _ => 0, g'⟩ (fun r => ∀ c : Dev Cert.MidExpertsReferenceIdeal.nD,
          r.2.mem ((c.tc : Thread Cert.MidExpertsReferenceIdeal.nD Cert.MidExpertsReferenceIdeal.τ).loc Cert.MidExpertsReferenceIdeal.main_v63) = v0 c
          ∧ r.2.mem ((c.tc : Thread Cert.MidExpertsReferenceIdeal.nD Cert.MidExpertsReferenceIdeal.τ).loc Cert.MidExpertsReferenceIdeal.main_arg0) = m' ((c.tc : Thread Cert.MidExpertsReferenceIdeal.nD Cert.MidExpertsReferenceIdeal.τ).loc Cert.MidExpertsReferenceIdeal.main_arg0)
          ∧ r.2.mem ((c.tc : Thread Cert.MidExpertsReferenceIdeal.nD Cert.MidExpertsReferenceIdeal.τ).loc Cert.MidExpertsReferenceIdeal.main_arg1) = m' ((c.tc : Thread Cert.MidExpertsReferenceIdeal.nD Cert.MidExpertsReferenceIdeal.τ).loc Cert.MidExpertsReferenceIdeal.main_arg1)
          ∧ r.2.mem ((c.tc : Thread Cert.MidExpertsReferenceIdeal.nD Cert.MidExpertsReferenceIdeal.τ).loc Cert.MidExpertsReferenceIdeal.main_arg2) = m' ((c.tc : Thread Cert.MidExpertsReferenceIdeal.nD Cert.MidExpertsReferenceIdeal.τ).loc Cert.MidExpertsReferenceIdeal.main_arg2)
          ∧ r.2.mem ((c.tc : Thread Cert.MidExpertsReferenceIdeal.nD Cert.MidExpertsReferenceIdeal.τ).loc Cert.MidExpertsReferenceIdeal.main_arg3) = m' ((c.tc : Thread Cert.MidExpertsReferenceIdeal.nD Cert.MidExpertsReferenceIdeal.τ).loc Cert.MidExpertsReferenceIdeal.main_arg3)
          ∧ r.2.mem ((c.tc : Thread Cert.MidExpertsReferenceIdeal.nD Cert.MidExpertsReferenceIdeal.τ).loc Cert.MidExpertsReferenceIdeal.main_arg4) = m' ((c.tc : Thread Cert.MidExpertsReferenceIdeal.nD Cert.MidExpertsReferenceIdeal.τ).loc Cert.MidExpertsReferenceIdeal.main_arg4)
          ∧ r.2.mem ((c.tc : Thread Cert.MidExpertsReferenceIdeal.nD Cert.MidExpertsReferenceIdeal.τ).loc Cert.MidExpertsReferenceIdeal.main_arg5) = m' ((c.tc : Thread Cert.MidExpertsReferenceIdeal.nD Cert.MidExpertsReferenceIdeal.τ).loc Cert.MidExpertsReferenceIdeal.main_arg5)
          ∧ r.2.mem ((c.tc : Thread Cert.MidExpertsReferenceIdeal.nD Cert.MidExpertsReferenceIdeal.τ).loc Cert.MidExpertsReferenceIdeal.main_arg6) = m' ((c.tc : Thread Cert.MidExpertsReferenceIdeal.nD Cert.MidExpertsReferenceIdeal.τ).loc Cert.MidExpertsReferenceIdeal.main_arg6))

def preserves_LateMidExperts_LateMidExpertsIdeal : Prop :=
  True

def algebraic_LateMidExpertsIdeal_LateMidExpertsReferenceIdeal [hLateMidExpertsIdeal : Cert.LateMidExpertsIdeal.Facts] [hLateMidExpertsReferenceIdeal : Cert.LateMidExpertsReferenceIdeal.Facts] [hPre_known_late_mid_experts : Cert.Pre_known_late_mid_experts.Facts] : Prop :=
  ∀ (m : (ℓ : Loc Cert.LateMidExpertsIdeal.nD Cert.LateMidExpertsIdeal.τ Cert.LateMidExpertsIdeal.sig) → Buf (Elt Ideal) ℓ) (g : Dev Cert.LateMidExpertsIdeal.nD → PrngReg)
    (m' : (ℓ : Loc Cert.LateMidExpertsReferenceIdeal.nD Cert.LateMidExpertsReferenceIdeal.τ Cert.LateMidExpertsReferenceIdeal.sig) → Buf (Elt Ideal) ℓ) (g' : Dev Cert.LateMidExpertsReferenceIdeal.nD → PrngReg), Pre_LateMidExpertsIdeal m →
    (∀ c : Dev Cert.LateMidExpertsIdeal.nD,
      m' ((c.tc : Thread Cert.LateMidExpertsReferenceIdeal.nD Cert.LateMidExpertsReferenceIdeal.τ).loc Cert.LateMidExpertsReferenceIdeal.main_arg0) = m ((c.tc : Thread Cert.LateMidExpertsIdeal.nD Cert.LateMidExpertsIdeal.τ).loc Cert.LateMidExpertsIdeal.main_arg0)
      ∧ m' ((c.tc : Thread Cert.LateMidExpertsReferenceIdeal.nD Cert.LateMidExpertsReferenceIdeal.τ).loc Cert.LateMidExpertsReferenceIdeal.main_arg1) = m ((c.tc : Thread Cert.LateMidExpertsIdeal.nD Cert.LateMidExpertsIdeal.τ).loc Cert.LateMidExpertsIdeal.main_arg1)
      ∧ m' ((c.tc : Thread Cert.LateMidExpertsReferenceIdeal.nD Cert.LateMidExpertsReferenceIdeal.τ).loc Cert.LateMidExpertsReferenceIdeal.main_arg2) = m ((c.tc : Thread Cert.LateMidExpertsIdeal.nD Cert.LateMidExpertsIdeal.τ).loc Cert.LateMidExpertsIdeal.main_arg2)
      ∧ m' ((c.tc : Thread Cert.LateMidExpertsReferenceIdeal.nD Cert.LateMidExpertsReferenceIdeal.τ).loc Cert.LateMidExpertsReferenceIdeal.main_arg3) = m ((c.tc : Thread Cert.LateMidExpertsIdeal.nD Cert.LateMidExpertsIdeal.τ).loc Cert.LateMidExpertsIdeal.main_arg3)
      ∧ m' ((c.tc : Thread Cert.LateMidExpertsReferenceIdeal.nD Cert.LateMidExpertsReferenceIdeal.τ).loc Cert.LateMidExpertsReferenceIdeal.main_arg4) = m ((c.tc : Thread Cert.LateMidExpertsIdeal.nD Cert.LateMidExpertsIdeal.τ).loc Cert.LateMidExpertsIdeal.main_arg4)
      ∧ m' ((c.tc : Thread Cert.LateMidExpertsReferenceIdeal.nD Cert.LateMidExpertsReferenceIdeal.τ).loc Cert.LateMidExpertsReferenceIdeal.main_arg5) = m ((c.tc : Thread Cert.LateMidExpertsIdeal.nD Cert.LateMidExpertsIdeal.τ).loc Cert.LateMidExpertsIdeal.main_arg5)
      ∧ m' ((c.tc : Thread Cert.LateMidExpertsReferenceIdeal.nD Cert.LateMidExpertsReferenceIdeal.τ).loc Cert.LateMidExpertsReferenceIdeal.main_arg6) = m ((c.tc : Thread Cert.LateMidExpertsIdeal.nD Cert.LateMidExpertsIdeal.τ).loc Cert.LateMidExpertsIdeal.main_arg6)) →
    ∃ (v0 : (c : Dev Cert.LateMidExpertsIdeal.nD) → Buf (Elt Ideal) ((c.tc : Thread Cert.LateMidExpertsIdeal.nD Cert.LateMidExpertsIdeal.τ).loc Cert.LateMidExpertsIdeal.main_v24)),
      θ_run (Cert.LateMidExpertsIdeal.defs (F := Ideal)) (onTc (τ := Cert.LateMidExpertsIdeal.τ) (Cert.LateMidExpertsIdeal.main (F := Ideal))) ⟨m, fun _ => 0, g⟩ (fun r => ∀ c : Dev Cert.LateMidExpertsIdeal.nD,
          r.2.mem ((c.tc : Thread Cert.LateMidExpertsIdeal.nD Cert.LateMidExpertsIdeal.τ).loc Cert.LateMidExpertsIdeal.main_v24) = v0 c
          ∧ r.2.mem ((c.tc : Thread Cert.LateMidExpertsIdeal.nD Cert.LateMidExpertsIdeal.τ).loc Cert.LateMidExpertsIdeal.main_arg0) = m ((c.tc : Thread Cert.LateMidExpertsIdeal.nD Cert.LateMidExpertsIdeal.τ).loc Cert.LateMidExpertsIdeal.main_arg0)
          ∧ r.2.mem ((c.tc : Thread Cert.LateMidExpertsIdeal.nD Cert.LateMidExpertsIdeal.τ).loc Cert.LateMidExpertsIdeal.main_arg1) = m ((c.tc : Thread Cert.LateMidExpertsIdeal.nD Cert.LateMidExpertsIdeal.τ).loc Cert.LateMidExpertsIdeal.main_arg1)
          ∧ r.2.mem ((c.tc : Thread Cert.LateMidExpertsIdeal.nD Cert.LateMidExpertsIdeal.τ).loc Cert.LateMidExpertsIdeal.main_arg2) = m ((c.tc : Thread Cert.LateMidExpertsIdeal.nD Cert.LateMidExpertsIdeal.τ).loc Cert.LateMidExpertsIdeal.main_arg2)
          ∧ r.2.mem ((c.tc : Thread Cert.LateMidExpertsIdeal.nD Cert.LateMidExpertsIdeal.τ).loc Cert.LateMidExpertsIdeal.main_arg3) = m ((c.tc : Thread Cert.LateMidExpertsIdeal.nD Cert.LateMidExpertsIdeal.τ).loc Cert.LateMidExpertsIdeal.main_arg3)
          ∧ r.2.mem ((c.tc : Thread Cert.LateMidExpertsIdeal.nD Cert.LateMidExpertsIdeal.τ).loc Cert.LateMidExpertsIdeal.main_arg4) = m ((c.tc : Thread Cert.LateMidExpertsIdeal.nD Cert.LateMidExpertsIdeal.τ).loc Cert.LateMidExpertsIdeal.main_arg4)
          ∧ r.2.mem ((c.tc : Thread Cert.LateMidExpertsIdeal.nD Cert.LateMidExpertsIdeal.τ).loc Cert.LateMidExpertsIdeal.main_arg5) = m ((c.tc : Thread Cert.LateMidExpertsIdeal.nD Cert.LateMidExpertsIdeal.τ).loc Cert.LateMidExpertsIdeal.main_arg5)
          ∧ r.2.mem ((c.tc : Thread Cert.LateMidExpertsIdeal.nD Cert.LateMidExpertsIdeal.τ).loc Cert.LateMidExpertsIdeal.main_arg6) = m ((c.tc : Thread Cert.LateMidExpertsIdeal.nD Cert.LateMidExpertsIdeal.τ).loc Cert.LateMidExpertsIdeal.main_arg6))
      ∧ θ_run (Cert.LateMidExpertsReferenceIdeal.defs (F := Ideal)) (onTc (τ := Cert.LateMidExpertsReferenceIdeal.τ) (Cert.LateMidExpertsReferenceIdeal.main (F := Ideal))) ⟨m', fun _ => 0, g'⟩ (fun r => ∀ c : Dev Cert.LateMidExpertsReferenceIdeal.nD,
          r.2.mem ((c.tc : Thread Cert.LateMidExpertsReferenceIdeal.nD Cert.LateMidExpertsReferenceIdeal.τ).loc Cert.LateMidExpertsReferenceIdeal.main_v63) = v0 c
          ∧ r.2.mem ((c.tc : Thread Cert.LateMidExpertsReferenceIdeal.nD Cert.LateMidExpertsReferenceIdeal.τ).loc Cert.LateMidExpertsReferenceIdeal.main_arg0) = m' ((c.tc : Thread Cert.LateMidExpertsReferenceIdeal.nD Cert.LateMidExpertsReferenceIdeal.τ).loc Cert.LateMidExpertsReferenceIdeal.main_arg0)
          ∧ r.2.mem ((c.tc : Thread Cert.LateMidExpertsReferenceIdeal.nD Cert.LateMidExpertsReferenceIdeal.τ).loc Cert.LateMidExpertsReferenceIdeal.main_arg1) = m' ((c.tc : Thread Cert.LateMidExpertsReferenceIdeal.nD Cert.LateMidExpertsReferenceIdeal.τ).loc Cert.LateMidExpertsReferenceIdeal.main_arg1)
          ∧ r.2.mem ((c.tc : Thread Cert.LateMidExpertsReferenceIdeal.nD Cert.LateMidExpertsReferenceIdeal.τ).loc Cert.LateMidExpertsReferenceIdeal.main_arg2) = m' ((c.tc : Thread Cert.LateMidExpertsReferenceIdeal.nD Cert.LateMidExpertsReferenceIdeal.τ).loc Cert.LateMidExpertsReferenceIdeal.main_arg2)
          ∧ r.2.mem ((c.tc : Thread Cert.LateMidExpertsReferenceIdeal.nD Cert.LateMidExpertsReferenceIdeal.τ).loc Cert.LateMidExpertsReferenceIdeal.main_arg3) = m' ((c.tc : Thread Cert.LateMidExpertsReferenceIdeal.nD Cert.LateMidExpertsReferenceIdeal.τ).loc Cert.LateMidExpertsReferenceIdeal.main_arg3)
          ∧ r.2.mem ((c.tc : Thread Cert.LateMidExpertsReferenceIdeal.nD Cert.LateMidExpertsReferenceIdeal.τ).loc Cert.LateMidExpertsReferenceIdeal.main_arg4) = m' ((c.tc : Thread Cert.LateMidExpertsReferenceIdeal.nD Cert.LateMidExpertsReferenceIdeal.τ).loc Cert.LateMidExpertsReferenceIdeal.main_arg4)
          ∧ r.2.mem ((c.tc : Thread Cert.LateMidExpertsReferenceIdeal.nD Cert.LateMidExpertsReferenceIdeal.τ).loc Cert.LateMidExpertsReferenceIdeal.main_arg5) = m' ((c.tc : Thread Cert.LateMidExpertsReferenceIdeal.nD Cert.LateMidExpertsReferenceIdeal.τ).loc Cert.LateMidExpertsReferenceIdeal.main_arg5)
          ∧ r.2.mem ((c.tc : Thread Cert.LateMidExpertsReferenceIdeal.nD Cert.LateMidExpertsReferenceIdeal.τ).loc Cert.LateMidExpertsReferenceIdeal.main_arg6) = m' ((c.tc : Thread Cert.LateMidExpertsReferenceIdeal.nD Cert.LateMidExpertsReferenceIdeal.τ).loc Cert.LateMidExpertsReferenceIdeal.main_arg6))

def preserves_LowExperts_LowExpertsIdeal : Prop :=
  True

def algebraic_LowExpertsIdeal_LowExpertsReferenceIdeal [hLowExpertsIdeal : Cert.LowExpertsIdeal.Facts] [hLowExpertsReferenceIdeal : Cert.LowExpertsReferenceIdeal.Facts] [hPre_known_low_experts : Cert.Pre_known_low_experts.Facts] : Prop :=
  ∀ (m : (ℓ : Loc Cert.LowExpertsIdeal.nD Cert.LowExpertsIdeal.τ Cert.LowExpertsIdeal.sig) → Buf (Elt Ideal) ℓ) (g : Dev Cert.LowExpertsIdeal.nD → PrngReg)
    (m' : (ℓ : Loc Cert.LowExpertsReferenceIdeal.nD Cert.LowExpertsReferenceIdeal.τ Cert.LowExpertsReferenceIdeal.sig) → Buf (Elt Ideal) ℓ) (g' : Dev Cert.LowExpertsReferenceIdeal.nD → PrngReg), Pre_LowExpertsIdeal m →
    (∀ c : Dev Cert.LowExpertsIdeal.nD,
      m' ((c.tc : Thread Cert.LowExpertsReferenceIdeal.nD Cert.LowExpertsReferenceIdeal.τ).loc Cert.LowExpertsReferenceIdeal.main_arg0) = m ((c.tc : Thread Cert.LowExpertsIdeal.nD Cert.LowExpertsIdeal.τ).loc Cert.LowExpertsIdeal.main_arg0)
      ∧ m' ((c.tc : Thread Cert.LowExpertsReferenceIdeal.nD Cert.LowExpertsReferenceIdeal.τ).loc Cert.LowExpertsReferenceIdeal.main_arg1) = m ((c.tc : Thread Cert.LowExpertsIdeal.nD Cert.LowExpertsIdeal.τ).loc Cert.LowExpertsIdeal.main_arg1)
      ∧ m' ((c.tc : Thread Cert.LowExpertsReferenceIdeal.nD Cert.LowExpertsReferenceIdeal.τ).loc Cert.LowExpertsReferenceIdeal.main_arg2) = m ((c.tc : Thread Cert.LowExpertsIdeal.nD Cert.LowExpertsIdeal.τ).loc Cert.LowExpertsIdeal.main_arg2)
      ∧ m' ((c.tc : Thread Cert.LowExpertsReferenceIdeal.nD Cert.LowExpertsReferenceIdeal.τ).loc Cert.LowExpertsReferenceIdeal.main_arg3) = m ((c.tc : Thread Cert.LowExpertsIdeal.nD Cert.LowExpertsIdeal.τ).loc Cert.LowExpertsIdeal.main_arg3)
      ∧ m' ((c.tc : Thread Cert.LowExpertsReferenceIdeal.nD Cert.LowExpertsReferenceIdeal.τ).loc Cert.LowExpertsReferenceIdeal.main_arg4) = m ((c.tc : Thread Cert.LowExpertsIdeal.nD Cert.LowExpertsIdeal.τ).loc Cert.LowExpertsIdeal.main_arg4)
      ∧ m' ((c.tc : Thread Cert.LowExpertsReferenceIdeal.nD Cert.LowExpertsReferenceIdeal.τ).loc Cert.LowExpertsReferenceIdeal.main_arg5) = m ((c.tc : Thread Cert.LowExpertsIdeal.nD Cert.LowExpertsIdeal.τ).loc Cert.LowExpertsIdeal.main_arg5)
      ∧ m' ((c.tc : Thread Cert.LowExpertsReferenceIdeal.nD Cert.LowExpertsReferenceIdeal.τ).loc Cert.LowExpertsReferenceIdeal.main_arg6) = m ((c.tc : Thread Cert.LowExpertsIdeal.nD Cert.LowExpertsIdeal.τ).loc Cert.LowExpertsIdeal.main_arg6)) →
    ∃ (v0 : (c : Dev Cert.LowExpertsIdeal.nD) → Buf (Elt Ideal) ((c.tc : Thread Cert.LowExpertsIdeal.nD Cert.LowExpertsIdeal.τ).loc Cert.LowExpertsIdeal.main_v24)),
      θ_run (Cert.LowExpertsIdeal.defs (F := Ideal)) (onTc (τ := Cert.LowExpertsIdeal.τ) (Cert.LowExpertsIdeal.main (F := Ideal))) ⟨m, fun _ => 0, g⟩ (fun r => ∀ c : Dev Cert.LowExpertsIdeal.nD,
          r.2.mem ((c.tc : Thread Cert.LowExpertsIdeal.nD Cert.LowExpertsIdeal.τ).loc Cert.LowExpertsIdeal.main_v24) = v0 c
          ∧ r.2.mem ((c.tc : Thread Cert.LowExpertsIdeal.nD Cert.LowExpertsIdeal.τ).loc Cert.LowExpertsIdeal.main_arg0) = m ((c.tc : Thread Cert.LowExpertsIdeal.nD Cert.LowExpertsIdeal.τ).loc Cert.LowExpertsIdeal.main_arg0)
          ∧ r.2.mem ((c.tc : Thread Cert.LowExpertsIdeal.nD Cert.LowExpertsIdeal.τ).loc Cert.LowExpertsIdeal.main_arg1) = m ((c.tc : Thread Cert.LowExpertsIdeal.nD Cert.LowExpertsIdeal.τ).loc Cert.LowExpertsIdeal.main_arg1)
          ∧ r.2.mem ((c.tc : Thread Cert.LowExpertsIdeal.nD Cert.LowExpertsIdeal.τ).loc Cert.LowExpertsIdeal.main_arg2) = m ((c.tc : Thread Cert.LowExpertsIdeal.nD Cert.LowExpertsIdeal.τ).loc Cert.LowExpertsIdeal.main_arg2)
          ∧ r.2.mem ((c.tc : Thread Cert.LowExpertsIdeal.nD Cert.LowExpertsIdeal.τ).loc Cert.LowExpertsIdeal.main_arg3) = m ((c.tc : Thread Cert.LowExpertsIdeal.nD Cert.LowExpertsIdeal.τ).loc Cert.LowExpertsIdeal.main_arg3)
          ∧ r.2.mem ((c.tc : Thread Cert.LowExpertsIdeal.nD Cert.LowExpertsIdeal.τ).loc Cert.LowExpertsIdeal.main_arg4) = m ((c.tc : Thread Cert.LowExpertsIdeal.nD Cert.LowExpertsIdeal.τ).loc Cert.LowExpertsIdeal.main_arg4)
          ∧ r.2.mem ((c.tc : Thread Cert.LowExpertsIdeal.nD Cert.LowExpertsIdeal.τ).loc Cert.LowExpertsIdeal.main_arg5) = m ((c.tc : Thread Cert.LowExpertsIdeal.nD Cert.LowExpertsIdeal.τ).loc Cert.LowExpertsIdeal.main_arg5)
          ∧ r.2.mem ((c.tc : Thread Cert.LowExpertsIdeal.nD Cert.LowExpertsIdeal.τ).loc Cert.LowExpertsIdeal.main_arg6) = m ((c.tc : Thread Cert.LowExpertsIdeal.nD Cert.LowExpertsIdeal.τ).loc Cert.LowExpertsIdeal.main_arg6))
      ∧ θ_run (Cert.LowExpertsReferenceIdeal.defs (F := Ideal)) (onTc (τ := Cert.LowExpertsReferenceIdeal.τ) (Cert.LowExpertsReferenceIdeal.main (F := Ideal))) ⟨m', fun _ => 0, g'⟩ (fun r => ∀ c : Dev Cert.LowExpertsReferenceIdeal.nD,
          r.2.mem ((c.tc : Thread Cert.LowExpertsReferenceIdeal.nD Cert.LowExpertsReferenceIdeal.τ).loc Cert.LowExpertsReferenceIdeal.main_v63) = v0 c
          ∧ r.2.mem ((c.tc : Thread Cert.LowExpertsReferenceIdeal.nD Cert.LowExpertsReferenceIdeal.τ).loc Cert.LowExpertsReferenceIdeal.main_arg0) = m' ((c.tc : Thread Cert.LowExpertsReferenceIdeal.nD Cert.LowExpertsReferenceIdeal.τ).loc Cert.LowExpertsReferenceIdeal.main_arg0)
          ∧ r.2.mem ((c.tc : Thread Cert.LowExpertsReferenceIdeal.nD Cert.LowExpertsReferenceIdeal.τ).loc Cert.LowExpertsReferenceIdeal.main_arg1) = m' ((c.tc : Thread Cert.LowExpertsReferenceIdeal.nD Cert.LowExpertsReferenceIdeal.τ).loc Cert.LowExpertsReferenceIdeal.main_arg1)
          ∧ r.2.mem ((c.tc : Thread Cert.LowExpertsReferenceIdeal.nD Cert.LowExpertsReferenceIdeal.τ).loc Cert.LowExpertsReferenceIdeal.main_arg2) = m' ((c.tc : Thread Cert.LowExpertsReferenceIdeal.nD Cert.LowExpertsReferenceIdeal.τ).loc Cert.LowExpertsReferenceIdeal.main_arg2)
          ∧ r.2.mem ((c.tc : Thread Cert.LowExpertsReferenceIdeal.nD Cert.LowExpertsReferenceIdeal.τ).loc Cert.LowExpertsReferenceIdeal.main_arg3) = m' ((c.tc : Thread Cert.LowExpertsReferenceIdeal.nD Cert.LowExpertsReferenceIdeal.τ).loc Cert.LowExpertsReferenceIdeal.main_arg3)
          ∧ r.2.mem ((c.tc : Thread Cert.LowExpertsReferenceIdeal.nD Cert.LowExpertsReferenceIdeal.τ).loc Cert.LowExpertsReferenceIdeal.main_arg4) = m' ((c.tc : Thread Cert.LowExpertsReferenceIdeal.nD Cert.LowExpertsReferenceIdeal.τ).loc Cert.LowExpertsReferenceIdeal.main_arg4)
          ∧ r.2.mem ((c.tc : Thread Cert.LowExpertsReferenceIdeal.nD Cert.LowExpertsReferenceIdeal.τ).loc Cert.LowExpertsReferenceIdeal.main_arg5) = m' ((c.tc : Thread Cert.LowExpertsReferenceIdeal.nD Cert.LowExpertsReferenceIdeal.τ).loc Cert.LowExpertsReferenceIdeal.main_arg5)
          ∧ r.2.mem ((c.tc : Thread Cert.LowExpertsReferenceIdeal.nD Cert.LowExpertsReferenceIdeal.τ).loc Cert.LowExpertsReferenceIdeal.main_arg6) = m' ((c.tc : Thread Cert.LowExpertsReferenceIdeal.nD Cert.LowExpertsReferenceIdeal.τ).loc Cert.LowExpertsReferenceIdeal.main_arg6))

def preserves_LateLowExperts_LateLowExpertsIdeal : Prop :=
  True

def algebraic_LateLowExpertsIdeal_LateLowExpertsReferenceIdeal [hLateLowExpertsIdeal : Cert.LateLowExpertsIdeal.Facts] [hLateLowExpertsReferenceIdeal : Cert.LateLowExpertsReferenceIdeal.Facts] [hPre_known_late_low_experts : Cert.Pre_known_late_low_experts.Facts] : Prop :=
  ∀ (m : (ℓ : Loc Cert.LateLowExpertsIdeal.nD Cert.LateLowExpertsIdeal.τ Cert.LateLowExpertsIdeal.sig) → Buf (Elt Ideal) ℓ) (g : Dev Cert.LateLowExpertsIdeal.nD → PrngReg)
    (m' : (ℓ : Loc Cert.LateLowExpertsReferenceIdeal.nD Cert.LateLowExpertsReferenceIdeal.τ Cert.LateLowExpertsReferenceIdeal.sig) → Buf (Elt Ideal) ℓ) (g' : Dev Cert.LateLowExpertsReferenceIdeal.nD → PrngReg), Pre_LateLowExpertsIdeal m →
    (∀ c : Dev Cert.LateLowExpertsIdeal.nD,
      m' ((c.tc : Thread Cert.LateLowExpertsReferenceIdeal.nD Cert.LateLowExpertsReferenceIdeal.τ).loc Cert.LateLowExpertsReferenceIdeal.main_arg0) = m ((c.tc : Thread Cert.LateLowExpertsIdeal.nD Cert.LateLowExpertsIdeal.τ).loc Cert.LateLowExpertsIdeal.main_arg0)
      ∧ m' ((c.tc : Thread Cert.LateLowExpertsReferenceIdeal.nD Cert.LateLowExpertsReferenceIdeal.τ).loc Cert.LateLowExpertsReferenceIdeal.main_arg1) = m ((c.tc : Thread Cert.LateLowExpertsIdeal.nD Cert.LateLowExpertsIdeal.τ).loc Cert.LateLowExpertsIdeal.main_arg1)
      ∧ m' ((c.tc : Thread Cert.LateLowExpertsReferenceIdeal.nD Cert.LateLowExpertsReferenceIdeal.τ).loc Cert.LateLowExpertsReferenceIdeal.main_arg2) = m ((c.tc : Thread Cert.LateLowExpertsIdeal.nD Cert.LateLowExpertsIdeal.τ).loc Cert.LateLowExpertsIdeal.main_arg2)
      ∧ m' ((c.tc : Thread Cert.LateLowExpertsReferenceIdeal.nD Cert.LateLowExpertsReferenceIdeal.τ).loc Cert.LateLowExpertsReferenceIdeal.main_arg3) = m ((c.tc : Thread Cert.LateLowExpertsIdeal.nD Cert.LateLowExpertsIdeal.τ).loc Cert.LateLowExpertsIdeal.main_arg3)
      ∧ m' ((c.tc : Thread Cert.LateLowExpertsReferenceIdeal.nD Cert.LateLowExpertsReferenceIdeal.τ).loc Cert.LateLowExpertsReferenceIdeal.main_arg4) = m ((c.tc : Thread Cert.LateLowExpertsIdeal.nD Cert.LateLowExpertsIdeal.τ).loc Cert.LateLowExpertsIdeal.main_arg4)
      ∧ m' ((c.tc : Thread Cert.LateLowExpertsReferenceIdeal.nD Cert.LateLowExpertsReferenceIdeal.τ).loc Cert.LateLowExpertsReferenceIdeal.main_arg5) = m ((c.tc : Thread Cert.LateLowExpertsIdeal.nD Cert.LateLowExpertsIdeal.τ).loc Cert.LateLowExpertsIdeal.main_arg5)
      ∧ m' ((c.tc : Thread Cert.LateLowExpertsReferenceIdeal.nD Cert.LateLowExpertsReferenceIdeal.τ).loc Cert.LateLowExpertsReferenceIdeal.main_arg6) = m ((c.tc : Thread Cert.LateLowExpertsIdeal.nD Cert.LateLowExpertsIdeal.τ).loc Cert.LateLowExpertsIdeal.main_arg6)) →
    ∃ (v0 : (c : Dev Cert.LateLowExpertsIdeal.nD) → Buf (Elt Ideal) ((c.tc : Thread Cert.LateLowExpertsIdeal.nD Cert.LateLowExpertsIdeal.τ).loc Cert.LateLowExpertsIdeal.main_v24)),
      θ_run (Cert.LateLowExpertsIdeal.defs (F := Ideal)) (onTc (τ := Cert.LateLowExpertsIdeal.τ) (Cert.LateLowExpertsIdeal.main (F := Ideal))) ⟨m, fun _ => 0, g⟩ (fun r => ∀ c : Dev Cert.LateLowExpertsIdeal.nD,
          r.2.mem ((c.tc : Thread Cert.LateLowExpertsIdeal.nD Cert.LateLowExpertsIdeal.τ).loc Cert.LateLowExpertsIdeal.main_v24) = v0 c
          ∧ r.2.mem ((c.tc : Thread Cert.LateLowExpertsIdeal.nD Cert.LateLowExpertsIdeal.τ).loc Cert.LateLowExpertsIdeal.main_arg0) = m ((c.tc : Thread Cert.LateLowExpertsIdeal.nD Cert.LateLowExpertsIdeal.τ).loc Cert.LateLowExpertsIdeal.main_arg0)
          ∧ r.2.mem ((c.tc : Thread Cert.LateLowExpertsIdeal.nD Cert.LateLowExpertsIdeal.τ).loc Cert.LateLowExpertsIdeal.main_arg1) = m ((c.tc : Thread Cert.LateLowExpertsIdeal.nD Cert.LateLowExpertsIdeal.τ).loc Cert.LateLowExpertsIdeal.main_arg1)
          ∧ r.2.mem ((c.tc : Thread Cert.LateLowExpertsIdeal.nD Cert.LateLowExpertsIdeal.τ).loc Cert.LateLowExpertsIdeal.main_arg2) = m ((c.tc : Thread Cert.LateLowExpertsIdeal.nD Cert.LateLowExpertsIdeal.τ).loc Cert.LateLowExpertsIdeal.main_arg2)
          ∧ r.2.mem ((c.tc : Thread Cert.LateLowExpertsIdeal.nD Cert.LateLowExpertsIdeal.τ).loc Cert.LateLowExpertsIdeal.main_arg3) = m ((c.tc : Thread Cert.LateLowExpertsIdeal.nD Cert.LateLowExpertsIdeal.τ).loc Cert.LateLowExpertsIdeal.main_arg3)
          ∧ r.2.mem ((c.tc : Thread Cert.LateLowExpertsIdeal.nD Cert.LateLowExpertsIdeal.τ).loc Cert.LateLowExpertsIdeal.main_arg4) = m ((c.tc : Thread Cert.LateLowExpertsIdeal.nD Cert.LateLowExpertsIdeal.τ).loc Cert.LateLowExpertsIdeal.main_arg4)
          ∧ r.2.mem ((c.tc : Thread Cert.LateLowExpertsIdeal.nD Cert.LateLowExpertsIdeal.τ).loc Cert.LateLowExpertsIdeal.main_arg5) = m ((c.tc : Thread Cert.LateLowExpertsIdeal.nD Cert.LateLowExpertsIdeal.τ).loc Cert.LateLowExpertsIdeal.main_arg5)
          ∧ r.2.mem ((c.tc : Thread Cert.LateLowExpertsIdeal.nD Cert.LateLowExpertsIdeal.τ).loc Cert.LateLowExpertsIdeal.main_arg6) = m ((c.tc : Thread Cert.LateLowExpertsIdeal.nD Cert.LateLowExpertsIdeal.τ).loc Cert.LateLowExpertsIdeal.main_arg6))
      ∧ θ_run (Cert.LateLowExpertsReferenceIdeal.defs (F := Ideal)) (onTc (τ := Cert.LateLowExpertsReferenceIdeal.τ) (Cert.LateLowExpertsReferenceIdeal.main (F := Ideal))) ⟨m', fun _ => 0, g'⟩ (fun r => ∀ c : Dev Cert.LateLowExpertsReferenceIdeal.nD,
          r.2.mem ((c.tc : Thread Cert.LateLowExpertsReferenceIdeal.nD Cert.LateLowExpertsReferenceIdeal.τ).loc Cert.LateLowExpertsReferenceIdeal.main_v63) = v0 c
          ∧ r.2.mem ((c.tc : Thread Cert.LateLowExpertsReferenceIdeal.nD Cert.LateLowExpertsReferenceIdeal.τ).loc Cert.LateLowExpertsReferenceIdeal.main_arg0) = m' ((c.tc : Thread Cert.LateLowExpertsReferenceIdeal.nD Cert.LateLowExpertsReferenceIdeal.τ).loc Cert.LateLowExpertsReferenceIdeal.main_arg0)
          ∧ r.2.mem ((c.tc : Thread Cert.LateLowExpertsReferenceIdeal.nD Cert.LateLowExpertsReferenceIdeal.τ).loc Cert.LateLowExpertsReferenceIdeal.main_arg1) = m' ((c.tc : Thread Cert.LateLowExpertsReferenceIdeal.nD Cert.LateLowExpertsReferenceIdeal.τ).loc Cert.LateLowExpertsReferenceIdeal.main_arg1)
          ∧ r.2.mem ((c.tc : Thread Cert.LateLowExpertsReferenceIdeal.nD Cert.LateLowExpertsReferenceIdeal.τ).loc Cert.LateLowExpertsReferenceIdeal.main_arg2) = m' ((c.tc : Thread Cert.LateLowExpertsReferenceIdeal.nD Cert.LateLowExpertsReferenceIdeal.τ).loc Cert.LateLowExpertsReferenceIdeal.main_arg2)
          ∧ r.2.mem ((c.tc : Thread Cert.LateLowExpertsReferenceIdeal.nD Cert.LateLowExpertsReferenceIdeal.τ).loc Cert.LateLowExpertsReferenceIdeal.main_arg3) = m' ((c.tc : Thread Cert.LateLowExpertsReferenceIdeal.nD Cert.LateLowExpertsReferenceIdeal.τ).loc Cert.LateLowExpertsReferenceIdeal.main_arg3)
          ∧ r.2.mem ((c.tc : Thread Cert.LateLowExpertsReferenceIdeal.nD Cert.LateLowExpertsReferenceIdeal.τ).loc Cert.LateLowExpertsReferenceIdeal.main_arg4) = m' ((c.tc : Thread Cert.LateLowExpertsReferenceIdeal.nD Cert.LateLowExpertsReferenceIdeal.τ).loc Cert.LateLowExpertsReferenceIdeal.main_arg4)
          ∧ r.2.mem ((c.tc : Thread Cert.LateLowExpertsReferenceIdeal.nD Cert.LateLowExpertsReferenceIdeal.τ).loc Cert.LateLowExpertsReferenceIdeal.main_arg5) = m' ((c.tc : Thread Cert.LateLowExpertsReferenceIdeal.nD Cert.LateLowExpertsReferenceIdeal.τ).loc Cert.LateLowExpertsReferenceIdeal.main_arg5)
          ∧ r.2.mem ((c.tc : Thread Cert.LateLowExpertsReferenceIdeal.nD Cert.LateLowExpertsReferenceIdeal.τ).loc Cert.LateLowExpertsReferenceIdeal.main_arg6) = m' ((c.tc : Thread Cert.LateLowExpertsReferenceIdeal.nD Cert.LateLowExpertsReferenceIdeal.τ).loc Cert.LateLowExpertsReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hLateExperts : Cert.LateExperts.Facts) (hLateExpertsIdeal : Cert.LateExpertsIdeal.Facts) (hLateExpertsReferenceIdeal : Cert.LateExpertsReferenceIdeal.Facts) (hMidExperts : Cert.MidExperts.Facts) (hMidExpertsIdeal : Cert.MidExpertsIdeal.Facts) (hMidExpertsReferenceIdeal : Cert.MidExpertsReferenceIdeal.Facts) (hLateMidExperts : Cert.LateMidExperts.Facts) (hLateMidExpertsIdeal : Cert.LateMidExpertsIdeal.Facts) (hLateMidExpertsReferenceIdeal : Cert.LateMidExpertsReferenceIdeal.Facts) (hLowExperts : Cert.LowExperts.Facts) (hLowExpertsIdeal : Cert.LowExpertsIdeal.Facts) (hLowExpertsReferenceIdeal : Cert.LowExpertsReferenceIdeal.Facts) (hLateLowExperts : Cert.LateLowExperts.Facts) (hLateLowExpertsIdeal : Cert.LateLowExpertsIdeal.Facts) (hLateLowExpertsReferenceIdeal : Cert.LateLowExpertsReferenceIdeal.Facts) (hPre_finite_values : Cert.Pre_finite_values.Facts) (hPre_known_experts : Cert.Pre_known_experts.Facts) (hPre_known_late_experts : Cert.Pre_known_late_experts.Facts) (hPre_known_mid_experts : Cert.Pre_known_mid_experts.Facts) (hPre_known_late_mid_experts : Cert.Pre_known_late_mid_experts.Facts) (hPre_known_low_experts : Cert.Pre_known_low_experts.Facts) (hPre_known_late_low_experts : Cert.Pre_known_late_low_experts.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Experts (hExperts := hExperts) (hPre_known_experts := hPre_known_experts)
    ∧ quiescent_ExpertsIdeal (hExpertsIdeal := hExpertsIdeal) (hPre_known_experts := hPre_known_experts)
    ∧ quiescent_ExpertsReferenceIdeal (hExpertsReferenceIdeal := hExpertsReferenceIdeal)
    ∧ quiescent_ExpertsReferenceIdeal_pre_known_experts (hExpertsReferenceIdeal := hExpertsReferenceIdeal) (hPre_known_experts := hPre_known_experts)
    ∧ quiescent_LateExperts (hLateExperts := hLateExperts) (hPre_known_late_experts := hPre_known_late_experts)
    ∧ quiescent_LateExpertsIdeal (hLateExpertsIdeal := hLateExpertsIdeal) (hPre_known_late_experts := hPre_known_late_experts)
    ∧ quiescent_LateExpertsReferenceIdeal (hLateExpertsReferenceIdeal := hLateExpertsReferenceIdeal)
    ∧ quiescent_LateExpertsReferenceIdeal_pre_known_late_experts (hLateExpertsReferenceIdeal := hLateExpertsReferenceIdeal) (hPre_known_late_experts := hPre_known_late_experts)
    ∧ quiescent_MidExperts (hMidExperts := hMidExperts) (hPre_known_mid_experts := hPre_known_mid_experts)
    ∧ quiescent_MidExpertsIdeal (hMidExpertsIdeal := hMidExpertsIdeal) (hPre_known_mid_experts := hPre_known_mid_experts)
    ∧ quiescent_MidExpertsReferenceIdeal (hMidExpertsReferenceIdeal := hMidExpertsReferenceIdeal)
    ∧ quiescent_MidExpertsReferenceIdeal_pre_known_mid_experts (hMidExpertsReferenceIdeal := hMidExpertsReferenceIdeal) (hPre_known_mid_experts := hPre_known_mid_experts)
    ∧ quiescent_LateMidExperts (hLateMidExperts := hLateMidExperts) (hPre_known_late_mid_experts := hPre_known_late_mid_experts)
    ∧ quiescent_LateMidExpertsIdeal (hLateMidExpertsIdeal := hLateMidExpertsIdeal) (hPre_known_late_mid_experts := hPre_known_late_mid_experts)
    ∧ quiescent_LateMidExpertsReferenceIdeal (hLateMidExpertsReferenceIdeal := hLateMidExpertsReferenceIdeal)
    ∧ quiescent_LateMidExpertsReferenceIdeal_pre_known_late_mid_experts (hLateMidExpertsReferenceIdeal := hLateMidExpertsReferenceIdeal) (hPre_known_late_mid_experts := hPre_known_late_mid_experts)
    ∧ quiescent_LowExperts (hLowExperts := hLowExperts) (hPre_known_low_experts := hPre_known_low_experts)
    ∧ quiescent_LowExpertsIdeal (hLowExpertsIdeal := hLowExpertsIdeal) (hPre_known_low_experts := hPre_known_low_experts)
    ∧ quiescent_LowExpertsReferenceIdeal (hLowExpertsReferenceIdeal := hLowExpertsReferenceIdeal)
    ∧ quiescent_LowExpertsReferenceIdeal_pre_known_low_experts (hLowExpertsReferenceIdeal := hLowExpertsReferenceIdeal) (hPre_known_low_experts := hPre_known_low_experts)
    ∧ quiescent_LateLowExperts (hLateLowExperts := hLateLowExperts) (hPre_known_late_low_experts := hPre_known_late_low_experts)
    ∧ quiescent_LateLowExpertsIdeal (hLateLowExpertsIdeal := hLateLowExpertsIdeal) (hPre_known_late_low_experts := hPre_known_late_low_experts)
    ∧ quiescent_LateLowExpertsReferenceIdeal (hLateLowExpertsReferenceIdeal := hLateLowExpertsReferenceIdeal)
    ∧ quiescent_LateLowExpertsReferenceIdeal_pre_known_late_low_experts (hLateLowExpertsReferenceIdeal := hLateLowExpertsReferenceIdeal) (hPre_known_late_low_experts := hPre_known_late_low_experts)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Experts_ExpertsIdeal
    ∧ algebraic_ExpertsIdeal_ExpertsReferenceIdeal (hExpertsIdeal := hExpertsIdeal) (hExpertsReferenceIdeal := hExpertsReferenceIdeal) (hPre_known_experts := hPre_known_experts)
    ∧ preserves_LateExperts_LateExpertsIdeal
    ∧ algebraic_LateExpertsIdeal_LateExpertsReferenceIdeal (hLateExpertsIdeal := hLateExpertsIdeal) (hLateExpertsReferenceIdeal := hLateExpertsReferenceIdeal) (hPre_known_late_experts := hPre_known_late_experts)
    ∧ preserves_MidExperts_MidExpertsIdeal
    ∧ algebraic_MidExpertsIdeal_MidExpertsReferenceIdeal (hMidExpertsIdeal := hMidExpertsIdeal) (hMidExpertsReferenceIdeal := hMidExpertsReferenceIdeal) (hPre_known_mid_experts := hPre_known_mid_experts)
    ∧ preserves_LateMidExperts_LateMidExpertsIdeal
    ∧ algebraic_LateMidExpertsIdeal_LateMidExpertsReferenceIdeal (hLateMidExpertsIdeal := hLateMidExpertsIdeal) (hLateMidExpertsReferenceIdeal := hLateMidExpertsReferenceIdeal) (hPre_known_late_mid_experts := hPre_known_late_mid_experts)
    ∧ preserves_LowExperts_LowExpertsIdeal
    ∧ algebraic_LowExpertsIdeal_LowExpertsReferenceIdeal (hLowExpertsIdeal := hLowExpertsIdeal) (hLowExpertsReferenceIdeal := hLowExpertsReferenceIdeal) (hPre_known_low_experts := hPre_known_low_experts)
    ∧ preserves_LateLowExperts_LateLowExpertsIdeal
    ∧ algebraic_LateLowExpertsIdeal_LateLowExpertsReferenceIdeal (hLateLowExpertsIdeal := hLateLowExpertsIdeal) (hLateLowExpertsReferenceIdeal := hLateLowExpertsReferenceIdeal) (hPre_known_late_low_experts := hPre_known_late_low_experts)
-- ==== Pre_finite_values.lean ====
abbrev S2x16384x6x2x64 : Shape := ⟨5, ![2, 16384, 6, 2, 64]⟩
abbrev S2x16384x6x128 : Shape := ⟨4, ![2, 16384, 6, 128]⟩
abbrev S2x256x6x2x64 : Shape := ⟨5, ![2, 256, 6, 2, 64]⟩
abbrev S2x256x6x128 : Shape := ⟨4, ![2, 256, 6, 128]⟩
abbrev S4x64 : Shape := ⟨2, ![4, 64]⟩
abbrev S128 : Shape := ⟨1, ![128]⟩
abbrev S_ : Shape := ⟨0, ![]⟩

class Facts : Prop where
  bcast_S_S2x16384x6x128 : S_.BroadcastsInDim S2x16384x6x128 (![] : Fin 0 → Fin S2x16384x6x128.rank)
  bcast_S_S2x256x6x128 : S_.BroadcastsInDim S2x256x6x128 (![] : Fin 0 → Fin S2x256x6x128.rank)
  bcast_S_S4x64 : S_.BroadcastsInDim S4x64 (![] : Fin 0 → Fin S4x64.rank)

variable [Facts]

def fn {F : FTy → Type} [FloatOps F] (main_arg0 : FVec F S2x16384x6x2x64 .f32) (main_arg1 : FVec F S2x16384x6x2x64 .f32) (main_arg2 : FVec F S2x16384x6x128 .f32) (main_arg3 : FVec F S2x256x6x2x64 .f32) (main_arg4 : FVec F S2x256x6x128 .f32) (main_arg5 : FVec F S4x64 .f32) (main_arg6 : FVec F S128 .f32) : IVec S2x16384x6x128 1 × IVec S2x256x6x128 1 × IVec S4x64 1 :=
  let main_v0 : FVec F S2x16384x6x128 .f32 := Host.absf main_arg2
  let main_cst : FVec F S_ .f32 := constant S_ .f32 0x7F800000#32
  let main_v1 : FVec F S2x16384x6x128 .f32 := broadcastInDim S2x16384x6x128 ![] bcast_S_S2x16384x6x128 main_cst
  let main_v2 : IVec S2x16384x6x128 1 := cmpf .olt main_v0 main_v1
  let main_v3 : FVec F S2x256x6x128 .f32 := Host.absf main_arg4
  let main_cst_0 : FVec F S_ .f32 := constant S_ .f32 0x7F800000#32
  let main_v4 : FVec F S2x256x6x128 .f32 := broadcastInDim S2x256x6x128 ![] bcast_S_S2x256x6x128 main_cst_0
  let main_v5 : IVec S2x256x6x128 1 := cmpf .olt main_v3 main_v4
  let main_v6 : FVec F S4x64 .f32 := Host.absf main_arg5
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  (main_v2, main_v5, main_v8)
-- ==== Pre_known_experts.lean ====
abbrev S157 : Shape := ⟨1, ![157]⟩
abbrev S80384x1024 : Shape := ⟨2, ![80384, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S_ : Shape := ⟨0, ![]⟩

class Facts : Prop where
  bcast_S_S157 : S_.BroadcastsInDim S157 (![] : Fin 0 → Fin S157.rank)

variable [Facts]

def fn {F : FTy → Type} [FloatOps F] (main_arg0 : IVec S157 32) (main_arg1 : FVec F S80384x1024 .bf16) (main_arg2 : FVec F S2x32x1024x2048 .f32) (main_arg3 : FVec F S32x2048 .f32) (main_arg4 : FVec F S2x32x1024x1024 .f32) (main_arg5 : FVec F S32x1024 .f32) (main_arg6 : FVec F S149504x1024 .bf16) : IVec S157 1 × IVec S157 1 :=
  let main_c : IVec S_ 32 := constantI S_ 32 0#32
  let main_v0 : IVec S157 32 := broadcastInDim S157 ![] bcast_S_S157 main_c
  let main_v1 : IVec S157 1 := cmpi .sge main_arg0 main_v0
  let main_c_0 : IVec S_ 32 := constantI S_ 32 32#32
  let main_v2 : IVec S157 32 := broadcastInDim S157 ![] bcast_S_S157 main_c_0
  let main_v3 : IVec S157 1 := cmpi .slt main_arg0 main_v2
  (main_v1, main_v3)
-- ==== Pre_known_late_experts.lean ====
abbrev S153 : Shape := ⟨1, ![153]⟩
abbrev S78336x1024 : Shape := ⟨2, ![78336, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S_ : Shape := ⟨0, ![]⟩

class Facts : Prop where
  bcast_S_S153 : S_.BroadcastsInDim S153 (![] : Fin 0 → Fin S153.rank)

variable [Facts]

def fn {F : FTy → Type} [FloatOps F] (main_arg0 : IVec S153 32) (main_arg1 : FVec F S78336x1024 .bf16) (main_arg2 : FVec F S2x32x1024x2048 .f32) (main_arg3 : FVec F S32x2048 .f32) (main_arg4 : FVec F S2x32x1024x1024 .f32) (main_arg5 : FVec F S32x1024 .f32) (main_arg6 : FVec F S147456x1024 .bf16) : IVec S153 1 × IVec S153 1 :=
  let main_c : IVec S_ 32 := constantI S_ 32 0#32
  let main_v0 : IVec S153 32 := broadcastInDim S153 ![] bcast_S_S153 main_c
  let main_v1 : IVec S153 1 := cmpi .sge main_arg0 main_v0
  let main_c_0 : IVec S_ 32 := constantI S_ 32 32#32
  let main_v2 : IVec S153 32 := broadcastInDim S153 ![] bcast_S_S153 main_c_0
  let main_v3 : IVec S153 1 := cmpi .slt main_arg0 main_v2
  (main_v1, main_v3)
-- ==== Pre_known_late_low_experts.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S_ : Shape := ⟨0, ![]⟩

class Facts : Prop where
  bcast_S_S36 : S_.BroadcastsInDim S36 (![] : Fin 0 → Fin S36.rank)

variable [Facts]

def fn {F : FTy → Type} [FloatOps F] (main_arg0 : IVec S36 32) (main_arg1 : FVec F S18432x1024 .bf16) (main_arg2 : FVec F S2x32x1024x2048 .f32) (main_arg3 : FVec F S32x2048 .f32) (main_arg4 : FVec F S2x32x1024x1024 .f32) (main_arg5 : FVec F S32x1024 .f32) (main_arg6 : FVec F S147456x1024 .bf16) : IVec S36 1 × IVec S36 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 32#32
  let main_v2 : IVec S36 32 := broadcastInDim S36 ![] bcast_S_S36 main_c_0
  let main_v3 : IVec S36 1 := cmpi .slt main_arg0 main_v2
  (main_v1, main_v3)
-- ==== Pre_known_late_mid_experts.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : FVec F S36864x1024 .bf16) (main_arg2 : FVec F S2x32x1024x2048 .f32) (main_arg3 : FVec F S32x2048 .f32) (main_arg4 : FVec F S2x32x1024x1024 .f32) (main_arg5 : FVec F S32x1024 .f32) (main_arg6 : FVec F S147456x1024 .bf16) : IVec S72 1 × IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 32#32
  let main_v2 : IVec S72 32 := broadcastInDim S72 ![] bcast_S_S72 main_c_0
  let main_v3 : IVec S72 1 := cmpi .slt main_arg0 main_v2
  (main_v1, main_v3)
-- ==== Pre_known_low_experts.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S_ : Shape := ⟨0, ![]⟩

class Facts : Prop where
  bcast_S_S36 : S_.BroadcastsInDim S36 (![] : Fin 0 → Fin S36.rank)

variable [Facts]

def fn {F : FTy → Type} [FloatOps F] (main_arg0 : IVec S36 32) (main_arg1 : FVec F S18432x1024 .bf16) (main_arg2 : FVec F S2x32x1024x2048 .f32) (main_arg3 : FVec F S32x2048 .f32) (main_arg4 : FVec F S2x32x1024x1024 .f32) (main_arg5 : FVec F S32x1024 .f32) (main_arg6 : FVec F S149504x1024 .bf16) : IVec S36 1 × IVec S36 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 32#32
  let main_v2 : IVec S36 32 := broadcastInDim S36 ![] bcast_S_S36 main_c_0
  let main_v3 : IVec S36 1 := cmpi .slt main_arg0 main_v2
  (main_v1, main_v3)
-- ==== Pre_known_mid_experts.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : FVec F S36864x1024 .bf16) (main_arg2 : FVec F S2x32x1024x2048 .f32) (main_arg3 : FVec F S32x2048 .f32) (main_arg4 : FVec F S2x32x1024x1024 .f32) (main_arg5 : FVec F S32x1024 .f32) (main_arg6 : FVec F S149504x1024 .bf16) : IVec S72 1 × IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 32#32
  let main_v2 : IVec S72 32 := broadcastInDim S72 ![] bcast_S_S72 main_c_0
  let main_v3 : IVec S72 1 := cmpi .slt main_arg0 main_v2
  (main_v1, main_v3)
-- ==== Kernel.lean ====
abbrev S2x16384x6x2x64 : Shape := ⟨5, ![2, 16384, 6, 2, 64]⟩
abbrev S2x16384x6x128 : Shape := ⟨4, ![2, 16384, 6, 128]⟩
abbrev S2x256x6x2x64 : Shape := ⟨5, ![2, 256, 6, 2, 64]⟩
abbrev S2x256x6x128 : Shape := ⟨4, ![2, 256, 6, 128]⟩
abbrev S4x64 : Shape := ⟨2, ![4, 64]⟩
abbrev S128 : Shape := ⟨1, ![128]⟩
abbrev S_ : Shape := ⟨0, ![]⟩
abbrev S2x16384x768 : Shape := ⟨3, ![2, 16384, 768]⟩
abbrev S2x256x768 : Shape := ⟨3, ![2, 256, 768]⟩
abbrev S2x16640x768 : Shape := ⟨3, ![2, 16640, 768]⟩
abbrev S1x64 : Shape := ⟨2, ![1, 64]⟩
abbrev S64 : Shape := ⟨1, ![64]⟩
abbrev S1 : Shape := ⟨1, ![1]⟩
abbrev S1x128 : Shape := ⟨2, ![1, 128]⟩
abbrev S1x512x128 : Shape := ⟨3, ![1, 512, 128]⟩
abbrev S1x16640x128 : Shape := ⟨3, ![1, 16640, 128]⟩
abbrev S1024x128 : Shape := ⟨2, ![1024, 128]⟩
abbrev S2x1024x1280 : Shape := ⟨3, ![2, 1024, 1280]⟩
abbrev S1024x256 : Shape := ⟨2, ![1024, 256]⟩
abbrev S512x128 : Shape := ⟨2, ![512, 128]⟩
abbrev S1280x128 : Shape := ⟨2, ![1280, 128]⟩
abbrev S1x1280x128 : Shape := ⟨3, ![1, 1280, 128]⟩
abbrev S1024x1280 : Shape := ⟨2, ![1024, 1280]⟩
abbrev S1x1024x1280 : Shape := ⟨3, ![1, 1024, 1280]⟩
abbrev S1280x256 : Shape := ⟨2, ![1280, 256]⟩
abbrev S1x512x1280 : Shape := ⟨3, ![1, 512, 1280]⟩
abbrev S512x1280 : Shape := ⟨2, ![512, 1280]⟩
abbrev S512 : Shape := ⟨1, ![512]⟩
abbrev S512x1 : Shape := ⟨2, ![512, 1]⟩
abbrev S512x256 : Shape := ⟨2, ![512, 256]⟩

abbrev nBuf : Space → Nat
  | .hbm => 45
  | .vmem => 13
  | .smem => 1
  | _ => 0

abbrev bufTy : (tb : Table) → Fin (tcTables nBuf tb) → BufTy
  | .hbm, ⟨0, _⟩ => ⟨S2x16384x6x2x64, .f32⟩
  | .hbm, ⟨1, _⟩ => ⟨S2x16384x6x2x64, .f32⟩
  | .hbm, ⟨2, _⟩ => ⟨S2x16384x6x128, .f32⟩
  | .hbm, ⟨3, _⟩ => ⟨S2x256x6x2x64, .f32⟩
  | .hbm, ⟨4, _⟩ => ⟨S2x256x6x128, .f32⟩
  | .hbm, ⟨5, _⟩ => ⟨S4x64, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16384x768, .f32⟩
  | .hbm, ⟨12, _⟩ => ⟨S2x16384x768, .f32⟩
  | .hbm, ⟨13, _⟩ => ⟨S2x16384x768, .f32⟩
  | .hbm, ⟨14, _⟩ => ⟨S2x16384x768, .bf16⟩
  | .hbm, ⟨15, _⟩ => ⟨S2x16384x768, .f32⟩
  | .hbm, ⟨16, _⟩ => ⟨S2x256x768, .f32⟩
  | .hbm, ⟨17, _⟩ => ⟨S2x16640x768, .f32⟩
  | .hbm, ⟨18, _⟩ => ⟨S2x16640x768, .bf16⟩
  | .hbm, ⟨19, _⟩ => ⟨S2x16384x768, .f32⟩
  | .hbm, ⟨20, _⟩ => ⟨S2x256x768, .f32⟩
  | .hbm, ⟨21, _⟩ => ⟨S2x16640x768, .f32⟩
  | .hbm, ⟨22, _⟩ => ⟨S2x16640x768, .bf16⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1x128, .f32⟩
  | .hbm, ⟨44, _⟩ => ⟨S2x16384x768, .bf16⟩
  | .local _ .vmem, ⟨0, _⟩ => ⟨S1x512x128, .bf16⟩
  | .local _ .vmem, ⟨1, _⟩ => ⟨S1x512x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .vmem, ⟨9, _⟩ => ⟨S1024x128, .bf16⟩
  | .local _ .vmem, ⟨10, _⟩ => ⟨S2x1024x1280, .f32⟩
  | .local _ .vmem, ⟨11, _⟩ => ⟨S1024x128, .f32⟩
  | .local _ .vmem, ⟨12, _⟩ => ⟨S1024x256, .f32⟩
  | .local _ .smem, ⟨0, _⟩ => ⟨S1, .f32⟩
  | _, _ => ⟨S2x16384x6x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 6, 32], ![false, false, false]⟩

def k0_mult1 : BitVec 32 :=
  let c0_i32 : BitVec 32 := 0#32
  c0_i32
@[reducible] def k0_t1_loop : Scf.Loop 32 :=
  let c0_i32_21 : BitVec 32 := 0#32
  let c6_i32 : BitVec 32 := 6#32
  let v34 : BitVec 32 := Scalar.addi c0_i32_21 c6_i32
  let c1_i32 : BitVec 32 := 1#32
  ⟨c0_i32_21, v34, c1_i32⟩
def k0_mult2 (k0_t1 : Fin k0_t1_loop.trips) : BitVec 32 :=
  let c2_i32 : BitVec 32 := 2#32
  let c0_i32_21 : BitVec 32 := 0#32
  let c1_i32 : BitVec 32 := 1#32
  let arg13 : BitVec 32 := Scf.iv c0_i32_21 c1_i32 k0_t1
  let v119 : BitVec 32 := Scalar.muli c2_i32 arg13
  let c1_i32_63 : BitVec 32 := 1#32
  let v120 : BitVec 32 := Scalar.addi v119 c1_i32_63
  let c1280_i32 : BitVec 32 := 1280#32
  let v121 : BitVec 32 := Scalar.muli v120 c1280_i32
  v121
def k0_off1 (k0_t1 : Fin k0_t1_loop.trips) (c1_i32_63 : BitVec 32) : Fin 3 → Nat :=
  let c0_64 : Index := 0#32
  let c2_i32 : BitVec 32 := 2#32
  let c0_i32_21 : BitVec 32 := 0#32
  let c1_i32 : BitVec 32 := 1#32
  let arg13 : BitVec 32 := Scf.iv c0_i32_21 c1_i32 k0_t1
  let v119 : BitVec 32 := Scalar.muli c2_i32 arg13
  let v120 : BitVec 32 := Scalar.addi v119 c1_i32_63
  let c1280_i32 : BitVec 32 := 1280#32
  let v121 : BitVec 32 := Scalar.muli v120 c1280_i32
  let v122 : BitVec 32 := v121
  let v123 : Index := Scalar.indexCast v122
  let c0_65 : Index := 0#32
  ![0, v123.toNat, 0]
def k0_mult3 (k0_t1 : Fin k0_t1_loop.trips) : BitVec 32 :=
  let c2_i32_71 : BitVec 32 := 2#32
  let c0_i32_21 : BitVec 32 := 0#32
  let c1_i32 : BitVec 32 := 1#32
  let arg13 : BitVec 32 := Scf.iv c0_i32_21 c1_i32 k0_t1
  let v131 : BitVec 32 := Scalar.muli c2_i32_71 arg13
  let c1280_i32_72 : BitVec 32 := 1280#32
  let v132 : BitVec 32 := Scalar.muli v131 c1280_i32_72
  v132
def k0_off2 (k0_t1 : Fin k0_t1_loop.trips) : Fin 3 → Nat :=
  let c0_73 : Index := 0#32
  let c2_i32_71 : BitVec 32 := 2#32
  let c0_i32_21 : BitVec 32 := 0#32
  let c1_i32 : BitVec 32 := 1#32
  let arg13 : BitVec 32 := Scf.iv c0_i32_21 c1_i32 k0_t1
  let v131 : BitVec 32 := Scalar.muli c2_i32_71 arg13
  let c1280_i32_72 : BitVec 32 := 1280#32
  let v132 : BitVec 32 := Scalar.muli v131 c1280_i32_72
  let v133 : BitVec 32 := v132
  let v134 : Index := Scalar.indexCast v133
  let c0_74 : Index := 0#32
  ![0, v134.toNat, 0]
def k0_mult4 (k0_t1 : Fin k0_t1_loop.trips) : BitVec 32 :=
  let c2_i32_101 : BitVec 32 := 2#32
  let c0_i32_21 : BitVec 32 := 0#32
  let c1_i32 : BitVec 32 := 1#32
  let arg13 : BitVec 32 := Scf.iv c0_i32_21 c1_i32 k0_t1
  let v186 : BitVec 32 := Scalar.muli c2_i32_101 arg13
  let c2_i32_102 : BitVec 32 := 2#32
  let v187 : BitVec 32 := Scalar.addi v186 c2_i32_102
  let c1280_i32_103 : BitVec 32 := 1280#32
  let v188 : BitVec 32 := Scalar.muli v187 c1280_i32_103
  v188
def k0_mult5 (k0_t1 : Fin k0_t1_loop.trips) : BitVec 32 :=
  let c2_i32_112 : BitVec 32 := 2#32
  let c0_i32_21 : BitVec 32 := 0#32
  let c1_i32 : BitVec 32 := 1#32
  let arg13 : BitVec 32 := Scf.iv c0_i32_21 c1_i32 k0_t1
  let v198 : BitVec 32 := Scalar.muli c2_i32_112 arg13
  let c1_i32_113 : BitVec 32 := 1#32
  let v199 : BitVec 32 := Scalar.addi v198 c1_i32_113
  let c1280_i32_114 : BitVec 32 := 1280#32
  let v200 : BitVec 32 := Scalar.muli v199 c1280_i32_114
  v200
def k0_mult6 : BitVec 32 :=
  let c15360_i32 : BitVec 32 := 15360#32
  c15360_i32
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x6x2x64 : Shape := ⟨5, ![2, 16384, 6, 2, 64]⟩
abbrev S2x16384x6x128 : Shape := ⟨4, ![2, 16384, 6, 128]⟩
abbrev S2x256x6x2x64 : Shape := ⟨5, ![2, 256, 6, 2, 64]⟩
abbrev S2x256x6x128 : Shape := ⟨4, ![2, 256, 6, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16640x6x2x64 : Shape := ⟨5, ![2, 16640, 6, 2, 64]⟩
abbrev S2x16640x6x128 : Shape := ⟨4, ![2, 16640, 6, 128]⟩
abbrev S2x6x2x16384x16640 : Shape := ⟨5, ![2, 6, 2, 16384, 16640]⟩
abbrev S2x6x2x16384 : Shape := ⟨4, ![2, 6, 2, 16384]⟩
abbrev S2x6x2x16384x1 : Shape := ⟨5, ![2, 6, 2, 16384, 1]⟩
abbrev S2x6x1x16384x16640 : Shape := ⟨5, ![2, 6, 1, 16384, 16640]⟩
abbrev S2x6x16384x16640 : Shape := ⟨4, ![2, 6, 16384, 16640]⟩
abbrev S2x6x128x16384 : Shape := ⟨4, ![2, 6, 128, 16384]⟩
abbrev S2x16384x6 : Shape := ⟨3, ![2, 16384, 6]⟩
abbrev S2x16384x6x1 : Shape := ⟨4, ![2, 16384, 6, 1]⟩
abbrev S1x1x1x128 : Shape := ⟨4, ![1, 1, 1, 128]⟩
abbrev S2x16384x768 : Shape := ⟨3, ![2, 16384, 768]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x6x2x64, .f32⟩
  | .hbm, ⟨1, _⟩ => ⟨S2x16384x6x2x64, .f32⟩
  | .hbm, ⟨2, _⟩ => ⟨S2x16384x6x128, .f32⟩
  | .hbm, ⟨3, _⟩ => ⟨S2x256x6x2x64, .f32⟩
  | .hbm, ⟨4, _⟩ => ⟨S2x256x6x128, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x16640x6x2x64, .f32⟩
  | .hbm, ⟨27, _⟩ => ⟨S2x16640x6x128, .f32⟩
  | .hbm, ⟨28, _⟩ => ⟨S2x6x2x16384x16640, .f32⟩
  | .hbm, ⟨29, _⟩ => ⟨S_, .f32⟩
  | .hbm, ⟨30, _⟩ => ⟨S2x6x2x16384x16640, .f32⟩
  | .hbm, ⟨31, _⟩ => ⟨S2x6x2x16384x16640, .f32⟩
  | .hbm, ⟨32, _⟩ => ⟨S_, .f32⟩
  | .hbm, ⟨33, _⟩ => ⟨S2x6x2x16384, .f32⟩
  | .hbm, ⟨34, _⟩ => ⟨S_, .f32⟩
  | .hbm, ⟨35, _⟩ => ⟨S2x6x2x16384, .f32⟩
  | .hbm, ⟨36, _⟩ => ⟨S2x6x2x16384, .f32⟩
  | .hbm, ⟨37, _⟩ => ⟨S2x6x2x16384x1, .f32⟩
  | .hbm, ⟨38, _⟩ => ⟨S2x6x2x16384x16640, .f32⟩
  | .hbm, ⟨39, _⟩ => ⟨S2x6x2x16384x16640, .f32⟩
  | .hbm, ⟨40, _⟩ => ⟨S2x6x2x16384x16640, .f32⟩
  | .hbm, ⟨41, _⟩ => ⟨S_, .f32⟩
  | .hbm, ⟨42, _⟩ => ⟨S2x6x2x16384, .f32⟩
  | .hbm, ⟨43, _⟩ => ⟨S2x6x2x16384x1, .f32⟩
  | .hbm, ⟨44, _⟩ => ⟨S2x6x2x16384x16640, .f32⟩
  | .hbm, ⟨45, _⟩ => ⟨S2x6x2x16384x16640, .f32⟩
  | .hbm, ⟨46, _⟩ => ⟨S2x6x1x16384x16640, .f32⟩
  | .hbm, ⟨47, _⟩ => ⟨S2x6x16384x16640, .f32⟩
  | .hbm, ⟨48, _⟩ => ⟨S2x6x1x16384x16640, .f32⟩
  | .hbm, ⟨49, _⟩ => ⟨S2x6x16384x16640, .f32⟩
  | .hbm, ⟨50, _⟩ => ⟨S2x6x16384x16640, .f32⟩
  | .hbm, ⟨51, _⟩ => ⟨S2x6x16384x16640, .f32⟩
  | .hbm, ⟨52, _⟩ => ⟨S2x6x16384x16640, .f32⟩
  | .hbm, ⟨53, _⟩ => ⟨S2x6x128x16384, .f32⟩
  | .hbm, ⟨54, _⟩ => ⟨S2x16384x6x128, .f32⟩
  | .hbm, ⟨55, _⟩ => ⟨S2x16384x6x128, .f32⟩
  | .hbm, ⟨56, _⟩ => ⟨S_, .f32⟩
  | .hbm, ⟨57, _⟩ => ⟨S2x16384x6, .f32⟩
  | .hbm, ⟨58, _⟩ => ⟨S2x16384x6x1, .f32⟩
  | .hbm, ⟨59, _⟩ => ⟨S_, .f32⟩
  | .hbm, ⟨60, _⟩ => ⟨S2x16384x6x1, .f32⟩
  | .hbm, ⟨61, _⟩ => ⟨S2x16384x6x1, .f32⟩
  | .hbm, ⟨62, _⟩ => ⟨S_, .f32⟩
  | .hbm, ⟨63, _⟩ => ⟨S2x16384x6x1, .f32⟩
  | .hbm, ⟨64, _⟩ => ⟨S2x16384x6x1, .f32⟩
  | .hbm, ⟨65, _⟩ => ⟨S2x16384x6x1, .f32⟩
  | .hbm, ⟨66, _⟩ => ⟨S2x16384x6x128, .f32⟩
  | .hbm, ⟨67, _⟩ => ⟨S2x16384x6x128, .f32⟩
  | .hbm, ⟨68, _⟩ => ⟨S1x1x1x128, .f32⟩
  | .hbm, ⟨69, _⟩ => ⟨S2x16384x6x128, .f32⟩
  | .hbm, ⟨70, _⟩ => ⟨S2x16384x6x128, .f32⟩
  | .hbm, ⟨71, _⟩ => ⟨S_, .f32⟩
  | .hbm, ⟨72, _⟩ => ⟨S2x16384x6x128, .f32⟩
  | .hbm, ⟨73, _⟩ => ⟨S2x16384x6x128, .f32⟩
  | .hbm, ⟨74, _⟩ => ⟨S2x16384x768, .f32⟩
  | .hbm, ⟨75, _⟩ => ⟨S2x16384x768, .bf16⟩
  | _, _ => ⟨S2x16384x6x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Experts.lean ====
abbrev S157 : Shape := ⟨1, ![157]⟩
abbrev S80384x1024 : Shape := ⟨2, ![80384, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S80384x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S149504x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S149504x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S157, .i32⟩
  | _, _ => ⟨S80384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![157], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S157.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S157) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S157.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S157) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S157.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S157) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S157.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S157) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S157.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S157) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c135_i32 : BitVec 32 := 135#32
  let v0 : BitVec 32 := Scalar.addi c135_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S157 : Shape := ⟨1, ![157]⟩
abbrev S80384x1024 : Shape := ⟨2, ![80384, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S157x512x1024 : Shape := ⟨3, ![157, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S157x1 : Shape := ⟨2, ![157, 1]⟩
abbrev S157x1024x2048 : Shape := ⟨3, ![157, 1024, 2048]⟩
abbrev S157x512x2048 : Shape := ⟨3, ![157, 512, 2048]⟩
abbrev S157x2048 : Shape := ⟨2, ![157, 2048]⟩
abbrev S157x1x2048 : Shape := ⟨3, ![157, 1, 2048]⟩
abbrev S1x32x1024x1024 : Shape := ⟨4, ![1, 32, 1024, 1024]⟩
abbrev S32x1024x1024 : Shape := ⟨3, ![32, 1024, 1024]⟩
abbrev S157x1024x1024 : Shape := ⟨3, ![157, 1024, 1024]⟩
abbrev S157x1024 : Shape := ⟨2, ![157, 1024]⟩
abbrev S157x1x1024 : Shape := ⟨3, ![157, 1, 1024]⟩
abbrev S69120x1024 : Shape := ⟨2, ![69120, 1024]⟩

abbrev nBuf : Space → Nat
  | .hbm => 90
  | .vmem => 0
  | .smem => 0
  | _ => 0

abbrev bufTy : (tb : Table) → Fin (tcTables nBuf tb) → BufTy
  | .hbm, ⟨0, _⟩ => ⟨S157, .i32⟩
  | .hbm, ⟨1, _⟩ => ⟨S80384x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S149504x1024, .bf16⟩
  | .hbm, ⟨7, _⟩ => ⟨S80384x1024, .f32⟩
  | .hbm, ⟨8, _⟩ => ⟨S157x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S157, .i32⟩
  | .hbm, ⟨13, _⟩ => ⟨S157, .i1⟩
  | .hbm, ⟨14, _⟩ => ⟨S_, .i32⟩
  | .hbm, ⟨15, _⟩ => ⟨S157, .i32⟩
  | .hbm, ⟨16, _⟩ => ⟨S157, .i32⟩
  | .hbm, ⟨17, _⟩ => ⟨S157, .i32⟩
  | .hbm, ⟨18, _⟩ => ⟨S157x1, .i32⟩
  | .hbm, ⟨19, _⟩ => ⟨S157x1024x2048, .f32⟩
  | .hbm, ⟨20, _⟩ => ⟨S157x512x2048, .f32⟩
  | .hbm, ⟨21, _⟩ => ⟨S_, .i32⟩
  | .hbm, ⟨22, _⟩ => ⟨S157, .i32⟩
  | .hbm, ⟨23, _⟩ => ⟨S157, .i1⟩
  | .hbm, ⟨24, _⟩ => ⟨S_, .i32⟩
  | .hbm, ⟨25, _⟩ => ⟨S157, .i32⟩
  | .hbm, ⟨26, _⟩ => ⟨S157, .i32⟩
  | .hbm, ⟨27, _⟩ => ⟨S157, .i32⟩
  | .hbm, ⟨28, _⟩ => ⟨S157x1, .i32⟩
  | .hbm, ⟨29, _⟩ => ⟨S157x2048, .f32⟩
  | .hbm, ⟨30, _⟩ => ⟨S157x1x2048, .f32⟩
  | .hbm, ⟨31, _⟩ => ⟨S157x512x2048, .f32⟩
  | .hbm, ⟨32, _⟩ => ⟨S157x512x2048, .f32⟩
  | .hbm, ⟨33, _⟩ => ⟨S157x512x1024, .f32⟩
  | .hbm, ⟨34, _⟩ => ⟨S_, .f32⟩
  | .hbm, ⟨35, _⟩ => ⟨S157x512x1024, .f32⟩
  | .hbm, ⟨36, _⟩ => ⟨S157x512x1024, .f32⟩
  | .hbm, ⟨37, _⟩ => ⟨S157x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S157x512x1024, .f32⟩
  | .hbm, ⟨42, _⟩ => ⟨S157x512x1024, .f32⟩
  | .hbm, ⟨43, _⟩ => ⟨S_, .f32⟩
  | .hbm, ⟨44, _⟩ => ⟨S157x512x1024, .f32⟩
  | .hbm, ⟨45, _⟩ => ⟨S157x512x1024, .f32⟩
  | .hbm, ⟨46, _⟩ => ⟨S_, .f32⟩
  | .hbm, ⟨47, _⟩ => ⟨S157x512x1024, .f32⟩
  | .hbm, ⟨48, _⟩ => ⟨S157x512x1024, .f32⟩
  | .hbm, ⟨49, _⟩ => ⟨S157x512x1024, .f32⟩
  | .hbm, ⟨50, _⟩ => ⟨S157x512x1024, .f32⟩
  | .hbm, ⟨51, _⟩ => ⟨S_, .f32⟩
  | .hbm, ⟨52, _⟩ => ⟨S157x512x1024, .f32⟩
  | .hbm, ⟨53, _⟩ => ⟨S157x512x1024, .f32⟩
  | .hbm, ⟨54, _⟩ => ⟨S_, .f32⟩
  | .hbm, ⟨55, _⟩ => ⟨S157x512x1024, .f32⟩
  | .hbm, ⟨56, _⟩ => ⟨S157x512x1024, .f32⟩
  | .hbm, ⟨57, _⟩ => ⟨S157x512x1024, .f32⟩
  | .hbm, ⟨58, _⟩ => ⟨S_, .f32⟩
  | .hbm, ⟨59, _⟩ => ⟨S157x512x1024, .f32⟩
  | .hbm, ⟨60, _⟩ => ⟨S157x512x1024, .f32⟩
  | .hbm, ⟨61, _⟩ => ⟨S157x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S157, .i32⟩
  | .hbm, ⟨66, _⟩ => ⟨S157, .i1⟩
  | .hbm, ⟨67, _⟩ => ⟨S_, .i32⟩
  | .hbm, ⟨68, _⟩ => ⟨S157, .i32⟩
  | .hbm, ⟨69, _⟩ => ⟨S157, .i32⟩
  | .hbm, ⟨70, _⟩ => ⟨S157, .i32⟩
  | .hbm, ⟨71, _⟩ => ⟨S157x1, .i32⟩
  | .hbm, ⟨72, _⟩ => ⟨S157x1024x1024, .f32⟩
  | .hbm, ⟨73, _⟩ => ⟨S157x512x1024, .f32⟩
  | .hbm, ⟨74, _⟩ => ⟨S_, .i32⟩
  | .hbm, ⟨75, _⟩ => ⟨S157, .i32⟩
  | .hbm, ⟨76, _⟩ => ⟨S157, .i1⟩
  | .hbm, ⟨77, _⟩ => ⟨S_, .i32⟩
  | .hbm, ⟨78, _⟩ => ⟨S157, .i32⟩
  | .hbm, ⟨79, _⟩ => ⟨S157, .i32⟩
  | .hbm, ⟨80, _⟩ => ⟨S157, .i32⟩
  | .hbm, ⟨81, _⟩ => ⟨S157x1, .i32⟩
  | .hbm, ⟨82, _⟩ => ⟨S157x1024, .f32⟩
  | .hbm, ⟨83, _⟩ => ⟨S157x1x1024, .f32⟩
  | .hbm, ⟨84, _⟩ => ⟨S157x512x1024, .f32⟩
  | .hbm, ⟨85, _⟩ => ⟨S157x512x1024, .f32⟩
  | .hbm, ⟨86, _⟩ => ⟨S80384x1024, .f32⟩
  | .hbm, ⟨87, _⟩ => ⟨S80384x1024, .bf16⟩
  | .hbm, ⟨88, _⟩ => ⟨S69120x1024, .bf16⟩
  | .hbm, ⟨89, _⟩ => ⟨S149504x1024, .bf16⟩
  | _, _ => ⟨S157, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== LateExperts.lean ====
abbrev S153 : Shape := ⟨1, ![153]⟩
abbrev S78336x1024 : Shape := ⟨2, ![78336, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S78336x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S147456x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S153, .i32⟩
  | _, _ => ⟨S78336x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![153], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S153.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S153) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S153.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S153) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S153.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S153) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S153.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S153) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S153.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S153) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c135_i32 : BitVec 32 := 135#32
  let v0 : BitVec 32 := Scalar.addi c135_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LateExpertsReferenceIdeal.lean ====
abbrev S153 : Shape := ⟨1, ![153]⟩
abbrev S78336x1024 : Shape := ⟨2, ![78336, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S153x512x1024 : Shape := ⟨3, ![153, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S153x1 : Shape := ⟨2, ![153, 1]⟩
abbrev S153x1024x2048 : Shape := ⟨3, ![153, 1024, 2048]⟩
abbrev S153x512x2048 : Shape := ⟨3, ![153, 512, 2048]⟩
abbrev S153x2048 : Shape := ⟨2, ![153, 2048]⟩
abbrev S153x1x2048 : Shape := ⟨3, ![153, 1, 2048]⟩
abbrev S1x32x1024x1024 : Shape := ⟨4, ![1, 32, 1024, 1024]⟩
abbrev S32x1024x1024 : Shape := ⟨3, ![32, 1024, 1024]⟩
abbrev S153x1024x1024 : Shape := ⟨3, ![153, 1024, 1024]⟩
abbrev S153x1024 : Shape := ⟨2, ![153, 1024]⟩
abbrev S153x1x1024 : Shape := ⟨3, ![153, 1, 1024]⟩
abbrev S69120x1024 : Shape := ⟨2, ![69120, 1024]⟩

abbrev nBuf : Space → Nat
  | .hbm => 90
  | .vmem => 0
  | .smem => 0
  | _ => 0

abbrev bufTy : (tb : Table) → Fin (tcTables nBuf tb) → BufTy
  | .hbm, ⟨0, _⟩ => ⟨S153, .i32⟩
  | .hbm, ⟨1, _⟩ => ⟨S78336x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S147456x1024, .bf16⟩
  | .hbm, ⟨7, _⟩ => ⟨S78336x1024, .f32⟩
  | .hbm, ⟨8, _⟩ => ⟨S153x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S153, .i32⟩
  | .hbm, ⟨13, _⟩ => ⟨S153, .i1⟩
  | .hbm, ⟨14, _⟩ => ⟨S_, .i32⟩
  | .hbm, ⟨15, _⟩ => ⟨S153, .i32⟩
  | .hbm, ⟨16, _⟩ => ⟨S153, .i32⟩
  | .hbm, ⟨17, _⟩ => ⟨S153, .i32⟩
  | .hbm, ⟨18, _⟩ => ⟨S153x1, .i32⟩
  | .hbm, ⟨19, _⟩ => ⟨S153x1024x2048, .f32⟩
  | .hbm, ⟨20, _⟩ => ⟨S153x512x2048, .f32⟩
  | .hbm, ⟨21, _⟩ => ⟨S_, .i32⟩
  | .hbm, ⟨22, _⟩ => ⟨S153, .i32⟩
  | .hbm, ⟨23, _⟩ => ⟨S153, .i1⟩
  | .hbm, ⟨24, _⟩ => ⟨S_, .i32⟩
  | .hbm, ⟨25, _⟩ => ⟨S153, .i32⟩
  | .hbm, ⟨26, _⟩ => ⟨S153, .i32⟩
  | .hbm, ⟨27, _⟩ => ⟨S153, .i32⟩
  | .hbm, ⟨28, _⟩ => ⟨S153x1, .i32⟩
  | .hbm, ⟨29, _⟩ => ⟨S153x2048, .f32⟩
  | .hbm, ⟨30, _⟩ => ⟨S153x1x2048, .f32⟩
  | .hbm, ⟨31, _⟩ => ⟨S153x512x2048, .f32⟩
  | .hbm, ⟨32, _⟩ => ⟨S153x512x2048, .f32⟩
  | .hbm, ⟨33, _⟩ => ⟨S153x512x1024, .f32⟩
  | .hbm, ⟨34, _⟩ => ⟨S_, .f32⟩
  | .hbm, ⟨35, _⟩ => ⟨S153x512x1024, .f32⟩
  | .hbm, ⟨36, _⟩ => ⟨S153x512x1024, .f32⟩
  | .hbm, ⟨37, _⟩ => ⟨S153x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S153x512x1024, .f32⟩
  | .hbm, ⟨42, _⟩ => ⟨S153x512x1024, .f32⟩
  | .hbm, ⟨43, _⟩ => ⟨S_, .f32⟩
  | .hbm, ⟨44, _⟩ => ⟨S153x512x1024, .f32⟩
  | .hbm, ⟨45, _⟩ => ⟨S153x512x1024, .f32⟩
  | .hbm, ⟨46, _⟩ => ⟨S_, .f32⟩
  | .hbm, ⟨47, _⟩ => ⟨S153x512x1024, .f32⟩
  | .hbm, ⟨48, _⟩ => ⟨S153x512x1024, .f32⟩
  | .hbm, ⟨49, _⟩ => ⟨S153x512x1024, .f32⟩
  | .hbm, ⟨50, _⟩ => ⟨S153x512x1024, .f32⟩
  | .hbm, ⟨51, _⟩ => ⟨S_, .f32⟩
  | .hbm, ⟨52, _⟩ => ⟨S153x512x1024, .f32⟩
  | .hbm, ⟨53, _⟩ => ⟨S153x512x1024, .f32⟩
  | .hbm, ⟨54, _⟩ => ⟨S_, .f32⟩
  | .hbm, ⟨55, _⟩ => ⟨S153x512x1024, .f32⟩
  | .hbm, ⟨56, _⟩ => ⟨S153x512x1024, .f32⟩
  | .hbm, ⟨57, _⟩ => ⟨S153x512x1024, .f32⟩
  | .hbm, ⟨58, _⟩ => ⟨S_, .f32⟩
  | .hbm, ⟨59, _⟩ => ⟨S153x512x1024, .f32⟩
  | .hbm, ⟨60, _⟩ => ⟨S153x512x1024, .f32⟩
  | .hbm, ⟨61, _⟩ => ⟨S153x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S153, .i32⟩
  | .hbm, ⟨66, _⟩ => ⟨S153, .i1⟩
  | .hbm, ⟨67, _⟩ => ⟨S_, .i32⟩
  | .hbm, ⟨68, _⟩ => ⟨S153, .i32⟩
  | .hbm, ⟨69, _⟩ => ⟨S153, .i32⟩
  | .hbm, ⟨70, _⟩ => ⟨S153, .i32⟩
  | .hbm, ⟨71, _⟩ => ⟨S153x1, .i32⟩
  | .hbm, ⟨72, _⟩ => ⟨S153x1024x1024, .f32⟩
  | .hbm, ⟨73, _⟩ => ⟨S153x512x1024, .f32⟩
  | .hbm, ⟨74, _⟩ => ⟨S_, .i32⟩
  | .hbm, ⟨75, _⟩ => ⟨S153, .i32⟩
  | .hbm, ⟨76, _⟩ => ⟨S153, .i1⟩
  | .hbm, ⟨77, _⟩ => ⟨S_, .i32⟩
  | .hbm, ⟨78, _⟩ => ⟨S153, .i32⟩
  | .hbm, ⟨79, _⟩ => ⟨S153, .i32⟩
  | .hbm, ⟨80, _⟩ => ⟨S153, .i32⟩
  | .hbm, ⟨81, _⟩ => ⟨S153x1, .i32⟩
  | .hbm, ⟨82, _⟩ => ⟨S153x1024, .f32⟩
  | .hbm, ⟨83, _⟩ => ⟨S153x1x1024, .f32⟩
  | .hbm, ⟨84, _⟩ => ⟨S153x512x1024, .f32⟩
  | .hbm, ⟨85, _⟩ => ⟨S153x512x1024, .f32⟩
  | .hbm, ⟨86, _⟩ => ⟨S78336x1024, .f32⟩
  | .hbm, ⟨87, _⟩ => ⟨S78336x1024, .bf16⟩
  | .hbm, ⟨88, _⟩ => ⟨S69120x1024, .bf16⟩
  | .hbm, ⟨89, _⟩ => ⟨S147456x1024, .bf16⟩
  | _, _ => ⟨S153, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== MidExperts.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S36864x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S149504x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S149504x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S72, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.addi c63_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidExpertsReferenceIdeal.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S72x512x1024 : Shape := ⟨3, ![72, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S72x1 : Shape := ⟨2, ![72, 1]⟩
abbrev S72x1024x2048 : Shape := ⟨3, ![72, 1024, 2048]⟩
abbrev S72x512x2048 : Shape := ⟨3, ![72, 512, 2048]⟩
abbrev S72x2048 : Shape := ⟨2, ![72, 2048]⟩
abbrev S72x1x2048 : Shape := ⟨3, ![72, 1, 2048]⟩
abbrev S1x32x1024x1024 : Shape := ⟨4, ![1, 32, 1024, 1024]⟩
abbrev S32x1024x1024 : Shape := ⟨3, ![32, 1024, 1024]⟩
abbrev S72x1024x1024 : Shape := ⟨3, ![72, 1024, 1024]⟩
abbrev S72x1024 : Shape := ⟨2, ![72, 1024]⟩
abbrev S72x1x1024 : Shape := ⟨3, ![72, 1, 1024]⟩
abbrev S32256x1024 : Shape := ⟨2, ![32256, 1024]⟩
abbrev S80384x1024 : Shape := ⟨2, ![80384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S72, .i32⟩
  | .hbm, ⟨1, _⟩ => ⟨S36864x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S149504x1024, .bf16⟩
  | .hbm, ⟨7, _⟩ => ⟨S36864x1024, .f32⟩
  | .hbm, ⟨8, _⟩ => ⟨S72x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S72, .i32⟩
  | .hbm, ⟨13, _⟩ => ⟨S72, .i1⟩
  | .hbm, ⟨14, _⟩ => ⟨S_, .i32⟩
  | .hbm, ⟨15, _⟩ => ⟨S72, .i32⟩
  | .hbm, ⟨16, _⟩ => ⟨S72, .i32⟩
  | .hbm, ⟨17, _⟩ => ⟨S72, .i32⟩
  | .hbm, ⟨18, _⟩ => ⟨S72x1, .i32⟩
  | .hbm, ⟨19, _⟩ => ⟨S72x1024x2048, .f32⟩
  | .hbm, ⟨20, _⟩ => ⟨S72x512x2048, .f32⟩
  | .hbm, ⟨21, _⟩ => ⟨S_, .i32⟩
  | .hbm, ⟨22, _⟩ => ⟨S72, .i32⟩
  | .hbm, ⟨23, _⟩ => ⟨S72, .i1⟩
  | .hbm, ⟨24, _⟩ => ⟨S_, .i32⟩
  | .hbm, ⟨25, _⟩ => ⟨S72, .i32⟩
  | .hbm, ⟨26, _⟩ => ⟨S72, .i32⟩
  | .hbm, ⟨27, _⟩ => ⟨S72, .i32⟩
  | .hbm, ⟨28, _⟩ => ⟨S72x1, .i32⟩
  | .hbm, ⟨29, _⟩ => ⟨S72x2048, .f32⟩
  | .hbm, ⟨30, _⟩ => ⟨S72x1x2048, .f32⟩
  | .hbm, ⟨31, _⟩ => ⟨S72x512x2048, .f32⟩
  | .hbm, ⟨32, _⟩ => ⟨S72x512x2048, .f32⟩
  | .hbm, ⟨33, _⟩ => ⟨S72x512x1024, .f32⟩
  | .hbm, ⟨34, _⟩ => ⟨S_, .f32⟩
  | .hbm, ⟨35, _⟩ => ⟨S72x512x1024, .f32⟩
  | .hbm, ⟨36, _⟩ => ⟨S72x512x1024, .f32⟩
  | .hbm, ⟨37, _⟩ => ⟨S72x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S72x512x1024, .f32⟩
  | .hbm, ⟨42, _⟩ => ⟨S72x512x1024, .f32⟩
  | .hbm, ⟨43, _⟩ => ⟨S_, .f32⟩
  | .hbm, ⟨44, _⟩ => ⟨S72x512x1024, .f32⟩
  | .hbm, ⟨45, _⟩ => ⟨S72x512x1024, .f32⟩
  | .hbm, ⟨46, _⟩ => ⟨S_, .f32⟩
  | .hbm, ⟨47, _⟩ => ⟨S72x512x1024, .f32⟩
  | .hbm, ⟨48, _⟩ => ⟨S72x512x1024, .f32⟩
  | .hbm, ⟨49, _⟩ => ⟨S72x512x1024, .f32⟩
  | .hbm, ⟨50, _⟩ => ⟨S72x512x1024, .f32⟩
  | .hbm, ⟨51, _⟩ => ⟨S_, .f32⟩
  | .hbm, ⟨52, _⟩ => ⟨S72x512x1024, .f32⟩
  | .hbm, ⟨53, _⟩ => ⟨S72x512x1024, .f32⟩
  | .hbm, ⟨54, _⟩ => ⟨S_, .f32⟩
  | .hbm, ⟨55, _⟩ => ⟨S72x512x1024, .f32⟩
  | .hbm, ⟨56, _⟩ => ⟨S72x512x1024, .f32⟩
  | .hbm, ⟨57, _⟩ => ⟨S72x512x1024, .f32⟩
  | .hbm, ⟨58, _⟩ => ⟨S_, .f32⟩
  | .hbm, ⟨59, _⟩ => ⟨S72x512x1024, .f32⟩
  | .hbm, ⟨60, _⟩ => ⟨S72x512x1024, .f32⟩
  | .hbm, ⟨61, _⟩ => ⟨S72x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S72, .i32⟩
  | .hbm, ⟨66, _⟩ => ⟨S72, .i1⟩
  | .hbm, ⟨67, _⟩ => ⟨S_, .i32⟩
  | .hbm, ⟨68, _⟩ => ⟨S72, .i32⟩
  | .hbm, ⟨69, _⟩ => ⟨S72, .i32⟩
  | .hbm, ⟨70, _⟩ => ⟨S72, .i32⟩
  | .hbm, ⟨71, _⟩ => ⟨S72x1, .i32⟩
  | .hbm, ⟨72, _⟩ => ⟨S72x1024x1024, .f32⟩
  | .hbm, ⟨73, _⟩ => ⟨S72x512x1024, .f32⟩
  | .hbm, ⟨74, _⟩ => ⟨S_, .i32⟩
  | .hbm, ⟨75, _⟩ => ⟨S72, .i32⟩
  | .hbm, ⟨76, _⟩ => ⟨S72, .i1⟩
  | .hbm, ⟨77, _⟩ => ⟨S_, .i32⟩
  | .hbm, ⟨78, _⟩ => ⟨S72, .i32⟩
  | .hbm, ⟨79, _⟩ => ⟨S72, .i32⟩
  | .hbm, ⟨80, _⟩ => ⟨S72, .i32⟩
  | .hbm, ⟨81, _⟩ => ⟨S72x1, .i32⟩
  | .hbm, ⟨82, _⟩ => ⟨S72x1024, .f32⟩
  | .hbm, ⟨83, _⟩ => ⟨S72x1x1024, .f32⟩
  | .hbm, ⟨84, _⟩ => ⟨S72x512x1024, .f32⟩
  | .hbm, ⟨85, _⟩ => ⟨S72x512x1024, .f32⟩
  | .hbm, ⟨86, _⟩ => ⟨S36864x1024, .f32⟩
  | .hbm, ⟨87, _⟩ => ⟨S36864x1024, .bf16⟩
  | .hbm, ⟨88, _⟩ => ⟨S32256x1024, .bf16⟩
  | .hbm, ⟨89, _⟩ => ⟨S80384x1024, .bf16⟩
  | .hbm, ⟨90, _⟩ => ⟨S149504x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== LateMidExperts.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S36864x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S147456x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S72, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.addi c63_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LateMidExpertsReferenceIdeal.lean ====
abbrev S72 : Shape := ⟨1, ![72]⟩
abbrev S36864x1024 : Shape := ⟨2, ![36864, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S72x512x1024 : Shape := ⟨3, ![72, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S72x1 : Shape := ⟨2, ![72, 1]⟩
abbrev S72x1024x2048 : Shape := ⟨3, ![72, 1024, 2048]⟩
abbrev S72x512x2048 : Shape := ⟨3, ![72, 512, 2048]⟩
abbrev S72x2048 : Shape := ⟨2, ![72, 2048]⟩
abbrev S72x1x2048 : Shape := ⟨3, ![72, 1, 2048]⟩
abbrev S1x32x1024x1024 : Shape := ⟨4, ![1, 32, 1024, 1024]⟩
abbrev S32x1024x1024 : Shape := ⟨3, ![32, 1024, 1024]⟩
abbrev S72x1024x1024 : Shape := ⟨3, ![72, 1024, 1024]⟩
abbrev S72x1024 : Shape := ⟨2, ![72, 1024]⟩
abbrev S72x1x1024 : Shape := ⟨3, ![72, 1, 1024]⟩
abbrev S32256x1024 : Shape := ⟨2, ![32256, 1024]⟩
abbrev S78336x1024 : Shape := ⟨2, ![78336, 1024]⟩

abbrev nBuf : Space → Nat
  | .hbm => 91
  | .vmem => 0
  | .smem => 0
  | _ => 0

abbrev bufTy : (tb : Table) → Fin (tcTables nBuf tb) → BufTy
  | .hbm, ⟨0, _⟩ => ⟨S72, .i32⟩
  | .hbm, ⟨1, _⟩ => ⟨S36864x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S147456x1024, .bf16⟩
  | .hbm, ⟨7, _⟩ => ⟨S36864x1024, .f32⟩
  | .hbm, ⟨8, _⟩ => ⟨S72x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S72, .i32⟩
  | .hbm, ⟨13, _⟩ => ⟨S72, .i1⟩
  | .hbm, ⟨14, _⟩ => ⟨S_, .i32⟩
  | .hbm, ⟨15, _⟩ => ⟨S72, .i32⟩
  | .hbm, ⟨16, _⟩ => ⟨S72, .i32⟩
  | .hbm, ⟨17, _⟩ => ⟨S72, .i32⟩
  | .hbm, ⟨18, _⟩ => ⟨S72x1, .i32⟩
  | .hbm, ⟨19, _⟩ => ⟨S72x1024x2048, .f32⟩
  | .hbm, ⟨20, _⟩ => ⟨S72x512x2048, .f32⟩
  | .hbm, ⟨21, _⟩ => ⟨S_, .i32⟩
  | .hbm, ⟨22, _⟩ => ⟨S72, .i32⟩
  | .hbm, ⟨23, _⟩ => ⟨S72, .i1⟩
  | .hbm, ⟨24, _⟩ => ⟨S_, .i32⟩
  | .hbm, ⟨25, _⟩ => ⟨S72, .i32⟩
  | .hbm, ⟨26, _⟩ => ⟨S72, .i32⟩
  | .hbm, ⟨27, _⟩ => ⟨S72, .i32⟩
  | .hbm, ⟨28, _⟩ => ⟨S72x1, .i32⟩
  | .hbm, ⟨29, _⟩ => ⟨S72x2048, .f32⟩
  | .hbm, ⟨30, _⟩ => ⟨S72x1x2048, .f32⟩
  | .hbm, ⟨31, _⟩ => ⟨S72x512x2048, .f32⟩
  | .hbm, ⟨32, _⟩ => ⟨S72x512x2048, .f32⟩
  | .hbm, ⟨33, _⟩ => ⟨S72x512x1024, .f32⟩
  | .hbm, ⟨34, _⟩ => ⟨S_, .f32⟩
  | .hbm, ⟨35, _⟩ => ⟨S72x512x1024, .f32⟩
  | .hbm, ⟨36, _⟩ => ⟨S72x512x1024, .f32⟩
  | .hbm, ⟨37, _⟩ => ⟨S72x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S72x512x1024, .f32⟩
  | .hbm, ⟨42, _⟩ => ⟨S72x512x1024, .f32⟩
  | .hbm, ⟨43, _⟩ => ⟨S_, .f32⟩
  | .hbm, ⟨44, _⟩ => ⟨S72x512x1024, .f32⟩
  | .hbm, ⟨45, _⟩ => ⟨S72x512x1024, .f32⟩
  | .hbm, ⟨46, _⟩ => ⟨S_, .f32⟩
  | .hbm, ⟨47, _⟩ => ⟨S72x512x1024, .f32⟩
  | .hbm, ⟨48, _⟩ => ⟨S72x512x1024, .f32⟩
  | .hbm, ⟨49, _⟩ => ⟨S72x512x1024, .f32⟩
  | .hbm, ⟨50, _⟩ => ⟨S72x512x1024, .f32⟩
  | .hbm, ⟨51, _⟩ => ⟨S_, .f32⟩
  | .hbm, ⟨52, _⟩ => ⟨S72x512x1024, .f32⟩
  | .hbm, ⟨53, _⟩ => ⟨S72x512x1024, .f32⟩
  | .hbm, ⟨54, _⟩ => ⟨S_, .f32⟩
  | .hbm, ⟨55, _⟩ => ⟨S72x512x1024, .f32⟩
  | .hbm, ⟨56, _⟩ => ⟨S72x512x1024, .f32⟩
  | .hbm, ⟨57, _⟩ => ⟨S72x512x1024, .f32⟩
  | .hbm, ⟨58, _⟩ => ⟨S_, .f32⟩
  | .hbm, ⟨59, _⟩ => ⟨S72x512x1024, .f32⟩
  | .hbm, ⟨60, _⟩ => ⟨S72x512x1024, .f32⟩
  | .hbm, ⟨61, _⟩ => ⟨S72x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S72, .i32⟩
  | .hbm, ⟨66, _⟩ => ⟨S72, .i1⟩
  | .hbm, ⟨67, _⟩ => ⟨S_, .i32⟩
  | .hbm, ⟨68, _⟩ => ⟨S72, .i32⟩
  | .hbm, ⟨69, _⟩ => ⟨S72, .i32⟩
  | .hbm, ⟨70, _⟩ => ⟨S72, .i32⟩
  | .hbm, ⟨71, _⟩ => ⟨S72x1, .i32⟩
  | .hbm, ⟨72, _⟩ => ⟨S72x1024x1024, .f32⟩
  | .hbm, ⟨73, _⟩ => ⟨S72x512x1024, .f32⟩
  | .hbm, ⟨74, _⟩ => ⟨S_, .i32⟩
  | .hbm, ⟨75, _⟩ => ⟨S72, .i32⟩
  | .hbm, ⟨76, _⟩ => ⟨S72, .i1⟩
  | .hbm, ⟨77, _⟩ => ⟨S_, .i32⟩
  | .hbm, ⟨78, _⟩ => ⟨S72, .i32⟩
  | .hbm, ⟨79, _⟩ => ⟨S72, .i32⟩
  | .hbm, ⟨80, _⟩ => ⟨S72, .i32⟩
  | .hbm, ⟨81, _⟩ => ⟨S72x1, .i32⟩
  | .hbm, ⟨82, _⟩ => ⟨S72x1024, .f32⟩
  | .hbm, ⟨83, _⟩ => ⟨S72x1x1024, .f32⟩
  | .hbm, ⟨84, _⟩ => ⟨S72x512x1024, .f32⟩
  | .hbm, ⟨85, _⟩ => ⟨S72x512x1024, .f32⟩
  | .hbm, ⟨86, _⟩ => ⟨S36864x1024, .f32⟩
  | .hbm, ⟨87, _⟩ => ⟨S36864x1024, .bf16⟩
  | .hbm, ⟨88, _⟩ => ⟨S32256x1024, .bf16⟩
  | .hbm, ⟨89, _⟩ => ⟨S78336x1024, .bf16⟩
  | .hbm, ⟨90, _⟩ => ⟨S147456x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== LowExperts.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S18432x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S149504x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S149504x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S36, .i32⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c27_i32 : BitVec 32 := 27#32
  let v0 : BitVec 32 := Scalar.addi c27_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LowExpertsReferenceIdeal.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S149504x1024 : Shape := ⟨2, ![149504, 1024]⟩
abbrev S36x512x1024 : Shape := ⟨3, ![36, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S36x1 : Shape := ⟨2, ![36, 1]⟩
abbrev S36x1024x2048 : Shape := ⟨3, ![36, 1024, 2048]⟩
abbrev S36x512x2048 : Shape := ⟨3, ![36, 512, 2048]⟩
abbrev S36x2048 : Shape := ⟨2, ![36, 2048]⟩
abbrev S36x1x2048 : Shape := ⟨3, ![36, 1, 2048]⟩
abbrev S1x32x1024x1024 : Shape := ⟨4, ![1, 32, 1024, 1024]⟩
abbrev S32x1024x1024 : Shape := ⟨3, ![32, 1024, 1024]⟩
abbrev S36x1024x1024 : Shape := ⟨3, ![36, 1024, 1024]⟩
abbrev S36x1024 : Shape := ⟨2, ![36, 1024]⟩
abbrev S36x1x1024 : Shape := ⟨3, ![36, 1, 1024]⟩
abbrev S13824x1024 : Shape := ⟨2, ![13824, 1024]⟩
abbrev S117248x1024 : Shape := ⟨2, ![117248, 1024]⟩

abbrev nBuf : Space → Nat
  | .hbm => 91
  | .vmem => 0
  | .smem => 0
  | _ => 0

abbrev bufTy : (tb : Table) → Fin (tcTables nBuf tb) → BufTy
  | .hbm, ⟨0, _⟩ => ⟨S36, .i32⟩
  | .hbm, ⟨1, _⟩ => ⟨S18432x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S149504x1024, .bf16⟩
  | .hbm, ⟨7, _⟩ => ⟨S18432x1024, .f32⟩
  | .hbm, ⟨8, _⟩ => ⟨S36x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S36, .i32⟩
  | .hbm, ⟨13, _⟩ => ⟨S36, .i1⟩
  | .hbm, ⟨14, _⟩ => ⟨S_, .i32⟩
  | .hbm, ⟨15, _⟩ => ⟨S36, .i32⟩
  | .hbm, ⟨16, _⟩ => ⟨S36, .i32⟩
  | .hbm, ⟨17, _⟩ => ⟨S36, .i32⟩
  | .hbm, ⟨18, _⟩ => ⟨S36x1, .i32⟩
  | .hbm, ⟨19, _⟩ => ⟨S36x1024x2048, .f32⟩
  | .hbm, ⟨20, _⟩ => ⟨S36x512x2048, .f32⟩
  | .hbm, ⟨21, _⟩ => ⟨S_, .i32⟩
  | .hbm, ⟨22, _⟩ => ⟨S36, .i32⟩
  | .hbm, ⟨23, _⟩ => ⟨S36, .i1⟩
  | .hbm, ⟨24, _⟩ => ⟨S_, .i32⟩
  | .hbm, ⟨25, _⟩ => ⟨S36, .i32⟩
  | .hbm, ⟨26, _⟩ => ⟨S36, .i32⟩
  | .hbm, ⟨27, _⟩ => ⟨S36, .i32⟩
  | .hbm, ⟨28, _⟩ => ⟨S36x1, .i32⟩
  | .hbm, ⟨29, _⟩ => ⟨S36x2048, .f32⟩
  | .hbm, ⟨30, _⟩ => ⟨S36x1x2048, .f32⟩
  | .hbm, ⟨31, _⟩ => ⟨S36x512x2048, .f32⟩
  | .hbm, ⟨32, _⟩ => ⟨S36x512x2048, .f32⟩
  | .hbm, ⟨33, _⟩ => ⟨S36x512x1024, .f32⟩
  | .hbm, ⟨34, _⟩ => ⟨S_, .f32⟩
  | .hbm, ⟨35, _⟩ => ⟨S36x512x1024, .f32⟩
  | .hbm, ⟨36, _⟩ => ⟨S36x512x1024, .f32⟩
  | .hbm, ⟨37, _⟩ => ⟨S36x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S36x512x1024, .f32⟩
  | .hbm, ⟨42, _⟩ => ⟨S36x512x1024, .f32⟩
  | .hbm, ⟨43, _⟩ => ⟨S_, .f32⟩
  | .hbm, ⟨44, _⟩ => ⟨S36x512x1024, .f32⟩
  | .hbm, ⟨45, _⟩ => ⟨S36x512x1024, .f32⟩
  | .hbm, ⟨46, _⟩ => ⟨S_, .f32⟩
  | .hbm, ⟨47, _⟩ => ⟨S36x512x1024, .f32⟩
  | .hbm, ⟨48, _⟩ => ⟨S36x512x1024, .f32⟩
  | .hbm, ⟨49, _⟩ => ⟨S36x512x1024, .f32⟩
  | .hbm, ⟨50, _⟩ => ⟨S36x512x1024, .f32⟩
  | .hbm, ⟨51, _⟩ => ⟨S_, .f32⟩
  | .hbm, ⟨52, _⟩ => ⟨S36x512x1024, .f32⟩
  | .hbm, ⟨53, _⟩ => ⟨S36x512x1024, .f32⟩
  | .hbm, ⟨54, _⟩ => ⟨S_, .f32⟩
  | .hbm, ⟨55, _⟩ => ⟨S36x512x1024, .f32⟩
  | .hbm, ⟨56, _⟩ => ⟨S36x512x1024, .f32⟩
  | .hbm, ⟨57, _⟩ => ⟨S36x512x1024, .f32⟩
  | .hbm, ⟨58, _⟩ => ⟨S_, .f32⟩
  | .hbm, ⟨59, _⟩ => ⟨S36x512x1024, .f32⟩
  | .hbm, ⟨60, _⟩ => ⟨S36x512x1024, .f32⟩
  | .hbm, ⟨61, _⟩ => ⟨S36x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S36, .i32⟩
  | .hbm, ⟨66, _⟩ => ⟨S36, .i1⟩
  | .hbm, ⟨67, _⟩ => ⟨S_, .i32⟩
  | .hbm, ⟨68, _⟩ => ⟨S36, .i32⟩
  | .hbm, ⟨69, _⟩ => ⟨S36, .i32⟩
  | .hbm, ⟨70, _⟩ => ⟨S36, .i32⟩
  | .hbm, ⟨71, _⟩ => ⟨S36x1, .i32⟩
  | .hbm, ⟨72, _⟩ => ⟨S36x1024x1024, .f32⟩
  | .hbm, ⟨73, _⟩ => ⟨S36x512x1024, .f32⟩
  | .hbm, ⟨74, _⟩ => ⟨S_, .i32⟩
  | .hbm, ⟨75, _⟩ => ⟨S36, .i32⟩
  | .hbm, ⟨76, _⟩ => ⟨S36, .i1⟩
  | .hbm, ⟨77, _⟩ => ⟨S_, .i32⟩
  | .hbm, ⟨78, _⟩ => ⟨S36, .i32⟩
  | .hbm, ⟨79, _⟩ => ⟨S36, .i32⟩
  | .hbm, ⟨80, _⟩ => ⟨S36, .i32⟩
  | .hbm, ⟨81, _⟩ => ⟨S36x1, .i32⟩
  | .hbm, ⟨82, _⟩ => ⟨S36x1024, .f32⟩
  | .hbm, ⟨83, _⟩ => ⟨S36x1x1024, .f32⟩
  | .hbm, ⟨84, _⟩ => ⟨S36x512x1024, .f32⟩
  | .hbm, ⟨85, _⟩ => ⟨S36x512x1024, .f32⟩
  | .hbm, ⟨86, _⟩ => ⟨S18432x1024, .f32⟩
  | .hbm, ⟨87, _⟩ => ⟨S18432x1024, .bf16⟩
  | .hbm, ⟨88, _⟩ => ⟨S13824x1024, .bf16⟩
  | .hbm, ⟨89, _⟩ => ⟨S117248x1024, .bf16⟩
  | .hbm, ⟨90, _⟩ => ⟨S149504x1024, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== LateLowExperts.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S32x1x1024 : Shape := ⟨3, ![32, 1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x1024 : Shape := ⟨2, ![512, 1024]⟩
abbrev S1x1x1024x2048 : Shape := ⟨4, ![1, 1, 1024, 2048]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 36
  | .vmem => 18
  | .smem => 1
  | _ => 0

abbrev bufTy : (tb : Table) → Fin (tcTables nBuf tb) → BufTy
  | .hbm, ⟨0, _⟩ => ⟨S18432x1024, .bf16⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S147456x1024, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S36, .i32⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c27_i32 : BitVec 32 := 27#32
  let v0 : BitVec 32 := Scalar.addi c27_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LateLowExpertsReferenceIdeal.lean ====
abbrev S36 : Shape := ⟨1, ![36]⟩
abbrev S18432x1024 : Shape := ⟨2, ![18432, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S147456x1024 : Shape := ⟨2, ![147456, 1024]⟩
abbrev S36x512x1024 : Shape := ⟨3, ![36, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S36x1 : Shape := ⟨2, ![36, 1]⟩
abbrev S36x1024x2048 : Shape := ⟨3, ![36, 1024, 2048]⟩
abbrev S36x512x2048 : Shape := ⟨3, ![36, 512, 2048]⟩
abbrev S36x2048 : Shape := ⟨2, ![36, 2048]⟩
abbrev S36x1x2048 : Shape := ⟨3, ![36, 1, 2048]⟩
abbrev S1x32x1024x1024 : Shape := ⟨4, ![1, 32, 1024, 1024]⟩
abbrev S32x1024x1024 : Shape := ⟨3, ![32, 1024, 1024]⟩
abbrev S36x1024x1024 : Shape := ⟨3, ![36, 1024, 1024]⟩
abbrev S36x1024 : Shape := ⟨2, ![36, 1024]⟩
abbrev S36x1x1024 : Shape := ⟨3, ![36, 1, 1024]⟩
abbrev S13824x1024 : Shape := ⟨2, ![13824, 1024]⟩
abbrev S115200x1024 : Shape := ⟨2, ![115200, 1024]⟩

abbrev nBuf : Space → Nat
  | .hbm => 91
  | .vmem => 0
  | .smem => 0
  | _ => 0

abbrev bufTy : (tb : Table) → Fin (tcTables nBuf tb) → BufTy
  | .hbm, ⟨0, _⟩ => ⟨S36, .i32⟩
  | .hbm, ⟨1, _⟩ => ⟨S18432x1024, .bf16⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S147456x1024, .bf16⟩
  | .hbm, ⟨7, _⟩ => ⟨S18432x1024, .f32⟩
  | .hbm, ⟨8, _⟩ => ⟨S36x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S36, .i32⟩
  | .hbm, ⟨13, _⟩ => ⟨S36, .i1⟩
  | .hbm, ⟨14, _⟩ => ⟨S_, .i32⟩
  | .hbm, ⟨15, _⟩ => ⟨S36, .i32⟩
  | .hbm, ⟨16, _⟩ => ⟨S36, .i32⟩
  | .hbm, ⟨17, _⟩ => ⟨S36, .i32⟩
  | .hbm, ⟨18, _⟩ => ⟨S36x1, .i32⟩
  | .hbm, ⟨19, _⟩ => ⟨S36x1024x2048, .f32⟩
  | .hbm, ⟨20, _⟩ => ⟨S36x512x2048, .f32⟩
  | .hbm, ⟨21, _⟩ => ⟨S_, .i32⟩
  | .hbm, ⟨22, _⟩ => ⟨S36, .i32⟩
  | .hbm, ⟨23, _⟩ => ⟨S36, .i1⟩
  | .hbm, ⟨24, _⟩ => ⟨S_, .i32⟩
  | .hbm, ⟨25, _⟩ => ⟨S36, .i32⟩
  | .hbm, ⟨26, _⟩ => ⟨S36, .i32⟩
  | .hbm, ⟨27, _⟩ => ⟨S36, .i32⟩
  | .hbm, ⟨28, _⟩ => ⟨S36x1, .i32⟩
  | .hbm, ⟨29, _⟩ => ⟨S36x2048, .f32⟩
  | .hbm, ⟨30, _⟩ => ⟨S36x1x2048, .f32⟩
  | .hbm, ⟨31, _⟩ => ⟨S36x512x2048, .f32⟩
  | .hbm, ⟨32, _⟩ => ⟨S36x512x2048, .f32⟩
  | .hbm, ⟨33, _⟩ => ⟨S36x512x1024, .f32⟩
  | .hbm, ⟨34, _⟩ => ⟨S_, .f32⟩
  | .hbm, ⟨35, _⟩ => ⟨S36x512x1024, .f32⟩
  | .hbm, ⟨36, _⟩ => ⟨S36x512x1024, .f32⟩
  | .hbm, ⟨37, _⟩ => ⟨S36x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S36x512x1024, .f32⟩
  | .hbm, ⟨42, _⟩ => ⟨S36x512x1024, .f32⟩
  | .hbm, ⟨43, _⟩ => ⟨S_, .f32⟩
  | .hbm, ⟨44, _⟩ => ⟨S36x512x1024, .f32⟩
  | .hbm, ⟨45, _⟩ => ⟨S36x512x1024, .f32⟩
  | .hbm, ⟨46, _⟩ => ⟨S_, .f32⟩
  | .hbm, ⟨47, _⟩ => ⟨S36x512x1024, .f32⟩
  | .hbm, ⟨48, _⟩ => ⟨S36x512x1024, .f32⟩
  | .hbm, ⟨49, _⟩ => ⟨S36x512x1024, .f32⟩
  | .hbm, ⟨50, _⟩ => ⟨S36x512x1024, .f32⟩
  | .hbm, ⟨51, _⟩ => ⟨S_, .f32⟩
  | .hbm, ⟨52, _⟩ => ⟨S36x512x1024, .f32⟩
  | .hbm, ⟨53, _⟩ => ⟨S36x512x1024, .f32⟩
  | .hbm, ⟨54, _⟩ => ⟨S_, .f32⟩
  | .hbm, ⟨55, _⟩ => ⟨S36x512x1024, .f32⟩
  | .hbm, ⟨56, _⟩ => ⟨S36x512x1024, .f32⟩
  | .hbm, ⟨57, _⟩ => ⟨S36x512x1024, .f32⟩
  | .hbm, ⟨58, _⟩ => ⟨S_, .f32⟩
  | .hbm, ⟨59, _⟩ => ⟨S36x512x1024, .f32⟩
  | .hbm, ⟨60, _⟩ => ⟨S36x512x1024, .f32⟩
  | .hbm, ⟨61, _⟩ => ⟨S36x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S36, .i32⟩
  | .hbm, ⟨66, _⟩ => ⟨S36, .i1⟩
  | .hbm, ⟨67, _⟩ => ⟨S_, .i32⟩
  | .hbm, ⟨68, _⟩ => ⟨S36, .i32⟩
  | .hbm, ⟨69, _⟩ => ⟨S36, .i32⟩
  | .hbm, ⟨70, _⟩ => ⟨S36, .i32⟩
  | .hbm, ⟨71, _⟩ => ⟨S36x1, .i32⟩
  | .hbm, ⟨72, _⟩ => ⟨S36x1024x1024, .f32⟩
  | .hbm, ⟨73, _⟩ => ⟨S36x512x1024, .f32⟩
  | .hbm, ⟨74, _⟩ => ⟨S_, .i32⟩
  | .hbm, ⟨75, _⟩ => ⟨S36, .i32⟩
  | .hbm, ⟨76, _⟩ => ⟨S36, .i1⟩
  | .hbm, ⟨77, _⟩ => ⟨S_, .i32⟩
  | .hbm, ⟨78, _⟩ => ⟨S36, .i32⟩
  | .hbm, ⟨79, _⟩ => ⟨S36, .i32⟩
  | .hbm, ⟨80, _⟩ => ⟨S36, .i32⟩
  | .hbm, ⟨81, _⟩ => ⟨S36x1, .i32⟩
  | .hbm, ⟨82, _⟩ => ⟨S36x1024, .f32⟩
  | .hbm, ⟨83, _⟩ => ⟨S36x1x1024, .f32⟩
  | .hbm, ⟨84, _⟩ => ⟨S36x512x1024, .f32⟩
  | .hbm, ⟨85, _⟩ => ⟨S36x512x1024, .f32⟩
  | .hbm, ⟨86, _⟩ => ⟨S18432x1024, .f32⟩
  | .hbm, ⟨87, _⟩ => ⟨S18432x1024, .bf16⟩
  | .hbm, ⟨88, _⟩ => ⟨S13824x1024, .bf16⟩
  | .hbm, ⟨89, _⟩ => ⟨S115200x1024, .bf16⟩
  | .hbm, ⟨90, _⟩ => ⟨S147456x1024, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.Step.lean ====
/-
  What one kernel grid point computes, as plain functions of its blocks: the scores of a key block, the running
  maximum and the running sums of one map's 512 rows, folded over the thirteen key blocks.
-/
module

public import proofs.«01_k».proof.Proof.Gen.KernelIdeal.Skeleton
public import Idealize.ShloMosaic.Lib.VecWindow

@[expose] public section

set_option maxRecDepth 16384

noncomputable section

namespace Cert.Attn

open Cert.KernelIdeal Cert.KernelIdeal.Gen
open Idealize.ShloMosaic
open Idealize.ShloMosaic.VecWindow

variable {F : FTy → Type} [FloatOps F]

/-- Key (or value) block `j` lies inside the sequence. -/
theorem kblk_inb (j : Fin 13) : ∀ a : Fin 3, (![0, 1280 * j.val, 0] : Fin 3 → ℕ) a + S1x1280x128.size a ≤ S1x16640x128.size a := by
  intro a
  have := j.isLt
  fin_cases a
  · show 0 + 1 ≤ 1; omega
  · show 1280 * j.val + 1280 ≤ 16640; omega
  · show 0 + 128 ≤ 128; omega

/-- Block `j` of the keys or of the values: rows `1280 j … 1280 j + 1279`. -/
def kblk (K : Vec F S1x16640x128 .bf16) (j : Fin 13) : Vec F S1x1280x128 .bf16 :=
  window K ![0, 1280 * j.val, 0] S1x1280x128.size (kblk_inb j)

/-- The scores of block `j` against the 1024 stacked queries (map 1 above map 2). -/
def scores (K : Vec F S1x16640x128 .bf16) (Q : Vec F S1024x128 .bf16) (j : Fin 13) : FVec F S1x1024x1280 .f32 :=
  k0_pay2 (kblk K j) Q

/-- The rows of one map: `p = 0` the upper 512, `p = 1` the lower 512. -/
theorem half3_inb (p : Fin 2) : ∀ a : Fin 3, (![0, 512 * p.val, 0] : Fin 3 → ℕ) a + S1x512x1280.size a ≤ S1x1024x1280.size a := by
  fin_cases p <;> decide
theorem half2m_inb (p : Fin 2) : ∀ a : Fin 2, (![512 * p.val, 0] : Fin 2 → ℕ) a + S512x128.size a ≤ S1024x128.size a := by
  fin_cases p <;> decide
theorem half2a_inb (p : Fin 2) : ∀ a : Fin 2, (![512 * p.val, 0] : Fin 2 → ℕ) a + S512x256.size a ≤ S1024x256.size a := by
  fin_cases p <;> decide

def halfS (p : Fin 2) (s : FVec F S1x1024x1280 .f32) : FVec F S1x512x1280 .f32 := window s ![0, 512 * p.val, 0] S1x512x1280.size (half3_inb p)
def halfM (p : Fin 2) (s : FVec F S1024x128 .f32) : FVec F S512x128 .f32 := window s ![512 * p.val, 0] S512x128.size (half2m_inb p)
def halfA (p : Fin 2) (s : FVec F S1024x256 .f32) : FVec F S512x256 .f32 := window s ![512 * p.val, 0] S512x256.size (half2a_inb p)

/-- The running maximum and the running sums of one map's rows. -/
structure Acc (F : FTy → Type) where
  mx : FVec F S512x128 .f32
  ac : FVec F S512x256 .f32

/-- One block consumed: the maximum raised, the sums rescaled and added to. -/
def consume (ones : FVec F S1280x128 .bf16) (vb : Vec F S1x1280x128 .bf16) (s : FVec F S1x512x1280 .f32) (h : Acc F) : Acc F :=
  ⟨k0_pay9 (k0_pay5 s h.mx), k0_pay8 (k0_pay6 s h.mx) (k0_pay7 ones vb s h.mx) h.ac⟩

/-- The state of map `p` after the first `j` blocks. -/
def accAfter (ones : FVec F S1280x128 .bf16) (K V : Vec F S1x16640x128 .bf16) (Q : Vec F S1024x128 .bf16) (p : Fin 2) : ℕ → Acc F
  | 0 => ⟨halfM p k0_pay23, halfA p k0_pay24⟩
  | j + 1 => if h : j < 13 then consume ones (kblk V ⟨j, h⟩) (halfS p (scores K Q ⟨j, h⟩)) (accAfter ones K V Q p j) else accAfter ones K V Q p j

theorem accAfter_succ (ones : FVec F S1280x128 .bf16) (K V : Vec F S1x16640x128 .bf16) (Q : Vec F S1024x128 .bf16) (p : Fin 2) (j : ℕ) (h : j < 13) :
    accAfter ones K V Q p (j + 1) = consume ones (kblk V ⟨j, h⟩) (halfS p (scores K Q ⟨j, h⟩)) (accAfter ones K V Q p j) := by
  rw [accAfter, dif_pos h]

section variants
variable (ones : FVec F S1280x128 .bf16) (vb : Vec F S1x1280x128 .bf16) (s : FVec F S1x512x1280 .f32) (mm : FVec F S512x128 .f32) (a : FVec F S512x256 .f32)
variable (kb : Vec F S1x1280x128 .bf16) (Q : Vec F S1024x128 .bf16)

theorem pay14_eq : k0_pay14 kb Q = k0_pay2 kb Q := rfl
theorem pay27_eq : k0_pay27 (k0_pay26 kb) Q (constant S1024x1280 .f32 0x00000000#32) = k0_pay2 kb Q := rfl
theorem pay12_eq : k0_pay12 (k0_pay3 ones vb) s mm a = k0_pay8 (k0_pay6 s mm) (k0_pay7 ones vb s mm) a := rfl
theorem pay28_eq : k0_pay28 (k0_pay18 ones vb s mm a) = k0_pay8 (k0_pay6 s mm) (k0_pay7 ones vb s mm) a := rfl
theorem pay32_eq : k0_pay32 (k0_pay15 ones vb) s mm a = k0_pay8 (k0_pay6 s mm) (k0_pay7 ones vb s mm) a := rfl
theorem pay37_eq : k0_pay37 ones vb s mm a = k0_pay8 (k0_pay6 s mm) (k0_pay7 ones vb s mm) a := rfl
theorem pay41_eq : k0_pay41 (k0_pay34 ones vb) s mm a = k0_pay8 (k0_pay6 s mm) (k0_pay7 ones vb s mm) a := rfl
theorem pay13_eq : k0_pay13 s mm = k0_pay9 (k0_pay5 s mm) := rfl
theorem pay29_eq : k0_pay29 (k0_pay17 s mm) = k0_pay9 (k0_pay5 s mm) := rfl
theorem pay33_eq : k0_pay33 s mm = k0_pay9 (k0_pay5 s mm) := rfl
theorem pay38_eq : k0_pay38 s mm = k0_pay9 (k0_pay5 s mm) := rfl
theorem pay42_eq : k0_pay42 s mm = k0_pay9 (k0_pay5 s mm) := rfl
end variants

section reads

variable {sig : RefSig} {κ : Kind} {sp : Space} [∀ e, Nonempty (Elt F e)]

/-- The 512 rows of one map in one of the two score slots. -/
theorem slot_inb (b p : Fin 2) : ∀ a : Fin 3, (![b.val, 512 * p.val, 0] : Fin 3 → ℕ) a + S1x512x1280.size a ≤ S2x1024x1280.size a := by
  fin_cases b <;> fin_cases p <;> decide

/-- A window at equal offsets. -/
theorem window_off {s : Shape} {α : Type} (x : s.Idx → α) {off off' size : Fin s.rank → ℕ} (h : off = off') (inb : ∀ a, off a + size a ≤ s.size a) (inb' : ∀ a, off' a + size a ≤ s.size a) :
    window x off size inb = window x off' size inb' := by subst h; rfl

def slotS (b p : Fin 2) (x : FVec F S2x1024x1280 .f32) : FVec F S1x512x1280 .f32 := window x ![b.val, 512 * p.val, 0] S1x512x1280.size (slot_inb b p)

/-- A load over the pieces alone is a load of what the pieces leave over unknown contents. -/
theorem readCov_read {s : Shape} {e : EltTy} (v : View sig κ sp s e) (L : List (View.Piece (Elt F) s e)) {off size : Fin s.rank → ℕ} (inb : ∀ a, off a + size a ≤ s.size a) :
    v.readCov L (Rect.unit off size inb).toLoadRect = v.readAt (Elt F) (Rect.unit off size inb).toLoadRect (v.writes (Elt F) v.junk L) := rfl

theorem ldS00 (v : View sig κ sp S2x1024x1280 .f32) (f : v.ty.Contents (Elt F)) (inb) :
    v.readAt (Elt F) (Rect.unit (s := S2x1024x1280) ![0, 0, 0] S1x512x1280.size inb).toLoadRect f = slotS 0 0 (v.read (Elt F) f) :=
  View.readAt_unit v f inb rfl (slot_inb 0 0)
theorem stS000 (v : View sig κ sp S2x1024x1280 .f32) (f : v.ty.Contents (Elt F)) (L : List (View.Piece (Elt F) S2x1024x1280 .f32)) (inb) (w : FVec F S1x1024x1280 .f32) :
    slotS 0 0 (v.read (Elt F) (v.writes (Elt F) f (⟨Rect.unit (s := S2x1024x1280) ![0, 0, 0] S1x1024x1280.size inb, w⟩ :: L))) = halfS 0 w := by
  rw [View.read_writes_cons_put v f inb w L rfl]
  exact (window_put_of_inside (s := S2x1024x1280) _ ![0, 0, 0] S1x1024x1280.size ![0, 0, 0] S1x512x1280.size (slot_inb 0 0) w (by decide)).trans (window_off w (by funext a; fin_cases a <;> rfl) _ (half3_inb 0))
theorem stS001 (v : View sig κ sp S2x1024x1280 .f32) (f : v.ty.Contents (Elt F)) (L : List (View.Piece (Elt F) S2x1024x1280 .f32)) (inb) (w : FVec F S1x1024x1280 .f32) :
    slotS 0 0 (v.read (Elt F) (v.writes (Elt F) f (⟨Rect.unit (s := S2x1024x1280) ![1, 0, 0] S1x1024x1280.size inb, w⟩ :: L))) = slotS 0 0 (v.read (Elt F) (v.writes (Elt F) f L)) := by
  rw [View.read_writes_cons_put v f inb w L rfl]
  exact window_put_of_disjoint (s := S2x1024x1280) _ ![1, 0, 0] S1x1024x1280.size ![0, 0, 0] S1x512x1280.size (slot_inb 0 0) w 0 (by decide)
theorem ldS01 (v : View sig κ sp S2x1024x1280 .f32) (f : v.ty.Contents (Elt F)) (inb) :
    v.readAt (Elt F) (Rect.unit (s := S2x1024x1280) ![0, 512, 0] S1x512x1280.size inb).toLoadRect f = slotS 0 1 (v.read (Elt F) f) :=
  View.readAt_unit v f inb rfl (slot_inb 0 1)
theorem stS010 (v : View sig κ sp S2x1024x1280 .f32) (f : v.ty.Contents (Elt F)) (L : List (View.Piece (Elt F) S2x1024x1280 .f32)) (inb) (w : FVec F S1x1024x1280 .f32) :
    slotS 0 1 (v.read (Elt F) (v.writes (Elt F) f (⟨Rect.unit (s := S2x1024x1280) ![0, 0, 0] S1x1024x1280.size inb, w⟩ :: L))) = halfS 1 w := by
  rw [View.read_writes_cons_put v f inb w L rfl]
  exact (window_put_of_inside (s := S2x1024x1280) _ ![0, 0, 0] S1x1024x1280.size ![0, 512, 0] S1x512x1280.size (slot_inb 0 1) w (by decide)).trans (window_off w (by funext a; fin_cases a <;> rfl) _ (half3_inb 1))
theorem stS011 (v : View sig κ sp S2x1024x1280 .f32) (f : v.ty.Contents (Elt F)) (L : List (View.Piece (Elt F) S2x1024x1280 .f32)) (inb) (w : FVec F S1x1024x1280 .f32) :
    slotS 0 1 (v.read (Elt F) (v.writes (Elt F) f (⟨Rect.unit (s := S2x1024x1280) ![1, 0, 0] S1x1024x1280.size inb, w⟩ :: L))) = slotS 0 1 (v.read (Elt F) (v.writes (Elt F) f L)) := by
  rw [View.read_writes_cons_put v f inb w L rfl]
  exact window_put_of_disjoint (s := S2x1024x1280) _ ![1, 0, 0] S1x1024x1280.size ![0, 512, 0] S1x512x1280.size (slot_inb 0 1) w 0 (by decide)
theorem ldS10 (v : View sig κ sp S2x1024x1280 .f32) (f : v.ty.Contents (Elt F)) (inb) :
    v.readAt (Elt F) (Rect.unit (s := S2x1024x1280) ![1, 0, 0] S1x512x1280.size inb).toLoadRect f = slotS 1 0 (v.read (Elt F) f) :=
  View.readAt_unit v f inb rfl (slot_inb 1 0)
theorem stS100 (v : View sig κ sp S2x1024x1280 .f32) (f : v.ty.Contents (Elt F)) (L : List (View.Piece (Elt F) S2x1024x1280 .f32)) (inb) (w : FVec F S1x1024x1280 .f32) :
    slotS 1 0 (v.read (Elt F) (v.writes (Elt F) f (⟨Rect.unit (s := S2x1024x1280) ![0, 0, 0] S1x1024x1280.size inb, w⟩ :: L))) = slotS 1 0 (v.read (Elt F) (v.writes (Elt F) f L)) := by
  rw [View.read_writes_cons_put v f inb w L rfl]
  exact window_put_of_disjoint (s := S2x1024x1280) _ ![0, 0, 0] S1x1024x1280.size ![1, 0, 0] S1x512x1280.size (slot_inb 1 0) w 0 (by decide)
theorem stS101 (v : View sig κ sp S2x1024x1280 .f32) (f : v.ty.Contents (Elt F)) (L : List (View.Piece (Elt F) S2x1024x1280 .f32)) (inb) (w : FVec F S1x1024x1280 .f32) :
    slotS 1 0 (v.read (Elt F) (v.writes (Elt F) f (⟨Rect.unit (s := S2x1024x1280) ![1, 0, 0] S1x1024x1280.size inb, w⟩ :: L))) = halfS 0 w := by
  rw [View.read_writes_cons_put v f inb w L rfl]
  exact (window_put_of_inside (s := S2x1024x1280) _ ![1, 0, 0] S1x1024x1280.size ![1, 0, 0] S1x512x1280.size (slot_inb 1 0) w (by decide)).trans (window_off w (by funext a; fin_cases a <;> rfl) _ (half3_inb 0))
theorem ldS11 (v : View sig κ sp S2x1024x1280 .f32) (f : v.ty.Contents (Elt F)) (inb) :
    v.readAt (Elt F) (Rect.unit (s := S2x1024x1280) ![1, 512, 0] S1x512x1280.size inb).toLoadRect f = slotS 1 1 (v.read (Elt F) f) :=
  View.readAt_unit v f inb rfl (slot_inb 1 1)
theorem stS110 (v : View sig κ sp S2x1024x1280 .f32) (f : v.ty.Contents (Elt F)) (L : List (View.Piece (Elt F) S2x1024x1280 .f32)) (inb) (w : FVec F S1x1024x1280 .f32) :
    slotS 1 1 (v.read (Elt F) (v.writes (Elt F) f (⟨Rect.unit (s := S2x1024x1280) ![0, 0, 0] S1x1024x1280.size inb, w⟩ :: L))) = slotS 1 1 (v.read (Elt F) (v.writes (Elt F) f L)) := by
  rw [View.read_writes_cons_put v f inb w L rfl]
  exact window_put_of_disjoint (s := S2x1024x1280) _ ![0, 0, 0] S1x1024x1280.size ![1, 512, 0] S1x512x1280.size (slot_inb 1 1) w 0 (by decide)
theorem stS111 (v : View sig κ sp S2x1024x1280 .f32) (f : v.ty.Contents (Elt F)) (L : List (View.Piece (Elt F) S2x1024x1280 .f32)) (inb) (w : FVec F S1x1024x1280 .f32) :
    slotS 1 1 (v.read (Elt F) (v.writes (Elt F) f (⟨Rect.unit (s := S2x1024x1280) ![1, 0, 0] S1x1024x1280.size inb, w⟩ :: L))) = halfS 1 w := by
  rw [View.read_writes_cons_put v f inb w L rfl]
  exact (window_put_of_inside (s := S2x1024x1280) _ ![1, 0, 0] S1x1024x1280.size ![1, 512, 0] S1x512x1280.size (slot_inb 1 1) w (by decide)).trans (window_off w (by funext a; fin_cases a <;> rfl) _ (half3_inb 1))
theorem ldM0 (v : View sig κ sp S1024x128 .f32) (f : v.ty.Contents (Elt F)) (inb) :
    v.readAt (Elt F) (Rect.unit (s := S1024x128) ![0, 0] S512x128.size inb).toLoadRect f = halfM 0 (v.read (Elt F) f) :=
  View.readAt_unit v f inb rfl (half2m_inb 0)
theorem stwM0 (v : View sig κ sp S1024x128 .f32) (f : v.ty.Contents (Elt F)) (L : List (View.Piece (Elt F) S1024x128 .f32)) (inb) (w : FVec F S1024x128 .f32) :
    halfM 0 (v.read (Elt F) (v.writes (Elt F) f (⟨Rect.unit (s := S1024x128) ![0, 0] S1024x128.size inb, w⟩ :: L))) = halfM 0 w := by
  rw [View.read_writes_full v f inb w L]
theorem stM00 (v : View sig κ sp S1024x128 .f32) (f : v.ty.Contents (Elt F)) (L : List (View.Piece (Elt F) S1024x128 .f32)) (inb) (w : FVec F S512x128 .f32) :
    halfM 0 (v.read (Elt F) (v.writes (Elt F) f (⟨Rect.unit (s := S1024x128) ![0, 0] S512x128.size inb, w⟩ :: L))) = w := by
  rw [View.read_writes_cons_put v f inb w L rfl]
  exact window_put_same (s := S1024x128) _ ![0, 0] S512x128.size (half2m_inb 0) w
theorem stM01 (v : View sig κ sp S1024x128 .f32) (f : v.ty.Contents (Elt F)) (L : List (View.Piece (Elt F) S1024x128 .f32)) (inb) (w : FVec F S512x128 .f32) :
    halfM 0 (v.read (Elt F) (v.writes (Elt F) f (⟨Rect.unit (s := S1024x128) ![512, 0] S512x128.size inb, w⟩ :: L))) = halfM 0 (v.read (Elt F) (v.writes (Elt F) f L)) := by
  rw [View.read_writes_cons_put v f inb w L rfl]
  exact window_put_of_disjoint (s := S1024x128) _ ![512, 0] S512x128.size ![0, 0] S512x128.size (half2m_inb 0) w 0 (by decide)
theorem ldM1 (v : View sig κ sp S1024x128 .f32) (f : v.ty.Contents (Elt F)) (inb) :
    v.readAt (Elt F) (Rect.unit (s := S1024x128) ![512, 0] S512x128.size inb).toLoadRect f = halfM 1 (v.read (Elt F) f) :=
  View.readAt_unit v f inb rfl (half2m_inb 1)
theorem stwM1 (v : View sig κ sp S1024x128 .f32) (f : v.ty.Contents (Elt F)) (L : List (View.Piece (Elt F) S1024x128 .f32)) (inb) (w : FVec F S1024x128 .f32) :
    halfM 1 (v.read (Elt F) (v.writes (Elt F) f (⟨Rect.unit (s := S1024x128) ![0, 0] S1024x128.size inb, w⟩ :: L))) = halfM 1 w := by
  rw [View.read_writes_full v f inb w L]
theorem stM10 (v : View sig κ sp S1024x128 .f32) (f : v.ty.Contents (Elt F)) (L : List (View.Piece (Elt F) S1024x128 .f32)) (inb) (w : FVec F S512x128 .f32) :
    halfM 1 (v.read (Elt F) (v.writes (Elt F) f (⟨Rect.unit (s := S1024x128) ![0, 0] S512x128.size inb, w⟩ :: L))) = halfM 1 (v.read (Elt F) (v.writes (Elt F) f L)) := by
  rw [View.read_writes_cons_put v f inb w L rfl]
  exact window_put_of_disjoint (s := S1024x128) _ ![0, 0] S512x128.size ![512, 0] S512x128.size (half2m_inb 1) w 0 (by decide)
theorem stM11 (v : View sig κ sp S1024x128 .f32) (f : v.ty.Contents (Elt F)) (L : List (View.Piece (Elt F) S1024x128 .f32)) (inb) (w : FVec F S512x128 .f32) :
    halfM 1 (v.read (Elt F) (v.writes (Elt F) f (⟨Rect.unit (s := S1024x128) ![512, 0] S512x128.size inb, w⟩ :: L))) = w := by
  rw [View.read_writes_cons_put v f inb w L rfl]
  exact window_put_same (s := S1024x128) _ ![512, 0] S512x128.size (half2m_inb 1) w
theorem ldA0 (v : View sig κ sp S1024x256 .f32) (f : v.ty.Contents (Elt F)) (inb) :
    v.readAt (Elt F) (Rect.unit (s := S1024x256) ![0, 0] S512x256.size inb).toLoadRect f = halfA 0 (v.read (Elt F) f) :=
  View.readAt_unit v f inb rfl (half2a_inb 0)
theorem stwA0 (v : View sig κ sp S1024x256 .f32) (f : v.ty.Contents (Elt F)) (L : List (View.Piece (Elt F) S1024x256 .f32)) (inb) (w : FVec F S1024x256 .f32) :
    halfA 0 (v.read (Elt F) (v.writes (Elt F) f (⟨Rect.unit (s := S1024x256) ![0, 0] S1024x256.size inb, w⟩ :: L))) = halfA 0 w := by
  rw [View.read_writes_full v f inb w L]
theorem stA00 (v : View sig κ sp S1024x256 .f32) (f : v.ty.Contents (Elt F)) (L : List (View.Piece (Elt F) S1024x256 .f32)) (inb) (w : FVec F S512x256 .f32) :
    halfA 0 (v.read (Elt F) (v.writes (Elt F) f (⟨Rect.unit (s := S1024x256) ![0, 0] S512x256.size inb, w⟩ :: L))) = w := by
  rw [View.read_writes_cons_put v f inb w L rfl]
  exact window_put_same (s := S1024x256) _ ![0, 0] S512x256.size (half2a_inb 0) w
theorem stA01 (v : View sig κ sp S1024x256 .f32) (f : v.ty.Contents (Elt F)) (L : List (View.Piece (Elt F) S1024x256 .f32)) (inb) (w : FVec F S512x256 .f32) :
    halfA 0 (v.read (Elt F) (v.writes (Elt F) f (⟨Rect.unit (s := S1024x256) ![512, 0] S512x256.size inb, w⟩ :: L))) = halfA 0 (v.read (Elt F) (v.writes (Elt F) f L)) := by
  rw [View.read_writes_cons_put v f inb w L rfl]
  exact window_put_of_disjoint (s := S1024x256) _ ![512, 0] S512x256.size ![0, 0] S512x256.size (half2a_inb 0) w 0 (by decide)
theorem ldA1 (v : View sig κ sp S1024x256 .f32) (f : v.ty.Contents (Elt F)) (inb) :
    v.readAt (Elt F) (Rect.unit (s := S1024x256) ![512, 0] S512x256.size inb).toLoadRect f = halfA 1 (v.read (Elt F) f) :=
  View.readAt_unit v f inb rfl (half2a_inb 1)
theorem stwA1 (v : View sig κ sp S1024x256 .f32) (f : v.ty.Contents (Elt F)) (L : List (View.Piece (Elt F) S1024x256 .f32)) (inb) (w : FVec F S1024x256 .f32) :
    halfA 1 (v.read (Elt F) (v.writes (Elt F) f (⟨Rect.unit (s := S1024x256) ![0, 0] S1024x256.size inb, w⟩ :: L))) = halfA 1 w := by
  rw [View.read_writes_full v f inb w L]
theorem stA10 (v : View sig κ sp S1024x256 .f32) (f : v.ty.Contents (Elt F)) (L : List (View.Piece (Elt F) S1024x256 .f32)) (inb) (w : FVec F S512x256 .f32) :
    halfA 1 (v.read (Elt F) (v.writes (Elt F) f (⟨Rect.unit (s := S1024x256) ![0, 0] S512x256.size inb, w⟩ :: L))) = halfA 1 (v.read (Elt F) (v.writes (Elt F) f L)) := by
  rw [View.read_writes_cons_put v f inb w L rfl]
  exact window_put_of_disjoint (s := S1024x256) _ ![0, 0] S512x256.size ![512, 0] S512x256.size (half2a_inb 1) w 0 (by decide)
theorem stA11 (v : View sig κ sp S1024x256 .f32) (f : v.ty.Contents (Elt F)) (L : List (View.Piece (Elt F) S1024x256 .f32)) (inb) (w : FVec F S512x256 .f32) :
    halfA 1 (v.read (Elt F) (v.writes (Elt F) f (⟨Rect.unit (s := S1024x256) ![512, 0] S512x256.size inb, w⟩ :: L))) = w := by
  rw [View.read_writes_cons_put v f inb w L rfl]
  exact window_put_same (s := S1024x256) _ ![512, 0] S512x256.size (half2a_inb 1) w

/-- A load of a key or value block reads that block. -/
theorem ldK (v : View sig κ sp S1x16640x128 .bf16) (f : v.ty.Contents (Elt F)) {off : Fin 3 → ℕ} (inb) (j : Fin 13) (h : off = ![0, 1280 * j.val, 0]) :
    v.readAt (Elt F) (Rect.unit (s := S1x16640x128) off S1x1280x128.size inb).toLoadRect f = kblk (v.read (Elt F) f) j :=
  View.readAt_unit v f inb h (kblk_inb j)

end reads

/-! ## The two maps' rows stacked -/

/-- Two puts that cover the whole vector leave nothing of what was there before. -/
theorem put_put_cover {α : Type} {s : Shape} (x x' : s.Idx → α) (off size off' size' : Fin s.rank → ℕ) (w : ((a : Fin s.rank) → Fin (size a)) → α)
    (w' : ((a : Fin s.rank) → Fin (size' a)) → α)
    (h : ∀ y : s.Idx, (∀ a, off a ≤ (y a).val ∧ (y a).val < off a + size a) ∨ (∀ a, off' a ≤ (y a).val ∧ (y a).val < off' a + size' a)) :
    put (put x off size w) off' size' w' = put (put x' off size w) off' size' w' := by
  funext y
  unfold put
  by_cases h' : ∀ a, off' a ≤ (y a).val ∧ (y a).val < off' a + size' a
  · rw [dif_pos h', dif_pos h']
  · rw [dif_neg h', dif_neg h']
    have h0 := (h y).resolve_right h'
    rw [dif_pos h0, dif_pos h0]

/-- The stacked queries: map 1's (the first 64 features kept) above map 2's (the last 64 kept). -/
def stackQ (q : Vec F S1x512x128 .bf16) : FVec F S1024x128 .bf16 :=
  put (put (constant S1024x128 .bf16 0#16) ![0, 0] S512x128.size (k0_pay21 q)) ![512, 0] S512x128.size (k0_pay22 q)

/-- Both maps' sums stacked. -/
def stackA (lo hi : FVec F S512x256 .f32) : FVec F S1024x256 .f32 :=
  put (put (k0_pay24 (F := F)) ![0, 0] S512x256.size lo) ![512, 0] S512x256.size hi

theorem cover128 (y : S1024x128.Idx) :
    (∀ a : Fin 2, (![0, 0] : Fin 2 → ℕ) a ≤ (y a).val ∧ (y a).val < (![0, 0] : Fin 2 → ℕ) a + S512x128.size a)
      ∨ (∀ a : Fin 2, (![512, 0] : Fin 2 → ℕ) a ≤ (y a).val ∧ (y a).val < (![512, 0] : Fin 2 → ℕ) a + S512x128.size a) := by
  have h0 : (y 0).val < 1024 := (y 0).isLt
  have h1 : (y 1).val < 128 := (y 1).isLt
  rcases Nat.lt_or_ge (y 0).val 512 with h | h
  · exact .inl (Fin.forall_fin_two.2 ⟨⟨Nat.zero_le _, by show _ < 0 + 512; omega⟩, ⟨Nat.zero_le _, by show _ < 0 + 128; omega⟩⟩)
  · exact .inr (Fin.forall_fin_two.2 ⟨⟨h, by show _ < 512 + 512; omega⟩, ⟨Nat.zero_le _, by show _ < 0 + 128; omega⟩⟩)

theorem cover256 (y : S1024x256.Idx) :
    (∀ a : Fin 2, (![0, 0] : Fin 2 → ℕ) a ≤ (y a).val ∧ (y a).val < (![0, 0] : Fin 2 → ℕ) a + S512x256.size a)
      ∨ (∀ a : Fin 2, (![512, 0] : Fin 2 → ℕ) a ≤ (y a).val ∧ (y a).val < (![512, 0] : Fin 2 → ℕ) a + S512x256.size a) := by
  have h0 : (y 0).val < 1024 := (y 0).isLt
  have h1 : (y 1).val < 256 := (y 1).isLt
  rcases Nat.lt_or_ge (y 0).val 512 with h | h
  · exact .inl (Fin.forall_fin_two.2 ⟨⟨Nat.zero_le _, by show _ < 0 + 512; omega⟩, ⟨Nat.zero_le _, by show _ < 0 + 256; omega⟩⟩)
  · exact .inr (Fin.forall_fin_two.2 ⟨⟨h, by show _ < 512 + 512; omega⟩, ⟨Nat.zero_le _, by show _ < 0 + 256; omega⟩⟩)

/-- What the body reads of the two stores of the queries. -/
theorem read_stackQ {sig : RefSig} {κ : Kind} {sp : Space} (v : View sig κ sp S1024x128 .bf16) (f : v.ty.Contents (Elt F)) (L : List (View.Piece (Elt F) S1024x128 .bf16)) (i1 i2) (q : Vec F S1x512x128 .bf16) :
    v.read (Elt F) (v.writes (Elt F) f (⟨Rect.unit (s := S1024x128) ![512, 0] S512x128.size i1, k0_pay22 q⟩ :: ⟨Rect.unit (s := S1024x128) ![0, 0] S512x128.size i2, k0_pay21 q⟩ :: L))
      = stackQ q := by
  rw [View.read_writes_cons_put v f i1 _ _ rfl, View.read_writes_cons_put v f i2 _ _ rfl]
  exact put_put_cover (s := S1024x128) _ _ ![0, 0] S512x128.size ![512, 0] S512x128.size _ _ cover128

/-- What the body reads of the last two stores of the sums. -/
theorem read_stackA {sig : RefSig} {κ : Kind} {sp : Space} (v : View sig κ sp S1024x256 .f32) (f : v.ty.Contents (Elt F)) (L : List (View.Piece (Elt F) S1024x256 .f32)) (i1 i2) (lo hi : FVec F S512x256 .f32) :
    v.read (Elt F) (v.writes (Elt F) f (⟨Rect.unit (s := S1024x256) ![512, 0] S512x256.size i1, hi⟩ :: ⟨Rect.unit (s := S1024x256) ![0, 0] S512x256.size i2, lo⟩ :: L))
      = stackA lo hi := by
  rw [View.read_writes_cons_put v f i1 _ _ rfl, View.read_writes_cons_put v f i2 _ _ rfl]
  exact put_put_cover (s := S1024x256) _ _ ![0, 0] S512x256.size ![512, 0] S512x256.size _ _ cover256

/-- Both maps' sums after all thirteen blocks. -/
def sums (q : Vec F S1x512x128 .bf16) (K V : Vec F S1x16640x128 .bf16) : FVec F S1024x256 .f32 :=
  stackA (accAfter k0_pay25 K V (stackQ q) 0 13).ac (accAfter k0_pay25 K V (stackQ q) 1 13).ac

/-- The one index of a one-element vector. -/
def o1 : S1.Idx := fun a => ⟨0, by fin_cases a; decide⟩

/-- What one grid point leaves in its output block. -/
def outBlk (lam : Vec F S1 .f32) (q : Vec F S1x512x128 .bf16) (K V : Vec F S1x16640x128 .bf16) (g : Vec F S1x128 .f32) : FVec F S1x512x128 .bf16 :=
  k0_pay1 (k0_pay43 (sums q K V) (lam o1)) (k0_pay44 (sums q K V) (lam o1)) k0_pay45 g

end Cert.Attn

end
-- ==== Proof.Trip.lean ====
module

public import proofs.«01_k».proof.Proof.Step
public import proofs.«01_k».proof.Proof.Gen.KernelIdeal.Frame
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

/-- What the loop holds before trip `k`: the keys, the values and the stacked queries as they are; block `2k`'s scores in
    slot 0; both maps' running maxima and sums after the first `2k` blocks. -/
def inv (c : Dev nD) (arg3 : Memref sig .tc .smem S1 .f32) (harg3 : arg3.IsWhole) (arg4 : Memref sig .tc .vmem S1x512x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S2x1024x1280 .f32) (harg10 : arg10.IsWhole) (arg11 : Memref sig .tc .vmem S1024x128 .f32) (harg11 : arg11.IsWhole) (arg12 : Memref sig .tc .vmem S1024x256 .f32) (harg12 : arg12.IsWhole) (ones : FVec F S1280x128 .bf16)
    (X5 : arg5.view.ty.Contents (Elt F)) (X6 : arg6.view.ty.Contents (Elt F)) (X9 : arg9.view.ty.Contents (Elt F)) (k : ℕ) (_ : Unit) : sProp 𝕄 :=
  iprop((arg5.view.loc (c : Thread nD τ) ↦[arg5.view.set]{fullShare} X5) ∗ (arg6.view.loc (c : Thread nD τ) ↦[arg6.view.set]{fullShare} X6)
    ∗ (arg9.view.loc (c : Thread nD τ) ↦[arg9.view.set]{fullShare} X9)
    ∗ (∃ f10, (arg10.view.loc (c : Thread nD τ) ↦[arg10.view.set]{fullShare} f10)
        ∗ ⌜∀ h : 2 * k < 13, ∀ p : Fin 2, slotS 0 p (arg10.view.read (Elt F) f10) = halfS p (scores (arg5.view.read (Elt F) X5) (arg9.view.read (Elt F) X9) ⟨2 * k, h⟩)⌝)
    ∗ (∃ f11, (arg11.view.loc (c : Thread nD τ) ↦[arg11.view.set]{fullShare} f11)
        ∗ ⌜∀ p : Fin 2, halfM p (arg11.view.read (Elt F) f11) = (accAfter ones (arg5.view.read (Elt F) X5) (arg6.view.read (Elt F) X6) (arg9.view.read (Elt F) X9) p (2 * k)).mx⌝)
    ∗ (∃ f12, (arg12.view.loc (c : Thread nD τ) ↦[arg12.view.set]{fullShare} f12)
        ∗ ⌜∀ p : Fin 2, halfA p (arg12.view.read (Elt F) f12) = (accAfter ones (arg5.view.read (Elt F) X5) (arg6.view.read (Elt F) X6) (arg9.view.read (Elt F) X9) p (2 * k)).ac⌝))

set_option maxHeartbeats 2000000 in
/-- One trip: two blocks consumed. -/
theorem trip (𝒱 : Variants) (c : Dev nD) (bd : Option 𝒱.V) (E : Set ℕ) (i : grid0.Coords) (arg3 : Memref sig .tc .smem S1 .f32) (harg3 : arg3.IsWhole) (arg4 : Memref sig .tc .vmem S1x512x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S2x1024x1280 .f32) (harg10 : arg10.IsWhole) (arg11 : Memref sig .tc .vmem S1024x128 .f32) (harg11 : arg11.IsWhole) (arg12 : Memref sig .tc .vmem S1024x256 .f32) (harg12 : arg12.IsWhole) (v24 : FVec F S1280x128 .bf16) (v28 : FVec F S1280x128 .bf16) (v29 : Vec F S1024x128 .bf16) (cst_17 : FVec F S1024x1280 .f32)
    (X5 : arg5.view.ty.Contents (Elt F)) (X6 : arg6.view.ty.Contents (Elt F)) (X9 : arg9.view.ty.Contents (Elt F)) (k : Fin k0_t1_loop.trips) (acc : Unit) :
    inv c arg3 harg3 arg4 harg4 arg5 harg5 arg6 harg6 arg7 harg7 arg8 harg8 arg9 harg9 arg10 harg10 arg11 harg11 arg12 harg12 v24 X5 X6 X9 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 v24 v28 v29 cst_17 k acc)
          (fun a => inv c arg3 harg3 arg4 harg4 arg5 harg5 arg6 harg6 arg7 harg7 arg8 harg8 arg9 harg9 arg10 harg10 arg11 harg11 arg12 harg12 v24 X5 X6 X9 (k.val + 1) a) := by
  have hk : k.val < 6 := Nat.lt_of_lt_of_le k.isLt k0_t1_abs.2.1
  unfold inv k0_t1_body
  iintro ⟨H5, H6, H9, ⟨%f10, H10, %h10⟩, ⟨%f11, H11, %h11⟩, ⟨%f12, H12, %h12⟩⟩
  sl_exec
  sl_step
  isplitl [H5]; · iexact H5
  isplitl [H6]; · iexact H6
  isplitl [H9]; · iexact H9
  have e0 : 2 * k.val < 13 := by omega
  have e1 : 2 * k.val + 1 < 13 := by omega
  have e2 : 2 * k.val + 2 < 13 := by omega
  have o1 : k0_off1 k 1#32 = ![0, 1280 * (⟨2 * k.val + 1, e1⟩ : Fin 13).val, 0] := (k0_off1_eq k 0).trans (by
    show (![0, 2560 * k.val + 1280 * 0 + 1280, 0] : Fin 3 → ℕ) = ![0, 1280 * (2 * k.val + 1), 0]; congr 2; omega)
  have o2 : k0_off1 k 2#32 = ![0, 1280 * (⟨2 * k.val + 2, e2⟩ : Fin 13).val, 0] := (k0_off1_eq k 1).trans (by
    show (![0, 2560 * k.val + 1280 * 1 + 1280, 0] : Fin 3 → ℕ) = ![0, 1280 * (2 * k.val + 2), 0]; congr 2; omega)
  have o0 : k0_off2 k = ![0, 1280 * (⟨2 * k.val, e0⟩ : Fin 13).val, 0] := (k0_off2_eq k).trans (by
    show (![0, 2560 * k.val, 0] : Fin 3 → ℕ) = ![0, 1280 * (2 * k.val), 0]; congr 2; omega)
  have hs := Fin.forall_fin_two.1 (h10 e0)
  have hm := Fin.forall_fin_two.1 h11
  have ha := Fin.forall_fin_two.1 h12
  have es : 2 * (k.val + 1) = 2 * k.val + 1 + 1 := by omega
  isplitl [H10]
  · iexists _; isplitl [H10]; · iexact H10
    ipureintro
    intro h
    refine Fin.forall_fin_two.2 ⟨?_, ?_⟩ <;>
    (repeat delta trip.sl.H12_2 trip.sl.v164 trip.sl.v230 trip.sl.r_6 trip.sl.H11_3 trip.sl.H10_2 trip.sl.v220 trip.sl.v206 trip.sl.v138 trip.sl.r_2 trip.sl.r_7 trip.sl.v244 trip.sl.v176 trip.sl.v232 trip.sl.H11_2 trip.sl.v208 trip.sl.r trip.sl.r_1 trip.sl.r_3 trip.sl.r_4 trip.sl.r_5 trip.sl.v162 trip.sl.H12_3) <;> simp -proj only [stS000, stS010, stS011, stS001, View.readAt_full, ldK _ _ _ _ o2, pay14_eq]
    · rfl
    · rfl
  isplitl [H11]
  · iexists _; isplitl [H11]; · iexact H11
    ipureintro
    rw [es]
    simp only [accAfter_succ _ _ _ _ _ _ e1, accAfter_succ _ _ _ _ _ _ e0]
    refine Fin.forall_fin_two.2 ⟨?_, ?_⟩ <;>
    (repeat delta trip.sl.H12_2 trip.sl.v164 trip.sl.v230 trip.sl.r_6 trip.sl.H11_3 trip.sl.H10_2 trip.sl.v220 trip.sl.v206 trip.sl.v138 trip.sl.r_2 trip.sl.r_7 trip.sl.v244 trip.sl.v176 trip.sl.v232 trip.sl.H11_2 trip.sl.v208 trip.sl.r trip.sl.r_1 trip.sl.r_3 trip.sl.r_4 trip.sl.r_5 trip.sl.v162 trip.sl.H12_3) <;> simp -proj only [readCov_read, View.readAt_full, ldS00, ldS01, ldS10, ldS11, stS000, stS001, stS010, stS011, stS100, stS101, stS110, stS111, ldM0, ldM1, ldA0, ldA1, stM00, stM01, stM10, stM11, stA00, stA01, stA10, stA11, ldK _ _ _ _ o0, ldK _ _ _ _ o1, ldK _ _ _ _ o2, hs.1, hs.2, hm.1, hm.2, pay14_eq, pay12_eq, pay28_eq, pay32_eq, pay37_eq, pay41_eq, pay13_eq, pay29_eq, pay33_eq, pay38_eq, pay42_eq]
    · exact ((stM01 _ _ _ _ _).trans (stM00 _ _ _ _ _)).trans rfl
    · exact (stM11 _ _ _ _ _).trans rfl
  · iexists _; isplitl [H12]; · iexact H12
    ipureintro
    rw [es]
    simp only [accAfter_succ _ _ _ _ _ _ e1, accAfter_succ _ _ _ _ _ _ e0]
    refine Fin.forall_fin_two.2 ⟨?_, ?_⟩ <;>
    (repeat delta trip.sl.H12_2 trip.sl.v164 trip.sl.v230 trip.sl.r_6 trip.sl.H11_3 trip.sl.H10_2 trip.sl.v220 trip.sl.v206 trip.sl.v138 trip.sl.r_2 trip.sl.r_7 trip.sl.v244 trip.sl.v176 trip.sl.v232 trip.sl.H11_2 trip.sl.v208 trip.sl.r trip.sl.r_1 trip.sl.r_3 trip.sl.r_4 trip.sl.r_5 trip.sl.v162 trip.sl.H12_3) <;> simp -proj only [readCov_read, View.readAt_full, ldS00, ldS01, ldS10, ldS11, stS000, stS001, stS010, stS011, stS100, stS101, stS110, stS111, ldM0, ldM1, ldA0, ldA1, stM00, stM01, stM10, stM11, stA00, stA01, stA10, stA11, ldK _ _ _ _ o0, ldK _ _ _ _ o1, ldK _ _ _ _ o2, hs.1, hs.2, hm.1, hm.2, ha.1, ha.2, pay14_eq, pay12_eq, pay28_eq, pay32_eq, pay37_eq, pay41_eq, pay13_eq, pay29_eq, pay33_eq, pay38_eq, pay42_eq]
    · exact ((stA01 _ _ _ _ _).trans (stA00 _ _ _ _ _)).trans rfl
    · exact (stA11 _ _ _ _ _).trans rfl

end Cert.Attn

end
-- ==== Proof.Body.lean ====
module

public import proofs.«01_k».proof.Proof.Trip
public import proofs.«01_k».proof.Proof.Gen.KernelIdeal.Frame
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

set_option maxHeartbeats 4000000 in
/-- The body on any whole staging memrefs and any scratch contents: the five inputs are left as they were, the output block
    holds `outBlk` of the inputs, the scratch buffers hold something. -/
theorem kernelRun (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S2x1024x1280 .f32) (harg10 : arg10.IsWhole) (arg11 : Memref sig .tc .vmem S1024x128 .f32) (harg11 : arg11.IsWhole) (arg12 : Memref sig .tc .vmem S1024x256 .f32) (harg12 : arg12.IsWhole)
    (x3 : Vec F S1 .f32) (x4 : Vec F S1x512x128 .bf16) (x5 x6 : Vec F S1x16640x128 .bf16) (x7 : Vec F S1x128 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (outBlk x3 x4 x5 x6 x7)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12) K := by
  simp only [cc0_diff_attention_eq_skeleton]; unfold cc0_diff_attention_skel
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, Hk⟩
  sl_exec
  have hQ : arg9.view.read (Elt F) (arg9.view.writes (Elt F) arg9.view.junk (kernelRun.sl.H9_2 c arg4 f4)) = stackQ x4 := by
    delta kernelRun.sl.H9_2
    refine (read_stackQ _ _ _ _ _ _).trans ?_
    rw [View.readAt_full arg4.view f4, h4]
  sl_for (inv c arg3 harg3 arg4 harg4 arg5 harg5 arg6 harg6 arg7 harg7 arg8 harg8 arg9 harg9 arg10 harg10 arg11 harg11 arg12 harg12 k0_pay25 f5 f6 (arg9.view.writes (Elt F) arg9.view.junk (kernelRun.sl.H9_2 c arg4 f4))) $$ [H5 H6 H9 H10 H11 H12]
  case region => intro k a; exact trip Variants.none c none Set.univ i arg3 harg3 arg4 harg4 arg5 harg5 arg6 harg6 arg7 harg7 arg8 harg8 arg9 harg9 arg10 harg10 arg11 harg11 arg12 harg12 _ _ _ _ f5 f6 _ k a
  · unfold inv
    isplitl [H5]; · iexact H5
    isplitl [H6]; · iexact H6
    isplitl [H9]; · iexact H9
    isplitl [H10]
    · iexists _; isplitl [H10]; · iexact H10
      ipureintro
      intro h
      have e29 : kernelRun.sl.v29 c arg4 arg9 f4 = stackQ x4 := by
        delta kernelRun.sl.v29
        rw [readCov_read, View.readAt_full arg9.view, hQ]
      rw [hQ, e29]
      delta kernelRun.sl.r kernelRun.sl.cst_17
      rw [pay27_eq, show View.readAt (Elt F) arg5.view (Rect.unit (s := S1x16640x128) ![0, 0, 0] S1x1280x128.size inb_S1x16640x128_S1x1280x128_0_0_0).toLoadRect f5 = kblk (arg5.view.read (Elt F) f5) ⟨0, by decide⟩ from ldK arg5.view f5 _ _ rfl]
      exact Fin.forall_fin_two.2 ⟨stS000 _ _ _ _ _, stS010 _ _ _ _ _⟩
    isplitl [H11]
    · iexists _; isplitl [H11]; · iexact H11
      ipureintro
      delta kernelRun.sl.H11_1
      exact Fin.forall_fin_two.2 ⟨stwM0 _ _ _ _ _, stwM1 _ _ _ _ _⟩
    · iexists _; isplitl [H12]; · iexact H12
      ipureintro
      delta kernelRun.sl.H12_1
      exact Fin.forall_fin_two.2 ⟨stwA0 _ _ _ _ _, stwA1 _ _ _ _ _⟩
  iintro %a HI
  unfold inv
  icases HI with ⟨H5, H6, H9, ⟨%g10, H10, %h10⟩, ⟨%g11, H11, %h11⟩, ⟨%g12, H12, %h12⟩⟩
  sl_exec
  sl_step
  have htr : Scf.trips k0_t1_loop.lb k0_t1_loop.ub k0_t1_loop.st = 6 := by decide
  have hs := Fin.forall_fin_two.1 (h10 (by rw [htr]; decide))
  have hm := Fin.forall_fin_two.1 h11
  have ha := Fin.forall_fin_two.1 h12
  rw [hQ] at hs hm ha
  simp only [htr] at hs hm ha
  iapply Hk
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; swap; · iexact H8
    ipureintro
    have e88 : kernelRun.sl.v88 c arg6 arg10 arg11 arg12 f6 g10 g11 g12 = sums x4 x5 x6 := by
      delta kernelRun.sl.v88
      rw [readCov_read, View.readAt_full arg12.view]
      delta kernelRun.sl.H12_2
      refine (read_stackA _ _ _ _ _ _ _).trans ?_
      delta kernelRun.sl.r_1 kernelRun.sl.v66 kernelRun.sl.v78
      have eV := ldK arg6.view f6 inb_S1x16640x128_S1x1280x128_0_15360_0 ⟨12, by decide⟩ rfl
      unfold sums
      rw [accAfter_succ _ _ _ _ _ 12 (by decide), accAfter_succ _ _ _ _ _ 12 (by decide)]
      simp -proj only [readCov_read, View.readAt_full, ldS00, ldS01, ldS10, ldS11, ldM0, ldM1, ldA0, ldA1, stM00, stM01, stM10, stM11, stA00, stA01, stA10, stA11, eV, hs.1, hs.2, hm.1, hm.2, ha.1, ha.2, pay12_eq, pay28_eq, pay32_eq, pay37_eq, pay41_eq, pay13_eq, pay29_eq, pay33_eq, pay38_eq, pay42_eq, h5, h6]
      rfl
    refine (View.read_writes_full _ _ _ _ _).trans ?_
    delta kernelRun.sl.r_4 kernelRun.sl.r_5 kernelRun.sl.r_3
    rw [e88, View.readAt_full arg7.view, h7, View.readAt_full arg3.view, h3]
    rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Attn

end
-- ==== Proof.Launch.lean ====
module

public import proofs.«01_k».proof.Proof.Body
public import proofs.«01_k».proof.Proof.Gen.KernelIdeal.Frame
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input's buffer at its block and the output's at
    `outBlk` of those; the invariant the scratch buffers at some contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- The invariant, conjunct by conjunct: the four scratch buffers at some contents, the generator register at some state. -/
theorem Phi0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi0_eq, after0_0, after0_1, after0_2, after0_3, after0_4, after0_5]
  simp only [before0_0, before0_1, before0_2, before0_3, before0_4]
  iintro ⟨⟨⟨S0, S1, S2, S3⟩, Hg⟩, HO, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution of the program ends, with each window's array at the write-backs of its blocks, every other unscoped
    buffer as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Attn

end
-- ==== Proof.Same.lean ====
/- The two printings of the kernel, for the word values and for the extended reals, are one text: equal definition by definition. -/
module

public import proofs.«01_k».proof.Proof.Gen.Kernel
public import proofs.«01_k».proof.Proof.Gen.KernelIdeal

@[expose] public section

noncomputable section

namespace Cert.Attn

open Idealize.ShloMosaic Idealize.SL.Sem

variable {F : FTy → Type} [FloatOps F]

set_option maxHeartbeats 4000000
theorem main_same : Cert.Kernel.main (F := F) = Cert.KernelIdeal.main (F := F) := rfl

theorem defs₀_same : Cert.Kernel.defs₀ (F := F) = Cert.KernelIdeal.defs₀ (F := F) := by
  unfold Cert.Kernel.defs₀ Cert.KernelIdeal.defs₀
  refine congrArg (Defs.onTc (nD := 1) (τ := Cert.KernelIdeal.τ) (sig := Cert.KernelIdeal.sig) (Val := Elt F) (Λ := Cert.KernelIdeal.Λ₀)) (funext fun ℓ => funext fun x => ?_)
  match ℓ, x with
  | ⟨0, _⟩, (t, s) => rfl

theorem defs_same : Cert.Kernel.defs (F := F) = Cert.KernelIdeal.defs (F := F) := by
  unfold Cert.Kernel.defs Cert.KernelIdeal.defs
  rw [defs₀_same]; rfl

end Cert.Attn

end
-- ==== Proof.Frames.lean ====
/- The frames of the three programs: the run of the launch at any values read at the word values and at the extended reals, and the
   reference's run, whose signature has no semaphore. -/
module

public import proofs.«01_k».proof.Defs
public import proofs.«01_k».proof.Proof.Gen.Kernel

public import proofs.«01_k».proof.Proof.Gen.ReferenceIdeal.Run
public import proofs.«01_k».proof.Proof.Launch
public import proofs.«01_k».proof.Proof.Same

@[expose] public section

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

/-- What a run of the launch says of the arguments and the counters. -/
theorem frame_at (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c),
      (h.1 c).2 main_arg5 (Pipeline.mem_restRefs_of main_arg5 (by decide) (by decide)) |>.trans (V_main_arg5 m c),
      (h.1 c).2 main_arg6 (Pipeline.mem_restRefs_of main_arg6 (by decide) (by decide)) |>.trans (V_main_arg6 m c)⟩, h.2⟩) (run_main m ρ)

/-- The kernel at the word values: its text is `KernelIdeal`'s, so the run is that of `KernelIdeal` read at `Bits`. -/
theorem frame_Kernel : Cert.quiescent_Kernel := fun m ρ _ => by
  have h := frame_at (F := Bits) m ρ
  rw [← main_same, ← defs_same] at h
  exact h

theorem frame_KernelIdeal : Cert.quiescent_KernelIdeal := fun m ρ _ => frame_at (F := Ideal) m ρ

theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Attn

end
-- ==== Proof.Finite.lean ====
/- The precondition read element by element: every value and every parameter of the second map's weight is a real number. -/
module

public import proofs.«01_k».proof.Defs
public import proofs.«01_k».proof.Proof.Gen.Pre_finite_values
public import Idealize.ShloMosaic.Lib.Pointwise

@[expose] public section

noncomputable section

namespace Cert.Attn

open Idealize.ShloMosaic
open Idealize.ShloMosaic.TcCoe

theorem ofBits_inf : Ideal.ofBits .f32 0x7F800000#32 = (⊤ : EReal) := by
  unfold Ideal.ofBits Ideal.ieee; simp

/-- A number whose absolute value is below `+∞` is real. -/
theorem real_of_lt {x : EReal} (h : Ideal.cmp .olt (max x (-x)) ⊤ = 1#1) : ∃ r : ℝ, x = r := by
  have hlt : max x (-x) < ⊤ := by
    by_contra hn
    exact absurd h (by simp [Ideal.cmp, hn])
  induction x with
  | bot => simp at hlt
  | coe r => exact ⟨r, rfl⟩
  | top => simp at hlt

/-- One comparison of the precondition, at an element. -/
theorem real_at {s : Shape} (v : FVec Ideal s .f32) (hb : Cert.Pre_finite_values.S_.BroadcastsInDim s (![] : Fin 0 → Fin s.rank)) (x : s.Idx)
    (h : cmpf .olt (Host.absf v) (broadcastInDim s ![] hb (constant (F := Ideal) Cert.Pre_finite_values.S_ .f32 0x7F800000#32)) x = 1#1) : ∃ r : ℝ, (v x : EReal) = r := by
  refine real_of_lt ?_
  rw [← ofBits_inf]
  exact h

open Cert.KernelIdeal in
theorem pre_read (m : (ℓ : Loc nD τ sig) → Buf (Elt Ideal) ℓ) (h : Cert.Pre_KernelIdeal_finite_values (hPre_finite_values := Cert.Pre_finite_values.Gen.facts) m) (c : Dev nD) :
    (∀ x, ∃ r : ℝ, @Eq EReal (m ((c.tc : Thread nD τ).loc main_arg2) x) r) ∧ (∀ x, ∃ r : ℝ, @Eq EReal (m ((c.tc : Thread nD τ).loc main_arg4) x) r)
      ∧ ∀ x, ∃ r : ℝ, @Eq EReal (m ((c.tc : Thread nD τ).loc main_arg5) x) r :=
  ⟨fun x => real_at (s := Cert.Pre_finite_values.S2x16384x6x128) (m ((c.tc : Thread nD τ).loc main_arg2)) Cert.Pre_finite_values.Gen.bcast_S_S2x16384x6x128 x (congrFun (h c).1 x),
    fun x => real_at (s := Cert.Pre_finite_values.S2x256x6x128) (m ((c.tc : Thread nD τ).loc main_arg4)) Cert.Pre_finite_values.Gen.bcast_S_S2x256x6x128 x (congrFun (h c).2.1 x),
    fun x => real_at (s := Cert.Pre_finite_values.S4x64) (m ((c.tc : Thread nD τ).loc main_arg5)) Cert.Pre_finite_values.Gen.bcast_S_S4x64 x (congrFun (h c).2.2 x)⟩

end Cert.Attn

end
-- ==== Proof.Rows.lean ====
/- The kernel's vector operations read at an index, at the extended reals: each a scalar formula of its operands' elements. -/
module

public import proofs.«01_k».proof.Proof.Step
public import Idealize.ShloMosaic.Lib.Pointwise

@[expose] public section

set_option maxRecDepth 16384

noncomputable section

namespace Cert.Attn

open Cert.KernelIdeal Cert.KernelIdeal.Gen
open Idealize.ShloMosaic
open Idealize.ShloMosaic.VecWindow

/-- The pattern of −∞. -/
theorem ofBits_neg_inf : Ideal.ofBits .f32 0xFF800000#32 = (⊥ : EReal) := by
  unfold Ideal.ofBits Ideal.ieee; simp

theorem kblk_apply (K : Vec Ideal S1x16640x128 .bf16) (j : Fin 13) (t : Fin 1280) (c : Fin 128) :
    kblk K j (ix3 0 t c) = K (ix3 0 ⟨1280 * j.val + t.val, by omega⟩ c) := by
  refine congrArg K (funext fun a => Fin.ext ?_)
  fin_cases a
  · rfl
  · simp [Rect.emb, Rect.unit, ix2, ix3]
  · simp [Rect.emb, Rect.unit, ix2, ix3]

theorem halfS_apply (p : Fin 2) (s : FVec Ideal S1x1024x1280 .f32) (r : Fin 512) (t : Fin 1280) :
    halfS p s (ix3 0 r t) = s (ix3 0 ⟨512 * p.val + r.val, by omega⟩ t) := by
  refine congrArg s (funext fun a => Fin.ext ?_)
  fin_cases a
  · rfl
  · simp [Rect.emb, Rect.unit, ix2, ix3]
  · simp [Rect.emb, Rect.unit, ix2, ix3]

theorem halfM_apply (p : Fin 2) (s : FVec Ideal S1024x128 .f32) (r : Fin 512) (l : Fin 128) :
    halfM p s (ix2 r l) = s (ix2 ⟨512 * p.val + r.val, by omega⟩ l) := by
  refine congrArg s (funext fun a => Fin.ext ?_)
  fin_cases a
  · simp [Rect.emb, Rect.unit, ix2, ix3]
  · simp [Rect.emb, Rect.unit, ix2, ix3]

theorem halfA_apply (p : Fin 2) (s : FVec Ideal S1024x256 .f32) (r : Fin 512) (l : Fin 256) :
    halfA p s (ix2 r l) = s (ix2 ⟨512 * p.val + r.val, by omega⟩ l) := by
  refine congrArg s (funext fun a => Fin.ext ?_)
  fin_cases a
  · simp [Rect.emb, Rect.unit, ix2, ix3]
  · simp [Rect.emb, Rect.unit, ix2, ix3]

theorem pay2_apply (kb : Vec Ideal S1x1280x128 .bf16) (Q : Vec Ideal S1024x128 .bf16) (r : Fin 1024) (t : Fin 1280) :
    k0_pay2 kb Q (ix3 0 r t) = ∑ c : Fin 128, Q (ix2 r c) * kb (ix3 0 t c) := by
  pointwise [k0_pay2]

/-- A maximum along the last of two axes, at any sizes. -/
theorem vecMax_last {n0 n1 : ℕ} (hr : (⟨2, ![n0, n1]⟩ : Shape).Reduces [1] ⟨1, ![n0]⟩) (hφ hacc) (v : FVec Ideal ⟨2, ![n0, n1]⟩ .f32) (r : Fin n0) :
    multiReduction .maximumf [1] ⟨1, ![n0]⟩ v 0xFF800000#32 hr hφ hacc (ix1 r) = Finset.univ.fold max (Ideal.ofBits .f32 0xFF800000#32 : EReal) fun t : Fin n1 => (v (ix2 r t) : EReal) := by
  rw [multiReduction_maximumf_eq_fold, hr.fold_fiber_r2_a1]
  rfl

theorem pay5_apply (s : FVec Ideal S1x512x1280 .f32) (m : FVec Ideal S512x128 .f32) (r : Fin 512) (l : Fin 128) :
    k0_pay5 s m (ix2 r l) = max (m (ix2 r l)) (Finset.univ.fold max ⊥ fun t : Fin 1280 => s (ix3 0 r t)) := by
  rw [← ofBits_neg_inf]
  have h := vecMax_last reduces_S512x1280_S512 (.inl rfl) rfl (k0_pay4 (F := Ideal) s) r
  have h4 : ∀ t : Fin 1280, k0_pay4 (F := Ideal) s (ix2 r t) = s (ix3 0 r t) := fun t => by pointwise [k0_pay4]
  simp only [h4] at h
  rw [← h]
  unfold k0_pay5
  generalize multiReduction .maximumf [1] S512 (k0_pay4 (F := Ideal) s) 0xFF800000#32 reduces_S512x1280_S512 (.inl rfl) rfl = x
  pointwise

theorem pay9_eq (x : FVec Ideal S512x128 .f32) (r : Fin 512) (l : Fin 128) : k0_pay9 x (ix2 r l) = x (ix2 r l) := by
  pointwise [k0_pay9]

theorem pay6_apply (s : FVec Ideal S1x512x1280 .f32) (m : FVec Ideal S512x128 .f32) (r : Fin 512) (l : Fin 128) :
    k0_pay6 (F := Ideal) s m (ix2 r l) = Ideal.exp2 (m (ix2 r l) - k0_pay5 (F := Ideal) s m (ix2 r l) : EReal) := by
  pointwise [k0_pay6]
  rfl

theorem pay8_apply (a6 : FVec Ideal S512x128 .f32) (p7 a : FVec Ideal S512x256 .f32) (r : Fin 512) (l : Fin 256) :
    k0_pay8 a6 p7 a (ix2 r l) = a (ix2 r l) * a6 (ix2 r ⟨l.val % 128, by omega⟩) + p7 (ix2 r l) := by
  pointwise [k0_pay8]
  by_cases h : l.val < 128
  · simp only [h, dif_pos, Nat.mod_eq_of_lt h]
  · have h2 : l.val % 128 = l.val - 128 := by omega
    simp only [h, dif_neg, not_false_eq_true, h2]

theorem pay7_apply (ones : FVec Ideal S1280x128 .bf16) (vb : Vec Ideal S1x1280x128 .bf16) (s : FVec Ideal S1x512x1280 .f32) (m : FVec Ideal S512x128 .f32) (r : Fin 512) (l : Fin 256) (M : EReal)
    (hM : ∀ l, k0_pay5 (F := Ideal) s m (ix2 r l) = M) :
    k0_pay7 ones vb s m (ix2 r l) = ∑ t : Fin 1280, Ideal.exp2 (s (ix3 0 r t) - M) * (k0_pay3 (F := Ideal) ones vb (ix2 t l) : EReal) := by
  pointwise [k0_pay7, k0_pay4]
  simp only [hM, dite_eq_ite, ite_self]
  rfl

theorem pay3_apply (ones : FVec Ideal S1280x128 .bf16) (vb : Vec Ideal S1x1280x128 .bf16) (t : Fin 1280) (l : Fin 256) :
    k0_pay3 ones vb (ix2 t l) = if h : l.val < 128 then vb (ix3 0 t ⟨l.val, h⟩) else ones (ix2 t ⟨l.val - 128, by omega⟩) := by
  pointwise [k0_pay3]

theorem lane_slt (c : Fin 128) : IntOp.cmpi .slt (BitVec.ofNat 32 c.val) 64#32 = if c.val < 64 then 1#1 else 0#1 := by
  revert c; decide

theorem lane_sge (c : Fin 128) : IntOp.cmpi .sge (BitVec.ofNat 32 c.val) 64#32 = if c.val < 64 then 0#1 else 1#1 := by
  revert c; decide

theorem pay21_apply (q : Vec Ideal S1x512x128 .bf16) (r : Fin 512) (c : Fin 128) :
    k0_pay21 q (ix2 r c) = if c.val < 64 then q (ix3 0 r c) else 0 := by
  pointwise [k0_pay21, k0_pay19, k0_pay20]
  rw [lane_slt]; by_cases h : c.val < 64 <;> simp [h, Scalar.select]

theorem pay22_apply (q : Vec Ideal S1x512x128 .bf16) (r : Fin 512) (c : Fin 128) :
    k0_pay22 q (ix2 r c) = if c.val < 64 then 0 else q (ix3 0 r c) := by
  pointwise [k0_pay22, k0_pay19, k0_pay20]
  rw [lane_sge]; by_cases h : c.val < 64 <;> simp [h, Scalar.select]

theorem pay43_apply (S : FVec Ideal S1024x256 .f32) (lam : EReal) (r : Fin 512) (l : Fin 128) :
    k0_pay43 (F := Ideal) S lam (ix2 r l)
      = Ideal.div (S (ix2 ⟨r.val, by omega⟩ ⟨l.val, by omega⟩)) (S (ix2 ⟨r.val, by omega⟩ ⟨128 + l.val, by omega⟩))
        - lam * Ideal.div (S (ix2 ⟨512 + r.val, by omega⟩ ⟨l.val, by omega⟩)) (S (ix2 ⟨512 + r.val, by omega⟩ ⟨128 + l.val, by omega⟩)) := by
  pointwise [k0_pay43]

theorem pay1_apply (o : FVec Ideal S512x128 .f32) (ss : FVec Ideal S512x1 .f32) (g : Vec Ideal S1x128 .f32) (r : Fin 512) (l : Fin 128) :
    k0_pay1 o ss k0_pay45 g (ix3 0 r l)
      = o (ix2 r l) * Ideal.rsqrt (Ideal.div (ss (ix2 r 0)) (Ideal.ofBits .f32 0x43000000#32) + Ideal.ofBits .f32 0x3727C5AC#32) * g (ix2 0 l) * Ideal.ofBits .f32 0x3F4CCCCD#32 := by
  pointwise [k0_pay1, k0_pay45]

theorem pay44_apply (S : FVec Ideal S1024x256 .f32) (lam : EReal) (r : Fin 512) :
    k0_pay44 (F := Ideal) S lam (ix2 r 0) = ∑ l : Fin 128, k0_pay43 (F := Ideal) S lam (ix2 r l) * k0_pay43 (F := Ideal) S lam (ix2 r l) := by
  pointwise [k0_pay44]

end Cert.Attn

end
-- ==== Proof.Online.lean ====
/- The online softmax sums in closed form: over extended-real scores and real values, the running maximum and the rescaled running sums of the blocks. -/
module

public import Idealize.ShloMosaic.PureOps.Ideal

@[expose] public section

noncomputable section

namespace Cert.Attn.Online

open Idealize.ShloMosaic

/-- The running maximum before block `j`, from `m₀`, in blocks of `B`. -/
def runMax (B : ℕ) (m₀ : EReal) (s : ℕ → EReal) : ℕ → EReal
  | 0 => m₀
  | j + 1 => max (runMax B m₀ s j) (Finset.univ.fold max ⊥ fun t : Fin B => s (B * j + t.val))

/-- The running sum before block `j`: rescaled to each new maximum and added to. -/
def runSum (B : ℕ) (m₀ : EReal) (s v : ℕ → EReal) : ℕ → EReal
  | 0 => 0
  | j + 1 => runSum B m₀ s v j * Ideal.exp2 (runMax B m₀ s j - runMax B m₀ s (j + 1))
      + ∑ t : Fin B, Ideal.exp2 (s (B * j + t.val) - runMax B m₀ s (j + 1)) * v (B * j + t.val)

/-- The weight `2^(s − m)` of a score below a real reference point, zero at `−∞`. -/
def weight (s : EReal) (m : ℝ) : ℝ := if s = ⊥ then 0 else (2 : ℝ) ^ (s.toReal - m)

theorem weight_nonneg (s : EReal) (m : ℝ) : 0 ≤ weight s m := by
  unfold weight; split_ifs
  · exact le_refl _
  · positivity

theorem weight_pos {s : EReal} (h : s ≠ ⊥) (m : ℝ) : 0 < weight s m := by
  unfold weight; rw [if_neg h]; positivity

theorem weight_bot (m : ℝ) : weight ⊥ m = 0 := if_pos rfl

/-- Moving the reference point. -/
theorem weight_shift (s : EReal) (m m' : ℝ) : weight s m * (2 : ℝ) ^ (m - m') = weight s m' := by
  unfold weight; split_ifs
  · exact zero_mul _
  · rw [← Real.rpow_add (by norm_num)]; congr 1; ring

theorem exp2_coe (r : ℝ) : Ideal.exp2 (r : EReal) = (((2 : ℝ) ^ r : ℝ) : EReal) := rfl
theorem exp2_bot : Ideal.exp2 ⊥ = 0 := rfl

theorem exp2_sub {s : EReal} (h : s ≠ ⊤) (m : ℝ) : Ideal.exp2 (s - (m : EReal)) = (weight s m : EReal) := by
  induction s with
  | bot => rw [EReal.bot_sub, weight_bot]; rfl
  | coe r =>
    rw [← EReal.coe_sub, exp2_coe, weight, if_neg (EReal.coe_ne_bot r), EReal.toReal_coe]
  | top => exact absurd rfl h

theorem sub_top (x : EReal) : x - ⊤ = ⊥ := by
  rw [sub_eq_add_neg, EReal.neg_top, EReal.add_bot]

theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem fold_max_eq_sup {ι : Type*} (S : Finset ι) (f : ι → EReal) : S.fold max ⊥ f = S.sup f := rfl

theorem runMax_mono (B : ℕ) (m₀ : EReal) (s : ℕ → EReal) (j : ℕ) : runMax B m₀ s j ≤ runMax B m₀ s (j + 1) := le_max_left _ _

theorem le_runMax_of_le (B : ℕ) (m₀ : EReal) (s : ℕ → EReal) {i j : ℕ} (h : i ≤ j) : runMax B m₀ s i ≤ runMax B m₀ s j := by
  induction h with
  | refl => exact le_refl _
  | step _ ih => exact ih.trans (runMax_mono B m₀ s _)

/-- Every score seen is below the running maximum. -/
theorem score_le_runMax (B : ℕ) (m₀ : EReal) (s : ℕ → EReal) {j n : ℕ} (h : n < B * j) : s n ≤ runMax B m₀ s j := by
  have hB : 0 < B := Nat.pos_of_ne_zero fun h0 => by simp [h0] at h
  have hq : n / B < j := (Nat.div_lt_iff_lt_mul hB).2 (by rw [Nat.mul_comm]; exact h)
  refine le_trans ?_ (le_runMax_of_le B m₀ s (Nat.succ_le_of_lt hq))
  refine le_trans ?_ (le_max_right _ _)
  have hn : s n = (fun t : Fin B => s (B * (n / B) + t.val)) ⟨n % B, Nat.mod_lt _ hB⟩ := by
    show s n = s (B * (n / B) + n % B); rw [Nat.div_add_mod]
  rw [fold_max_eq_sup, hn]
  exact Finset.le_sup (f := fun t : Fin B => s (B * (n / B) + t.val)) (Finset.mem_univ _)

/-- The running maximum stays below any bound of the start and of the scores. -/
theorem runMax_lt_top (B : ℕ) {m₀ : EReal} (h₀ : m₀ ≠ ⊤) {s : ℕ → EReal} : ∀ j : ℕ, (∀ n < B * j, s n ≠ ⊤) → runMax B m₀ s j ≠ ⊤
  | 0, _ => h₀
  | j + 1, h => by
    have ih := runMax_lt_top B h₀ (s := s) j fun n hn => h n (lt_of_lt_of_le hn (Nat.mul_le_mul_left _ (Nat.le_succ j)))
    refine ne_of_lt (max_lt (lt_top_iff_ne_top.2 ih) ?_)
    rw [fold_max_eq_sup, Finset.sup_lt_iff (by exact bot_lt_top)]
    intro t _
    refine lt_top_iff_ne_top.2 (h _ ?_)
    rw [Nat.mul_succ]; exact Nat.add_lt_add_left t.isLt _

/-- With no score at `+∞`, the running maximum is real. -/
theorem runMax_real (B : ℕ) (r₀ : ℝ) {s : ℕ → EReal} (j : ℕ) (h : ∀ n < B * j, s n ≠ ⊤) : ∃ μ : ℝ, runMax B r₀ s j = μ := by
  have ht := runMax_lt_top B (EReal.coe_ne_top r₀) j h
  have hb : runMax B r₀ s j ≠ ⊥ := ne_of_gt (lt_of_lt_of_le (EReal.bot_lt_coe r₀) (le_runMax_of_le B r₀ s (Nat.zero_le j)))
  exact ⟨_, (EReal.coe_toReal ht hb).symm⟩

theorem sum_blocks {M : Type*} [AddCommMonoid M] (B j : ℕ) (f : ℕ → M) :
    ∑ n ∈ Finset.range (B * (j + 1)), f n = ∑ n ∈ Finset.range (B * j), f n + ∑ t : Fin B, f (B * j + t.val) := by
  rw [Nat.mul_succ, Finset.sum_range_add, Finset.sum_range (n := B)]

/-- With no score at `+∞`, the rescaled sums are the one sum at the last maximum. -/
theorem runSum_eq (B : ℕ) (r₀ : ℝ) {s : ℕ → EReal} {v : ℕ → EReal} {w : ℕ → ℝ} : ∀ (j : ℕ), (∀ n < B * j, s n ≠ ⊤) → (∀ n < B * j, v n = w n) →
    ∀ μ : ℝ, runMax B r₀ s j = μ → runSum B r₀ s v j = ((∑ n ∈ Finset.range (B * j), weight (s n) μ * w n : ℝ) : EReal)
  | 0, _, _, μ, _ => by simp [runSum]
  | j + 1, h, hv, μ', hμ' => by
    have hlt : ∀ n < B * j, n < B * (j + 1) := fun n hn => lt_of_lt_of_le hn (Nat.mul_le_mul_left _ (Nat.le_succ j))
    have hin : ∀ t : Fin B, B * j + t.val < B * (j + 1) := fun t => by rw [Nat.mul_succ]; exact Nat.add_lt_add_left t.isLt _
    obtain ⟨μ, hμ⟩ := runMax_real B r₀ (s := s) j fun n hn => h n (hlt n hn)
    have ih := runSum_eq B r₀ (v := v) (w := w) j (fun n hn => h n (hlt n hn)) (fun n hn => hv n (hlt n hn)) μ hμ
    show runSum B r₀ s v j * Ideal.exp2 (runMax B r₀ s j - runMax B r₀ s (j + 1)) + _ = _
    rw [hμ', hμ, ih, ← EReal.coe_sub, exp2_coe, ← EReal.coe_mul, sum_blocks, EReal.coe_add, Finset.sum_mul]
    congr 1
    · congr 1
      refine Finset.sum_congr rfl fun n _ => ?_
      rw [← weight_shift (s n) μ μ']; ring
    · rw [coe_sum]
      refine Finset.sum_congr rfl fun t _ => ?_
      rw [exp2_sub (h _ (hin t)), hv _ (hin t), EReal.coe_mul]

/-- At a maximum of `+∞` every term is zero. -/
theorem runSum_top (B : ℕ) (m₀ : EReal) {s v : ℕ → EReal} (j : ℕ) (h : runMax B m₀ s (j + 1) = ⊤) : runSum B m₀ s v (j + 1) = 0 := by
  show runSum B m₀ s v j * Ideal.exp2 (runMax B m₀ s j - runMax B m₀ s (j + 1)) + _ = _
  rw [h, sub_top, exp2_bot, mul_zero, zero_add]
  refine Finset.sum_eq_zero fun t _ => ?_
  rw [sub_top, exp2_bot, zero_mul]

/-- The quotient of two running sums over `j` blocks. -/
def ratio (B : ℕ) (m₀ : EReal) (s v : ℕ → EReal) (j : ℕ) : EReal := Ideal.div (runSum B m₀ s v j) (runSum B m₀ s (fun _ => 1) j)

/-- A row of scores is good if none is `+∞` and some is above `−∞`. -/
def Good (N : ℕ) (s : ℕ → EReal) : Prop := (∀ n < N, s n ≠ ⊤) ∧ ∃ n < N, s n ≠ ⊥

theorem div_coe {x y : ℝ} (hy : y ≠ 0) : Ideal.div (x : EReal) (y : EReal) = ((x / y : ℝ) : EReal) := by
  unfold Ideal.div
  rw [if_neg (by exact_mod_cast hy), div_eq_mul_inv, EReal.coe_mul, EReal.coe_inv]

theorem div_zero_zero : Ideal.div 0 0 = ⊥ := by
  unfold Ideal.div; rw [if_pos rfl, if_neg (lt_irrefl _)]

/-- On a good row the quotient is the softmax average; the reference point cancels. -/
theorem ratio_good (B : ℕ) (r₀ : ℝ) {s v : ℕ → EReal} {w : ℕ → ℝ} (j : ℕ) (hg : Good (B * j) s) (hv : ∀ n < B * j, v n = w n) :
    ratio B r₀ s v j = (((∑ n ∈ Finset.range (B * j), weight (s n) 0 * w n) / ∑ n ∈ Finset.range (B * j), weight (s n) 0 : ℝ) : EReal) := by
  obtain ⟨hs, n₀, hn₀, hb⟩ := hg
  obtain ⟨μ, hμ⟩ := runMax_real B r₀ (s := s) j hs
  have h0 : ∀ n, weight (s n) μ = weight (s n) 0 * (2 : ℝ) ^ (0 - μ) := fun n => (weight_shift (s n) 0 μ).symm
  have hpos : 0 < ∑ n ∈ Finset.range (B * j), weight (s n) 0 :=
    Finset.sum_pos' (fun n _ => weight_nonneg _ _) ⟨n₀, Finset.mem_range.2 hn₀, weight_pos hb 0⟩
  have hc : (0 : ℝ) < (2 : ℝ) ^ (0 - μ) := by positivity
  have hd : (∑ n ∈ Finset.range (B * j), weight (s n) μ * 1) = (∑ n ∈ Finset.range (B * j), weight (s n) 0) * (2 : ℝ) ^ (0 - μ) := by
    rw [Finset.sum_mul]; exact Finset.sum_congr rfl fun n _ => by rw [h0 n, mul_one]
  have hn : (∑ n ∈ Finset.range (B * j), weight (s n) μ * w n) = (∑ n ∈ Finset.range (B * j), weight (s n) 0 * w n) * (2 : ℝ) ^ (0 - μ) := by
    rw [Finset.sum_mul]; exact Finset.sum_congr rfl fun n _ => by rw [h0 n]; ring
  unfold ratio
  rw [runSum_eq B r₀ j hs hv μ hμ, runSum_eq B r₀ (w := fun _ => 1) j hs (fun _ _ => EReal.coe_one.symm) μ hμ, hd, hn,
    div_coe (mul_pos hpos hc).ne', mul_div_mul_right _ _ hc.ne']

/-- On any other row both sums are zero. -/
theorem ratio_bad (B : ℕ) (r₀ : ℝ) {s v : ℕ → EReal} {w : ℕ → ℝ} (j : ℕ) (hb : ¬ Good (B * (j + 1)) s) (hv : ∀ n < B * (j + 1), v n = w n) :
    ratio B r₀ s v (j + 1) = ⊥ := by
  by_cases hs : ∀ n < B * (j + 1), s n ≠ ⊤
  · have hall : ∀ n < B * (j + 1), s n = ⊥ := fun n hn => by
      by_contra h; exact hb ⟨hs, n, hn, h⟩
    obtain ⟨μ, hμ⟩ := runMax_real B r₀ (s := s) (j + 1) hs
    have hz : ∀ x : ℕ → ℝ, (∑ n ∈ Finset.range (B * (j + 1)), weight (s n) μ * x n) = 0 := fun x =>
      Finset.sum_eq_zero fun n hn => by rw [hall n (Finset.mem_range.1 hn), weight_bot, zero_mul]
    unfold ratio
    rw [runSum_eq B r₀ (j + 1) hs hv μ hμ, runSum_eq B r₀ (w := fun _ => 1) (j + 1) hs (fun _ _ => EReal.coe_one.symm) μ hμ, hz, hz]
    exact div_zero_zero
  · push Not at hs
    obtain ⟨n, hn, ht⟩ := hs
    have hM : runMax B r₀ s (j + 1) = ⊤ := top_le_iff.1 (ht ▸ score_le_runMax B r₀ s hn)
    unfold ratio
    rw [runSum_top B r₀ j hM, runSum_top B r₀ j hM]; exact div_zero_zero

end Cert.Attn.Online

end
-- ==== Proof.Block.lean ====
/- One grid point's output block read at an index: for each row, the quotients of the online softmax sums of its two maps. -/
module

public import proofs.«01_k».proof.Proof.Rows
public import proofs.«01_k».proof.Proof.Online

@[expose] public section

set_option maxRecDepth 16384

noncomputable section

namespace Cert.Attn

open Cert.KernelIdeal Cert.KernelIdeal.Gen
open Idealize.ShloMosaic
open Idealize.ShloMosaic.VecWindow
open Cert.Attn.Online

theorem win128_apply {α : Type} (x : S1024x128.Idx → α) (R : ℕ) (inb) (r : Fin 512) (l : Fin 128) (h : R + r.val < 1024) :
    window x ![R, 0] S512x128.size inb (ix2 r l) = x (ix2 ⟨R + r.val, h⟩ l) := by
  refine congrArg x (funext fun a => Fin.ext ?_)
  fin_cases a <;> simp [Rect.emb, Rect.unit, ix2]

theorem win256_apply {α : Type} (x : S1024x256.Idx → α) (R : ℕ) (inb) (r : Fin 512) (l : Fin 256) (h : R + r.val < 1024) :
    window x ![R, 0] S512x256.size inb (ix2 r l) = x (ix2 ⟨R + r.val, h⟩ l) := by
  refine congrArg x (funext fun a => Fin.ext ?_)
  fin_cases a <;> simp [Rect.emb, Rect.unit, ix2]

/-- The row of map `p` at row `r` of the block. -/
def row (p : Fin 2) (r : Fin 512) : Fin 1024 := ⟨512 * p.val + r.val, by omega⟩

/-- The stacked queries: map `p`'s rows keep the features of map `p`. -/
theorem stackQ_apply (q : Vec Ideal S1x512x128 .bf16) (p : Fin 2) (r : Fin 512) (c : Fin 128) :
    stackQ (F := Ideal) q (ix2 (row p r) c) = if c.val / 64 = p.val then q (ix3 0 r c) else 0 := by
  fin_cases p
  · have e : stackQ (F := Ideal) q (ix2 (row 0 r) c) = k0_pay21 (F := Ideal) q (ix2 r c) := by
      have h := win128_apply (stackQ (F := Ideal) q) 0 (by decide) r c (by omega)
      have h2 : (⟨0 + r.val, by omega⟩ : Fin 1024) = row 0 r := Fin.ext (by simp [row])
      rw [h2] at h
      rw [← h, stackQ, window_put_of_disjoint _ _ _ _ _ _ _ 0 (Or.inl (by decide)), window_put_same]
    refine e.trans ((pay21_apply q r c).trans ?_)
    have h3 : c.val / 64 = 0 ↔ c.val < 64 := by omega
    simp only [h3, Fin.zero_eta, Fin.val_zero]
  · have e : stackQ (F := Ideal) q (ix2 (row 1 r) c) = k0_pay22 (F := Ideal) q (ix2 r c) := by
      have h := win128_apply (stackQ (F := Ideal) q) 512 (by decide) r c (by omega)
      have h2 : (⟨512 + r.val, by omega⟩ : Fin 1024) = row 1 r := Fin.ext (by simp [row])
      rw [h2] at h
      rw [← h, stackQ, window_put_same]
    refine e.trans ((pay22_apply q r c).trans ?_)
    have hc := c.isLt
    by_cases h3 : c.val < 64
    · have h4 : ¬ c.val / 64 = 1 := by omega
      simp only [h3, h4, if_true, if_false, Fin.mk_one, Fin.val_one]
    · have h4 : c.val / 64 = 1 := by omega
      simp only [h3, h4, if_true, if_false, Fin.mk_one, Fin.val_one]

/-- The stacked sums at map `p`'s rows. -/
theorem stackA_apply (f : Fin 2 → FVec Ideal S512x256 .f32) (p : Fin 2) (r : Fin 512) (l : Fin 256) :
    stackA (F := Ideal) (f 0) (f 1) (ix2 (row p r) l) = f p (ix2 r l) := by
  fin_cases p
  · have h := win256_apply (stackA (F := Ideal) (f 0) (f 1)) 0 (by decide) r l (by omega)
    have h2 : (⟨0 + r.val, by omega⟩ : Fin 1024) = row 0 r := Fin.ext (by simp [row])
    rw [h2] at h
    refine h.symm.trans ?_
    rw [stackA, window_put_of_disjoint _ _ _ _ _ _ _ 0 (Or.inl (by decide)), window_put_same]; rfl
  · have h := win256_apply (stackA (F := Ideal) (f 0) (f 1)) 512 (by decide) r l (by omega)
    have h2 : (⟨512 + r.val, by omega⟩ : Fin 1024) = row 1 r := Fin.ext (by simp [row])
    rw [h2] at h
    refine h.symm.trans ?_
    rw [stackA, window_put_same]; rfl

/-- Where the running maximum starts: the kernel's −1e30. -/
def start : ℝ := (Ideal.ofBits .f32 0xF149F2CA#32 : EReal).toReal

theorem start_eq : (Ideal.ofBits .f32 0xF149F2CA#32 : EReal) = (start : EReal) := by
  have h : ∃ x : ℝ, (Ideal.ofBits .f32 0xF149F2CA#32 : EReal) = (x : EReal) := by
    unfold Ideal.ofBits Ideal.ieee; simp only []
    rw [if_neg (by decide), if_neg (by decide)]; exact ⟨_, rfl⟩
  obtain ⟨x, hx⟩ := h
  rw [start, hx, EReal.toReal_coe]

theorem pay23_apply (a : Fin 1024) (l : Fin 128) : k0_pay23 (F := Ideal) (ix2 a l) = (start : EReal) := by
  rw [← start_eq]; rfl

theorem pay24_apply (a : Fin 1024) (l : Fin 256) : k0_pay24 (F := Ideal) (ix2 a l) = (0 : EReal) :=
  Ideal.ofBits_zero_f32

theorem pay25_apply (t : Fin 1280) (l : Fin 128) : k0_pay25 (F := Ideal) (ix2 t l) = (1 : EReal) :=
  Ideal.ofBits_one_bf16

/-- The scores of a row against every key. -/
def score (K : Vec Ideal S1x16640x128 .bf16) (q : Fin 128 → EReal) (n : ℕ) : EReal :=
  if h : n < 16640 then ∑ c : Fin 128, q c * K (ix3 0 ⟨n, h⟩ c) else ⊥

/-- The column of the values that lane `l` of the sums weighs: the values' own lane, or one. -/
def lane (V : Vec Ideal S1x16640x128 .bf16) (l : Fin 256) (n : ℕ) : EReal :=
  if h : l.val < 128 then if hn : n < 16640 then V (ix3 0 ⟨n, hn⟩ ⟨l.val, h⟩) else 0 else 1

section
variable (K V : Vec Ideal S1x16640x128 .bf16) (Q : FVec Ideal S1024x128 .bf16) (p : Fin 2) (r : Fin 512)

theorem halfScores_apply (j : Fin 13) (t : Fin 1280) :
    halfS p (scores (F := Ideal) K Q j) (ix3 0 r t) = score K (fun c => Q (ix2 (row p r) c)) (1280 * j.val + t.val) := by
  rw [halfS_apply, scores, pay2_apply, score, dif_pos (by omega)]
  exact Finset.sum_congr rfl fun c _ => by rw [kblk_apply]; rfl

/-- The online softmax of one row: the maximum and the sums follow the scalar recursion. -/
theorem acc_apply : ∀ j : ℕ, j ≤ 13 →
    (∀ l, (accAfter (F := Ideal) k0_pay25 K V Q p j).mx (ix2 r l) = runMax 1280 start (score K fun c => Q (ix2 (row p r) c)) j)
    ∧ ∀ l, (accAfter (F := Ideal) k0_pay25 K V Q p j).ac (ix2 r l) = runSum 1280 start (score K fun c => Q (ix2 (row p r) c)) (lane V l) j
  | 0, _ => ⟨fun l => by
      show halfM p k0_pay23 (ix2 r l) = _
      rw [halfM_apply, pay23_apply]; rfl, fun l => by
      show halfA p k0_pay24 (ix2 r l) = _
      rw [halfA_apply, pay24_apply]; rfl⟩
  | j + 1, hj => by
    obtain ⟨im, ia⟩ := acc_apply j (by omega)
    have h13 : j < 13 := hj
    have hmax : ∀ l, k0_pay5 (F := Ideal) (halfS p (scores K Q ⟨j, h13⟩)) (accAfter (F := Ideal) k0_pay25 K V Q p j).mx (ix2 r l)
        = runMax 1280 start (score K fun c => Q (ix2 (row p r) c)) (j + 1) := fun l => by
      rw [pay5_apply, im]
      show max _ _ = max _ _
      congr 1
      exact congrArg (fun f => Finset.univ.fold max ⊥ f) (funext fun t => halfScores_apply K Q p r ⟨j, h13⟩ t)
    rw [accAfter_succ _ _ _ _ _ j h13]
    refine ⟨fun l => ?_, fun l => ?_⟩
    · exact (pay9_eq _ r l).trans (hmax l)
    · refine (pay8_apply _ _ _ r l).trans ?_
      rw [ia, pay6_apply, im, hmax, pay7_apply _ _ _ _ _ _ _ hmax]
      show _ = runSum 1280 start _ _ j * _ + _
      congr 1
      refine Finset.sum_congr rfl fun t _ => ?_
      rw [halfScores_apply, pay3_apply]
      congr 1
      by_cases hl : l.val < 128
      · rw [dif_pos hl, kblk_apply, lane, dif_pos hl, dif_pos (by show 1280 * j + t.val < 16640; omega)]
      · rw [dif_neg hl, pay25_apply, lane, dif_neg hl]

end

/-- The features of map `p` of a query. -/
def mask (p : Fin 2) (q : Fin 128 → EReal) (c : Fin 128) : EReal := if c.val / 64 = p.val then q c else 0

/-- A lane of the values along the keys. -/
def column (V : Vec Ideal S1x16640x128 .bf16) (l : Fin 128) (n : ℕ) : EReal := if hn : n < 16640 then V (ix3 0 ⟨n, hn⟩ l) else 0

/-- The softmax average of lane `l` of the values under map `p` of a query. -/
def avg (q : Fin 128 → EReal) (K V : Vec Ideal S1x16640x128 .bf16) (p : Fin 2) (l : Fin 128) : EReal :=
  ratio 1280 start (score K (mask p q)) (column V l) 13

theorem sums_apply (q : Vec Ideal S1x512x128 .bf16) (K V : Vec Ideal S1x16640x128 .bf16) (p : Fin 2) (r : Fin 512) (l : Fin 256) :
    sums (F := Ideal) q K V (ix2 (row p r) l) = runSum 1280 start (score K (mask p fun c => q (ix3 0 r c))) (lane V l) 13 := by
  have h := stackA_apply (fun p => (accAfter (F := Ideal) k0_pay25 K V (stackQ q) p 13).ac) p r l
  refine h.trans (((acc_apply K V (stackQ q) p r 13 (le_refl _)).2 l).trans ?_)
  congr 2
  exact funext fun c => stackQ_apply q p r c

theorem ratio_apply (q : Vec Ideal S1x512x128 .bf16) (K V : Vec Ideal S1x16640x128 .bf16) (p : Fin 2) (r : Fin 512) (l : Fin 128) (a : Fin 1024) (ha : a = row p r) (l₁ l₂ : Fin 256) (h₁ : l₁.val = l.val) (h₂ : l₂.val = 128 + l.val) :
    Ideal.div (sums (F := Ideal) q K V (ix2 a l₁)) (sums (F := Ideal) q K V (ix2 a l₂)) = avg (fun c => q (ix3 0 r c)) K V p l := by
  subst ha
  rw [sums_apply, sums_apply, avg, ratio]
  have e₁ : lane V l₁ = column V l := funext fun n => by
    rw [lane, dif_pos (by omega)]
    have : (⟨l₁.val, by omega⟩ : Fin 128) = l := Fin.ext h₁
    rw [this, column]
  have e₂ : lane V l₂ = fun _ => 1 := funext fun n => by rw [lane, dif_neg (by omega)]
  rw [e₁, e₂]

/-- The difference of the two maps' averages. -/
def diff (lam : EReal) (q : Fin 128 → EReal) (K V : Vec Ideal S1x16640x128 .bf16) (l : Fin 128) : EReal :=
  avg q K V 0 l - lam * avg q K V 1 l

/-- The normalization of a row `o` of differences, at lane `l`. -/
def normed (o g : Fin 128 → EReal) (l : Fin 128) : EReal :=
  o l * Ideal.rsqrt (Ideal.div (∑ k : Fin 128, o k * o k) (Ideal.ofBits .f32 0x43000000#32) + Ideal.ofBits .f32 0x3727C5AC#32) * g l * Ideal.ofBits .f32 0x3F4CCCCD#32

theorem pay43_diff (lam : EReal) (q : Vec Ideal S1x512x128 .bf16) (K V : Vec Ideal S1x16640x128 .bf16) (r : Fin 512) (l : Fin 128) :
    k0_pay43 (F := Ideal) (sums q K V) lam (ix2 r l) = diff lam (fun c => q (ix3 0 r c)) K V l := by
  rw [pay43_apply, diff]
  congr 1
  · exact ratio_apply q K V 0 r l _ (Fin.ext (by simp [row])) _ _ rfl rfl
  · congr 1
    exact ratio_apply q K V 1 r l _ (Fin.ext (by simp [row])) _ _ rfl rfl

theorem outBlk_apply (lam : Vec Ideal S1 .f32) (q : Vec Ideal S1x512x128 .bf16) (K V : Vec Ideal S1x16640x128 .bf16) (g : Vec Ideal S1x128 .f32) (r : Fin 512) (l : Fin 128) :
    outBlk (F := Ideal) lam q K V g (ix3 0 r l) = normed (diff (lam o1) (fun c => q (ix3 0 r c)) K V) (fun l => g (ix2 0 l)) l := by
  rw [outBlk, pay1_apply, pay43_diff, pay44_apply, normed]
  simp only [pay43_diff]

end Cert.Attn

end
-- ==== Proof.Array.lean ====
/- The kernel's result array in closed form: every element is the normalized difference of its row's two softmax averages, over the arrays the host prepares. -/
module

public import proofs.«01_k».proof.Proof.Block
public import proofs.«01_k».proof.Proof.Launch
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe Idealize.SL.Sem
open Idealize.ShloMosaic.Pipeline (Dat)

variable (m : (ℓ : Loc nD τ sig) → Buf (Elt Ideal) ℓ)

/-- One head's keys or values: the head's 128 lanes of one batch element. -/
def headOf (k : Vec Ideal S2x16640x768 .bf16) (b : Fin 2) (h : Fin 6) : Vec Ideal S1x16640x128 .bf16 :=
  fun y => k (ix3 b ⟨(y 1).val, (y 1).isLt⟩ ⟨128 * h.val + (y 2).val, by have := (y 2).isLt; have : (y 2).val < 128 := this; omega⟩)

/-- One query's 128 lanes of one head. -/
def queryOf (q : Vec Ideal S2x16384x768 .bf16) (b : Fin 2) (n : Fin 16384) (h : Fin 6) (c : Fin 128) : EReal :=
  q (ix3 b n ⟨128 * h.val + c.val, by omega⟩)

/-- One element of the result over the prepared arrays. -/
def outAt (lam : Vec Ideal S1 .f32) (q : Vec Ideal S2x16384x768 .bf16) (k v : Vec Ideal S2x16640x768 .bf16) (g : Vec Ideal S1x128 .f32)
    (b : Fin 2) (n : Fin 16384) (h : Fin 6) (l : Fin 128) : EReal :=
  normed (diff (lam o1) (queryOf q b n h) (headOf k b h) (headOf v b h)) (fun l => g (ix2 0 l)) l

/-- The result array over the prepared arrays. -/
def outArr (lam : Vec Ideal S1 .f32) (q : Vec Ideal S2x16384x768 .bf16) (k v : Vec Ideal S2x16640x768 .bf16) (g : Vec Ideal S1x128 .f32) : Vec Ideal S2x16384x768 .bf16 :=
  fun i => outAt lam q k v g (i 0) (i 1) ⟨(i 2).val / 128, by have : (i 2).val < 768 := (i 2).isLt; omega⟩ ⟨(i 2).val % 128, by omega⟩

theorem idx : ∀ t : Fin cfg0.N, win0_0.index t = ![0] ∧ win0_1.index t = ![(grid0.coords t 0).val, (grid0.coords t 2).val, (grid0.coords t 1).val]
    ∧ win0_2.index t = ![(grid0.coords t 0).val, 0, (grid0.coords t 1).val] ∧ win0_3.index t = ![(grid0.coords t 0).val, 0, (grid0.coords t 1).val]
    ∧ win0_4.index t = ![0, 0] ∧ win0_5.index t = ![(grid0.coords t 0).val, (grid0.coords t 2).val, (grid0.coords t 1).val]
    ∧ (grid0.coords t 0).val < 2 ∧ (grid0.coords t 1).val < 6 ∧ (grid0.coords t 2).val < 32 :=
  (by decide +kernel : ∀ t : Fin grid0.N, _)

section blocks
variable (c : Dev nD) (t : Fin cfg0.N)

theorem blk1 (r : Fin 512) (x : Fin 128) (b : Fin 2) (n : Fin 16384) (h : Fin 6) (hb : b.val = (grid0.coords t 0).val) (hn : n.val = 512 * (grid0.coords t 2).val + r.val) (hh : h.val = (grid0.coords t 1).val) :
    iblk m c 1 t (ix3 0 r x) = queryOf (V m c main_v5) b n h x := by
  unfold queryOf
  blk_ext [iblk, idx t]

theorem blk2 (b : Fin 2) (h : Fin 6) (hb : b.val = (grid0.coords t 0).val) (hh : h.val = (grid0.coords t 1).val) :
    iblk m c 2 t = headOf (V m c main_v9) b h := by
  funext y
  unfold headOf
  blk_ext [iblk, idx t]

theorem blk3 (b : Fin 2) (h : Fin 6) (hb : b.val = (grid0.coords t 0).val) (hh : h.val = (grid0.coords t 1).val) :
    iblk m c 3 t = headOf (V m c main_v13) b h := by
  funext y
  unfold headOf
  blk_ext [iblk, idx t]

theorem blk0 : iblk m c 0 t o1 = V m c main_v30 o1 := by
  blk_ext [iblk, idx t]

theorem blk4 (l : Fin 128) : iblk m c 4 t (ix2 0 l) = V m c main_v31 (ix2 0 l) := by
  blk_ext [iblk, idx t]

end blocks

/-- What the body leaves at one block index is the closed form where that index sits. -/
theorem point (c : Dev nD) (t : Fin cfg0.N) (r : Fin 512) (l : Fin 128) (z : S2x16384x768.Idx)
    (e0 : (z 0).val = (grid0.coords t 0).val) (e1 : (z 1).val = 512 * (grid0.coords t 2).val + r.val) (e2 : (z 2).val = 128 * (grid0.coords t 1).val + l.val) :
    outBlk (F := Ideal) (iblk m c 0 t) (iblk m c 1 t) (iblk m c 2 t) (iblk m c 3 t) (iblk m c 4 t) (ix3 0 r l)
      = outArr (V m c main_v30) (V m c main_v5) (V m c main_v9) (V m c main_v13) (V m c main_v31) z := by
  have hz2 : (z 2).val < 768 := (z 2).isLt
  have hb : (z 2).val / 128 = (grid0.coords t 1).val := by omega
  have hl : (⟨(z 2).val % 128, by omega⟩ : Fin 128) = l := Fin.ext (by show (z 2).val % 128 = _; omega)
  rw [outBlk_apply]; show _ = outAt _ _ _ _ _ _ _ _ _; rw [hl]; unfold outAt
  rw [blk0, blk2 m c t (z 0) ⟨(z 2).val / 128, by omega⟩ e0 hb, blk3 m c t (z 0) ⟨(z 2).val / 128, by omega⟩ e0 hb]
  have hq1 : (fun x => iblk m c 1 t (ix3 0 r x)) = queryOf (V m c main_v5) (z 0) (z 1) ⟨(z 2).val / 128, by omega⟩ :=
    funext fun x => blk1 m c t r x _ _ _ e0 e1 hb
  have hg : (fun l => iblk m c 4 t (ix2 0 l)) = fun l => V m c main_v31 (ix2 0 l) := funext fun l => blk4 m c t l
  rw [hq1, hg]

/-- The result array after the run. -/
theorem final (c : Dev nD) : (dats m 0 c).arrAt 5 (cfgs 0).N
    = outArr (V m c main_v30) (V m c main_v5) (V m c main_v9) (V m c main_v13) (V m c main_v31) := by
  refine (dats m 0 c).arrAt_eq_of_covers 5 _ (by decide +kernel) fun t _ y => ?_
  blk_simp
  rw [after0_5]
  have e0 : (((win0_5.blk t).view.emb y) 0).val = (grid0.coords t 0).val := by
    blk_simp [idx t]
  have e1 : (((win0_5.blk t).view.emb y) 1).val = 512 * (grid0.coords t 2).val + (y 1).val := by
    blk_simp [idx t] <;> omega
  have e2 : (((win0_5.blk t).view.emb y) 2).val = 128 * (grid0.coords t 1).val + (y 2).val := by
    blk_simp [idx t] <;> omega
  have hy : y = (ix3 0 (y 1) (y 2) : S1x512x128.Idx) := by
    funext a
    fin_cases a
    · exact Fin.ext (by have : (y 0).val < 1 := (y 0).isLt; show (y 0).val = 0; omega)
    · rfl
    · rfl
  refine Eq.trans ?_ (point m c t (y 1) (y 2) _ e0 e1 e2)
  exact congrArg _ hy

end Cert.Attn

end
-- ==== Proof.Soft.lean ====
/- A row's softmax in extended reals, in closed form; and the difference of two softmax averages against the average under the difference. -/
module

public import proofs.«01_k».proof.Proof.Online

@[expose] public section

noncomputable section

namespace Cert.Attn.Soft

open Idealize.ShloMosaic
open Cert.Attn.Online

variable {N : ℕ}

/-- The maximum of a row of scores. -/
@[irreducible] def rowMax (f : Fin N → EReal) : EReal := Finset.univ.fold max ⊥ f

theorem rowMax_eq (f : Fin N → EReal) : rowMax f = Finset.univ.sup f := by unfold rowMax; rfl

/-- A row of scores is good if none is `+∞` and some is above `−∞`. -/
def GoodRow (s : Fin N → EReal) : Prop := (∀ n, s n ≠ ⊤) ∧ ∃ n, s n ≠ ⊥

/-- The exponential of a score, zero at `−∞`. -/
def ew (x : EReal) : ℝ := if x = ⊥ then 0 else Real.exp x.toReal

theorem ew_nonneg (x : EReal) : 0 ≤ ew x := by unfold ew; split_ifs <;> positivity

theorem ew_pos {x : EReal} (h : x ≠ ⊥) : 0 < ew x := by unfold ew; rw [if_neg h]; positivity

/-- The softmax as it is computed: the row's maximum is taken off first. -/
def prob (s : Fin N → EReal) (n : Fin N) : EReal :=
  Ideal.div (Ideal.exp (s n - max ⊥ (rowMax s))) (∑ k, Ideal.exp (s k - max ⊥ (rowMax s)))

/-- The softmax of a good row. -/
def share (s : Fin N → EReal) (n : Fin N) : ℝ := ew (s n) / ∑ k, ew (s k)

theorem exp_sub {x : EReal} (h : x ≠ ⊤) (μ : ℝ) : Ideal.exp (x - (μ : EReal)) = ((ew x * Real.exp (-μ) : ℝ) : EReal) := by
  induction x with
  | bot => rw [EReal.bot_sub, ew, if_pos rfl, zero_mul]; rfl
  | coe r =>
    rw [← EReal.coe_sub, ew, if_neg (EReal.coe_ne_bot r), EReal.toReal_coe, ← Real.exp_add, ← sub_eq_add_neg]; rfl
  | top => exact absurd rfl h

theorem sum_ew_pos {s : Fin N → EReal} (hg : GoodRow s) : 0 < ∑ k, ew (s k) := by
  obtain ⟨n, hn⟩ := hg.2
  exact lt_of_lt_of_le (ew_pos hn) (Finset.single_le_sum (f := fun k => ew (s k)) (fun k _ => ew_nonneg _) (Finset.mem_univ n))

theorem prob_good {s : Fin N → EReal} (hg : GoodRow s) (n : Fin N) : prob s n = (share s n : EReal) := by
  have ht : rowMax s ≠ ⊤ := by
    rw [rowMax_eq]
    exact ne_of_lt ((Finset.sup_lt_iff bot_lt_top).2 fun k _ => lt_top_iff_ne_top.2 (hg.1 k))
  have hb : rowMax s ≠ ⊥ := by
    obtain ⟨k, hk⟩ := hg.2
    rw [rowMax_eq]
    exact ne_of_gt (lt_of_lt_of_le (bot_lt_iff_ne_bot.2 hk) (Finset.le_sup (f := s) (Finset.mem_univ k)))
  obtain ⟨μ, hμ⟩ : ∃ μ : ℝ, rowMax s = μ := ⟨_, (EReal.coe_toReal ht hb).symm⟩
  have he : ∀ k, Ideal.exp (s k - max ⊥ (rowMax s)) = ((ew (s k) * Real.exp (-μ) : ℝ) : EReal) := fun k => by
    rw [max_eq_right bot_le, hμ, exp_sub (hg.1 k)]
  have hp := sum_ew_pos hg
  have hx := Real.exp_pos (-μ)
  unfold prob
  simp only [he]
  rw [← coe_sum, ← Finset.sum_mul, div_coe (by positivity), mul_div_mul_right _ _ hx.ne']
  rfl

theorem prob_bad {s : Fin N → EReal} (hb : ¬ GoodRow s) (n : Fin N) : prob s n = ⊥ := by
  have he : ∀ k, Ideal.exp (s k - max ⊥ (rowMax s)) = 0 := by
    intro k
    by_cases ht : ∀ i, s i ≠ ⊤
    · have hk : s k = ⊥ := by
        by_contra h; exact hb ⟨ht, k, h⟩
      rw [hk, EReal.bot_sub]; rfl
    · obtain ⟨i, hi⟩ := not_forall.1 ht
      have hm : rowMax s = ⊤ := by
        rw [rowMax_eq]
        exact top_le_iff.1 ((not_not.1 hi) ▸ Finset.le_sup (f := s) (Finset.mem_univ i))
      rw [max_eq_right bot_le, hm, sub_top]; rfl
  unfold prob
  simp only [he]
  rw [Finset.sum_const_zero, div_zero_zero]

/-! A score in the base of the exponential and the same score in base two. -/

theorem mul_pos_eq_top {e : ℝ} (he : 0 < e) (t : EReal) : t * (e : EReal) = ⊤ ↔ t = ⊤ := by
  induction t with
  | bot => rw [EReal.bot_mul_coe_of_pos he]
  | coe r => rw [← EReal.coe_mul]; exact ⟨fun h => absurd h (EReal.coe_ne_top _), fun h => absurd h (EReal.coe_ne_top _)⟩
  | top => rw [EReal.top_mul_coe_of_pos he]

theorem mul_pos_eq_bot {e : ℝ} (he : 0 < e) (t : EReal) : t * (e : EReal) = ⊥ ↔ t = ⊥ := by
  induction t with
  | bot => rw [EReal.bot_mul_coe_of_pos he]
  | coe r => rw [← EReal.coe_mul]; exact ⟨fun h => absurd h (EReal.coe_ne_bot _), fun h => absurd h (EReal.coe_ne_bot _)⟩
  | top => rw [EReal.top_mul_coe_of_pos he]

theorem log_two_pos : 0 < Real.log 2 := Real.log_pos (by norm_num)

/-- `2^(t·e/log 2) = exp(t·e)`. -/
theorem weight_ew {e : ℝ} (he : 0 < e) (t : EReal) : weight (t * ((e / Real.log 2 : ℝ) : EReal)) 0 = ew (t * (e : EReal)) := by
  have hk : 0 < e / Real.log 2 := div_pos he log_two_pos
  unfold weight ew
  by_cases hb : t = ⊥
  · rw [if_pos ((mul_pos_eq_bot hk t).2 hb), if_pos ((mul_pos_eq_bot he t).2 hb)]
  · rw [if_neg fun h => hb ((mul_pos_eq_bot hk t).1 h), if_neg fun h => hb ((mul_pos_eq_bot he t).1 h)]
    rw [Real.rpow_def_of_pos (by norm_num), EReal.toReal_mul, EReal.toReal_mul, EReal.toReal_coe, EReal.toReal_coe, sub_zero]
    congr 1
    have := log_two_pos.ne'
    field_simp

section average
variable (B j : ℕ) (hN : B * (j + 1) = N) (r₀ : ℝ) {e : ℝ} (he : 0 < e) (t : Fin N → EReal) (σ v : ℕ → EReal) (w : Fin N → ℝ)
  (hσ : ∀ n : Fin N, σ n.val = t n * ((e / Real.log 2 : ℝ) : EReal)) (hv : ∀ n : Fin N, v n.val = w n)
include hN he hσ hv

theorem good_iff : Good (B * (j + 1)) σ ↔ GoodRow fun n => t n * (e : EReal) := by
  have hk : 0 < e / Real.log 2 := div_pos he log_two_pos
  subst hN
  constructor
  · rintro ⟨h, n, hn, hb⟩
    refine ⟨fun k hk' => h k.val k.isLt ?_, ⟨n, hn⟩, fun h' => hb ?_⟩
    · rw [hσ k]; exact (mul_pos_eq_top hk _).2 ((mul_pos_eq_top he _).1 hk')
    · exact (hσ ⟨n, hn⟩).trans ((mul_pos_eq_bot hk _).2 ((mul_pos_eq_bot he _).1 h'))
  · rintro ⟨h, n, hb⟩
    refine ⟨fun k hk' h' => h ⟨k, hk'⟩ ?_, n.val, n.isLt, fun h' => hb ?_⟩
    · exact (mul_pos_eq_top he _).2 ((mul_pos_eq_top hk _).1 ((hσ ⟨k, hk'⟩).symm.trans h'))
    · exact (mul_pos_eq_bot he _).2 ((mul_pos_eq_bot hk _).1 ((hσ n).symm.trans h'))

/-- On a good row the online quotient is the average under the softmax. -/
theorem ratio_share (hg : GoodRow fun n => t n * (e : EReal)) :
    ratio B r₀ σ v (j + 1) = ((∑ n, share (fun n => t n * (e : EReal)) n * w n : ℝ) : EReal) := by
  have h := (good_iff B j hN he t σ v w hσ hv).2 hg
  subst hN
  rw [ratio_good B r₀ (w := fun n => if hn : n < B * (j + 1) then w ⟨n, hn⟩ else 0) (j + 1) h fun n hn => by rw [dif_pos hn]; exact hv ⟨n, hn⟩]
  rw [Finset.sum_range, Finset.sum_range]
  simp only [hσ, weight_ew he, Fin.is_lt, dite_true, share]
  rw [Finset.sum_div]
  congr 1
  exact Finset.sum_congr rfl fun n _ => by ring

theorem ratio_not_good (hg : ¬ GoodRow fun n => t n * (e : EReal)) : ratio B r₀ σ v (j + 1) = ⊥ := by
  have h := mt (good_iff B j hN he t σ v w hσ hv).1 hg
  subst hN
  exact ratio_bad B r₀ (w := fun n => if hn : n < B * (j + 1) then w ⟨n, hn⟩ else 0) j h fun n hn => by rw [dif_pos hn]; exact hv ⟨n, hn⟩
end average

/-- Infinite or zero. -/
def Degenerate (x : EReal) : Prop := x = ⊤ ∨ x = ⊥ ∨ x = 0

theorem degenerate_mul (r : ℝ) {x : EReal} (h : x = ⊤ ∨ x = ⊥) : Degenerate ((r : EReal) * x) := by
  rcases lt_trichotomy r 0 with hr | hr | hr
  · rcases h with rfl | rfl
    · exact Or.inr (Or.inl (EReal.coe_mul_top_of_neg hr))
    · exact Or.inl (EReal.coe_mul_bot_of_neg hr)
  · subst hr; right; right; simp
  · rcases h with rfl | rfl
    · exact Or.inl (EReal.coe_mul_top_of_pos hr)
    · exact Or.inr (Or.inl (EReal.coe_mul_bot_of_pos hr))

theorem degenerate_add {x y : EReal} (hx : Degenerate x) (hy : Degenerate y) : Degenerate (x + y) := by
  rcases hx with rfl | rfl | rfl <;> rcases hy with rfl | rfl | rfl <;> simp [Degenerate]

theorem degenerate_sum {ι : Type*} (S : Finset ι) (f : ι → EReal) (h : ∀ i, Degenerate (f i)) : Degenerate (∑ i ∈ S, f i) := by
  classical
  induction S using Finset.induction_on with
  | empty => simp [Degenerate]
  | insert a S ha ih => rw [Finset.sum_insert ha]; exact degenerate_add (h a) ih

section rows
variable {L : Type*} (s₁ s₂ : Fin N → EReal) (c : ℝ) (v : Fin N → L → ℝ) (A₁ A₂ : L → EReal)
  (g₁ : GoodRow s₁ → ∀ l, A₁ l = ((∑ n, share s₁ n * v n l : ℝ) : EReal)) (b₁ : ¬ GoodRow s₁ → ∀ l, A₁ l = ⊥)
  (g₂ : GoodRow s₂ → ∀ l, A₂ l = ((∑ n, share s₂ n * v n l : ℝ) : EReal)) (b₂ : ¬ GoodRow s₂ → ∀ l, A₂ l = ⊥)
include g₁ b₁ g₂ b₂

/-- The difference of two averages is the average under the difference, or both are degenerate in every lane. -/
theorem diff_rows :
    (∀ l, A₁ l - (c : EReal) * A₂ l = ∑ n, (v n l : EReal) * (prob s₁ n - (c : EReal) * prob s₂ n))
    ∨ ((∀ l, Degenerate (A₁ l - (c : EReal) * A₂ l)) ∧ ∀ l, Degenerate (∑ n, (v n l : EReal) * (prob s₁ n - (c : EReal) * prob s₂ n))) := by
  by_cases h₁ : GoodRow s₁
  · by_cases h₂ : GoodRow s₂
    · left; intro l
      simp only [g₁ h₁, g₂ h₂, prob_good h₁, prob_good h₂, ← EReal.coe_mul, ← EReal.coe_sub, ← coe_sum]
      congr 1
      rw [Finset.mul_sum, ← Finset.sum_sub_distrib]
      exact Finset.sum_congr rfl fun n _ => by ring
    · rcases eq_or_ne c 0 with rfl | hc
      · left; intro l
        simp only [g₁ h₁, prob_good h₁, EReal.coe_zero, zero_mul, sub_zero, ← EReal.coe_mul, ← coe_sum]
        congr 1
        exact Finset.sum_congr rfl fun n _ => by ring
      · have hx : (c : EReal) * ⊥ = ⊤ ∨ (c : EReal) * ⊥ = ⊥ := by
          rcases lt_or_gt_of_ne hc with h | h
          · exact Or.inl (EReal.coe_mul_bot_of_neg h)
          · exact Or.inr (EReal.coe_mul_bot_of_pos h)
        have hd : ∀ r : ℝ, (r : EReal) - (c : EReal) * ⊥ = ⊤ ∨ (r : EReal) - (c : EReal) * ⊥ = ⊥ := by
          intro r
          rcases hx with h | h
          · right; rw [h, sub_top]
          · left; rw [h, sub_eq_add_neg, EReal.neg_bot, EReal.coe_add_top]
        right
        refine ⟨fun l => ?_, fun l => degenerate_sum _ _ fun n => ?_⟩
        · rw [g₁ h₁, b₂ h₂]
          exact (hd _).imp_right Or.inl
        · rw [prob_good h₁, prob_bad h₂]
          exact degenerate_mul _ (hd _)
  · right
    refine ⟨fun l => ?_, fun l => degenerate_sum _ _ fun n => ?_⟩
    · rw [b₁ h₁, EReal.bot_sub]; exact Or.inr (Or.inl rfl)
    · rw [prob_bad h₁, EReal.bot_sub]; exact degenerate_mul _ (Or.inr rfl)
end rows

/-- A positive real factor comes out of a sum. -/
theorem sum_mul_pos {ι : Type*} (S : Finset ι) (f : ι → EReal) {e : ℝ} (he : 0 < e) : ∑ i ∈ S, f i * (e : EReal) = (∑ i ∈ S, f i) * (e : EReal) := by
  classical
  induction S using Finset.induction_on with
  | empty => simp
  | insert a S ha ih =>
    rw [Finset.sum_insert ha, Finset.sum_insert ha, ih, mul_comm (f a + _), EReal.left_distrib_of_nonneg_of_ne_top (by exact_mod_cast he.le) (EReal.coe_ne_top _), mul_comm (f a), mul_comm (∑ i ∈ S, f i)]

/-- A sum over the lanes of two maps in which only one map's lanes count. -/
theorem sum_half (p : Fin 2) (f : Fin 128 → EReal) :
    ∑ c : Fin 128, (if c.val / 64 = p.val then f c else 0) = ∑ d : Fin 64, f ⟨64 * p.val + d.val, by omega⟩ := by
  have h := (finProdFinEquiv (m := 2) (n := 64)).sum_comp fun c : Fin 128 => if c.val / 64 = p.val then f c else 0
  refine h.symm.trans ?_
  rw [Fintype.sum_prod_type, Finset.sum_eq_single p]
  · refine Finset.sum_congr rfl fun d _ => ?_
    have hv : (finProdFinEquiv (p, d) : Fin (2 * 64)).val = d.val + 64 * p.val := rfl
    rw [if_pos (by rw [hv]; omega)]
    exact congrArg f (Fin.ext (by rw [hv]; exact Nat.add_comm _ _))
  · intro p' _ hp'
    refine Finset.sum_eq_zero fun d _ => if_neg fun h' => hp' (Fin.ext ?_)
    have hv : (finProdFinEquiv (p', d) : Fin (2 * 64)).val = d.val + 64 * p'.val := rfl
    rw [hv] at h'; omega
  · intro h'; exact absurd (Finset.mem_univ p) h'

end Cert.Attn.Soft

end
-- ==== Proof.Ref.lean ====
/- The reference's result as named stages, and each stage read at an index. -/
module

public import proofs.«01_k».proof.Proof.Gen.ReferenceIdeal.Run
public import proofs.«01_k».proof.Proof.Soft
public import Idealize.ShloMosaic.Lib.Pointwise
public import Idealize.ShloMosaic.Lib.IdealHost

@[expose] public section

set_option maxRecDepth 16384

noncomputable section

namespace Cert.Attn.Ref

open Cert.ReferenceIdeal Cert.ReferenceIdeal.Gen
open Idealize.ShloMosaic
open Idealize.ShloMosaic.TcCoe
open Cert.Attn.Soft

section stages
variable {F : FTy → Type} [FloatOps F]

/-- The scaled scores of every query against every key, by map. -/
def scoresR (q k : FVec F S2x16384x6x2x64 .f32) (kc : FVec F S2x256x6x2x64 .f32) : FVec F S2x6x2x16384x16640 .f32 :=
  mulf (Host.dotGeneral dot_S2x16384x6x2x64_S2x16640x6x2x64_S2x6x2x16384x16640_4_4_1_1_023_023 none q
    (concatenate S2x16640x6x2x64 1 [⟨S2x16384x6x2x64, k⟩, ⟨S2x256x6x2x64, kc⟩] concatenates_S2x16384x6x2x64_S2x256x6x2x64_S2x16640x6x2x64_d1))
    (broadcastInDim S2x6x2x16384x16640 ![] bcast_S_S2x6x2x16384x16640 (constant S_ .f32 0x3E000000#32))

/-- A row quantity along the keys. -/
def along (x : FVec F S2x6x2x16384 .f32) : FVec F S2x6x2x16384x16640 .f32 :=
  broadcastInDim S2x6x2x16384x16640 ![0, 1, 2, 3, 4] bcast_S2x6x2x16384x1_S2x6x2x16384x16640_0_1_2_3_4
    (broadcastInDim S2x6x2x16384x1 ![0, 1, 2, 3] bcast_S2x6x2x16384_S2x6x2x16384x1_0_1_2_3 x)

/-- Row quantities raised to at least −∞. -/
def atLeastBot (x : FVec F S2x6x2x16384 .f32) : FVec F S2x6x2x16384 .f32 :=
  maximumf (broadcastInDim S2x6x2x16384 ![] bcast_S_S2x6x2x16384 (constant S_ .f32 0xFF800000#32)) x

/-- Each row's maximum. -/
def maxR (s : FVec F S2x6x2x16384x16640 .f32) : FVec F S2x6x2x16384 .f32 :=
  atLeastBot (Host.reduce FloatOps.maximumf s (constant S_ .f32 0xFF800000#32) reducesTo_S2x6x2x16384x16640_S2x6x2x16384_d4 h_S_)

def expR (s : FVec F S2x6x2x16384x16640 .f32) : FVec F S2x6x2x16384x16640 .f32 := Host.exp (subf s (along (maxR s)))

/-- The softmax along the keys. -/
def softR (s : FVec F S2x6x2x16384x16640 .f32) : FVec F S2x6x2x16384x16640 .f32 :=
  Host.divf (expR s) (along (Host.reduceAdd (expR s) (constant S_ .f32 0x00000000#32) reducesTo_S2x6x2x16384x16640_S2x6x2x16384_d4 h_S_))

/-- The weight of the second map. -/
def lamR (lp : FVec F S4x64 .f32) : FVec F S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_))
      (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_)))
    (constant S_ .f32 0x3E4CCCCD#32)

/-- The difference of the two maps' weights. -/
def mixR (p : FVec F S2x6x2x16384x16640 .f32) (lam : FVec F S_ .f32) : FVec F S2x6x16384x16640 .f32 :=
  subf (shapeCast _ (extractStridedSlice S2x6x1x16384x16640 ![0, 0, 0, 0, 0] p slices_S2x6x2x16384x16640_S2x6x1x16384x16640_0_0_0_0_0) shapeCasts_S2x6x1x16384x16640_S2x6x16384x16640)
    (mulf (broadcastInDim S2x6x16384x16640 ![] bcast_S_S2x6x16384x16640 lam)
      (shapeCast _ (extractStridedSlice S2x6x1x16384x16640 ![0, 0, 1, 0, 0] p slices_S2x6x2x16384x16640_S2x6x1x16384x16640_0_0_1_0_0) shapeCasts_S2x6x1x16384x16640_S2x6x16384x16640))

/-- The weighted sums of the values. -/
def sumR (v : FVec F S2x16384x6x128 .f32) (vc : FVec F S2x256x6x128 .f32) (d : FVec F S2x6x16384x16640 .f32) : FVec F S2x16384x6x128 .f32 :=
  transpose S2x16384x6x128 [0, 3, 1, 2] (Host.dotGeneral dot_S2x16640x6x128_S2x6x16384x16640_S2x6x128x16384_1_3_3_2_02_01 none
    (concatenate S2x16640x6x128 1 [⟨S2x16384x6x128, v⟩, ⟨S2x256x6x128, vc⟩] concatenates_S2x16384x6x128_S2x256x6x128_S2x16640x6x128_d1) d) transposes_S2x6x128x16384_S2x16384x6x128_0_3_1_2

/-- The normalization, the gain and the factor, before the heads are laid side by side. -/
def normR (o : FVec F S2x16384x6x128 .f32) (g : FVec F S128 .f32) : FVec F S2x16384x6x128 .f32 :=
  mulf (mulf (mulf o (broadcastInDim S2x16384x6x128 ![0, 1, 2, 3] bcast_S2x16384x6x1_S2x16384x6x128_0_1_2_3
      (Host.rsqrt (addf (Host.divf (broadcastInDim S2x16384x6x1 ![0, 1, 2] bcast_S2x16384x6_S2x16384x6x1_0_1_2
          (Host.reduceAdd (mulf o o) (constant S_ .f32 0x00000000#32) reducesTo_S2x16384x6x128_S2x16384x6_d3 h_S_))
        (broadcastInDim S2x16384x6x1 ![] bcast_S_S2x16384x6x1 (constant S_ .f32 0x43000000#32)))
        (broadcastInDim S2x16384x6x1 ![] bcast_S_S2x16384x6x1 (constant S_ .f32 0x3727C5AC#32))))))
      (broadcastInDim S2x16384x6x128 ![0, 1, 2, 3] bcast_S1x1x1x128_S2x16384x6x128_0_1_2_3 (broadcastInDim S1x1x1x128 ![3] bcast_S128_S1x1x1x128_3 g)))
    (broadcastInDim S2x16384x6x128 ![] bcast_S_S2x16384x6x128 (constant S_ .f32 0x3F4CCCCD#32))

def outR (q k : FVec F S2x16384x6x2x64 .f32) (v : FVec F S2x16384x6x128 .f32) (kc : FVec F S2x256x6x2x64 .f32) (vc : FVec F S2x256x6x128 .f32) (lp : FVec F S4x64 .f32) (g : FVec F S128 .f32) : FVec F S2x16384x768 .bf16 :=
  truncf .bf16 (shapeCast S2x16384x768 (normR (sumR v vc (mixR (softR (scoresR q k kc)) (lamR lp))) g) shapeCasts_S2x16384x6x128_S2x16384x768) bitsLt_bf16_f32

/-- The reference's result is these stages. -/
theorem res_eq (m : (ℓ : Loc nD τ sig) → Buf (Elt F) ℓ) (c : Dev nD) :
    Cert.ReferenceIdeal.Value.res_main_v57 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.ReferenceIdeal.Value.res_main_v57
  rfl

end stages

theorem ofBits_neg_inf : Ideal.ofBits .f32 0xFF800000#32 = (⊥ : EReal) := by
  unfold Ideal.ofBits Ideal.ieee; simp

/-- The key at position `n` of all keys. -/
def keyAt (k : FVec Ideal S2x16384x6x2x64 .f32) (kc : FVec Ideal S2x256x6x2x64 .f32) (b : Fin 2) (h : Fin 6) (p : Fin 2) (n : Fin 16640) (d : Fin 64) : EReal :=
  if hn : n.val < 16384 then k (ix5 b ⟨n.val, hn⟩ h p d) else kc (ix5 b ⟨n.val - 16384, by omega⟩ h p d)

/-- The value at position `n` of all values. -/
def valAt (v : FVec Ideal S2x16384x6x128 .f32) (vc : FVec Ideal S2x256x6x128 .f32) (b : Fin 2) (h : Fin 6) (n : Fin 16640) (l : Fin 128) : EReal :=
  if hn : n.val < 16384 then v (ix4 b ⟨n.val, hn⟩ h l) else vc (ix4 b ⟨n.val - 16384, by omega⟩ h l)

theorem scoresR_apply (q k : FVec Ideal S2x16384x6x2x64 .f32) (kc : FVec Ideal S2x256x6x2x64 .f32) (b : Fin 2) (h : Fin 6) (p : Fin 2) (i : Fin 16384) (n : Fin 16640) :
    scoresR q k kc (ix5 b h p i n) = (∑ d : Fin 64, q (ix5 b i h p d) * keyAt k kc b h p n d) * Ideal.ofBits .f32 0x3E000000#32 := by
  unfold keyAt
  pointwise [scoresR]

theorem along_apply (x : FVec Ideal S2x6x2x16384 .f32) (b : Fin 2) (h : Fin 6) (p : Fin 2) (i : Fin 16384) (n : Fin 16640) :
    along x (ix5 b h p i n) = x (ix4 b h p i) := by
  pointwise [along]

theorem atLeastBot_apply (x : FVec Ideal S2x6x2x16384 .f32) (b : Fin 2) (h : Fin 6) (p : Fin 2) (i : Fin 16384) :
    atLeastBot x (ix4 b h p i) = max (⊥ : EReal) (x (ix4 b h p i)) := by
  rw [← ofBits_neg_inf]
  pointwise [atLeastBot]

/-- A maximum along the last of five axes, at any sizes. -/
theorem hostMax_last {n0 n1 n2 n3 n4 : ℕ} {u : Shape} (hr : (⟨5, ![n0, n1, n2, n3, n4]⟩ : Shape).ReducesTo [4] ⟨4, ![n0, n1, n2, n3]⟩) (hu : 0 < u.numel)
    (v : FVec Ideal ⟨5, ![n0, n1, n2, n3, n4]⟩ .f32) (init : FVec Ideal u .f32) (hi : (init (Shape.Idx.first hu) : EReal) = ⊥) (b : Fin n0) (h : Fin n1) (p : Fin n2) (i : Fin n3) :
    Host.reduce FloatOps.maximumf v init hr hu (ix4 b h p i) = rowMax fun n : Fin n4 => (v (ix5 b h p i n) : EReal) := by
  rw [Host.reduce_eq_fold, hr.fold_fiber_r5_a4]
  unfold rowMax
  rw [← hi]
  rfl

theorem maxR_apply (s : FVec Ideal S2x6x2x16384x16640 .f32) (b : Fin 2) (h : Fin 6) (p : Fin 2) (i : Fin 16384) :
    maxR s (ix4 b h p i) = max (⊥ : EReal) (rowMax fun n : Fin 16640 => (s (ix5 b h p i n) : EReal)) := by
  rw [maxR, atLeastBot_apply]
  exact congrArg (max (⊥ : EReal)) (hostMax_last reducesTo_S2x6x2x16384x16640_S2x6x2x16384_d4 h_S_ s (constant S_ .f32 0xFF800000#32) ofBits_neg_inf b h p i)

theorem expR_apply (s : FVec Ideal S2x6x2x16384x16640 .f32) (b : Fin 2) (h : Fin 6) (p : Fin 2) (i : Fin 16384) (n : Fin 16640) :
    expR s (ix5 b h p i n) = Ideal.exp (s (ix5 b h p i n) - maxR s (ix4 b h p i) : EReal) := by
  pointwise [expR, along]

theorem softR_apply (s : FVec Ideal S2x6x2x16384x16640 .f32) (b : Fin 2) (h : Fin 6) (p : Fin 2) (i : Fin 16384) (n : Fin 16640) :
    softR s (ix5 b h p i n) = Ideal.div (expR s (ix5 b h p i n)) (∑ n : Fin 16640, (expR s (ix5 b h p i n) : EReal)) := by
  pointwise [softR, along]

theorem mixR_apply (s : FVec Ideal S2x6x2x16384x16640 .f32) (lam : FVec Ideal S_ .f32) (b : Fin 2) (h : Fin 6) (i : Fin 16384) (n : Fin 16640) :
    mixR s lam (ix4 b h i n) = (s (ix5 b h 0 i n) - lam ix0 * s (ix5 b h 1 i n) : EReal) := by
  pointwise [mixR]

theorem sumR_apply (v : FVec Ideal S2x16384x6x128 .f32) (vc : FVec Ideal S2x256x6x128 .f32) (d : FVec Ideal S2x6x16384x16640 .f32) (b : Fin 2) (h : Fin 6) (i : Fin 16384) (l : Fin 128) :
    sumR v vc d (ix4 b i h l) = ∑ n : Fin 16640, (valAt v vc b h n l * d (ix4 b h i n) : EReal) := by
  unfold valAt
  pointwise [sumR]

theorem normR_apply (o : FVec Ideal S2x16384x6x128 .f32) (g : FVec Ideal S128 .f32) (b : Fin 2) (h : Fin 6) (i : Fin 16384) (l : Fin 128) :
    normR o g (ix4 b i h l) = o (ix4 b i h l) * Ideal.rsqrt (Ideal.div (∑ k : Fin 128, (o (ix4 b i h k) * o (ix4 b i h k) : EReal)) (Ideal.ofBits .f32 0x43000000#32) + Ideal.ofBits .f32 0x3727C5AC#32) * g (ix1 l) * Ideal.ofBits .f32 0x3F4CCCCD#32 := by
  pointwise [normR]

theorem outR_apply (q k : FVec Ideal S2x16384x6x2x64 .f32) (v : FVec Ideal S2x16384x6x128 .f32) (kc : FVec Ideal S2x256x6x2x64 .f32) (vc : FVec Ideal S2x256x6x128 .f32) (lp : FVec Ideal S4x64 .f32) (g : FVec Ideal S128 .f32)
    (b : Fin 2) (i : Fin 16384) (h : Fin 6) (l : Fin 128) :
    outR q k v kc vc lp g (ix3 b i ⟨128 * h.val + l.val, by omega⟩) = normR (sumR v vc (mixR (softR (scoresR q k kc)) (lamR lp))) g (ix4 b i h l) := by
  pointwise [outR]

end Cert.Attn.Ref

end
-- ==== Proof.Host.lean ====
/- The arrays the host prepares for the kernel, read at an index of the arguments. -/
module

public import proofs.«01_k».proof.Proof.Array
public import proofs.«01_k».proof.Proof.Ref
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe

variable (m : (ℓ : Loc nD τ sig) → Buf (Elt Ideal) ℓ) (c : Dev nD)

/-- Lane `d` of map `p` within a head. -/
def half (p : Fin 2) (d : Fin 64) : Fin 128 := ⟨64 * p.val + d.val, by omega⟩

/-- The factor the host multiplies the queries by. -/
def factor : EReal := Ideal.div (Ideal.ofBits .f32 0x3E000000#32) (Ideal.log (Ideal.ofBits .f32 0x40000000#32))

theorem head_eq (h : Fin 6) (p : Fin 2) (d : Fin 64) (hx) : (⟨(128 * h.val + (64 * p.val + d.val)) / 128, hx⟩ : Fin 6) = h := Fin.ext (by show _ / _ = _; omega)
theorem map_eq (h : Fin 6) (p : Fin 2) (d : Fin 64) (hx) : (⟨(128 * h.val + (64 * p.val + d.val)) / 64 % 2, hx⟩ : Fin 2) = p := Fin.ext (by show _ % _ = _; omega)
theorem lane_eq (h : Fin 6) (p : Fin 2) (d : Fin 64) (hx) : (⟨(128 * h.val + (64 * p.val + d.val)) % 64, hx⟩ : Fin 64) = d := Fin.ext (by show _ % _ = _; omega)
theorem head_eq' (h : Fin 6) (l : Fin 128) (hx) : (⟨(128 * h.val + l.val) / 128, hx⟩ : Fin 6) = h := Fin.ext (by show _ / _ = _; omega)
theorem lane_eq' (h : Fin 6) (l : Fin 128) (hx) : (⟨(128 * h.val + l.val) % 128, hx⟩ : Fin 128) = l := Fin.ext (by show _ % _ = _; omega)

theorem queries_apply (b : Fin 2) (n : Fin 16384) (h : Fin 6) (p : Fin 2) (d : Fin 64) :
    queryOf (V m c main_v5) b n h (half p d) = HMul.hMul (α := EReal) (β := EReal) (m ((c.tc : Thread nD τ).loc main_arg0) (ix5 b n h p d)) factor := by
  unfold queryOf half factor
  entry_read
  pointwise
  simp only [head_eq, map_eq, lane_eq]

theorem keys_apply (b : Fin 2) (h : Fin 6) (n : Fin 16640) (p : Fin 2) (d : Fin 64) :
    headOf (V m c main_v9) b h (ix3 0 n (half p d)) = Ref.keyAt (m ((c.tc : Thread nD τ).loc main_arg1)) (m ((c.tc : Thread nD τ).loc main_arg3)) b h p n d := by
  unfold headOf half Ref.keyAt
  entry_read
  pointwise
  simp only [head_eq, map_eq, lane_eq]

theorem values_apply (b : Fin 2) (h : Fin 6) (n : Fin 16640) (l : Fin 128) :
    headOf (V m c main_v13) b h (ix3 0 n l) = Ref.valAt (m ((c.tc : Thread nD τ).loc main_arg2)) (m ((c.tc : Thread nD τ).loc main_arg4)) b h n l := by
  unfold headOf Ref.valAt
  entry_read
  pointwise
  simp only [head_eq', lane_eq']

theorem lam_apply : V m c main_v30 o1 = Ref.lamR (F := Ideal) (m ((c.tc : Thread nD τ).loc main_arg5)) ix0 := by
  entry_read
  unfold Ref.lamR
  pointwise

theorem gain_apply (l : Fin 128) : V m c main_v31 (ix2 0 l) = m ((c.tc : Thread nD τ).loc main_arg6) (ix1 l) := by
  entry_read
  pointwise

end Cert.Attn

end
-- ==== Proof.Equal.lean ====
/- The kernel's result array and the reference's are the same array, when the values and the parameters of the second map's weight are finite. -/
module

public import proofs.«01_k».proof.Proof.Host

@[expose] public section

set_option maxRecDepth 16384

noncomputable section

namespace Cert.Attn

open Cert.KernelIdeal Cert.KernelIdeal.Gen
open Idealize.ShloMosaic
open Idealize.ShloMosaic.TcCoe
open Cert.Attn.Online Cert.Attn.Soft

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_lanes : Ideal.ofBits .f32 0x43000000#32 = ((128 : ℝ) : EReal) := by
  simp [Ideal.ofBits, Ideal.ieee, -EReal.coe_mul]; norm_num

theorem ofBits_eps : ∃ r : ℝ, Ideal.ofBits .f32 0x3727C5AC#32 = (r : EReal) := by
  unfold Ideal.ofBits Ideal.ieee; simp only []
  rw [if_neg (by decide), if_neg (by decide)]
  exact ⟨_, rfl⟩

theorem ofBits_base : ∃ r : ℝ, Ideal.ofBits .f32 0x3E4CCCCD#32 = (r : EReal) := by
  unfold Ideal.ofBits Ideal.ieee; simp only []
  rw [if_neg (by decide), if_neg (by decide)]
  exact ⟨_, rfl⟩

theorem factor_eq : factor = (((1 / 8 : ℝ) / Real.log 2 : ℝ) : EReal) := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [factor, ofBits_eighth, ofBits_two, hl, div_coe log_two_pos.ne']

/-- A row degenerate in every lane is normalized to zero. -/
theorem normed_degenerate (o g : Fin 128 → EReal) (h : ∀ l, Degenerate (o l)) (l : Fin 128) : normed o g l = 0 := by
  have hz : o l * Ideal.rsqrt (Ideal.div (∑ k : Fin 128, o k * o k) (Ideal.ofBits .f32 0x43000000#32) + Ideal.ofBits .f32 0x3727C5AC#32) = 0 := by
    by_cases h0 : o l = 0
    · rw [h0, zero_mul]
    · have hsq : ∀ k, 0 ≤ o k * o k := fun k => by
        rcases h k with e | e | e <;> rw [e] <;> simp
      have hl : o l * o l = ⊤ := by
        rcases h l with e | e | e
        · rw [e]; rfl
        · rw [e]; rfl
        · exact absurd e h0
      have hs : ∑ k : Fin 128, o k * o k = ⊤ :=
        top_le_iff.1 (hl ▸ Finset.single_le_sum (f := fun k => o k * o k) (fun k _ => hsq k) (Finset.mem_univ l))
      obtain ⟨e, he⟩ := ofBits_eps
      have hd : Ideal.div ⊤ ((128 : ℝ) : EReal) = ⊤ := by
        unfold Ideal.div
        rw [if_neg (by norm_num), ← EReal.coe_inv, EReal.top_mul_coe_of_pos (by norm_num)]
      rw [hs, ofBits_lanes, hd, he, EReal.top_add_coe]
      exact mul_zero _
  rw [normed, hz, zero_mul, zero_mul]

section
variable (q k : FVec Ideal S2x16384x6x2x64 .f32) (v : FVec Ideal S2x16384x6x128 .f32) (kc : FVec Ideal S2x256x6x2x64 .f32) (vc : FVec Ideal S2x256x6x128 .f32)

/-- The scores of a query against every key under one map, before any factor. -/
def rawScore (b : Fin 2) (h : Fin 6) (p : Fin 2) (i : Fin 16384) (n : Fin 16640) : EReal :=
  ∑ d : Fin 64, (q (ix5 b i h p d) : EReal) * Ref.keyAt k kc b h p n d

theorem soft_eq (b : Fin 2) (h : Fin 6) (p : Fin 2) (i : Fin 16384) (n : Fin 16640) :
    Ref.softR (Ref.scoresR q k kc) (ix5 b h p i n) = prob (fun n => rawScore q k kc b h p i n * ((1 / 8 : ℝ) : EReal)) n := by
  rw [← ofBits_eighth, Ref.softR_apply]
  simp only [Ref.expR_apply, Ref.maxR_apply, Ref.scoresR_apply]
  rfl

theorem valAt_real (hv : ∀ x, ∃ r : ℝ, (v x : EReal) = r) (hvc : ∀ x, ∃ r : ℝ, (vc x : EReal) = r) (b : Fin 2) (h : Fin 6) :
    ∃ w : Fin 16640 → Fin 128 → ℝ, ∀ n l, Ref.valAt v vc b h n l = (w n l : EReal) := by
  have hr : ∀ n l, ∃ r : ℝ, Ref.valAt v vc b h n l = (r : EReal) := fun n l => by
    unfold Ref.valAt; split_ifs
    · exact hv _
    · exact hvc _
  choose w hw using hr
  exact ⟨w, hw⟩
end

/-- The second map's weight is finite when its parameters are. -/
theorem lam_real (lp : FVec Ideal S4x64 .f32) (hl : ∀ x, ∃ r : ℝ, (lp x : EReal) = r) : ∃ r : ℝ, (Ref.lamR lp ix0 : EReal) = r := by
  choose w hw using hl
  obtain ⟨e, he⟩ := ofBits_base
  have h : (Ref.lamR lp ix0 : EReal) = Ideal.exp (∑ d : Fin 64, (lp (ix2 0 d) : EReal) * lp (ix2 1 d)) - Ideal.exp (∑ d : Fin 64, (lp (ix2 2 d) : EReal) * lp (ix2 3 d)) + Ideal.ofBits .f32 0x3E4CCCCD#32 := by
    pointwise [Ref.lamR]
  rw [h, he]
  simp only [hw, ← EReal.coe_mul, ← coe_sum]
  exact ⟨_, rfl⟩

variable (m : (ℓ : Loc nD τ sig) → Buf (Elt Ideal) ℓ) (c : Dev nD)

theorem score_eq (b : Fin 2) (h : Fin 6) (p : Fin 2) (i : Fin 16384) (n : Fin 16640) :
    score (headOf (V m c main_v9) b h) (mask p (queryOf (V m c main_v5) b i h)) n.val
      = rawScore (m ((c.tc : Thread nD τ).loc main_arg0)) (m ((c.tc : Thread nD τ).loc main_arg1)) (m ((c.tc : Thread nD τ).loc main_arg3)) b h p i n * (((1 / 8 : ℝ) / Real.log 2 : ℝ) : EReal) := by
  have hf : 0 < (1 / 8 : ℝ) / Real.log 2 := div_pos (by norm_num) log_two_pos
  rw [score, dif_pos n.isLt]
  unfold mask rawScore
  simp only [ite_mul, zero_mul]
  rw [sum_half p fun x => queryOf (V m c main_v5) b i h x * headOf (V m c main_v9) b h (ix3 0 n x), ← sum_mul_pos _ _ hf]
  refine Finset.sum_congr rfl fun d _ => ?_
  have e1 := queries_apply m c b i h p d
  have e2 := keys_apply m c b h n p d
  rw [factor_eq] at e1
  unfold half at e1 e2
  rw [e1, e2]
  exact mul_right_comm _ _ _

section
variable (hv : ∀ x, ∃ r : ℝ, @Eq EReal (m ((c.tc : Thread nD τ).loc main_arg2) x) r) (hvc : ∀ x, ∃ r : ℝ, @Eq EReal (m ((c.tc : Thread nD τ).loc main_arg4) x) r)
  (hl : ∀ x, ∃ r : ℝ, @Eq EReal (m ((c.tc : Thread nD τ).loc main_arg5) x) r)
include hv hvc hl

theorem point_eq (b : Fin 2) (i : Fin 16384) (h : Fin 6) (l : Fin 128) :
    outAt (V m c main_v30) (V m c main_v5) (V m c main_v9) (V m c main_v13) (V m c main_v31) b i h l
      = Ref.outR (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (ix3 b i ⟨128 * h.val + l.val, by omega⟩) := by
  obtain ⟨w, hw⟩ := valAt_real _ _ hv hvc b h
  obtain ⟨r, hr⟩ := lam_real _ hl
  have hlam := (lam_apply m c).trans hr
  have hcol : ∀ (l : Fin 128) (n : Fin 16640), column (headOf (V m c main_v13) b h) l n.val = (w n l : EReal) := fun l n => by
    rw [column, dif_pos n.isLt]; exact (values_apply m c b h n l).trans (hw n l)
  have key := diff_rows (fun n => rawScore (m ((c.tc : Thread nD τ).loc main_arg0)) (m ((c.tc : Thread nD τ).loc main_arg1)) (m ((c.tc : Thread nD τ).loc main_arg3)) b h 0 i n * ((1 / 8 : ℝ) : EReal))
    (fun n => rawScore (m ((c.tc : Thread nD τ).loc main_arg0)) (m ((c.tc : Thread nD τ).loc main_arg1)) (m ((c.tc : Thread nD τ).loc main_arg3)) b h 1 i n * ((1 / 8 : ℝ) : EReal)) r w
    (avg (queryOf (V m c main_v5) b i h) (headOf (V m c main_v9) b h) (headOf (V m c main_v13) b h) 0)
    (avg (queryOf (V m c main_v5) b i h) (headOf (V m c main_v9) b h) (headOf (V m c main_v13) b h) 1)
    (fun hg l => ratio_share 1280 12 (by norm_num) start (by norm_num) _ _ _ (fun n => w n l) (score_eq m c b h 0 i) (hcol l) hg)
    (fun hg l => ratio_not_good 1280 12 (by norm_num) start (by norm_num) _ _ _ (fun n => w n l) (score_eq m c b h 0 i) (hcol l) hg)
    (fun hg l => ratio_share 1280 12 (by norm_num) start (by norm_num) _ _ _ (fun n => w n l) (score_eq m c b h 1 i) (hcol l) hg)
    (fun hg l => ratio_not_good 1280 12 (by norm_num) start (by norm_num) _ _ _ (fun n => w n l) (score_eq m c b h 1 i) (hcol l) hg)
  have hd : ∀ l, diff (V m c main_v30 o1) (queryOf (V m c main_v5) b i h) (headOf (V m c main_v9) b h) (headOf (V m c main_v13) b h) l
      = avg (queryOf (V m c main_v5) b i h) (headOf (V m c main_v9) b h) (headOf (V m c main_v13) b h) 0 l - (r : EReal) * avg (queryOf (V m c main_v5) b i h) (headOf (V m c main_v9) b h) (headOf (V m c main_v13) b h) 1 l := fun l => by
    rw [diff, hlam]
  have hs : ∀ l, (Ref.sumR (F := Ideal) (m ((c.tc : Thread nD τ).loc main_arg2)) (m ((c.tc : Thread nD τ).loc main_arg4)) (Ref.mixR (Ref.softR (Ref.scoresR (m ((c.tc : Thread nD τ).loc main_arg0)) (m ((c.tc : Thread nD τ).loc main_arg1)) (m ((c.tc : Thread nD τ).loc main_arg3)))) (Ref.lamR (m ((c.tc : Thread nD τ).loc main_arg5)))) (ix4 b i h l) : EReal)
      = ∑ n, (w n l : EReal) * (prob (fun n => rawScore (m ((c.tc : Thread nD τ).loc main_arg0)) (m ((c.tc : Thread nD τ).loc main_arg1)) (m ((c.tc : Thread nD τ).loc main_arg3)) b h 0 i n * ((1 / 8 : ℝ) : EReal)) n
        - (r : EReal) * prob (fun n => rawScore (m ((c.tc : Thread nD τ).loc main_arg0)) (m ((c.tc : Thread nD τ).loc main_arg1)) (m ((c.tc : Thread nD τ).loc main_arg3)) b h 1 i n * ((1 / 8 : ℝ) : EReal)) n) := fun l => by
    rw [Ref.sumR_apply]
    refine Finset.sum_congr rfl fun n _ => ?_
    rw [hw, Ref.mixR_apply, soft_eq, soft_eq, hr]
  rw [Ref.outR_apply, Ref.normR_apply]
  have hg : ∀ l, V m c main_v31 (ix2 0 l) = m ((c.tc : Thread nD τ).loc main_arg6) (ix1 l) := gain_apply m c
  show normed _ _ l = normed (fun l => Ref.sumR (F := Ideal) _ _ _ (ix4 b i h l)) (fun l => m ((c.tc : Thread nD τ).loc main_arg6) (ix1 l)) l
  rcases key with key | ⟨k1, k2⟩
  · exact congrArg₂ (fun o g => normed o g l) (funext fun l => (hd l).trans ((key l).trans (hs l).symm)) (funext hg)
  · rw [normed_degenerate _ _ fun l => by rw [hd l]; exact k1 l, normed_degenerate _ _ fun l => by rw [hs l]; exact k2 l]

/-- The two result arrays. -/
theorem result_eq :
    outArr (V m c main_v30) (V m c main_v5) (V m c main_v9) (V m c main_v13) (V m c main_v31)
      = Ref.outR (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  funext x
  have hx : (x 2).val < 768 := (x 2).isLt
  have e : x = ix3 (x 0) (x 1) ⟨128 * ((x 2).val / 128) + (x 2).val % 128, by omega⟩ := by
    funext a
    fin_cases a
    · rfl
    · rfl
    · exact Fin.ext (Nat.div_add_mod _ _).symm
  refine (point_eq m c hv hvc hl (x 0) (x 1) ⟨(x 2).val / 128, by omega⟩ ⟨(x 2).val % 128, by omega⟩).trans ?_
  exact congrArg _ e.symm
end

end Cert.Attn

end
-- ==== Proof.MoeSame.lean ====
/- The two printings of the experts' program, for the word values and for the extended reals, are one text. -/
module

public import proofs.«01_k».proof.Proof.Gen.Experts
public import proofs.«01_k».proof.Proof.Gen.ExpertsIdeal

@[expose] public section

noncomputable section

namespace Cert.Moe

open Idealize.ShloMosaic Idealize.SL.Sem

variable {F : FTy → Type} [FloatOps F]

set_option maxHeartbeats 4000000
theorem main_same : Cert.Experts.main (F := F) = Cert.ExpertsIdeal.main (F := F) := rfl

theorem defs₀_same : Cert.Experts.defs₀ (F := F) = Cert.ExpertsIdeal.defs₀ (F := F) := by
  unfold Cert.Experts.defs₀ Cert.ExpertsIdeal.defs₀
  refine congrArg (Defs.onTc (nD := 1) (τ := Cert.ExpertsIdeal.τ) (sig := Cert.ExpertsIdeal.sig) (Val := Elt F) (Λ := Cert.ExpertsIdeal.Λ₀)) (funext fun ℓ => funext fun x => ?_)
  match ℓ, x with
  | ⟨0, _⟩, (t, s) => rfl

theorem defs_same : Cert.Experts.defs (F := F) = Cert.ExpertsIdeal.defs (F := F) := by
  unfold Cert.Experts.defs Cert.ExpertsIdeal.defs
  rw [defs₀_same]; rfl

end Cert.Moe

end
-- ==== Proof.MoeStep.lean ====
/-
  What one grid point of the experts' kernel computes, as plain functions of its blocks: the expert's first-layer weights
  with the gate columns and the linear columns taken apart, its second-layer weights, and the block of results.
-/
module

public import proofs.«01_k».proof.Proof.Gen.ExpertsIdeal.Launch
public import proofs.«01_k».proof.Proof.Gen.ExpertsIdeal.Skeleton
public import Idealize.ShloMosaic.Lib.VecWindow
public import Idealize.ShloMosaic.Lib.ValueIdx

@[expose] public section

set_option maxRecDepth 16384

noncomputable section

namespace Cert.Moe

open Cert.ExpertsIdeal Cert.ExpertsIdeal.Gen
open Idealize.ShloMosaic
open Idealize.ShloMosaic.VecWindow

variable {F : FTy → Type} [FloatOps F]

theorem chunk_inb (k : Fin 8) : ∀ a : Fin 4, (![0, 0, 0, 256 * k.val] : Fin 4 → ℕ) a + S1x1x1024x256.size a ≤ S1x1x1024x2048.size a := by
  fin_cases k <;> decide

/-- Chunk `k` of an expert's first-layer weights: columns `256 k … 256 k + 255`. -/
def chunk (w : Vec F S1x1x1024x2048 .f32) (k : Fin 8) : Vec F S1x1x1024x256 .f32 :=
  window w ![0, 0, 0, 256 * k.val] S1x1x1024x256.size (chunk_inb k)

/-- The gate columns of chunk `k`. -/
def gateStrip (w : Vec F S1x1x1024x2048 .f32) (p : Vec F S256x256 .bf16) (k : Fin 8) : FVec F S1024x128 .bf16 := k0_pay3 (chunk w k) p
/-- The linear columns of chunk `k`. -/
def linStrip (w : Vec F S1x1x1024x2048 .f32) (p : Vec F S256x256 .bf16) (k : Fin 8) : FVec F S1024x128 .bf16 := k0_pay4 (chunk w k) p

/-- Eight strips of 128 columns side by side. -/
def beside (s : Fin 8 → FVec F S1024x128 .bf16) : FVec F S1024x1024 .bf16 := fun y =>
  s ⟨(y 1).val / 128, by have : (y 1).val < 1024 := (y 1).isLt; omega⟩ (ValueIdx.ix2 (y 0) ⟨(y 1).val % 128, by omega⟩)

/-- The gate weights, the linear weights and the second-layer weights as the scratch buffers keep them. -/
def gateW (w : Vec F S1x1x1024x2048 .f32) (p : Vec F S256x256 .bf16) : Vec F S1024x1024 .bf16 := beside (gateStrip w p)
def linW (w : Vec F S1x1x1024x2048 .f32) (p : Vec F S256x256 .bf16) : Vec F S1024x1024 .bf16 := beside (linStrip w p)
def downW (w : Vec F S1x1x1024x1024 .f32) : Vec F S1024x1024 .bf16 := k0_pay28 (k0_pay27 w)

/-- The block of results of 512 rows through one expert. -/
def outBlk (x : Vec F S512x1024 .bf16) (g l d : Vec F S1024x1024 .bf16) (bg bl bd : Vec F S1x1x1024 .f32) : Vec F S512x1024 .bf16 :=
  k0_pay1 (k0_pay29 x l bl) (k0_pay30 x g bg) k0_pay31 d bd

/-- The first `n` strips are in place. -/
def Upto (s : Fin 8 → FVec F S1024x128 .bf16) (n : ℕ) (x : Vec F S1024x1024 .bf16) : Prop :=
  ∀ y : S1024x1024.Idx, (y 1).val < 128 * n → x y = beside s y

theorem upto_zero (s : Fin 8 → FVec F S1024x128 .bf16) (x : Vec F S1024x1024 .bf16) : Upto s 0 x := fun y h => absurd h (by omega)

theorem upto_put (s : Fin 8 → FVec F S1024x128 .bf16) (n : Fin 8) (x : Vec F S1024x1024 .bf16) (off : Fin 2 → ℕ) (ho : off = ![0, 128 * n.val])
    (w : FVec F S1024x128 .bf16) (hw : w = s n) (h : Upto s n.val x) : Upto s (n.val + 1) (put x off S1024x128.size w) := by
  subst ho hw
  intro y hy
  have h0 : (y 0).val < 1024 := (y 0).isLt
  unfold put
  by_cases hin : ∀ a : Fin 2, (![0, 128 * n.val] : Fin 2 → ℕ) a ≤ (y a).val ∧ (y a).val < (![0, 128 * n.val] : Fin 2 → ℕ) a + S1024x128.size a
  · rw [dif_pos hin]
    have h1 : 128 * n.val ≤ (y 1).val := (hin 1).1
    have hk : (⟨(y 1).val / 128, by have : (y 1).val < 1024 := (y 1).isLt; omega⟩ : Fin 8) = n := Fin.ext (by show (y 1).val / 128 = n.val; omega)
    unfold beside
    rw [hk]
    congr 1
    funext a
    fin_cases a
    · exact Fin.ext (by show (y 0).val - 0 = (y 0).val; omega)
    · exact Fin.ext (by show (y 1).val - 128 * n.val = (y 1).val % 128; omega)
  · rw [dif_neg hin]
    refine h y ?_
    by_contra hc
    refine hin (Fin.forall_fin_two.2 ⟨⟨Nat.zero_le _, ?_⟩, ?_, ?_⟩)
    · show (y 0).val < 0 + 1024; omega
    · show 128 * n.val ≤ (y 1).val; omega
    · show (y 1).val < 128 * n.val + 128; omega

theorem upto_all (s : Fin 8 → FVec F S1024x128 .bf16) (x : Vec F S1024x1024 .bf16) (h : Upto s 8 x) : x = beside s :=
  funext fun y => h y (by have : (y 1).val < 1024 := (y 1).isLt; omega)

section strips
variable (w : Vec F S1x1x1024x256 .f32) (p : Vec F S256x256 .bf16)
theorem pay6_eq : k0_pay6 w p = k0_pay3 w p := rfl
theorem pay9_eq : k0_pay9 w p = k0_pay3 w p := rfl
theorem pay12_eq : k0_pay12 w p = k0_pay3 w p := rfl
theorem pay15_eq : k0_pay15 w p = k0_pay3 w p := rfl
theorem pay18_eq : k0_pay18 w p = k0_pay3 w p := rfl
theorem pay22_eq : k0_pay22 (k0_pay20 w) p = k0_pay3 w p := rfl
theorem pay25_eq : k0_pay25 w p = k0_pay3 w p := rfl
theorem pay7_eq : k0_pay7 w p = k0_pay4 w p := rfl
theorem pay10_eq : k0_pay10 w p = k0_pay4 w p := rfl
theorem pay13_eq : k0_pay13 w p = k0_pay4 w p := rfl
theorem pay16_eq : k0_pay16 w p = k0_pay4 w p := rfl
theorem pay19_eq : k0_pay19 w p = k0_pay4 w p := rfl
theorem pay23_eq : k0_pay23 (k0_pay20 w) p = k0_pay4 w p := rfl
theorem pay26_eq : k0_pay26 w p = k0_pay4 w p := rfl
end strips

/-- A store over the pieces so far, read back. -/
theorem upto_writes {sig : RefSig} {κ : Kind} {sp : Space} [∀ e, Nonempty (Elt F e)] (v : View sig κ sp S1024x1024 .bf16) (f : v.ty.Contents (Elt F))
    (L : List (View.Piece (Elt F) S1024x1024 .bf16)) (s : Fin 8 → FVec F S1024x128 .bf16) (n : Fin 8) {off : Fin 2 → ℕ} (inb) (w : FVec F S1024x128 .bf16)
    (ho : off = ![0, 128 * n.val]) (hw : w = s n) (h : Upto s n.val (v.read (Elt F) (v.writes (Elt F) f L))) :
    Upto s (n.val + 1) (v.read (Elt F) (v.writes (Elt F) f (⟨Rect.unit (s := S1024x1024) off S1024x128.size inb, w⟩ :: L))) := by
  rw [View.read_writes_cons_put v f inb w L rfl]
  exact upto_put s n _ off ho w hw h

/-- A load of a chunk reads that chunk. -/
theorem ldChunk {sig : RefSig} {κ : Kind} {sp : Space} [∀ e, Nonempty (Elt F e)] (v : View sig κ sp S1x1x1024x2048 .f32) (f : v.ty.Contents (Elt F))
    {off : Fin 4 → ℕ} (inb) (k : Fin 8) (h : off = ![0, 0, 0, 256 * k.val]) :
    v.readAt (Elt F) (Rect.unit (s := S1x1x1024x2048) off S1x1x1024x256.size inb).toLoadRect f = chunk (v.read (Elt F) f) k :=
  View.readAt_unit v f inb h (chunk_inb k)

/-- The kernel refills its scratch buffers at point `n`: it is the first point, or its block's expert is not the block before's. -/
abbrev refillsAt (n : ℕ) (e e' : BitVec 32) : Prop :=
  Scalar.cmpi .ne (Scalar.extui (Scalar.ori (Scalar.cmpi .eq (BitVec.ofNat 32 n) 0#32) (Scalar.cmpi .ne e e')) : BitVec 32) 0#32 = 1#1

theorem refillsAt_false (n : ℕ) (e e' : BitVec 32) (h : ¬ refillsAt n e e') : n ≠ 0 ∧ e = e' := by
  refine ⟨fun h0 => h ?_, by_contra fun hne => h ?_⟩
  · unfold refillsAt
    rw [h0]
    have hb : ∀ b : BitVec 1, Scalar.cmpi .ne (Scalar.extui (Scalar.ori (Scalar.cmpi .eq (BitVec.ofNat 32 0) 0#32) b) : BitVec 32) 0#32 = 1#1 := by decide
    exact hb _
  · unfold refillsAt
    have h1 : Scalar.cmpi .ne e e' = 1#1 := by
      show BitVec.ofBool (e != e') = 1#1
      rw [show (e != e') = true from bne_iff_ne.mpr hne]; rfl
    rw [h1]
    have hb : ∀ b : BitVec 1, Scalar.cmpi .ne (Scalar.extui (Scalar.ori b 1#1) : BitVec 32) 0#32 = 1#1 := by decide
    exact hb _

end Cert.Moe

end
-- ==== Proof.MoeLaunch.lean ====
/- The experts' pipeline: its tables, its blocks by expert, and its proof data. -/
module

public import proofs.«01_k».proof.Proof.MoeBody
public import Idealize.ShloMosaic.Lib.Pipeline.ValueKit
public import Idealize.ShloMosaic.Lib.Tactic

@[expose] public section

set_option maxRecDepth 16384

noncomputable section

namespace Cert.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 157 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S157.size k) (h : 0 < (Rect.unit (s := S157) off S1.size inb).shape.numel) :
    (a.1 0 ((Rect.unit (s := S157) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![0, (ex a t).toNat, 0, 0] := by
  have h : (a.1.at 0 (Rect.unit (s := S157) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![0, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S157) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![135 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 0 e (y 2) (y 3))
def slab2 (w : Vec F S2x32x1024x1024 .f32) (e : Fin 32) : Vec F S1x1x1024x1024 .f32 := fun y => w (ValueIdx.ix4 0 e (y 2) (y 3))
def slabB (w : Vec F S32x1x1024 .f32) (e : Fin 32) : Vec F S1x1x1024 .f32 := fun y => w (ValueIdx.ix3 e (y 1) (y 2))
def rows (x : Vec F S80384x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![0, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![0, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![135 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.Moe

end
-- ==== Proof.MoeRun.lean ====
/- The experts' body at every point, and the run of the whole call. -/
module

public import proofs.«01_k».proof.Proof.MoeLaunch

@[expose] public section

set_option maxRecDepth 16384

noncomputable section

namespace Cert.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.Moe

end
-- ==== Proof.MoeFrames.lean ====
/- The frames of the experts' programs: a table of known experts is admissible, and the run at any values is read at the word
   values and at the extended reals. -/
module

public import proofs.«01_k».proof.Defs
public import proofs.«01_k».proof.Proof.MoeSame
public import proofs.«01_k».proof.Proof.Gen.Pre_known_experts
public import proofs.«01_k».proof.Proof.Gen.ExpertsReferenceIdeal.Run
public import proofs.«01_k».proof.Proof.MoeRun
public import Idealize.ShloMosaic.Lib.StableHlo.Predicate

@[expose] public section

set_option maxRecDepth 16384

noncomputable section

namespace Cert.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S157 .i32) : Prop := ∀ i : S157.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![0, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![0, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

/-- A word that is at least 0 and below 32, as an integer, is below 32 as a number. -/
theorem lt_of_cmpi (x : BitVec 32) (h0 : IntOp.cmpi .sge x 0#32 = 1#1) (h1 : IntOp.cmpi .slt x 32#32 = 1#1) : x.toNat < 32 := by
  rw [IntOp.cmpi_sge] at h0
  rw [IntOp.cmpi_slt] at h1
  have e0 : (0#32 : BitVec 32).toInt = 0 := by decide
  have e1 : (32#32 : BitVec 32).toInt = 32 := by decide
  rw [e0] at h0
  rw [e1] at h1
  rw [BitVec.toInt_eq_toNat_cond] at h0 h1
  split at h0 <;> omega

theorem known_of [Cert.Pre_known_experts.Facts] {x1 : Vec F S80384x1024 .bf16} {x2 : Vec F S2x32x1024x2048 .f32} {x3 : Vec F S32x2048 .f32} {x4 : Vec F S2x32x1024x1024 .f32} {x5 : Vec F S32x1024 .f32} {x6 : Vec F S149504x1024 .bf16}
    (e : Vec F S157 .i32) (h : (Cert.Pre_known_experts.fn (F := F) e x1 x2 x3 x4 x5 x6).1 = (fun _ => 1#1) ∧ (Cert.Pre_known_experts.fn (F := F) e x1 x2 x3 x4 x5 x6).2 = (fun _ => 1#1)) : Known e :=
  fun i => lt_of_cmpi (e i) (congrFun h.1 i) (congrFun h.2 i)

instance : Cert.Pre_known_experts.Facts := Cert.Pre_known_experts.Gen.facts

theorem frame_Experts : Cert.quiescent_Experts := fun m ρ hp => by
  have h := frame_at (F := Bits) m ρ fun c => known_of _ (hp c)
  rw [← main_same, ← defs_same] at h
  exact h

theorem frame_ExpertsIdeal : Cert.quiescent_ExpertsIdeal := fun m ρ hp => frame_at (F := Ideal) m ρ fun c => known_of _ (hp c)

theorem frame_ExpertsReferenceIdeal : Cert.quiescent_ExpertsReferenceIdeal := fun m ρ _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m ρ)

end Cert.Moe

end
-- ==== Proof.MoeRows.lean ====
/- The experts' vector operations read at an index, at the extended reals. -/
module

public import proofs.«01_k».proof.Proof.MoeStep
public import Idealize.ShloMosaic.Lib.Pointwise

@[expose] public section

set_option maxRecDepth 16384

noncomputable section

namespace Cert.Moe

open Cert.ExpertsIdeal Cert.ExpertsIdeal.Gen
open Idealize.ShloMosaic
open Idealize.ShloMosaic.VecWindow

/-- The column of a chunk that the permutation brings to column `j`: the even columns first, the odd ones after. -/
def src (j : Fin 256) : Fin 256 := if h : j.val < 128 then ⟨2 * j.val, by omega⟩ else ⟨2 * (j.val - 128) + 1, by omega⟩

/-- The matrix of that permutation. -/
def IsPerm (p : Vec Ideal S256x256 .bf16) : Prop := ∀ i j : Fin 256, @Eq EReal (p (ix2 i j)) (if i = src j then 1 else 0)

/-- A row times the permutation: the one element it picks. -/
theorem pick (p : Vec Ideal S256x256 .bf16) (hp : IsPerm p) (f : Fin 256 → EReal) (j : Fin 256) :
    ∑ i : Fin 256, HMul.hMul (α := EReal) (β := EReal) (f i) (p (ix2 i j)) = f (src j) := by
  rw [Finset.sum_eq_single (src j)]
  · rw [hp, if_pos rfl, mul_one]
  · intro i _ hi
    rw [hp, if_neg hi, mul_zero]
  · intro h; exact absurd (Finset.mem_univ _) h

theorem chunk_apply (w : Vec Ideal S1x1x1024x2048 .f32) (k : Fin 8) (r : Fin 1024) (i : Fin 256) :
    chunk w k (ix4 0 0 r i) = w (ix4 0 0 r ⟨256 * k.val + i.val, by omega⟩) := by
  refine congrArg w (funext fun a => Fin.ext ?_)
  fin_cases a
  · rfl
  · rfl
  · simp [Rect.emb, Rect.unit, ix4]
  · simp [Rect.emb, Rect.unit, ix4]

theorem pay2_apply (v : Vec Ideal S1x1x1024x256 .f32) (p : Vec Ideal S256x256 .bf16) (r : Fin 1024) (j : Fin 256) :
    k0_pay2 v p (ix2 r j) = ∑ i : Fin 256, HMul.hMul (α := EReal) (β := EReal) (v (ix4 0 0 r i)) (p (ix2 i j)) := by
  pointwise [k0_pay2]

theorem gateStrip_apply (w : Vec Ideal S1x1x1024x2048 .f32) (p : Vec Ideal S256x256 .bf16) (hp : IsPerm p) (k : Fin 8) (r : Fin 1024) (j : Fin 128) :
    gateStrip w p k (ix2 r j) = w (ix4 0 0 r ⟨256 * k.val + 2 * j.val, by omega⟩) := by
  have h : gateStrip w p k (ix2 r j) = k0_pay2 (chunk w k) p (ix2 r ⟨j.val, by omega⟩) := by
    unfold gateStrip
    pointwise [k0_pay3]
  rw [h, pay2_apply, pick p hp (fun i => chunk w k (ix4 0 0 r i)), chunk_apply]
  refine congrArg (fun x => w (ix4 0 0 r x)) (Fin.ext ?_)
  simp [src]

theorem linStrip_apply (w : Vec Ideal S1x1x1024x2048 .f32) (p : Vec Ideal S256x256 .bf16) (hp : IsPerm p) (k : Fin 8) (r : Fin 1024) (j : Fin 128) :
    linStrip w p k (ix2 r j) = w (ix4 0 0 r ⟨256 * k.val + (2 * j.val + 1), by omega⟩) := by
  have h : linStrip w p k (ix2 r j) = k0_pay2 (chunk w k) p (ix2 r ⟨128 + j.val, by omega⟩) := by
    unfold linStrip
    pointwise [k0_pay4]
  rw [h, pay2_apply, pick p hp (fun i => chunk w k (ix4 0 0 r i)), chunk_apply]
  refine congrArg (fun x => w (ix4 0 0 r x)) (Fin.ext ?_)
  simp [src]

/-- The gate weights are the even columns, the linear weights the odd ones. -/
theorem gateW_apply (w : Vec Ideal S1x1x1024x2048 .f32) (p : Vec Ideal S256x256 .bf16) (hp : IsPerm p) (r : Fin 1024) (j : Fin 1024) :
    gateW w p (ix2 r j) = w (ix4 0 0 r ⟨2 * j.val, by omega⟩) := by
  refine (gateStrip_apply w p hp _ _ _).trans (congrArg (fun x => w (ix4 0 0 r x)) (Fin.ext ?_))
  show 256 * (j.val / 128) + 2 * (j.val % 128) = 2 * j.val
  omega

theorem linW_apply (w : Vec Ideal S1x1x1024x2048 .f32) (p : Vec Ideal S256x256 .bf16) (hp : IsPerm p) (r : Fin 1024) (j : Fin 1024) :
    linW w p (ix2 r j) = w (ix4 0 0 r ⟨2 * j.val + 1, by omega⟩) := by
  refine (linStrip_apply w p hp _ _ _).trans (congrArg (fun x => w (ix4 0 0 r x)) (Fin.ext ?_))
  show 256 * (j.val / 128) + (2 * (j.val % 128) + 1) = 2 * j.val + 1
  omega

theorem downW_apply (w : Vec Ideal S1x1x1024x1024 .f32) (r : Fin 1024) (j : Fin 1024) : downW w (ix2 r j) = w (ix4 0 0 r j) := by
  unfold downW
  pointwise [k0_pay28, k0_pay27]

/-- The gated activation of a gate value and a linear value. -/
def act (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

theorem pay30_apply (x : Vec Ideal S512x1024 .bf16) (g : Vec Ideal S1024x1024 .bf16) (bg : Vec Ideal S1x1x1024 .f32) (r : Fin 512) (j : Fin 1024) :
    k0_pay30 x g bg (ix2 r j) = (min ((∑ i : Fin 1024, HMul.hMul (α := EReal) (β := EReal) (x (ix2 r i)) (g (ix2 i j))) + bg (ix3 0 0 j)) (Ideal.ofBits .f32 0x40E00000#32)
      * Ideal.logistic (Ideal.ofBits .f32 0x3FD9DB23#32 * min ((∑ i : Fin 1024, HMul.hMul (α := EReal) (β := EReal) (x (ix2 r i)) (g (ix2 i j))) + bg (ix3 0 0 j)) (Ideal.ofBits .f32 0x40E00000#32)) : EReal) := by
  pointwise [k0_pay30]

theorem pay29_apply (x : Vec Ideal S512x1024 .bf16) (l : Vec Ideal S1024x1024 .bf16) (bl : Vec Ideal S1x1x1024 .f32) (r : Fin 512) (j : Fin 1024) :
    k0_pay29 x l bl (ix2 r j) = (min (Ideal.ofBits .f32 0x40E00000#32) (max (Ideal.ofBits .f32 0xC0E00000#32) ((∑ i : Fin 1024, HMul.hMul (α := EReal) (β := EReal) (x (ix2 r i)) (l (ix2 i j))) + bl (ix3 0 0 j))) : EReal) := by
  pointwise [k0_pay29]

theorem pay1_apply (u v o : FVec Ideal S512x1024 .f32) (d : Vec Ideal S1024x1024 .bf16) (bd : Vec Ideal S1x1x1024 .f32) (r : Fin 512) (j : Fin 1024) :
    k0_pay1 u v o d bd (ix2 r j) = ((∑ y : Fin 1024, HMul.hMul (α := EReal) (β := EReal) (HMul.hMul (α := EReal) (β := EReal) (v (ix2 r y)) (u (ix2 r y) + o (ix2 r y) : EReal)) (d (ix2 y j))) + bd (ix3 0 0 j) : EReal) := by
  pointwise [k0_pay1]

theorem outBlk_apply (x : Vec Ideal S512x1024 .bf16) (g l d : Vec Ideal S1024x1024 .bf16) (bg bl bd : Vec Ideal S1x1x1024 .f32) (r : Fin 512) (j : Fin 1024) :
    outBlk x g l d bg bl bd (ix2 r j)
      = ((∑ y : Fin 1024, HMul.hMul (α := EReal) (β := EReal) (act ((∑ i : Fin 1024, HMul.hMul (α := EReal) (β := EReal) (x (ix2 r i)) (g (ix2 i y))) + bg (ix3 0 0 y)) ((∑ i : Fin 1024, HMul.hMul (α := EReal) (β := EReal) (x (ix2 r i)) (l (ix2 i y))) + bl (ix3 0 0 y))) (d (ix2 y j))) + bd (ix3 0 0 j) : EReal) := by
  unfold outBlk
  rw [pay1_apply]
  refine congrArg (fun s : EReal => s + (bd (ix3 0 0 j) : EReal)) (Finset.sum_congr rfl fun y _ => ?_)
  rw [pay29_apply, pay30_apply]
  rfl

end Cert.Moe

end
-- ==== Proof.MoeHost.lean ====
/- The arrays the host prepares for the experts' call, read at an index of the arguments. -/
module

public import proofs.«01_k».proof.Proof.MoeRows
public import proofs.«01_k».proof.Proof.MoeLaunch
public import Idealize.ShloMosaic.Lib.Tactic
public import Idealize.ShloMosaic.Lib.StableHlo.ReadAt
public import Idealize.ShloMosaic.Lib.IdealHost

@[expose] public section

set_option maxRecDepth 16384

noncomputable section

namespace Cert.Moe

open Cert.ExpertsIdeal Cert.ExpertsIdeal.Gen
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

/-- The word the host compares with the row's: the column the permutation brings to column `j`. -/
theorem src_word : ∀ j : Fin 256,
    Scalar.select (IntOp.cmpi .slt (BitVec.ofNat 32 j.val) 128#32) (IntOp.muli 2#32 (BitVec.ofNat 32 j.val))
      (IntOp.addi (IntOp.muli 2#32 (IntOp.subi (BitVec.ofNat 32 j.val) 128#32)) 1#32) = BitVec.ofNat 32 (src j).val := by
  decide +kernel

theorem word_inj (i j : Fin 256) (h : BitVec.ofNat 32 i.val = BitVec.ofNat 32 j.val) : i = j := by
  have := congrArg BitVec.toNat h
  simp only [BitVec.toNat_ofNat] at this
  exact Fin.ext (by omega)

theorem bit_value (b : BitVec 1) : @Eq EReal (FloatOps.uitofp (F := Ideal) .bf16 b) (if b = 1#1 then 1 else 0) := by
  show (((b.toNat : ℝ)) : EReal) = _
  rcases (show b = 0#1 ∨ b = 1#1 by revert b; decide) with rfl | rfl <;> simp

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.Moe

end
-- ==== Proof.MoeArray.lean ====
/- The experts' result array in closed form over the arguments. -/
module

public import proofs.«01_k».proof.Proof.MoeHost
public import proofs.«01_k».proof.Proof.MoeFrames
public import Idealize.ShloMosaic.Lib.Pipeline.ValueKit

@[expose] public section

set_option maxRecDepth 16384

noncomputable section

namespace Cert.Moe

open Cert.ExpertsIdeal Cert.ExpertsIdeal.Gen
open Idealize.ShloMosaic
open Idealize.ShloMosaic.TcCoe Idealize.SL.Sem
open Idealize.ShloMosaic.Pipeline (Dat)

/-- One element of one token's expert: the gated product of the two halves of the first layer, through the second. -/
def tokenAt (x : Fin 1024 → EReal) (w1 : Fin 1024 → Fin 2048 → EReal) (b1 : Fin 2048 → EReal) (w2 : Fin 1024 → EReal) (b2 : EReal) : EReal :=
  (∑ y : Fin 1024, act ((∑ i, x i * w1 i ⟨2 * y.val, by omega⟩) + b1 ⟨2 * y.val, by omega⟩)
      ((∑ i, x i * w1 i ⟨2 * y.val + 1, by omega⟩) + b1 ⟨2 * y.val + 1, by omega⟩) * w2 y) + b2

/-- One element of one block of tokens, with the block's expert. -/
def blockAt (e : Fin 32) (x : Vec Ideal S80384x1024 .bf16) (w1 : Vec Ideal S2x32x1024x2048 .f32) (b1 : Vec Ideal S32x2048 .f32)
    (w2 : Vec Ideal S2x32x1024x1024 .f32) (b2 : Vec Ideal S32x1024 .f32) (n : Fin 80384) (j : Fin 1024) : EReal :=
  tokenAt (fun i => x (ix2 n i)) (fun i k => w1 (ix4 0 e i k)) (fun k => b1 (ix2 e k)) (fun y => w2 (ix4 0 e y j)) (b2 (ix2 e j))

/-- The result array: the rows of this part from their experts, the rows of the earlier parts as they were. -/
def outArr (e : Fin 157 → Fin 32) (x : Vec Ideal S80384x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) : Vec Ideal S149504x1024 .bf16 :=
  fun z => if h : 69120 ≤ (z 0).val then
      blockAt (e ⟨((z 0).val - 69120) / 512, by have : (z 0).val < 149504 := (z 0).isLt; omega⟩) x w1 b1 w2 b2
        ⟨(z 0).val - 69120, by have : (z 0).val < 149504 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 80384) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 80384 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 0 (exf a t) i ⟨2 * y.val, by omega⟩) := fun i y => gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 0 (exf a t) i ⟨2 * y.val + 1, by omega⟩) := fun i y => linW_apply _ _ (perm_isPerm m c) i y
  have hd : ∀ y : Fin 1024, downW (slab2 (m ((c : Thread nD τ).loc main_arg4)) (exf a t)) (ix2 y j)
      = m ((c : Thread nD τ).loc main_arg4) (ix4 0 (exf a t) y j) := fun y => downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

theorem of_blocks (x x' : Vec Ideal S512x1024 .bf16) (w w' : Vec Ideal S1x1x1024x2048 .f32) (p p' : Vec Ideal S256x256 .bf16) (d d' : Vec Ideal S1x1x1024x1024 .f32)
    (bg bg' bl bl' bd bd' : Vec Ideal S1x1x1024 .f32) (hx : x = x') (hw : w = w') (hp : p = p') (hd : d = d') (hg : bg = bg') (hl : bl = bl') (hb : bd = bd') :
    outBlk x (gateW w p) (linW w p) (downW d) bg bl bd = outBlk x' (gateW w' p') (linW w' p') (downW d') bg' bl' bd' := by
  subst hx hw hp hd hg hl hb; rfl

/-- What the body leaves at one index of its block. -/
theorem point (c : Dev nD) (t : Fin (cfg0 a).N) (r : Fin 512) (j : Fin 1024) (n : Fin 80384) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 135 ≤ β (0 : Fin 2)) := by decide +kernel

theorem covers : ((cfg0 a).win 7).CoversWhere (fun β => 135 ≤ β (0 : Fin 2)) := covers_zeros

/-- The closed form at an index of block `t`. -/
theorem outArr_block (e : Fin 157 → Fin 32) (x : Vec Ideal S80384x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) (t : Fin 157) (r : Fin 512) (j : Fin 1024)
    (z : S149504x1024.Idx) (e0 : (z 0).val = 512 * (135 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 69120) / 512, by have : (z 0).val < 149504 := (z 0).isLt; omega⟩ : Fin 157) = t := Fin.ext (by show ((z 0).val - 69120) / 512 = _; omega)
  have h2 : (⟨(z 0).val - 69120, by have : (z 0).val < 149504 := (z 0).isLt; omega⟩ : Fin 80384) = ⟨512 * t.val + r.val, by omega⟩ := Fin.ext (by show (z 0).val - 69120 = 512 * t.val + r.val; omega)
  have h3 : (z 1 : Fin 1024) = j := Fin.ext e1
  rw [h1, h2]
  exact congrArg _ h3

/-- The closed form in the rows of the earlier parts. -/
theorem outArr_before (e : Fin 157 → Fin 32) (x : Vec Ideal S80384x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16)
    (z : S149504x1024.Idx) (e0 : (z 0).val < 69120) : outArr e x w1 b1 w2 b2 yb z = yb z := by
  unfold outArr
  rw [dif_neg (by omega)]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 135 ≤ β (0 : Fin 2)) (covers a) (fun t hf y => ?_) (fun j hj => ?_)
  · blk_simp
    rw [after0_7]
    have w7 : ((cfg0 a).win 7).index t = ![135 + t.val, 0] := win7 a t
    have e0 : (((((cfg0 a).win 7).blk t).view.emb y) (0 : Fin 2)).val = 512 * (135 + t.val) + (y (0 : Fin 2)).val := by
      blk_simp
      rw [w7]
      show (135 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : (j (0 : Fin 2)).val < 69120 := by
      by_contra h
      exact hj (show 135 ≤ (j (0 : Fin 2)).val / 512 by omega)
    rw [A_eq]
    exact (congrFun (before_eq m c) _).trans (outArr_before _ _ _ _ _ _ _ _ hc).symm

end Cert.Moe

end
-- ==== Proof.MoeRef.lean ====
/- The experts' reference as named stages, and each stage read at an index. -/
module

public import proofs.«01_k».proof.Proof.Gen.ExpertsReferenceIdeal.Run
public import proofs.«01_k».proof.Proof.MoeArray
public import Idealize.ShloMosaic.Lib.Pointwise
public import Idealize.ShloMosaic.Lib.IdealHost

@[expose] public section

set_option maxRecDepth 16384

noncomputable section

namespace Cert.Moe.Ref

open Cert.ExpertsReferenceIdeal Cert.ExpertsReferenceIdeal.Gen
open Idealize.ShloMosaic
open Idealize.ShloMosaic.TcCoe

section stages
variable {F : FTy → Type} [FloatOps F]

/-- The block's expert as the position to read at, a negative one counted from the end. -/
def posR (e : IVec S157 32) : IVec S157x1 32 :=
  broadcastInDim S157x1 ![0] bcast_S157_S157x1_0 (select (cmpi .slt e (broadcastInDim S157 ![] bcast_S_S157 (constantI S_ 32 0#32))) (addi e (broadcastInDim S157 ![] bcast_S_S157 (constantI S_ 32 32#32))) e)

/-- The tokens by block. -/
def tokensR (x : FVec F S80384x1024 .bf16) : FVec F S157x512x1024 .f32 :=
  shapeCast _ (extf .f32 x bitsLt_bf16_f32) shapeCasts_S80384x1024_S157x512x1024

/-- Each block's first-layer matrix. -/
def firstR (e : IVec S157 32) (w1 : FVec F S2x32x1024x2048 .f32) : FVec F S157x1024x2048 .f32 :=
  Host.gather gather_S32x1024x2048_S157x1_S157x1024x2048_12_0_n_n_0_1_110242048 (shapeCast _ (extractStridedSlice S1x32x1024x2048 ![0, 0, 0, 0] w1 slices_S2x32x1024x2048_S1x32x1024x2048_0_0_0_0) shapeCasts_S1x32x1024x2048_S32x1024x2048) (posR e)

/-- Each block's first-layer bias. -/
def firstBiasR (e : IVec S157 32) (b1 : FVec F S32x2048 .f32) : FVec F S157x2048 .f32 :=
  Host.gather gather_S32x2048_S157x1_S157x2048_1_0_n_n_0_1_12048 b1 (posR e)

/-- Each block's second-layer matrix. -/
def secondR (e : IVec S157 32) (w2 : FVec F S2x32x1024x1024 .f32) : FVec F S157x1024x1024 .f32 :=
  Host.gather gather_S32x1024x1024_S157x1_S157x1024x1024_12_0_n_n_0_1_110241024 (shapeCast _ (extractStridedSlice S1x32x1024x1024 ![0, 0, 0, 0] w2 slices_S2x32x1024x1024_S1x32x1024x1024_0_0_0_0) shapeCasts_S1x32x1024x1024_S32x1024x1024) (posR e)

/-- Each block's second-layer bias. -/
def secondBiasR (e : IVec S157 32) (b2 : FVec F S32x1024 .f32) : FVec F S157x1024 .f32 :=
  Host.gather gather_S32x1024_S157x1_S157x1024_1_0_n_n_0_1_11024 b2 (posR e)

/-- The first layer. -/
def hiddenR (x : FVec F S157x512x1024 .f32) (w : FVec F S157x1024x2048 .f32) (b : FVec F S157x2048 .f32) : FVec F S157x512x2048 .f32 :=
  addf (Host.dotGeneral dot_S157x512x1024_S157x1024x2048_S157x512x2048_2_1_1_2_0_0 none x w)
    (broadcastInDim S157x512x2048 ![0, 1, 2] bcast_S157x1x2048_S157x512x2048_0_1_2 (broadcastInDim S157x1x2048 ![0, 2] bcast_S157x2048_S157x1x2048_0_2 b))

def all (k : BitVec 32) : FVec F S157x512x1024 .f32 := broadcastInDim S157x512x1024 ![] bcast_S_S157x512x1024 (constant S_ .f32 k)

/-- The gate half, bounded above. -/
def gateR (h : FVec F S157x512x2048 .f32) : FVec F S157x512x1024 .f32 :=
  minimumf (Host.slice S157x512x1024 ![0, 0, 0] ![1, 1, 2] h slicesBy_S157x512x2048_S157x512x1024_0s1_0s1_0s2) (all 0x40E00000#32)

/-- The linear half, bounded on both sides. -/
def linearR (h : FVec F S157x512x2048 .f32) : FVec F S157x512x1024 .f32 :=
  minimumf (broadcastInDim S157x512x1024 ![] bcast_S_S157x512x1024 (id (constant S_ .f32 0x40E00000#32)))
    (maximumf (broadcastInDim S157x512x1024 ![] bcast_S_S157x512x1024 (id (constant S_ .f32 0xC0E00000#32)))
      (Host.slice S157x512x1024 ![0, 0, 1] ![1, 1, 2] h slicesBy_S157x512x2048_S157x512x1024_0s1_0s1_1s2))

/-- The gated product. -/
def actR (h : FVec F S157x512x2048 .f32) : FVec F S157x512x1024 .f32 :=
  mulf (mulf (gateR h) (Host.divf (all 0x3F800000#32) (addf (all 0x3F800000#32) (Host.exp (Host.negf (mulf (all 0x3FD9DB23#32) (gateR h)))))))
    (addf (linearR h) (all 0x3F800000#32))

/-- The second layer. -/
def downR (a : FVec F S157x512x1024 .f32) (w : FVec F S157x1024x1024 .f32) (b : FVec F S157x1024 .f32) : FVec F S157x512x1024 .f32 :=
  addf (Host.dotGeneral dot_S157x512x1024_S157x1024x1024_S157x512x1024_2_1_1_2_0_0 none a w)
    (broadcastInDim S157x512x1024 ![0, 1, 2] bcast_S157x1x1024_S157x512x1024_0_1_2 (broadcastInDim S157x1x1024 ![0, 2] bcast_S157x1024_S157x1x1024_0_2 b))

/-- The earlier rows and this part's, one below the other. -/
def stackR (yb : FVec F S149504x1024 .bf16) (y : FVec F S157x512x1024 .f32) : FVec F S149504x1024 .bf16 :=
  concatenate S149504x1024 0 [⟨S69120x1024, (extractStridedSlice S69120x1024 ![0, 0] yb slices_S149504x1024_S69120x1024_0_0)⟩,
    ⟨S80384x1024, (truncf .bf16 (shapeCast _ y shapeCasts_S157x512x1024_S80384x1024) bitsLt_bf16_f32)⟩] concatenates_S69120x1024_S80384x1024_S149504x1024_d0

def outR (e : IVec S157 32) (x : FVec F S80384x1024 .bf16) (w1 : FVec F S2x32x1024x2048 .f32) (b1 : FVec F S32x2048 .f32) (w2 : FVec F S2x32x1024x1024 .f32) (b2 : FVec F S32x1024 .f32) (yb : FVec F S149504x1024 .bf16) : FVec F S149504x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.ExpertsReferenceIdeal.Value.res_main_v62 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.ExpertsReferenceIdeal.Value.res_main_v62
  rfl

end stages

theorem word_int (w : BitVec 32) (e : Fin 32) (h : w.toNat = e.val) : w.toInt.toNat = e.val := by
  rw [BitVec.toInt_eq_toNat_cond]
  simp [h]
  omega

theorem posR_apply (e : IVec S157 32) (he : ∀ i, (e i).toNat < 32) (t : Fin 157) : posR e (ix2 t 0) = e (ix1 t) := by
  have h : posR e (ix2 t 0) = Scalar.select (IntOp.cmpi .slt (e (ix1 t)) 0#32) (IntOp.addi (e (ix1 t)) 32#32) (e (ix1 t)) := by
    pointwise [posR]
  rw [h]
  have h0 : ¬ IntOp.cmpi .slt (e (ix1 t)) 0#32 = 1#1 := by
    rw [IntOp.cmpi_slt]
    have := he (ix1 t)
    simp only [BitVec.slt_iff_toInt_lt, BitVec.toInt_eq_toNat_cond]
    simp; omega
  exact if_neg h0

theorem tokensR_apply (x : FVec Ideal S80384x1024 .bf16) (t : Fin 157) (r : Fin 512) (i : Fin 1024) :
    @Eq EReal (tokensR x (ix3 t r i)) (x (ix2 ⟨t.val * 512 + r.val, by omega⟩ i)) := by
  pointwise [tokensR]

theorem hiddenR_apply (x : FVec Ideal S157x512x1024 .f32) (w : FVec Ideal S157x1024x2048 .f32) (b : FVec Ideal S157x2048 .f32) (t : Fin 157) (r : Fin 512) (k : Fin 2048) :
    hiddenR x w b (ix3 t r k) = (∑ i : Fin 1024, x (ix3 t r i) * w (ix3 t i k)) + b (ix2 t k) := by
  pointwise [hiddenR]

theorem downR_apply (x : FVec Ideal S157x512x1024 .f32) (w : FVec Ideal S157x1024x1024 .f32) (b : FVec Ideal S157x1024 .f32) (t : Fin 157) (r : Fin 512) (k : Fin 1024) :
    downR x w b (ix3 t r k) = (∑ i : Fin 1024, x (ix3 t r i) * w (ix3 t i k)) + b (ix2 t k) := by
  pointwise [downR]

theorem actR_apply (h : FVec Ideal S157x512x2048 .f32) (t : Fin 157) (r : Fin 512) (y : Fin 1024) :
    actR h (ix3 t r y) = act (h (ix3 t r ⟨2 * y.val, by omega⟩)) (h (ix3 t r ⟨2 * y.val + 1, by omega⟩)) := by
  have h1 : (⟨2 * y.val + 1, by omega⟩ : Fin 2048) = ⟨1 + 2 * y.val, by omega⟩ := Fin.ext (Nat.add_comm _ _)
  rw [h1]
  unfold act
  pointwise [actR, gateR, linearR, all]
  rfl

/-- The gather of first-layer matrices reads the matrix its word names. -/
theorem first_take (x : FVec Ideal S32x1024x2048 .f32) (idx : IVec S157x1 32) (t : Fin 157) (i : Fin 1024) (k : Fin 2048) (e : Fin 32)
    (he : (idx (ix2 t 0)).toNat = e.val) :
    Host.gather gather_S32x1024x2048_S157x1_S157x1024x2048_12_0_n_n_0_1_110242048 x idx (ix3 t i k) = x (ix3 e i k) := by
  unfold Host.gather
  refine congrArg x (funext fun a => Fin.ext ?_)
  have hs : gather_S32x1024x2048_S157x1_S157x1024x2048_12_0_n_n_0_1_110242048.siIdx (ix3 t i k) ⟨0, by decide⟩ = ix2 t 0 := by
    funext b; fin_cases b <;> rfl
  fin_cases a
  · show min (idx (gather_S32x1024x2048_S157x1_S157x1024x2048_12_0_n_n_0_1_110242048.siIdx (ix3 t i k) ⟨0, by decide⟩)).toInt.toNat 31 + 0 + 0 = e.val
    rw [hs, word_int _ e he]
    omega
  · show 0 + 0 + i.val = i.val
    omega
  · show 0 + 0 + k.val = k.val
    omega

/-- The gather of second-layer matrices reads the matrix its word names. -/
theorem second_take (x : FVec Ideal S32x1024x1024 .f32) (idx : IVec S157x1 32) (t : Fin 157) (i : Fin 1024) (k : Fin 1024) (e : Fin 32)
    (he : (idx (ix2 t 0)).toNat = e.val) :
    Host.gather gather_S32x1024x1024_S157x1_S157x1024x1024_12_0_n_n_0_1_110241024 x idx (ix3 t i k) = x (ix3 e i k) := by
  unfold Host.gather
  refine congrArg x (funext fun a => Fin.ext ?_)
  have hs : gather_S32x1024x1024_S157x1_S157x1024x1024_12_0_n_n_0_1_110241024.siIdx (ix3 t i k) ⟨0, by decide⟩ = ix2 t 0 := by
    funext b; fin_cases b <;> rfl
  fin_cases a
  · show min (idx (gather_S32x1024x1024_S157x1_S157x1024x1024_12_0_n_n_0_1_110241024.siIdx (ix3 t i k) ⟨0, by decide⟩)).toInt.toNat 31 + 0 + 0 = e.val
    rw [hs, word_int _ e he]
    omega
  · show 0 + 0 + i.val = i.val
    omega
  · show 0 + 0 + k.val = k.val
    omega

theorem firstBias_take (x : FVec Ideal S32x2048 .f32) (idx : IVec S157x1 32) (t : Fin 157) (k : Fin 2048) (e : Fin 32)
    (he : (idx (ix2 t 0)).toNat = e.val) :
    Host.gather gather_S32x2048_S157x1_S157x2048_1_0_n_n_0_1_12048 x idx (ix2 t k) = x (ix2 e k) := by
  unfold Host.gather
  refine congrArg x (funext fun a => Fin.ext ?_)
  have hs : gather_S32x2048_S157x1_S157x2048_1_0_n_n_0_1_12048.siIdx (ix2 t k) ⟨0, by decide⟩ = ix2 t 0 := by
    funext b; fin_cases b <;> rfl
  fin_cases a
  · show min (idx (gather_S32x2048_S157x1_S157x2048_1_0_n_n_0_1_12048.siIdx (ix2 t k) ⟨0, by decide⟩)).toInt.toNat 31 + 0 + 0 = e.val
    rw [hs, word_int _ e he]
    omega
  · show 0 + 0 + k.val = k.val
    omega

theorem secondBias_take (x : FVec Ideal S32x1024 .f32) (idx : IVec S157x1 32) (t : Fin 157) (k : Fin 1024) (e : Fin 32)
    (he : (idx (ix2 t 0)).toNat = e.val) :
    Host.gather gather_S32x1024_S157x1_S157x1024_1_0_n_n_0_1_11024 x idx (ix2 t k) = x (ix2 e k) := by
  unfold Host.gather
  refine congrArg x (funext fun a => Fin.ext ?_)
  have hs : gather_S32x1024_S157x1_S157x1024_1_0_n_n_0_1_11024.siIdx (ix2 t k) ⟨0, by decide⟩ = ix2 t 0 := by
    funext b; fin_cases b <;> rfl
  fin_cases a
  · show min (idx (gather_S32x1024_S157x1_S157x1024_1_0_n_n_0_1_11024.siIdx (ix2 t k) ⟨0, by decide⟩)).toInt.toNat 31 + 0 + 0 = e.val
    rw [hs, word_int _ e he]
    omega
  · show 0 + 0 + k.val = k.val
    omega

section known
variable (e : IVec S157 32) (ef : Fin 157 → Fin 32) (he : ∀ t, (e (ix1 t)).toNat = (ef t).val)
include he

theorem pos_word (t : Fin 157) : (posR e (ix2 t 0)).toNat = (ef t).val := by
  rw [posR_apply e (fun i => ?_) t, he]
  have hi : i = ix1 (i 0) := by funext b; fin_cases b; rfl
  rw [hi]
  exact lt_of_eq_of_lt (he (i 0)) (ef (i 0)).isLt

theorem firstR_apply (w1 : FVec Ideal S2x32x1024x2048 .f32) (t : Fin 157) (i : Fin 1024) (k : Fin 2048) :
    firstR e w1 (ix3 t i k) = w1 (ix4 0 (ef t) i k) := by
  unfold firstR
  rw [first_take _ _ t i k (ef t) (pos_word e ef he t)]
  pointwise

theorem secondR_apply (w2 : FVec Ideal S2x32x1024x1024 .f32) (t : Fin 157) (i : Fin 1024) (k : Fin 1024) :
    secondR e w2 (ix3 t i k) = w2 (ix4 0 (ef t) i k) := by
  unfold secondR
  rw [second_take _ _ t i k (ef t) (pos_word e ef he t)]
  pointwise

theorem firstBiasR_apply (b : FVec Ideal S32x2048 .f32) (t : Fin 157) (k : Fin 2048) : firstBiasR e b (ix2 t k) = b (ix2 (ef t) k) :=
  firstBias_take b _ t k (ef t) (pos_word e ef he t)

theorem secondBiasR_apply (b : FVec Ideal S32x1024 .f32) (t : Fin 157) (k : Fin 1024) : secondBiasR e b (ix2 t k) = b (ix2 (ef t) k) :=
  secondBias_take b _ t k (ef t) (pos_word e ef he t)

/-- Both layers of one token of one block. -/
theorem layers_apply (x : FVec Ideal S80384x1024 .bf16) (w1 : FVec Ideal S2x32x1024x2048 .f32) (b1 : FVec Ideal S32x2048 .f32) (w2 : FVec Ideal S2x32x1024x1024 .f32) (b2 : FVec Ideal S32x1024 .f32)
    (t : Fin 157) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 0 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S149504x1024 .bf16) (y : FVec Ideal S157x512x1024 .f32) (n : Fin 149504) (j : Fin 1024) (hn : n.val < 69120) :
    stackR yb y (ix2 n j) = yb (ix2 n j) := by
  pointwise [stackR]
  exact dif_pos hn

theorem stackR_block (yb : FVec Ideal S149504x1024 .bf16) (y : FVec Ideal S157x512x1024 .f32) (n : Fin 149504) (j : Fin 1024) (hn : 69120 ≤ n.val) :
    @Eq EReal (stackR yb y (ix2 n j)) (y (ix3 ⟨(n.val - 69120) / 512, by omega⟩ ⟨(n.val - 69120) % 512, by omega⟩ j)) := by
  pointwise [stackR]
  exact dif_neg (Nat.not_lt.mpr hn)

/-- The reference's result is the closed form. -/
theorem outR_eq (e : IVec S157 32) (ef : Fin 157 → Fin 32) (he : ∀ t, (e (ix1 t)).toNat = (ef t).val) (x : FVec Ideal S80384x1024 .bf16)
    (w1 : FVec Ideal S2x32x1024x2048 .f32) (b1 : FVec Ideal S32x2048 .f32) (w2 : FVec Ideal S2x32x1024x1024 .f32) (b2 : FVec Ideal S32x1024 .f32) (yb : FVec Ideal S149504x1024 .bf16) :
    outR e x w1 b1 w2 b2 yb = outArr ef x w1 b1 w2 b2 yb := by
  funext z
  have hz : z = ix2 (z 0) (z 1) := by funext b; fin_cases b <;> rfl
  by_cases h : (z 0).val < 69120
  · rw [outArr_before _ _ _ _ _ _ _ _ h, hz]
    exact stackR_before yb _ (z 0) (z 1) h
  · have hlt : (z 0).val < 149504 := (z 0).isLt
    have hge : 69120 ≤ (z 0).val := Nat.not_lt.mp h
    refine Eq.trans ?_ (outArr_block ef x w1 b1 w2 b2 yb ⟨((z 0).val - 69120) / 512, by omega⟩ ⟨((z 0).val - 69120) % 512, by omega⟩ (z 1) z (by show (z 0).val = 512 * (135 + ((z 0).val - 69120) / 512) + ((z 0).val - 69120) % 512; omega) rfl).symm
    refine (congrArg _ hz).trans ?_
    refine (stackR_block yb _ (z 0) (z 1) hge).trans ((layers_apply e ef he x w1 b1 w2 b2 _ _ (z 1)).trans ?_)
    exact congrArg (fun n : Fin 80384 => blockAt _ x w1 b1 w2 b2 n (z 1)) (Fin.ext (by
      show ((z 0).val - 69120) / 512 * 512 + ((z 0).val - 69120) % 512 = 512 * (((z 0).val - 69120) / 512) + ((z 0).val - 69120) % 512
      omega))

end Cert.Moe.Ref

end
-- ==== Proof.MoeValue.lean ====
/- The experts' call and its reference leave the same result. -/
module

public import proofs.«01_k».proof.Proof.MoeRef

@[expose] public section

set_option maxRecDepth 16384

noncomputable section

namespace Cert.Moe

open Idealize.ShloMosaic
open Idealize.ShloMosaic.TcCoe Idealize.SL.Sem

section run
open Cert.ExpertsIdeal Cert.ExpertsIdeal.Gen

variable (m : (ℓ : Loc nD τ sig) → Buf (Elt Ideal) ℓ) (hk : ∀ c : Dev nD, Known (m ((c : Thread nD τ).loc main_arg0)))

/-- The experts of the blocks. -/
def experts (t : Fin 157) : Fin 32 := exf (adm m hk) t

theorem experts_word (c : Dev nD) (t : Fin 157) : (m ((c : Thread nD τ).loc main_arg0) (ix1 t) : BitVec 32).toNat = (experts m hk t).val := by
  obtain rfl : c = 0 := Subsingleton.elim _ _
  exact congrArg (fun i : S157.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_ExpertsIdeal_ExpertsReferenceIdeal := by
  intro m g m' g' hpre hagree
  have hk := fun c => known_of _ (hpre c)
  refine ⟨_, run_value m hk g, (θ_run Cert.ExpertsReferenceIdeal.defs _ _).mono (fun r h c => ⟨(h c).1.trans ?_, (h c).2⟩) (Cert.ExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.Moe

end
-- ==== Proof.LateSame.lean ====
/- The two printings of the layer 1 experts' program, for the word values and for the extended reals, are one text. -/
module

public import proofs.«01_k».proof.Proof.Gen.LateExperts
public import proofs.«01_k».proof.Proof.Gen.LateExpertsIdeal

@[expose] public section

noncomputable section

namespace Cert.Late

open Idealize.ShloMosaic Idealize.SL.Sem

variable {F : FTy → Type} [FloatOps F]

set_option maxHeartbeats 4000000
theorem main_same : Cert.LateExperts.main (F := F) = Cert.LateExpertsIdeal.main (F := F) := rfl

theorem defs₀_same : Cert.LateExperts.defs₀ (F := F) = Cert.LateExpertsIdeal.defs₀ (F := F) := by
  unfold Cert.LateExperts.defs₀ Cert.LateExpertsIdeal.defs₀
  refine congrArg (Defs.onTc (nD := 1) (τ := Cert.LateExpertsIdeal.τ) (sig := Cert.LateExpertsIdeal.sig) (Val := Elt F) (Λ := Cert.LateExpertsIdeal.Λ₀)) (funext fun ℓ => funext fun x => ?_)
  match ℓ, x with
  | ⟨0, _⟩, (t, s) => rfl

theorem defs_same : Cert.LateExperts.defs (F := F) = Cert.LateExpertsIdeal.defs (F := F) := by
  unfold Cert.LateExperts.defs Cert.LateExpertsIdeal.defs
  rw [defs₀_same]; rfl

end Cert.Late

end
-- ==== Proof.LateBody.lean ====
module

public import proofs.«01_k».proof.Proof.MoeStep
public import proofs.«01_k».proof.Proof.Gen.LateExpertsIdeal.Launch
public import proofs.«01_k».proof.Proof.Gen.LateExpertsIdeal.Skeleton
public import Idealize.ShloMosaic.Lib.Tactic

@[expose] public section

set_option maxRecDepth 16384

noncomputable section

namespace Cert.Late

open Cert.LateExpertsIdeal Cert.LateExpertsIdeal.Gen
open Cert.Moe (refillsAt chunk gateStrip linStrip gateW linW downW outBlk upto_zero upto_writes upto_all ldChunk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The table word a load at offset `off` gives. -/
abbrev word (arg1 : Memref sig .tc .smem S153 .i32) (f1 : arg1.view.ty.Contents (Elt F)) (off : Fin 1 → ℕ) (inb : ∀ a, off a + S1.size a ≤ S153.size a) : BitVec 32 :=
  ((arg1.access (Rect.unit (s := S153) off S1.size inb)).read (Elt F) f1 (Shape.Idx.first (numel1_S1.symm ▸ Nat.one_pos)))

set_option maxHeartbeats 4000000 in
/-- The body at a point whose scratch buffers already hold the point's expert unless it refills them: the output block is
    the block of results, the scratch buffers hold the point's expert afterwards, the rest is as it was. -/
theorem kernelRun (c : Dev nD) (i : grid0.Coords) (arg1 : Memref sig .tc .smem S153 .i32) (harg1 : arg1.IsWhole) (arg2 : Memref sig .tc .vmem S512x1024 .bf16) (harg2 : arg2.IsWhole) (arg3 : Memref sig .tc .vmem S1x1x1024x2048 .f32) (harg3 : arg3.IsWhole) (arg4 : Memref sig .tc .vmem S256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .hbm S147456x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (q : PosShare TreeShare) (f1 : arg1.view.ty.Contents (Elt F))
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (i 0).val (word arg1 f1 (k0_off1 i) (k0_off1_inb i)) (word arg1 f1 (k0_off2 i) (k0_off2_inb i)) → g = gateW x3 x4 ∧ l = linW x3 x4 ∧ d = downW x7)
    (K : PUnit → sProp 𝕄) :
    iprop((arg1.view.loc (c : Thread nD τ) ↦[arg1.view.set]{q} f1) ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg10 fullShare d)
        ∗ owns (c : Thread nD τ) arg11 fullShare g ∗ owns (c : Thread nD τ) arg12 fullShare l ∗ owns (c : Thread nD τ) arg13 fullShare d
        ∗ (iprop((arg1.view.loc (c : Thread nD τ) ↦[arg1.view.set]{q} f1) ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg10 fullShare (outBlk x2 (gateW x3 x4) (linW x3 x4) (downW x7) x5 x6 x8)
            ∗ owns (c : Thread nD τ) arg11 fullShare (gateW x3 x4) ∗ owns (c : Thread nD τ) arg12 fullShare (linW x3 x4) ∗ owns (c : Thread nD τ) arg13 fullShare (downW x7)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%f11, %h11, H11⟩, ⟨%f12, %h12, H12⟩, ⟨%f13, %h13, H13⟩, Hk⟩
  sl_exec
  sl_step
  have hv : kernelRun.sl.v10 i arg1 f1 = 1#1 ↔ refillsAt (i 0).val (word arg1 f1 (k0_off1 i) (k0_off1_inb i)) (word arg1 f1 (k0_off2 i) (k0_off2_inb i)) := by
    delta kernelRun.sl.v10
    exact Iff.rfl
  have e4 : View.readAt (Elt F) arg4.view (Rect.unit (s := S256x256) ![0, 0] S256x256.size inb_S256x256_S256x256_0_0).toLoadRect f4 = x4 := by
    rw [View.readAt_full arg4.view f4, h4]
  have ek : ∀ (k : Fin 8) {off : Fin 4 → ℕ} (inb), off = ![0, 0, 0, 256 * k.val] →
      View.readAt (Elt F) arg3.view (Rect.unit (s := S1x1x1024x2048) off S1x1x1024x256.size inb).toLoadRect f3 = chunk x3 k :=
    fun k off inb h => h3 ▸ ldChunk arg3.view f3 inb k h
  have e12 : kernelRun.sl.v12 c i arg1 arg3 arg4 arg11 f1 f3 f4 f11 = gateW x3 x4 := by
    delta kernelRun.sl.v12
    rw [View.readAt_full arg11.view]
    by_cases hr : kernelRun.sl.v10 i arg1 f1 = 1#1
    · rw [dif_pos hr]
      refine upto_all (gateStrip x3 x4) _ ?_
      refine upto_writes _ _ _ _ 7 _ _ rfl (by rw [e4]; exact congrArg (k0_pay25 · x4) (ek 7 _ rfl)) ?_
      refine upto_writes _ _ _ _ 6 _ _ rfl (by delta kernelRun.sl.r_2; rw [e4]; exact congrArg (fun w => k0_pay22 (k0_pay20 w) x4) (ek 6 _ rfl)) ?_
      refine upto_writes _ _ _ _ 5 _ _ rfl (by rw [e4]; exact congrArg (k0_pay18 · x4) (ek 5 _ rfl)) ?_
      refine upto_writes _ _ _ _ 4 _ _ rfl (by rw [e4]; exact congrArg (k0_pay15 · x4) (ek 4 _ rfl)) ?_
      refine upto_writes _ _ _ _ 3 _ _ rfl (by rw [e4]; exact congrArg (k0_pay12 · x4) (ek 3 _ rfl)) ?_
      refine upto_writes _ _ _ _ 2 _ _ rfl (by rw [e4]; exact congrArg (k0_pay9 · x4) (ek 2 _ rfl)) ?_
      refine upto_writes _ _ _ _ 1 _ _ rfl (by rw [e4]; exact congrArg (k0_pay6 · x4) (ek 1 _ rfl)) ?_
      refine upto_writes _ _ _ _ 0 _ _ rfl (by rw [e4]; exact congrArg (k0_pay3 · x4) (ek 0 _ rfl)) ?_
      exact upto_zero _ _
    · rw [dif_neg hr, h11]
      exact (hc fun h => hr (hv.2 h)).1
  have e18 : kernelRun.sl.v18 c i arg1 arg3 arg4 arg12 f1 f3 f4 f12 = linW x3 x4 := by
    delta kernelRun.sl.v18
    rw [View.readAt_full arg12.view]
    by_cases hr : kernelRun.sl.v10 i arg1 f1 = 1#1
    · rw [dif_pos hr]
      refine upto_all (linStrip x3 x4) _ ?_
      refine upto_writes _ _ _ _ 7 _ _ rfl (by rw [e4]; exact congrArg (k0_pay26 · x4) (ek 7 _ rfl)) ?_
      refine upto_writes _ _ _ _ 6 _ _ rfl (by delta kernelRun.sl.r_2; rw [e4]; exact congrArg (fun w => k0_pay23 (k0_pay20 w) x4) (ek 6 _ rfl)) ?_
      refine upto_writes _ _ _ _ 5 _ _ rfl (by rw [e4]; exact congrArg (k0_pay19 · x4) (ek 5 _ rfl)) ?_
      refine upto_writes _ _ _ _ 4 _ _ rfl (by rw [e4]; exact congrArg (k0_pay16 · x4) (ek 4 _ rfl)) ?_
      refine upto_writes _ _ _ _ 3 _ _ rfl (by rw [e4]; exact congrArg (k0_pay13 · x4) (ek 3 _ rfl)) ?_
      refine upto_writes _ _ _ _ 2 _ _ rfl (by rw [e4]; exact congrArg (k0_pay10 · x4) (ek 2 _ rfl)) ?_
      refine upto_writes _ _ _ _ 1 _ _ rfl (by rw [e4]; exact congrArg (k0_pay7 · x4) (ek 1 _ rfl)) ?_
      refine upto_writes _ _ _ _ 0 _ _ rfl (by rw [e4]; exact congrArg (k0_pay4 · x4) (ek 0 _ rfl)) ?_
      exact upto_zero _ _
    · rw [dif_neg hr, h12]
      exact (hc fun h => hr (hv.2 h)).2.1
  have e38 : kernelRun.sl.v38 c i arg1 arg7 arg13 f1 f7 f13 = downW x7 := by
    delta kernelRun.sl.v38
    refine (View.readAt_full arg13.view _ inb_S1024x1024_S1024x1024_0_0).trans ?_
    by_cases hr : kernelRun.sl.v10 i arg1 f1 = 1#1
    · rw [dif_pos hr, View.read_writes_full]
      delta kernelRun.sl.r_3
      rw [View.readAt_full arg7.view f7, h7]
      rfl
    · rw [dif_neg hr, h13]
      exact (hc fun h => hr (hv.2 h)).2.2
  iapply Hk
  isplitl [H1]; · iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H10]
  · iexists _; isplitr; swap; · iexact H10
    ipureintro
    refine (View.read_writes_full _ _ _ _ _).trans ?_
    rw [e38]
    delta kernelRun.sl.r_4 kernelRun.sl.r_5
    rw [e12, e18, View.readAt_full arg2.view f2, h2, View.readAt_full arg6.view f6, h6, View.readAt_full arg5.view f5, h5]
    refine congrArg (fun z => outBlk x2 (gateW x3 x4) (linW x3 x4) (downW x7) x5 x6 z) ?_
    exact (View.readAt_full arg8.view f8 inb_S1x1x1024_S1x1x1024_0_0_0).trans h8
  isplitl [H11]
  · iexists _; isplitr; swap; · iexact H11
    ipureintro
    exact (View.readAt_full arg11.view _ inb_S1024x1024_S1024x1024_0_0).symm.trans e12
  isplitl [H12]
  · iexists _; isplitr; swap; · iexact H12
    ipureintro
    exact (View.readAt_full arg12.view _ inb_S1024x1024_S1024x1024_0_0).symm.trans e18
  · iexists _; isplitr; swap; · iexact H13
    ipureintro
    exact (View.readAt_full arg13.view _ inb_S1024x1024_S1024x1024_0_0).symm.trans e38

end Cert.Late

end
-- ==== Proof.LateLaunch.lean ====
/- The layer 1 experts' pipeline: its tables, its blocks by expert, and its proof data. -/
module

public import proofs.«01_k».proof.Proof.LateBody
public import Idealize.ShloMosaic.Lib.Pipeline.ValueKit
public import Idealize.ShloMosaic.Lib.Tactic

@[expose] public section

set_option maxRecDepth 16384

noncomputable section

namespace Cert.Late

open Cert.LateExpertsIdeal Cert.LateExpertsIdeal.Gen
open Cert.Moe (refillsAt refillsAt_false gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 153 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S153.size k) (h : 0 < (Rect.unit (s := S153) off S1.size inb).shape.numel) :
    (a.1 0 ((Rect.unit (s := S153) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![1, (ex a t).toNat, 0, 0] := by
  have h : (a.1.at 0 (Rect.unit (s := S153) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![1, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S153) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![135 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 1 e (y 2) (y 3))
def slab2 (w : Vec F S2x32x1024x1024 .f32) (e : Fin 32) : Vec F S1x1x1024x1024 .f32 := fun y => w (ValueIdx.ix4 1 e (y 2) (y 3))
def slabB (w : Vec F S32x1x1024 .f32) (e : Fin 32) : Vec F S1x1x1024 .f32 := fun y => w (ValueIdx.ix3 e (y 1) (y 2))
def rows (x : Vec F S78336x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![1, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![1, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![135 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.Late

end
-- ==== Proof.LateRun.lean ====
/- The layer 1 experts' body at every point, and the run of the whole call. -/
module

public import proofs.«01_k».proof.Proof.LateLaunch

@[expose] public section

set_option maxRecDepth 16384

noncomputable section

namespace Cert.Late

open Cert.LateExpertsIdeal Cert.LateExpertsIdeal.Gen
open Cert.Moe (refillsAt gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.Late

end
-- ==== Proof.LateFrames.lean ====
/- The frames of the layer 1 experts' programs: a table of known experts is admissible, and the run at any values is read at the word
   values and at the extended reals. -/
module

public import proofs.«01_k».proof.Defs
public import proofs.«01_k».proof.Proof.LateSame
public import proofs.«01_k».proof.Proof.Gen.Pre_known_late_experts
public import proofs.«01_k».proof.Proof.Gen.LateExpertsReferenceIdeal.Run
public import proofs.«01_k».proof.Proof.LateRun
public import proofs.«01_k».proof.Proof.MoeFrames
public import Idealize.ShloMosaic.Lib.StableHlo.Predicate

@[expose] public section

set_option maxRecDepth 16384

noncomputable section

namespace Cert.Late

open Cert.LateExpertsIdeal Cert.LateExpertsIdeal.Gen
open Cert.Moe (lt_of_cmpi)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S153 .i32) : Prop := ∀ i : S153.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![1, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![1, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

theorem known_of [Cert.Pre_known_late_experts.Facts] {x1 : Vec F S78336x1024 .bf16} {x2 : Vec F S2x32x1024x2048 .f32} {x3 : Vec F S32x2048 .f32} {x4 : Vec F S2x32x1024x1024 .f32} {x5 : Vec F S32x1024 .f32} {x6 : Vec F S147456x1024 .bf16}
    (e : Vec F S153 .i32) (h : (Cert.Pre_known_late_experts.fn (F := F) e x1 x2 x3 x4 x5 x6).1 = (fun _ => 1#1) ∧ (Cert.Pre_known_late_experts.fn (F := F) e x1 x2 x3 x4 x5 x6).2 = (fun _ => 1#1)) : Known e :=
  fun i => lt_of_cmpi (e i) (congrFun h.1 i) (congrFun h.2 i)

instance : Cert.Pre_known_late_experts.Facts := Cert.Pre_known_late_experts.Gen.facts

theorem frame_LateExperts : Cert.quiescent_LateExperts := fun m ρ hp => by
  have h := frame_at (F := Bits) m ρ fun c => known_of _ (hp c)
  rw [← main_same, ← defs_same] at h
  exact h

theorem frame_LateExpertsIdeal : Cert.quiescent_LateExpertsIdeal := fun m ρ hp => frame_at (F := Ideal) m ρ fun c => known_of _ (hp c)

theorem frame_LateExpertsReferenceIdeal : Cert.quiescent_LateExpertsReferenceIdeal := fun m ρ _ =>
  (θ_run Cert.LateExpertsReferenceIdeal.defs _ _).mono (fun r h => ⟨fun c => (h c).2, Idealize.ShloMosaic.sem_eq_zero_of_no_sems (by decide) r.2⟩)
    (Cert.LateExpertsReferenceIdeal.Value.run (F := Ideal) m ρ)

end Cert.Late

end
-- ==== Proof.LateHost.lean ====
/- The arrays the host prepares for the layer 1 experts' call, read at an index of the arguments. -/
module

public import proofs.«01_k».proof.Proof.MoeHost
public import proofs.«01_k».proof.Proof.LateLaunch
public import Idealize.ShloMosaic.Lib.Tactic
public import Idealize.ShloMosaic.Lib.StableHlo.ReadAt
public import Idealize.ShloMosaic.Lib.IdealHost

@[expose] public section

set_option maxRecDepth 16384

noncomputable section

namespace Cert.Late

open Cert.LateExpertsIdeal Cert.LateExpertsIdeal.Gen
open Cert.Moe (IsPerm src src_word word_inj bit_value)
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.Late

end
-- ==== Proof.LateArray.lean ====
/- The layer 1 experts' result array in closed form over the arguments. -/
module

public import proofs.«01_k».proof.Proof.LateHost
public import proofs.«01_k».proof.Proof.MoeArray
public import proofs.«01_k».proof.Proof.LateFrames
public import Idealize.ShloMosaic.Lib.Pipeline.ValueKit

@[expose] public section

set_option maxRecDepth 16384

noncomputable section

namespace Cert.Late

open Cert.LateExpertsIdeal Cert.LateExpertsIdeal.Gen
open Cert.Moe (act tokenAt gateW linW downW outBlk)
open Idealize.ShloMosaic
open Idealize.ShloMosaic.TcCoe Idealize.SL.Sem
open Idealize.ShloMosaic.Pipeline (Dat)

/-- One element of one block of tokens, with the block's expert. -/
def blockAt (e : Fin 32) (x : Vec Ideal S78336x1024 .bf16) (w1 : Vec Ideal S2x32x1024x2048 .f32) (b1 : Vec Ideal S32x2048 .f32)
    (w2 : Vec Ideal S2x32x1024x1024 .f32) (b2 : Vec Ideal S32x1024 .f32) (n : Fin 78336) (j : Fin 1024) : EReal :=
  tokenAt (fun i => x (ix2 n i)) (fun i k => w1 (ix4 1 e i k)) (fun k => b1 (ix2 e k)) (fun y => w2 (ix4 1 e y j)) (b2 (ix2 e j))

/-- The result array: the rows of this part from their experts, the rows of the earlier parts as they were. -/
def outArr (e : Fin 153 → Fin 32) (x : Vec Ideal S78336x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) : Vec Ideal S147456x1024 .bf16 :=
  fun z => if h : 69120 ≤ (z 0).val then
      blockAt (e ⟨((z 0).val - 69120) / 512, by have : (z 0).val < 147456 := (z 0).isLt; omega⟩) x w1 b1 w2 b2
        ⟨(z 0).val - 69120, by have : (z 0).val < 147456 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 78336) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [Cert.Moe.outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 78336 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 1 (exf a t) i ⟨2 * y.val, by omega⟩) := fun i y => Cert.Moe.gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 1 (exf a t) i ⟨2 * y.val + 1, by omega⟩) := fun i y => Cert.Moe.linW_apply _ _ (perm_isPerm m c) i y
  have hd : ∀ y : Fin 1024, downW (slab2 (m ((c : Thread nD τ).loc main_arg4)) (exf a t)) (ix2 y j)
      = m ((c : Thread nD τ).loc main_arg4) (ix4 1 (exf a t) y j) := fun y => Cert.Moe.downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

/-- What the body leaves at one index of its block. -/
theorem point (c : Dev nD) (t : Fin (cfg0 a).N) (r : Fin 512) (j : Fin 1024) (n : Fin 78336) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (Cert.Moe.of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 135 ≤ β (0 : Fin 2)) := by decide +kernel

theorem covers : ((cfg0 a).win 7).CoversWhere (fun β => 135 ≤ β (0 : Fin 2)) := covers_zeros

/-- The closed form at an index of block `t`. -/
theorem outArr_block (e : Fin 153 → Fin 32) (x : Vec Ideal S78336x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) (t : Fin 153) (r : Fin 512) (j : Fin 1024)
    (z : S147456x1024.Idx) (e0 : (z 0).val = 512 * (135 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 69120) / 512, by have : (z 0).val < 147456 := (z 0).isLt; omega⟩ : Fin 153) = t := Fin.ext (by show ((z 0).val - 69120) / 512 = _; omega)
  have h2 : (⟨(z 0).val - 69120, by have : (z 0).val < 147456 := (z 0).isLt; omega⟩ : Fin 78336) = ⟨512 * t.val + r.val, by omega⟩ := Fin.ext (by show (z 0).val - 69120 = 512 * t.val + r.val; omega)
  have h3 : (z 1 : Fin 1024) = j := Fin.ext e1
  rw [h1, h2]
  exact congrArg _ h3

/-- The closed form in the rows of the earlier parts. -/
theorem outArr_before (e : Fin 153 → Fin 32) (x : Vec Ideal S78336x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16)
    (z : S147456x1024.Idx) (e0 : (z 0).val < 69120) : outArr e x w1 b1 w2 b2 yb z = yb z := by
  unfold outArr
  rw [dif_neg (by omega)]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 135 ≤ β (0 : Fin 2)) (covers a) (fun t hf y => ?_) (fun j hj => ?_)
  · blk_simp
    rw [after0_7]
    have w7 : ((cfg0 a).win 7).index t = ![135 + t.val, 0] := win7 a t
    have e0 : (((((cfg0 a).win 7).blk t).view.emb y) (0 : Fin 2)).val = 512 * (135 + t.val) + (y (0 : Fin 2)).val := by
      blk_simp
      rw [w7]
      show (135 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : (j (0 : Fin 2)).val < 69120 := by
      by_contra h
      exact hj (show 135 ≤ (j (0 : Fin 2)).val / 512 by omega)
    rw [A_eq]
    exact (congrFun (before_eq m c) _).trans (outArr_before _ _ _ _ _ _ _ _ hc).symm

end Cert.Late

end
-- ==== Proof.LateRef.lean ====
/- The layer 1 experts' reference as named stages, and each stage read at an index. -/
module

public import proofs.«01_k».proof.Proof.Gen.LateExpertsReferenceIdeal.Run
public import proofs.«01_k».proof.Proof.LateArray
public import proofs.«01_k».proof.Proof.MoeRef
public import Idealize.ShloMosaic.Lib.Pointwise
public import Idealize.ShloMosaic.Lib.IdealHost

@[expose] public section

set_option maxRecDepth 16384

noncomputable section

namespace Cert.Late.Ref

open Cert.LateExpertsReferenceIdeal Cert.LateExpertsReferenceIdeal.Gen
open Cert.Moe (act tokenAt)
open Idealize.ShloMosaic
open Idealize.ShloMosaic.TcCoe

section stages
variable {F : FTy → Type} [FloatOps F]

/-- The block's expert as the position to read at, a negative one counted from the end. -/
def posR (e : IVec S153 32) : IVec S153x1 32 :=
  broadcastInDim S153x1 ![0] bcast_S153_S153x1_0 (select (cmpi .slt e (broadcastInDim S153 ![] bcast_S_S153 (constantI S_ 32 0#32))) (addi e (broadcastInDim S153 ![] bcast_S_S153 (constantI S_ 32 32#32))) e)

/-- The tokens by block. -/
def tokensR (x : FVec F S78336x1024 .bf16) : FVec F S153x512x1024 .f32 :=
  shapeCast _ (extf .f32 x bitsLt_bf16_f32) shapeCasts_S78336x1024_S153x512x1024

/-- Each block's first-layer matrix. -/
def firstR (e : IVec S153 32) (w1 : FVec F S2x32x1024x2048 .f32) : FVec F S153x1024x2048 .f32 :=
  Host.gather gather_S32x1024x2048_S153x1_S153x1024x2048_12_0_n_n_0_1_110242048 (shapeCast _ (extractStridedSlice S1x32x1024x2048 ![1, 0, 0, 0] w1 slices_S2x32x1024x2048_S1x32x1024x2048_1_0_0_0) shapeCasts_S1x32x1024x2048_S32x1024x2048) (posR e)

/-- Each block's first-layer bias. -/
def firstBiasR (e : IVec S153 32) (b1 : FVec F S32x2048 .f32) : FVec F S153x2048 .f32 :=
  Host.gather gather_S32x2048_S153x1_S153x2048_1_0_n_n_0_1_12048 b1 (posR e)

/-- Each block's second-layer matrix. -/
def secondR (e : IVec S153 32) (w2 : FVec F S2x32x1024x1024 .f32) : FVec F S153x1024x1024 .f32 :=
  Host.gather gather_S32x1024x1024_S153x1_S153x1024x1024_12_0_n_n_0_1_110241024 (shapeCast _ (extractStridedSlice S1x32x1024x1024 ![1, 0, 0, 0] w2 slices_S2x32x1024x1024_S1x32x1024x1024_1_0_0_0) shapeCasts_S1x32x1024x1024_S32x1024x1024) (posR e)

/-- Each block's second-layer bias. -/
def secondBiasR (e : IVec S153 32) (b2 : FVec F S32x1024 .f32) : FVec F S153x1024 .f32 :=
  Host.gather gather_S32x1024_S153x1_S153x1024_1_0_n_n_0_1_11024 b2 (posR e)

/-- The first layer. -/
def hiddenR (x : FVec F S153x512x1024 .f32) (w : FVec F S153x1024x2048 .f32) (b : FVec F S153x2048 .f32) : FVec F S153x512x2048 .f32 :=
  addf (Host.dotGeneral dot_S153x512x1024_S153x1024x2048_S153x512x2048_2_1_1_2_0_0 none x w)
    (broadcastInDim S153x512x2048 ![0, 1, 2] bcast_S153x1x2048_S153x512x2048_0_1_2 (broadcastInDim S153x1x2048 ![0, 2] bcast_S153x2048_S153x1x2048_0_2 b))

def all (k : BitVec 32) : FVec F S153x512x1024 .f32 := broadcastInDim S153x512x1024 ![] bcast_S_S153x512x1024 (constant S_ .f32 k)

/-- The gate half, bounded above. -/
def gateR (h : FVec F S153x512x2048 .f32) : FVec F S153x512x1024 .f32 :=
  minimumf (Host.slice S153x512x1024 ![0, 0, 0] ![1, 1, 2] h slicesBy_S153x512x2048_S153x512x1024_0s1_0s1_0s2) (all 0x40E00000#32)

/-- The linear half, bounded on both sides. -/
def linearR (h : FVec F S153x512x2048 .f32) : FVec F S153x512x1024 .f32 :=
  minimumf (broadcastInDim S153x512x1024 ![] bcast_S_S153x512x1024 (id (constant S_ .f32 0x40E00000#32)))
    (maximumf (broadcastInDim S153x512x1024 ![] bcast_S_S153x512x1024 (id (constant S_ .f32 0xC0E00000#32)))
      (Host.slice S153x512x1024 ![0, 0, 1] ![1, 1, 2] h slicesBy_S153x512x2048_S153x512x1024_0s1_0s1_1s2))

/-- The gated product. -/
def actR (h : FVec F S153x512x2048 .f32) : FVec F S153x512x1024 .f32 :=
  mulf (mulf (gateR h) (Host.divf (all 0x3F800000#32) (addf (all 0x3F800000#32) (Host.exp (Host.negf (mulf (all 0x3FD9DB23#32) (gateR h)))))))
    (addf (linearR h) (all 0x3F800000#32))

/-- The second layer. -/
def downR (a : FVec F S153x512x1024 .f32) (w : FVec F S153x1024x1024 .f32) (b : FVec F S153x1024 .f32) : FVec F S153x512x1024 .f32 :=
  addf (Host.dotGeneral dot_S153x512x1024_S153x1024x1024_S153x512x1024_2_1_1_2_0_0 none a w)
    (broadcastInDim S153x512x1024 ![0, 1, 2] bcast_S153x1x1024_S153x512x1024_0_1_2 (broadcastInDim S153x1x1024 ![0, 2] bcast_S153x1024_S153x1x1024_0_2 b))

/-- The earlier rows and this part's, one below the other. -/
def stackR (yb : FVec F S147456x1024 .bf16) (y : FVec F S153x512x1024 .f32) : FVec F S147456x1024 .bf16 :=
  concatenate S147456x1024 0 [⟨S69120x1024, (extractStridedSlice S69120x1024 ![0, 0] yb slices_S147456x1024_S69120x1024_0_0)⟩,
    ⟨S78336x1024, (truncf .bf16 (shapeCast _ y shapeCasts_S153x512x1024_S78336x1024) bitsLt_bf16_f32)⟩] concatenates_S69120x1024_S78336x1024_S147456x1024_d0

def outR (e : IVec S153 32) (x : FVec F S78336x1024 .bf16) (w1 : FVec F S2x32x1024x2048 .f32) (b1 : FVec F S32x2048 .f32) (w2 : FVec F S2x32x1024x1024 .f32) (b2 : FVec F S32x1024 .f32) (yb : FVec F S147456x1024 .bf16) : FVec F S147456x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.LateExpertsReferenceIdeal.Value.res_main_v62 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.LateExpertsReferenceIdeal.Value.res_main_v62
  rfl

end stages

theorem posR_apply (e : IVec S153 32) (he : ∀ i, (e i).toNat < 32) (t : Fin 153) : posR e (ix2 t 0) = e (ix1 t) := by
  have h : posR e (ix2 t 0) = Scalar.select (IntOp.cmpi .slt (e (ix1 t)) 0#32) (IntOp.addi (e (ix1 t)) 32#32) (e (ix1 t)) := by
    pointwise [posR]
  rw [h]
  have h0 : ¬ IntOp.cmpi .slt (e (ix1 t)) 0#32 = 1#1 := by
    rw [IntOp.cmpi_slt]
    have := he (ix1 t)
    simp only [BitVec.slt_iff_toInt_lt, BitVec.toInt_eq_toNat_cond]
    simp; omega
  exact if_neg h0

theorem tokensR_apply (x : FVec Ideal S78336x1024 .bf16) (t : Fin 153) (r : Fin 512) (i : Fin 1024) :
    @Eq EReal (tokensR x (ix3 t r i)) (x (ix2 ⟨t.val * 512 + r.val, by omega⟩ i)) := by
  pointwise [tokensR]

theorem hiddenR_apply (x : FVec Ideal S153x512x1024 .f32) (w : FVec Ideal S153x1024x2048 .f32) (b : FVec Ideal S153x2048 .f32) (t : Fin 153) (r : Fin 512) (k : Fin 2048) :
    hiddenR x w b (ix3 t r k) = (∑ i : Fin 1024, x (ix3 t r i) * w (ix3 t i k)) + b (ix2 t k) := by
  pointwise [hiddenR]

theorem downR_apply (x : FVec Ideal S153x512x1024 .f32) (w : FVec Ideal S153x1024x1024 .f32) (b : FVec Ideal S153x1024 .f32) (t : Fin 153) (r : Fin 512) (k : Fin 1024) :
    downR x w b (ix3 t r k) = (∑ i : Fin 1024, x (ix3 t r i) * w (ix3 t i k)) + b (ix2 t k) := by
  pointwise [downR]

theorem actR_apply (h : FVec Ideal S153x512x2048 .f32) (t : Fin 153) (r : Fin 512) (y : Fin 1024) :
    actR h (ix3 t r y) = act (h (ix3 t r ⟨2 * y.val, by omega⟩)) (h (ix3 t r ⟨2 * y.val + 1, by omega⟩)) := by
  have h1 : (⟨2 * y.val + 1, by omega⟩ : Fin 2048) = ⟨1 + 2 * y.val, by omega⟩ := Fin.ext (Nat.add_comm _ _)
  rw [h1]
  unfold act
  pointwise [actR, gateR, linearR, all]
  rfl

/-- The gather of first-layer matrices reads the matrix its word names. -/
theorem first_take (x : FVec Ideal S32x1024x2048 .f32) (idx : IVec S153x1 32) (t : Fin 153) (i : Fin 1024) (k : Fin 2048) (e : Fin 32)
    (he : (idx (ix2 t 0)).toNat = e.val) :
    Host.gather gather_S32x1024x2048_S153x1_S153x1024x2048_12_0_n_n_0_1_110242048 x idx (ix3 t i k) = x (ix3 e i k) := by
  unfold Host.gather
  refine congrArg x (funext fun a => Fin.ext ?_)
  have hs : gather_S32x1024x2048_S153x1_S153x1024x2048_12_0_n_n_0_1_110242048.siIdx (ix3 t i k) ⟨0, by decide⟩ = ix2 t 0 := by
    funext b; fin_cases b <;> rfl
  fin_cases a
  · show min (idx (gather_S32x1024x2048_S153x1_S153x1024x2048_12_0_n_n_0_1_110242048.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

/-- The gather of second-layer matrices reads the matrix its word names. -/
theorem second_take (x : FVec Ideal S32x1024x1024 .f32) (idx : IVec S153x1 32) (t : Fin 153) (i : Fin 1024) (k : Fin 1024) (e : Fin 32)
    (he : (idx (ix2 t 0)).toNat = e.val) :
    Host.gather gather_S32x1024x1024_S153x1_S153x1024x1024_12_0_n_n_0_1_110241024 x idx (ix3 t i k) = x (ix3 e i k) := by
  unfold Host.gather
  refine congrArg x (funext fun a => Fin.ext ?_)
  have hs : gather_S32x1024x1024_S153x1_S153x1024x1024_12_0_n_n_0_1_110241024.siIdx (ix3 t i k) ⟨0, by decide⟩ = ix2 t 0 := by
    funext b; fin_cases b <;> rfl
  fin_cases a
  · show min (idx (gather_S32x1024x1024_S153x1_S153x1024x1024_12_0_n_n_0_1_110241024.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

theorem firstBias_take (x : FVec Ideal S32x2048 .f32) (idx : IVec S153x1 32) (t : Fin 153) (k : Fin 2048) (e : Fin 32)
    (he : (idx (ix2 t 0)).toNat = e.val) :
    Host.gather gather_S32x2048_S153x1_S153x2048_1_0_n_n_0_1_12048 x idx (ix2 t k) = x (ix2 e k) := by
  unfold Host.gather
  refine congrArg x (funext fun a => Fin.ext ?_)
  have hs : gather_S32x2048_S153x1_S153x2048_1_0_n_n_0_1_12048.siIdx (ix2 t k) ⟨0, by decide⟩ = ix2 t 0 := by
    funext b; fin_cases b <;> rfl
  fin_cases a
  · show min (idx (gather_S32x2048_S153x1_S153x2048_1_0_n_n_0_1_12048.siIdx (ix2 t k) ⟨0, by decide⟩)).toInt.toNat 31 + 0 + 0 = e.val
    rw [hs, Cert.Moe.Ref.word_int _ e he]
    omega
  · show 0 + 0 + k.val = k.val
    omega

theorem secondBias_take (x : FVec Ideal S32x1024 .f32) (idx : IVec S153x1 32) (t : Fin 153) (k : Fin 1024) (e : Fin 32)
    (he : (idx (ix2 t 0)).toNat = e.val) :
    Host.gather gather_S32x1024_S153x1_S153x1024_1_0_n_n_0_1_11024 x idx (ix2 t k) = x (ix2 e k) := by
  unfold Host.gather
  refine congrArg x (funext fun a => Fin.ext ?_)
  have hs : gather_S32x1024_S153x1_S153x1024_1_0_n_n_0_1_11024.siIdx (ix2 t k) ⟨0, by decide⟩ = ix2 t 0 := by
    funext b; fin_cases b <;> rfl
  fin_cases a
  · show min (idx (gather_S32x1024_S153x1_S153x1024_1_0_n_n_0_1_11024.siIdx (ix2 t k) ⟨0, by decide⟩)).toInt.toNat 31 + 0 + 0 = e.val
    rw [hs, Cert.Moe.Ref.word_int _ e he]
    omega
  · show 0 + 0 + k.val = k.val
    omega

section known
variable (e : IVec S153 32) (ef : Fin 153 → Fin 32) (he : ∀ t, (e (ix1 t)).toNat = (ef t).val)
include he

theorem pos_word (t : Fin 153) : (posR e (ix2 t 0)).toNat = (ef t).val := by
  rw [posR_apply e (fun i => ?_) t, he]
  have hi : i = ix1 (i 0) := by funext b; fin_cases b; rfl
  rw [hi]
  exact lt_of_eq_of_lt (he (i 0)) (ef (i 0)).isLt

theorem firstR_apply (w1 : FVec Ideal S2x32x1024x2048 .f32) (t : Fin 153) (i : Fin 1024) (k : Fin 2048) :
    firstR e w1 (ix3 t i k) = w1 (ix4 1 (ef t) i k) := by
  unfold firstR
  rw [first_take _ _ t i k (ef t) (pos_word e ef he t)]
  pointwise

theorem secondR_apply (w2 : FVec Ideal S2x32x1024x1024 .f32) (t : Fin 153) (i : Fin 1024) (k : Fin 1024) :
    secondR e w2 (ix3 t i k) = w2 (ix4 1 (ef t) i k) := by
  unfold secondR
  rw [second_take _ _ t i k (ef t) (pos_word e ef he t)]
  pointwise

theorem firstBiasR_apply (b : FVec Ideal S32x2048 .f32) (t : Fin 153) (k : Fin 2048) : firstBiasR e b (ix2 t k) = b (ix2 (ef t) k) :=
  firstBias_take b _ t k (ef t) (pos_word e ef he t)

theorem secondBiasR_apply (b : FVec Ideal S32x1024 .f32) (t : Fin 153) (k : Fin 1024) : secondBiasR e b (ix2 t k) = b (ix2 (ef t) k) :=
  secondBias_take b _ t k (ef t) (pos_word e ef he t)

/-- Both layers of one token of one block. -/
theorem layers_apply (x : FVec Ideal S78336x1024 .bf16) (w1 : FVec Ideal S2x32x1024x2048 .f32) (b1 : FVec Ideal S32x2048 .f32) (w2 : FVec Ideal S2x32x1024x1024 .f32) (b2 : FVec Ideal S32x1024 .f32)
    (t : Fin 153) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 1 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S147456x1024 .bf16) (y : FVec Ideal S153x512x1024 .f32) (n : Fin 147456) (j : Fin 1024) (hn : n.val < 69120) :
    stackR yb y (ix2 n j) = yb (ix2 n j) := by
  pointwise [stackR]
  exact dif_pos hn

theorem stackR_block (yb : FVec Ideal S147456x1024 .bf16) (y : FVec Ideal S153x512x1024 .f32) (n : Fin 147456) (j : Fin 1024) (hn : 69120 ≤ n.val) :
    @Eq EReal (stackR yb y (ix2 n j)) (y (ix3 ⟨(n.val - 69120) / 512, by omega⟩ ⟨(n.val - 69120) % 512, by omega⟩ j)) := by
  pointwise [stackR]
  exact dif_neg (Nat.not_lt.mpr hn)

/-- The reference's result is the closed form. -/
theorem outR_eq (e : IVec S153 32) (ef : Fin 153 → Fin 32) (he : ∀ t, (e (ix1 t)).toNat = (ef t).val) (x : FVec Ideal S78336x1024 .bf16)
    (w1 : FVec Ideal S2x32x1024x2048 .f32) (b1 : FVec Ideal S32x2048 .f32) (w2 : FVec Ideal S2x32x1024x1024 .f32) (b2 : FVec Ideal S32x1024 .f32) (yb : FVec Ideal S147456x1024 .bf16) :
    outR e x w1 b1 w2 b2 yb = outArr ef x w1 b1 w2 b2 yb := by
  funext z
  have hz : z = ix2 (z 0) (z 1) := by funext b; fin_cases b <;> rfl
  by_cases h : (z 0).val < 69120
  · rw [outArr_before _ _ _ _ _ _ _ _ h, hz]
    exact stackR_before yb _ (z 0) (z 1) h
  · have hlt : (z 0).val < 147456 := (z 0).isLt
    have hge : 69120 ≤ (z 0).val := Nat.not_lt.mp h
    refine Eq.trans ?_ (outArr_block ef x w1 b1 w2 b2 yb ⟨((z 0).val - 69120) / 512, by omega⟩ ⟨((z 0).val - 69120) % 512, by omega⟩ (z 1) z (by show (z 0).val = 512 * (135 + ((z 0).val - 69120) / 512) + ((z 0).val - 69120) % 512; omega) rfl).symm
    refine (congrArg _ hz).trans ?_
    refine (stackR_block yb _ (z 0) (z 1) hge).trans ((layers_apply e ef he x w1 b1 w2 b2 _ _ (z 1)).trans ?_)
    exact congrArg (fun n : Fin 78336 => blockAt _ x w1 b1 w2 b2 n (z 1)) (Fin.ext (by
      show ((z 0).val - 69120) / 512 * 512 + ((z 0).val - 69120) % 512 = 512 * (((z 0).val - 69120) / 512) + ((z 0).val - 69120) % 512
      omega))

end Cert.Late.Ref

end
-- ==== Proof.LateValue.lean ====
/- The layer 1 experts' call and its reference leave the same result. -/
module

public import proofs.«01_k».proof.Proof.LateRef

@[expose] public section

set_option maxRecDepth 16384

noncomputable section

namespace Cert.Late

open Idealize.ShloMosaic
open Idealize.ShloMosaic.TcCoe Idealize.SL.Sem

section run
open Cert.LateExpertsIdeal Cert.LateExpertsIdeal.Gen

variable (m : (ℓ : Loc nD τ sig) → Buf (Elt Ideal) ℓ) (hk : ∀ c : Dev nD, Known (m ((c : Thread nD τ).loc main_arg0)))

/-- The experts of the blocks. -/
def experts (t : Fin 153) : Fin 32 := exf (adm m hk) t

theorem experts_word (c : Dev nD) (t : Fin 153) : (m ((c : Thread nD τ).loc main_arg0) (ix1 t) : BitVec 32).toNat = (experts m hk t).val := by
  obtain rfl : c = 0 := Subsingleton.elim _ _
  exact congrArg (fun i : S153.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_LateExpertsIdeal_LateExpertsReferenceIdeal := by
  intro m g m' g' hpre hagree
  have hk := fun c => known_of _ (hpre c)
  refine ⟨_, run_value m hk g, (θ_run Cert.LateExpertsReferenceIdeal.defs _ _).mono (fun r h c => ⟨(h c).1.trans ?_, (h c).2⟩) (Cert.LateExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.Late

end
-- ==== Proof.MidSame.lean ====
/- The two printings of the layer 0 middle experts' program, for the word values and for the extended reals, are one text. -/
module

public import proofs.«01_k».proof.Proof.Gen.MidExperts
public import proofs.«01_k».proof.Proof.Gen.MidExpertsIdeal

@[expose] public section

noncomputable section

namespace Cert.Mid

open Idealize.ShloMosaic Idealize.SL.Sem

variable {F : FTy → Type} [FloatOps F]

set_option maxHeartbeats 4000000
theorem main_same : Cert.MidExperts.main (F := F) = Cert.MidExpertsIdeal.main (F := F) := rfl

theorem defs₀_same : Cert.MidExperts.defs₀ (F := F) = Cert.MidExpertsIdeal.defs₀ (F := F) := by
  unfold Cert.MidExperts.defs₀ Cert.MidExpertsIdeal.defs₀
  refine congrArg (Defs.onTc (nD := 1) (τ := Cert.MidExpertsIdeal.τ) (sig := Cert.MidExpertsIdeal.sig) (Val := Elt F) (Λ := Cert.MidExpertsIdeal.Λ₀)) (funext fun ℓ => funext fun x => ?_)
  match ℓ, x with
  | ⟨0, _⟩, (t, s) => rfl

theorem defs_same : Cert.MidExperts.defs (F := F) = Cert.MidExpertsIdeal.defs (F := F) := by
  unfold Cert.MidExperts.defs Cert.MidExpertsIdeal.defs
  rw [defs₀_same]; rfl

end Cert.Mid

end
-- ==== Proof.MidBody.lean ====
module

public import proofs.«01_k».proof.Proof.MoeStep
public import proofs.«01_k».proof.Proof.Gen.MidExpertsIdeal.Launch
public import proofs.«01_k».proof.Proof.Gen.MidExpertsIdeal.Skeleton
public import Idealize.ShloMosaic.Lib.Tactic

@[expose] public section

set_option maxRecDepth 16384

noncomputable section

namespace Cert.Mid

open Cert.MidExpertsIdeal Cert.MidExpertsIdeal.Gen
open Cert.Moe (refillsAt chunk gateStrip linStrip gateW linW downW outBlk upto_zero upto_writes upto_all ldChunk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The table word a load at offset `off` gives. -/
abbrev word (arg1 : Memref sig .tc .smem S72 .i32) (f1 : arg1.view.ty.Contents (Elt F)) (off : Fin 1 → ℕ) (inb : ∀ a, off a + S1.size a ≤ S72.size a) : BitVec 32 :=
  ((arg1.access (Rect.unit (s := S72) off S1.size inb)).read (Elt F) f1 (Shape.Idx.first (numel1_S1.symm ▸ Nat.one_pos)))

set_option maxHeartbeats 4000000 in
/-- The body at a point whose scratch buffers already hold the point's expert unless it refills them: the output block is
    the block of results, the scratch buffers hold the point's expert afterwards, the rest is as it was. -/
theorem kernelRun (c : Dev nD) (i : grid0.Coords) (arg1 : Memref sig .tc .smem S72 .i32) (harg1 : arg1.IsWhole) (arg2 : Memref sig .tc .vmem S512x1024 .bf16) (harg2 : arg2.IsWhole) (arg3 : Memref sig .tc .vmem S1x1x1024x2048 .f32) (harg3 : arg3.IsWhole) (arg4 : Memref sig .tc .vmem S256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .hbm S149504x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (q : PosShare TreeShare) (f1 : arg1.view.ty.Contents (Elt F))
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (i 0).val (word arg1 f1 (k0_off1 i) (k0_off1_inb i)) (word arg1 f1 (k0_off2 i) (k0_off2_inb i)) → g = gateW x3 x4 ∧ l = linW x3 x4 ∧ d = downW x7)
    (K : PUnit → sProp 𝕄) :
    iprop((arg1.view.loc (c : Thread nD τ) ↦[arg1.view.set]{q} f1) ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg10 fullShare d)
        ∗ owns (c : Thread nD τ) arg11 fullShare g ∗ owns (c : Thread nD τ) arg12 fullShare l ∗ owns (c : Thread nD τ) arg13 fullShare d
        ∗ (iprop((arg1.view.loc (c : Thread nD τ) ↦[arg1.view.set]{q} f1) ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg10 fullShare (outBlk x2 (gateW x3 x4) (linW x3 x4) (downW x7) x5 x6 x8)
            ∗ owns (c : Thread nD τ) arg11 fullShare (gateW x3 x4) ∗ owns (c : Thread nD τ) arg12 fullShare (linW x3 x4) ∗ owns (c : Thread nD τ) arg13 fullShare (downW x7)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%f11, %h11, H11⟩, ⟨%f12, %h12, H12⟩, ⟨%f13, %h13, H13⟩, Hk⟩
  sl_exec
  sl_step
  have hv : kernelRun.sl.v10 i arg1 f1 = 1#1 ↔ refillsAt (i 0).val (word arg1 f1 (k0_off1 i) (k0_off1_inb i)) (word arg1 f1 (k0_off2 i) (k0_off2_inb i)) := by
    delta kernelRun.sl.v10
    exact Iff.rfl
  have e4 : View.readAt (Elt F) arg4.view (Rect.unit (s := S256x256) ![0, 0] S256x256.size inb_S256x256_S256x256_0_0).toLoadRect f4 = x4 := by
    rw [View.readAt_full arg4.view f4, h4]
  have ek : ∀ (k : Fin 8) {off : Fin 4 → ℕ} (inb), off = ![0, 0, 0, 256 * k.val] →
      View.readAt (Elt F) arg3.view (Rect.unit (s := S1x1x1024x2048) off S1x1x1024x256.size inb).toLoadRect f3 = chunk x3 k :=
    fun k off inb h => h3 ▸ ldChunk arg3.view f3 inb k h
  have e12 : kernelRun.sl.v12 c i arg1 arg3 arg4 arg11 f1 f3 f4 f11 = gateW x3 x4 := by
    delta kernelRun.sl.v12
    rw [View.readAt_full arg11.view]
    by_cases hr : kernelRun.sl.v10 i arg1 f1 = 1#1
    · rw [dif_pos hr]
      refine upto_all (gateStrip x3 x4) _ ?_
      refine upto_writes _ _ _ _ 7 _ _ rfl (by rw [e4]; exact congrArg (k0_pay25 · x4) (ek 7 _ rfl)) ?_
      refine upto_writes _ _ _ _ 6 _ _ rfl (by delta kernelRun.sl.r_2; rw [e4]; exact congrArg (fun w => k0_pay22 (k0_pay20 w) x4) (ek 6 _ rfl)) ?_
      refine upto_writes _ _ _ _ 5 _ _ rfl (by rw [e4]; exact congrArg (k0_pay18 · x4) (ek 5 _ rfl)) ?_
      refine upto_writes _ _ _ _ 4 _ _ rfl (by rw [e4]; exact congrArg (k0_pay15 · x4) (ek 4 _ rfl)) ?_
      refine upto_writes _ _ _ _ 3 _ _ rfl (by rw [e4]; exact congrArg (k0_pay12 · x4) (ek 3 _ rfl)) ?_
      refine upto_writes _ _ _ _ 2 _ _ rfl (by rw [e4]; exact congrArg (k0_pay9 · x4) (ek 2 _ rfl)) ?_
      refine upto_writes _ _ _ _ 1 _ _ rfl (by rw [e4]; exact congrArg (k0_pay6 · x4) (ek 1 _ rfl)) ?_
      refine upto_writes _ _ _ _ 0 _ _ rfl (by rw [e4]; exact congrArg (k0_pay3 · x4) (ek 0 _ rfl)) ?_
      exact upto_zero _ _
    · rw [dif_neg hr, h11]
      exact (hc fun h => hr (hv.2 h)).1
  have e18 : kernelRun.sl.v18 c i arg1 arg3 arg4 arg12 f1 f3 f4 f12 = linW x3 x4 := by
    delta kernelRun.sl.v18
    rw [View.readAt_full arg12.view]
    by_cases hr : kernelRun.sl.v10 i arg1 f1 = 1#1
    · rw [dif_pos hr]
      refine upto_all (linStrip x3 x4) _ ?_
      refine upto_writes _ _ _ _ 7 _ _ rfl (by rw [e4]; exact congrArg (k0_pay26 · x4) (ek 7 _ rfl)) ?_
      refine upto_writes _ _ _ _ 6 _ _ rfl (by delta kernelRun.sl.r_2; rw [e4]; exact congrArg (fun w => k0_pay23 (k0_pay20 w) x4) (ek 6 _ rfl)) ?_
      refine upto_writes _ _ _ _ 5 _ _ rfl (by rw [e4]; exact congrArg (k0_pay19 · x4) (ek 5 _ rfl)) ?_
      refine upto_writes _ _ _ _ 4 _ _ rfl (by rw [e4]; exact congrArg (k0_pay16 · x4) (ek 4 _ rfl)) ?_
      refine upto_writes _ _ _ _ 3 _ _ rfl (by rw [e4]; exact congrArg (k0_pay13 · x4) (ek 3 _ rfl)) ?_
      refine upto_writes _ _ _ _ 2 _ _ rfl (by rw [e4]; exact congrArg (k0_pay10 · x4) (ek 2 _ rfl)) ?_
      refine upto_writes _ _ _ _ 1 _ _ rfl (by rw [e4]; exact congrArg (k0_pay7 · x4) (ek 1 _ rfl)) ?_
      refine upto_writes _ _ _ _ 0 _ _ rfl (by rw [e4]; exact congrArg (k0_pay4 · x4) (ek 0 _ rfl)) ?_
      exact upto_zero _ _
    · rw [dif_neg hr, h12]
      exact (hc fun h => hr (hv.2 h)).2.1
  have e38 : kernelRun.sl.v38 c i arg1 arg7 arg13 f1 f7 f13 = downW x7 := by
    delta kernelRun.sl.v38
    refine (View.readAt_full arg13.view _ inb_S1024x1024_S1024x1024_0_0).trans ?_
    by_cases hr : kernelRun.sl.v10 i arg1 f1 = 1#1
    · rw [dif_pos hr, View.read_writes_full]
      delta kernelRun.sl.r_3
      rw [View.readAt_full arg7.view f7, h7]
      rfl
    · rw [dif_neg hr, h13]
      exact (hc fun h => hr (hv.2 h)).2.2
  iapply Hk
  isplitl [H1]; · iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H10]
  · iexists _; isplitr; swap; · iexact H10
    ipureintro
    refine (View.read_writes_full _ _ _ _ _).trans ?_
    rw [e38]
    delta kernelRun.sl.r_4 kernelRun.sl.r_5
    rw [e12, e18, View.readAt_full arg2.view f2, h2, View.readAt_full arg6.view f6, h6, View.readAt_full arg5.view f5, h5]
    refine congrArg (fun z => outBlk x2 (gateW x3 x4) (linW x3 x4) (downW x7) x5 x6 z) ?_
    exact (View.readAt_full arg8.view f8 inb_S1x1x1024_S1x1x1024_0_0_0).trans h8
  isplitl [H11]
  · iexists _; isplitr; swap; · iexact H11
    ipureintro
    exact (View.readAt_full arg11.view _ inb_S1024x1024_S1024x1024_0_0).symm.trans e12
  isplitl [H12]
  · iexists _; isplitr; swap; · iexact H12
    ipureintro
    exact (View.readAt_full arg12.view _ inb_S1024x1024_S1024x1024_0_0).symm.trans e18
  · iexists _; isplitr; swap; · iexact H13
    ipureintro
    exact (View.readAt_full arg13.view _ inb_S1024x1024_S1024x1024_0_0).symm.trans e38

end Cert.Mid

end
-- ==== Proof.MidLaunch.lean ====
/- The layer 0 middle experts' pipeline: its tables, its blocks by expert, and its proof data. -/
module

public import proofs.«01_k».proof.Proof.MidBody
public import Idealize.ShloMosaic.Lib.Pipeline.ValueKit
public import Idealize.ShloMosaic.Lib.Tactic

@[expose] public section

set_option maxRecDepth 16384

noncomputable section

namespace Cert.Mid

open Cert.MidExpertsIdeal Cert.MidExpertsIdeal.Gen
open Cert.Moe (refillsAt refillsAt_false gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 72 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S72.size k) (h : 0 < (Rect.unit (s := S72) off S1.size inb).shape.numel) :
    (a.1 0 ((Rect.unit (s := S72) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![0, (ex a t).toNat, 0, 0] := by
  have h : (a.1.at 0 (Rect.unit (s := S72) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![0, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S72) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![63 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 0 e (y 2) (y 3))
def slab2 (w : Vec F S2x32x1024x1024 .f32) (e : Fin 32) : Vec F S1x1x1024x1024 .f32 := fun y => w (ValueIdx.ix4 0 e (y 2) (y 3))
def slabB (w : Vec F S32x1x1024 .f32) (e : Fin 32) : Vec F S1x1x1024 .f32 := fun y => w (ValueIdx.ix3 e (y 1) (y 2))
def rows (x : Vec F S36864x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![0, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![0, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![63 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.Mid

end
-- ==== Proof.MidRun.lean ====
/- The layer 0 middle experts' body at every point, and the run of the whole call. -/
module

public import proofs.«01_k».proof.Proof.MidLaunch

@[expose] public section

set_option maxRecDepth 16384

noncomputable section

namespace Cert.Mid

open Cert.MidExpertsIdeal Cert.MidExpertsIdeal.Gen
open Cert.Moe (refillsAt gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.Mid

end
-- ==== Proof.MidFrames.lean ====
/- The frames of the layer 0 middle experts' programs: a table of known experts is admissible, and the run at any values is read at the word
   values and at the extended reals. -/
module

public import proofs.«01_k».proof.Defs
public import proofs.«01_k».proof.Proof.MidSame
public import proofs.«01_k».proof.Proof.Gen.Pre_known_mid_experts
public import proofs.«01_k».proof.Proof.Gen.MidExpertsReferenceIdeal.Run
public import proofs.«01_k».proof.Proof.MidRun
public import proofs.«01_k».proof.Proof.MoeFrames
public import Idealize.ShloMosaic.Lib.StableHlo.Predicate

@[expose] public section

set_option maxRecDepth 16384

noncomputable section

namespace Cert.Mid

open Cert.MidExpertsIdeal Cert.MidExpertsIdeal.Gen
open Cert.Moe (lt_of_cmpi)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S72 .i32) : Prop := ∀ i : S72.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![0, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![0, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

theorem known_of [Cert.Pre_known_mid_experts.Facts] {x1 : Vec F S36864x1024 .bf16} {x2 : Vec F S2x32x1024x2048 .f32} {x3 : Vec F S32x2048 .f32} {x4 : Vec F S2x32x1024x1024 .f32} {x5 : Vec F S32x1024 .f32} {x6 : Vec F S149504x1024 .bf16}
    (e : Vec F S72 .i32) (h : (Cert.Pre_known_mid_experts.fn (F := F) e x1 x2 x3 x4 x5 x6).1 = (fun _ => 1#1) ∧ (Cert.Pre_known_mid_experts.fn (F := F) e x1 x2 x3 x4 x5 x6).2 = (fun _ => 1#1)) : Known e :=
  fun i => lt_of_cmpi (e i) (congrFun h.1 i) (congrFun h.2 i)

instance : Cert.Pre_known_mid_experts.Facts := Cert.Pre_known_mid_experts.Gen.facts

theorem frame_MidExperts : Cert.quiescent_MidExperts := fun m ρ hp => by
  have h := frame_at (F := Bits) m ρ fun c => known_of _ (hp c)
  rw [← main_same, ← defs_same] at h
  exact h

theorem frame_MidExpertsIdeal : Cert.quiescent_MidExpertsIdeal := fun m ρ hp => frame_at (F := Ideal) m ρ fun c => known_of _ (hp c)

theorem frame_MidExpertsReferenceIdeal : Cert.quiescent_MidExpertsReferenceIdeal := fun m ρ _ =>
  (θ_run Cert.MidExpertsReferenceIdeal.defs _ _).mono (fun r h => ⟨fun c => (h c).2, Idealize.ShloMosaic.sem_eq_zero_of_no_sems (by decide) r.2⟩)
    (Cert.MidExpertsReferenceIdeal.Value.run (F := Ideal) m ρ)

end Cert.Mid

end
-- ==== Proof.MidHost.lean ====
/- The arrays the host prepares for the layer 0 middle experts' call, read at an index of the arguments. -/
module

public import proofs.«01_k».proof.Proof.MoeHost
public import proofs.«01_k».proof.Proof.MidLaunch
public import Idealize.ShloMosaic.Lib.Tactic
public import Idealize.ShloMosaic.Lib.StableHlo.ReadAt
public import Idealize.ShloMosaic.Lib.IdealHost

@[expose] public section

set_option maxRecDepth 16384

noncomputable section

namespace Cert.Mid

open Cert.MidExpertsIdeal Cert.MidExpertsIdeal.Gen
open Cert.Moe (IsPerm src src_word word_inj bit_value)
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.Mid

end
-- ==== Proof.MidArray.lean ====
/- The layer 0 middle experts' result array in closed form over the arguments. -/
module

public import proofs.«01_k».proof.Proof.MidHost
public import proofs.«01_k».proof.Proof.MoeArray
public import proofs.«01_k».proof.Proof.MidFrames
public import Idealize.ShloMosaic.Lib.Pipeline.ValueKit

@[expose] public section

set_option maxRecDepth 16384

noncomputable section

namespace Cert.Mid

open Cert.MidExpertsIdeal Cert.MidExpertsIdeal.Gen
open Cert.Moe (act tokenAt gateW linW downW outBlk)
open Idealize.ShloMosaic
open Idealize.ShloMosaic.TcCoe Idealize.SL.Sem
open Idealize.ShloMosaic.Pipeline (Dat)

/-- One element of one block of tokens, with the block's expert. -/
def blockAt (e : Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (n : Fin 36864) (j : Fin 1024) : EReal :=
  tokenAt (fun i => x (ix2 n i)) (fun i k => w1 (ix4 0 e i k)) (fun k => b1 (ix2 e k)) (fun y => w2 (ix4 0 e y j)) (b2 (ix2 e j))

/-- The result array: the rows of this part from their experts, the other rows as they were. -/
def outArr (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) : Vec Ideal S149504x1024 .bf16 :=
  fun z => if h : 32256 ≤ (z 0).val ∧ (z 0).val < 69120 then
      blockAt (e ⟨((z 0).val - 32256) / 512, by have : (z 0).val < 149504 := (z 0).isLt; omega⟩) x w1 b1 w2 b2
        ⟨(z 0).val - 32256, by have : (z 0).val < 149504 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 36864) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [Cert.Moe.outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 36864 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 0 (exf a t) i ⟨2 * y.val, by omega⟩) := fun i y => Cert.Moe.gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 0 (exf a t) i ⟨2 * y.val + 1, by omega⟩) := fun i y => Cert.Moe.linW_apply _ _ (perm_isPerm m c) i y
  have hd : ∀ y : Fin 1024, downW (slab2 (m ((c : Thread nD τ).loc main_arg4)) (exf a t)) (ix2 y j)
      = m ((c : Thread nD τ).loc main_arg4) (ix4 0 (exf a t) y j) := fun y => Cert.Moe.downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

/-- What the body leaves at one index of its block. -/
theorem point (c : Dev nD) (t : Fin (cfg0 a).N) (r : Fin 512) (j : Fin 1024) (n : Fin 36864) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (Cert.Moe.of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 63 ≤ β (0 : Fin 2) ∧ β (0 : Fin 2) < 135) := by decide +kernel

theorem covers : ((cfg0 a).win 7).CoversWhere (fun β => 63 ≤ β (0 : Fin 2) ∧ β (0 : Fin 2) < 135) := covers_zeros

/-- The closed form at an index of block `t`. -/
theorem outArr_block (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) (t : Fin 72) (r : Fin 512) (j : Fin 1024)
    (z : S149504x1024.Idx) (e0 : (z 0).val = 512 * (63 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 32256) / 512, by have : (z 0).val < 149504 := (z 0).isLt; omega⟩ : Fin 72) = t := Fin.ext (by show ((z 0).val - 32256) / 512 = _; omega)
  have h2 : (⟨(z 0).val - 32256, by have : (z 0).val < 149504 := (z 0).isLt; omega⟩ : Fin 36864) = ⟨512 * t.val + r.val, by omega⟩ := Fin.ext (by show (z 0).val - 32256 = 512 * t.val + r.val; omega)
  have h3 : (z 1 : Fin 1024) = j := Fin.ext e1
  rw [h1, h2]
  exact congrArg _ h3

/-- The closed form in the rows of the other parts. -/
theorem outArr_other (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16)
    (z : S149504x1024.Idx) (e0 : ¬ (32256 ≤ (z 0).val ∧ (z 0).val < 69120)) : outArr e x w1 b1 w2 b2 yb z = yb z := by
  unfold outArr
  rw [dif_neg e0]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 63 ≤ β (0 : Fin 2) ∧ β (0 : Fin 2) < 135) (covers a) (fun t hf y => ?_) (fun j hj => ?_)
  · blk_simp
    rw [after0_7]
    have w7 : ((cfg0 a).win 7).index t = ![63 + t.val, 0] := win7 a t
    have e0 : (((((cfg0 a).win 7).blk t).view.emb y) (0 : Fin 2)).val = 512 * (63 + t.val) + (y (0 : Fin 2)).val := by
      blk_simp
      rw [w7]
      show (63 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : ¬ (32256 ≤ (j (0 : Fin 2)).val ∧ (j (0 : Fin 2)).val < 69120) := fun h =>
      hj ⟨show 63 ≤ (j (0 : Fin 2)).val / 512 by omega, show (j (0 : Fin 2)).val / 512 < 135 by omega⟩
    rw [A_eq]
    exact (congrFun (before_eq m c) _).trans (outArr_other _ _ _ _ _ _ _ _ hc).symm

end Cert.Mid

end
-- ==== Proof.MidRef.lean ====
/- The layer 0 middle experts' reference as named stages, and each stage read at an index. -/
module

public import proofs.«01_k».proof.Proof.Gen.MidExpertsReferenceIdeal.Run
public import proofs.«01_k».proof.Proof.MidArray
public import proofs.«01_k».proof.Proof.MoeRef
public import Idealize.ShloMosaic.Lib.Pointwise
public import Idealize.ShloMosaic.Lib.IdealHost

@[expose] public section

set_option maxRecDepth 16384

noncomputable section

namespace Cert.Mid.Ref

open Cert.MidExpertsReferenceIdeal Cert.MidExpertsReferenceIdeal.Gen
open Cert.Moe (act tokenAt)
open Idealize.ShloMosaic
open Idealize.ShloMosaic.TcCoe

section stages
variable {F : FTy → Type} [FloatOps F]

/-- The block's expert as the position to read at, a negative one counted from the end. -/
def posR (e : IVec S72 32) : IVec S72x1 32 :=
  broadcastInDim S72x1 ![0] bcast_S72_S72x1_0 (select (cmpi .slt e (broadcastInDim S72 ![] bcast_S_S72 (constantI S_ 32 0#32))) (addi e (broadcastInDim S72 ![] bcast_S_S72 (constantI S_ 32 32#32))) e)

/-- The tokens by block. -/
def tokensR (x : FVec F S36864x1024 .bf16) : FVec F S72x512x1024 .f32 :=
  shapeCast _ (extf .f32 x bitsLt_bf16_f32) shapeCasts_S36864x1024_S72x512x1024

/-- Each block's matrix of those of one layer. -/
def firstOf (e : IVec S72 32) (w : FVec F S32x1024x2048 .f32) : FVec F S72x1024x2048 .f32 := Host.gather gather_S32x1024x2048_S72x1_S72x1024x2048_12_0_n_n_0_1_110242048 w (posR e)

/-- Each block's first-layer matrix. -/
def firstR (e : IVec S72 32) (w1 : FVec F S2x32x1024x2048 .f32) : FVec F S72x1024x2048 .f32 :=
  firstOf e (shapeCast _ (extractStridedSlice S1x32x1024x2048 ![0, 0, 0, 0] w1 slices_S2x32x1024x2048_S1x32x1024x2048_0_0_0_0) shapeCasts_S1x32x1024x2048_S32x1024x2048)

/-- Each block's first-layer bias. -/
def firstBiasR (e : IVec S72 32) (b1 : FVec F S32x2048 .f32) : FVec F S72x2048 .f32 :=
  Host.gather gather_S32x2048_S72x1_S72x2048_1_0_n_n_0_1_12048 b1 (posR e)

/-- Each block's matrix of those of one layer. -/
def secondOf (e : IVec S72 32) (w : FVec F S32x1024x1024 .f32) : FVec F S72x1024x1024 .f32 := Host.gather gather_S32x1024x1024_S72x1_S72x1024x1024_12_0_n_n_0_1_110241024 w (posR e)

/-- Each block's second-layer matrix. -/
def secondR (e : IVec S72 32) (w2 : FVec F S2x32x1024x1024 .f32) : FVec F S72x1024x1024 .f32 :=
  secondOf e (shapeCast _ (extractStridedSlice S1x32x1024x1024 ![0, 0, 0, 0] w2 slices_S2x32x1024x1024_S1x32x1024x1024_0_0_0_0) shapeCasts_S1x32x1024x1024_S32x1024x1024)

/-- Each block's second-layer bias. -/
def secondBiasR (e : IVec S72 32) (b2 : FVec F S32x1024 .f32) : FVec F S72x1024 .f32 :=
  Host.gather gather_S32x1024_S72x1_S72x1024_1_0_n_n_0_1_11024 b2 (posR e)

/-- The first layer. -/
def hiddenR (x : FVec F S72x512x1024 .f32) (w : FVec F S72x1024x2048 .f32) (b : FVec F S72x2048 .f32) : FVec F S72x512x2048 .f32 :=
  addf (Host.dotGeneral dot_S72x512x1024_S72x1024x2048_S72x512x2048_2_1_1_2_0_0 none x w)
    (broadcastInDim S72x512x2048 ![0, 1, 2] bcast_S72x1x2048_S72x512x2048_0_1_2 (broadcastInDim S72x1x2048 ![0, 2] bcast_S72x2048_S72x1x2048_0_2 b))

def all (k : BitVec 32) : FVec F S72x512x1024 .f32 := broadcastInDim S72x512x1024 ![] bcast_S_S72x512x1024 (constant S_ .f32 k)

/-- The gate half, bounded above. -/
def gateR (h : FVec F S72x512x2048 .f32) : FVec F S72x512x1024 .f32 :=
  minimumf (Host.slice S72x512x1024 ![0, 0, 0] ![1, 1, 2] h slicesBy_S72x512x2048_S72x512x1024_0s1_0s1_0s2) (all 0x40E00000#32)

/-- The linear half, bounded on both sides. -/
def linearR (h : FVec F S72x512x2048 .f32) : FVec F S72x512x1024 .f32 :=
  minimumf (broadcastInDim S72x512x1024 ![] bcast_S_S72x512x1024 (id (constant S_ .f32 0x40E00000#32)))
    (maximumf (broadcastInDim S72x512x1024 ![] bcast_S_S72x512x1024 (id (constant S_ .f32 0xC0E00000#32)))
      (Host.slice S72x512x1024 ![0, 0, 1] ![1, 1, 2] h slicesBy_S72x512x2048_S72x512x1024_0s1_0s1_1s2))

/-- The gated product. -/
def actR (h : FVec F S72x512x2048 .f32) : FVec F S72x512x1024 .f32 :=
  mulf (mulf (gateR h) (Host.divf (all 0x3F800000#32) (addf (all 0x3F800000#32) (Host.exp (Host.negf (mulf (all 0x3FD9DB23#32) (gateR h)))))))
    (addf (linearR h) (all 0x3F800000#32))

/-- The second layer. -/
def downR (a : FVec F S72x512x1024 .f32) (w : FVec F S72x1024x1024 .f32) (b : FVec F S72x1024 .f32) : FVec F S72x512x1024 .f32 :=
  addf (Host.dotGeneral dot_S72x512x1024_S72x1024x1024_S72x512x1024_2_1_1_2_0_0 none a w)
    (broadcastInDim S72x512x1024 ![0, 1, 2] bcast_S72x1x1024_S72x512x1024_0_1_2 (broadcastInDim S72x1x1024 ![0, 2] bcast_S72x1024_S72x1x1024_0_2 b))

/-- The earlier rows, this part's and the later rows, one below the other. -/
def stackR (yb : FVec F S149504x1024 .bf16) (y : FVec F S72x512x1024 .f32) : FVec F S149504x1024 .bf16 :=
  concatenate S149504x1024 0 [⟨S32256x1024, (extractStridedSlice S32256x1024 ![0, 0] yb slices_S149504x1024_S32256x1024_0_0)⟩,
    ⟨S36864x1024, (truncf .bf16 (shapeCast _ y shapeCasts_S72x512x1024_S36864x1024) bitsLt_bf16_f32)⟩,
    ⟨S80384x1024, (extractStridedSlice S80384x1024 ![69120, 0] yb slices_S149504x1024_S80384x1024_69120_0)⟩] concatenates_S32256x1024_S36864x1024_S80384x1024_S149504x1024_d0

def outR (e : IVec S72 32) (x : FVec F S36864x1024 .bf16) (w1 : FVec F S2x32x1024x2048 .f32) (b1 : FVec F S32x2048 .f32) (w2 : FVec F S2x32x1024x1024 .f32) (b2 : FVec F S32x1024 .f32) (yb : FVec F S149504x1024 .bf16) : FVec F S149504x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.MidExpertsReferenceIdeal.Value.res_main_v63 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.MidExpertsReferenceIdeal.Value.res_main_v63
  rfl

end stages

theorem posR_apply (e : IVec S72 32) (he : ∀ i, (e i).toNat < 32) (t : Fin 72) : posR e (ix2 t 0) = e (ix1 t) := by
  have h : posR e (ix2 t 0) = Scalar.select (IntOp.cmpi .slt (e (ix1 t)) 0#32) (IntOp.addi (e (ix1 t)) 32#32) (e (ix1 t)) := by
    pointwise [posR]
  rw [h]
  have h0 : ¬ IntOp.cmpi .slt (e (ix1 t)) 0#32 = 1#1 := by
    rw [IntOp.cmpi_slt]
    have := he (ix1 t)
    simp only [BitVec.slt_iff_toInt_lt, BitVec.toInt_eq_toNat_cond]
    simp; omega
  exact if_neg h0

theorem tokensR_apply (x : FVec Ideal S36864x1024 .bf16) (t : Fin 72) (r : Fin 512) (i : Fin 1024) :
    @Eq EReal (tokensR x (ix3 t r i)) (x (ix2 ⟨t.val * 512 + r.val, by omega⟩ i)) := by
  pointwise [tokensR]

theorem hiddenR_apply (x : FVec Ideal S72x512x1024 .f32) (w : FVec Ideal S72x1024x2048 .f32) (b : FVec Ideal S72x2048 .f32) (t : Fin 72) (r : Fin 512) (k : Fin 2048) :
    hiddenR x w b (ix3 t r k) = (∑ i : Fin 1024, x (ix3 t r i) * w (ix3 t i k)) + b (ix2 t k) := by
  pointwise [hiddenR]

theorem downR_apply (x : FVec Ideal S72x512x1024 .f32) (w : FVec Ideal S72x1024x1024 .f32) (b : FVec Ideal S72x1024 .f32) (t : Fin 72) (r : Fin 512) (k : Fin 1024) :
    downR x w b (ix3 t r k) = (∑ i : Fin 1024, x (ix3 t r i) * w (ix3 t i k)) + b (ix2 t k) := by
  pointwise [downR]

theorem actR_apply (h : FVec Ideal S72x512x2048 .f32) (t : Fin 72) (r : Fin 512) (y : Fin 1024) :
    actR h (ix3 t r y) = act (h (ix3 t r ⟨2 * y.val, by omega⟩)) (h (ix3 t r ⟨2 * y.val + 1, by omega⟩)) := by
  have h1 : (⟨2 * y.val + 1, by omega⟩ : Fin 2048) = ⟨1 + 2 * y.val, by omega⟩ := Fin.ext (Nat.add_comm _ _)
  rw [h1]
  unfold act
  pointwise [actR, gateR, linearR, all]
  rfl

/-- The gather of first-layer matrices reads the matrix its word names. -/
theorem first_take (x : FVec Ideal S32x1024x2048 .f32) (idx : IVec S72x1 32) (t : Fin 72) (i : Fin 1024) (k : Fin 2048) (e : Fin 32)
    (he : (idx (ix2 t 0)).toNat = e.val) :
    Host.gather gather_S32x1024x2048_S72x1_S72x1024x2048_12_0_n_n_0_1_110242048 x idx (ix3 t i k) = x (ix3 e i k) := by
  unfold Host.gather
  refine congrArg x (funext fun a => Fin.ext ?_)
  have hs : gather_S32x1024x2048_S72x1_S72x1024x2048_12_0_n_n_0_1_110242048.siIdx (ix3 t i k) ⟨0, by decide⟩ = ix2 t 0 := by
    funext b; fin_cases b <;> rfl
  fin_cases a
  · show min (idx (gather_S32x1024x2048_S72x1_S72x1024x2048_12_0_n_n_0_1_110242048.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

/-- The gather of second-layer matrices reads the matrix its word names. -/
theorem second_take (x : FVec Ideal S32x1024x1024 .f32) (idx : IVec S72x1 32) (t : Fin 72) (i : Fin 1024) (k : Fin 1024) (e : Fin 32)
    (he : (idx (ix2 t 0)).toNat = e.val) :
    Host.gather gather_S32x1024x1024_S72x1_S72x1024x1024_12_0_n_n_0_1_110241024 x idx (ix3 t i k) = x (ix3 e i k) := by
  unfold Host.gather
  refine congrArg x (funext fun a => Fin.ext ?_)
  have hs : gather_S32x1024x1024_S72x1_S72x1024x1024_12_0_n_n_0_1_110241024.siIdx (ix3 t i k) ⟨0, by decide⟩ = ix2 t 0 := by
    funext b; fin_cases b <;> rfl
  fin_cases a
  · show min (idx (gather_S32x1024x1024_S72x1_S72x1024x1024_12_0_n_n_0_1_110241024.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

theorem firstBias_take (x : FVec Ideal S32x2048 .f32) (idx : IVec S72x1 32) (t : Fin 72) (k : Fin 2048) (e : Fin 32)
    (he : (idx (ix2 t 0)).toNat = e.val) :
    Host.gather gather_S32x2048_S72x1_S72x2048_1_0_n_n_0_1_12048 x idx (ix2 t k) = x (ix2 e k) := by
  unfold Host.gather
  refine congrArg x (funext fun a => Fin.ext ?_)
  have hs : gather_S32x2048_S72x1_S72x2048_1_0_n_n_0_1_12048.siIdx (ix2 t k) ⟨0, by decide⟩ = ix2 t 0 := by
    funext b; fin_cases b <;> rfl
  fin_cases a
  · show min (idx (gather_S32x2048_S72x1_S72x2048_1_0_n_n_0_1_12048.siIdx (ix2 t k) ⟨0, by decide⟩)).toInt.toNat 31 + 0 + 0 = e.val
    rw [hs, Cert.Moe.Ref.word_int _ e he]
    omega
  · show 0 + 0 + k.val = k.val
    omega

theorem secondBias_take (x : FVec Ideal S32x1024 .f32) (idx : IVec S72x1 32) (t : Fin 72) (k : Fin 1024) (e : Fin 32)
    (he : (idx (ix2 t 0)).toNat = e.val) :
    Host.gather gather_S32x1024_S72x1_S72x1024_1_0_n_n_0_1_11024 x idx (ix2 t k) = x (ix2 e k) := by
  unfold Host.gather
  refine congrArg x (funext fun a => Fin.ext ?_)
  have hs : gather_S32x1024_S72x1_S72x1024_1_0_n_n_0_1_11024.siIdx (ix2 t k) ⟨0, by decide⟩ = ix2 t 0 := by
    funext b; fin_cases b <;> rfl
  fin_cases a
  · show min (idx (gather_S32x1024_S72x1_S72x1024_1_0_n_n_0_1_11024.siIdx (ix2 t k) ⟨0, by decide⟩)).toInt.toNat 31 + 0 + 0 = e.val
    rw [hs, Cert.Moe.Ref.word_int _ e he]
    omega
  · show 0 + 0 + k.val = k.val
    omega

section known
variable (e : IVec S72 32) (ef : Fin 72 → Fin 32) (he : ∀ t, (e (ix1 t)).toNat = (ef t).val)
include he

theorem pos_word (t : Fin 72) : (posR e (ix2 t 0)).toNat = (ef t).val := by
  rw [posR_apply e (fun i => ?_) t, he]
  have hi : i = ix1 (i 0) := by funext b; fin_cases b; rfl
  rw [hi]
  exact lt_of_eq_of_lt (he (i 0)) (ef (i 0)).isLt

theorem firstOf_apply (w : FVec Ideal S32x1024x2048 .f32) (t : Fin 72) (i : Fin 1024) (k : Fin 2048) : firstOf e w (ix3 t i k) = w (ix3 (ef t) i k) :=
  first_take _ _ t i k (ef t) (pos_word e ef he t)

theorem firstR_apply (w1 : FVec Ideal S2x32x1024x2048 .f32) (t : Fin 72) (i : Fin 1024) (k : Fin 2048) :
    firstR e w1 (ix3 t i k) = w1 (ix4 0 (ef t) i k) := by
  unfold firstR
  rw [firstOf_apply e ef he]
  pointwise

theorem secondOf_apply (w : FVec Ideal S32x1024x1024 .f32) (t : Fin 72) (i : Fin 1024) (k : Fin 1024) : secondOf e w (ix3 t i k) = w (ix3 (ef t) i k) :=
  second_take _ _ t i k (ef t) (pos_word e ef he t)

theorem secondR_apply (w2 : FVec Ideal S2x32x1024x1024 .f32) (t : Fin 72) (i : Fin 1024) (k : Fin 1024) :
    secondR e w2 (ix3 t i k) = w2 (ix4 0 (ef t) i k) := by
  unfold secondR
  rw [secondOf_apply e ef he]
  pointwise

theorem firstBiasR_apply (b : FVec Ideal S32x2048 .f32) (t : Fin 72) (k : Fin 2048) : firstBiasR e b (ix2 t k) = b (ix2 (ef t) k) :=
  firstBias_take b _ t k (ef t) (pos_word e ef he t)

theorem secondBiasR_apply (b : FVec Ideal S32x1024 .f32) (t : Fin 72) (k : Fin 1024) : secondBiasR e b (ix2 t k) = b (ix2 (ef t) k) :=
  secondBias_take b _ t k (ef t) (pos_word e ef he t)

/-- Both layers of one token of one block. -/
theorem layers_apply (x : FVec Ideal S36864x1024 .bf16) (w1 : FVec Ideal S2x32x1024x2048 .f32) (b1 : FVec Ideal S32x2048 .f32) (w2 : FVec Ideal S2x32x1024x1024 .f32) (b2 : FVec Ideal S32x1024 .f32)
    (t : Fin 72) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 0 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S149504x1024 .bf16) (y : FVec Ideal S72x512x1024 .f32) (n : Fin 149504) (j : Fin 1024) (hn : n.val < 32256) :
    stackR yb y (ix2 n j) = yb (ix2 n j) := by
  pointwise [stackR]
  exact dif_pos hn

theorem stackR_after (yb : FVec Ideal S149504x1024 .bf16) (y : FVec Ideal S72x512x1024 .f32) (n : Fin 149504) (j : Fin 1024) (hn : 69120 ≤ n.val) :
    stackR yb y (ix2 n j) = yb (ix2 n j) := by
  pointwise [stackR]
  have h1 : ¬ n.val < 32256 := by omega
  have h2 : ¬ n.val - 32256 < 36864 := by omega
  exact (dif_neg h1).trans ((dif_neg h2).trans (congrArg (fun k : Fin 149504 => yb (ix2 k j)) (Fin.ext (by
    show 69120 + (n.val - 32256 - 36864) = n.val
    omega))))

theorem stackR_block (yb : FVec Ideal S149504x1024 .bf16) (y : FVec Ideal S72x512x1024 .f32) (n : Fin 149504) (j : Fin 1024) (hn : 32256 ≤ n.val) (hu : n.val < 69120) :
    @Eq EReal (stackR yb y (ix2 n j)) (y (ix3 ⟨(n.val - 32256) / 512, by omega⟩ ⟨(n.val - 32256) % 512, by omega⟩ j)) := by
  pointwise [stackR]
  exact (dif_neg (Nat.not_lt.mpr hn)).trans (dif_pos (by omega))

/-- The reference's result is the closed form. -/
theorem outR_eq (e : IVec S72 32) (ef : Fin 72 → Fin 32) (he : ∀ t, (e (ix1 t)).toNat = (ef t).val) (x : FVec Ideal S36864x1024 .bf16)
    (w1 : FVec Ideal S2x32x1024x2048 .f32) (b1 : FVec Ideal S32x2048 .f32) (w2 : FVec Ideal S2x32x1024x1024 .f32) (b2 : FVec Ideal S32x1024 .f32) (yb : FVec Ideal S149504x1024 .bf16) :
    outR e x w1 b1 w2 b2 yb = outArr ef x w1 b1 w2 b2 yb := by
  funext z
  have hz : z = ix2 (z 0) (z 1) := by funext b; fin_cases b <;> rfl
  by_cases h : 32256 ≤ (z 0).val ∧ (z 0).val < 69120
  swap
  · rw [outArr_other _ _ _ _ _ _ _ _ h, hz]
    by_cases hb : (z 0).val < 32256
    · exact stackR_before yb _ (z 0) (z 1) hb
    · exact stackR_after yb _ (z 0) (z 1) (show 69120 ≤ (z 0).val by omega)
  · obtain ⟨hge, hu⟩ := h
    refine Eq.trans ?_ (outArr_block ef x w1 b1 w2 b2 yb ⟨((z 0).val - 32256) / 512, by omega⟩ ⟨((z 0).val - 32256) % 512, by omega⟩ (z 1) z (by show (z 0).val = 512 * (63 + ((z 0).val - 32256) / 512) + ((z 0).val - 32256) % 512; omega) rfl).symm
    refine (congrArg _ hz).trans ?_
    refine (stackR_block yb _ (z 0) (z 1) hge hu).trans ((layers_apply e ef he x w1 b1 w2 b2 _ _ (z 1)).trans ?_)
    exact congrArg (fun n : Fin 36864 => blockAt _ x w1 b1 w2 b2 n (z 1)) (Fin.ext (by
      show ((z 0).val - 32256) / 512 * 512 + ((z 0).val - 32256) % 512 = 512 * (((z 0).val - 32256) / 512) + ((z 0).val - 32256) % 512
      omega))

end Cert.Mid.Ref

end
-- ==== Proof.MidValue.lean ====
/- The layer 0 middle experts' call and its reference leave the same result. -/
module

public import proofs.«01_k».proof.Proof.MidRef

@[expose] public section

set_option maxRecDepth 16384

noncomputable section

namespace Cert.Mid

open Idealize.ShloMosaic
open Idealize.ShloMosaic.TcCoe Idealize.SL.Sem

section run
open Cert.MidExpertsIdeal Cert.MidExpertsIdeal.Gen

variable (m : (ℓ : Loc nD τ sig) → Buf (Elt Ideal) ℓ) (hk : ∀ c : Dev nD, Known (m ((c : Thread nD τ).loc main_arg0)))

/-- The experts of the blocks. -/
def experts (t : Fin 72) : Fin 32 := exf (adm m hk) t

theorem experts_word (c : Dev nD) (t : Fin 72) : (m ((c : Thread nD τ).loc main_arg0) (ix1 t) : BitVec 32).toNat = (experts m hk t).val := by
  obtain rfl : c = 0 := Subsingleton.elim _ _
  exact congrArg (fun i : S72.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_MidExpertsIdeal_MidExpertsReferenceIdeal := by
  intro m g m' g' hpre hagree
  have hk := fun c => known_of _ (hpre c)
  refine ⟨_, run_value m hk g, (θ_run Cert.MidExpertsReferenceIdeal.defs _ _).mono (fun r h c => ⟨(h c).1.trans ?_, (h c).2⟩) (Cert.MidExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.Mid

end
-- ==== Proof.LateMidSame.lean ====
/- The two printings of the layer 1 middle experts' program, for the word values and for the extended reals, are one text. -/
module

public import proofs.«01_k».proof.Proof.Gen.LateMidExperts
public import proofs.«01_k».proof.Proof.Gen.LateMidExpertsIdeal

@[expose] public section

noncomputable section

namespace Cert.LateMid

open Idealize.ShloMosaic Idealize.SL.Sem

variable {F : FTy → Type} [FloatOps F]

set_option maxHeartbeats 4000000
theorem main_same : Cert.LateMidExperts.main (F := F) = Cert.LateMidExpertsIdeal.main (F := F) := rfl

theorem defs₀_same : Cert.LateMidExperts.defs₀ (F := F) = Cert.LateMidExpertsIdeal.defs₀ (F := F) := by
  unfold Cert.LateMidExperts.defs₀ Cert.LateMidExpertsIdeal.defs₀
  refine congrArg (Defs.onTc (nD := 1) (τ := Cert.LateMidExpertsIdeal.τ) (sig := Cert.LateMidExpertsIdeal.sig) (Val := Elt F) (Λ := Cert.LateMidExpertsIdeal.Λ₀)) (funext fun ℓ => funext fun x => ?_)
  match ℓ, x with
  | ⟨0, _⟩, (t, s) => rfl

theorem defs_same : Cert.LateMidExperts.defs (F := F) = Cert.LateMidExpertsIdeal.defs (F := F) := by
  unfold Cert.LateMidExperts.defs Cert.LateMidExpertsIdeal.defs
  rw [defs₀_same]; rfl

end Cert.LateMid

end
-- ==== Proof.LateMidBody.lean ====
module

public import proofs.«01_k».proof.Proof.MoeStep
public import proofs.«01_k».proof.Proof.Gen.LateMidExpertsIdeal.Launch
public import proofs.«01_k».proof.Proof.Gen.LateMidExpertsIdeal.Skeleton
public import Idealize.ShloMosaic.Lib.Tactic

@[expose] public section

set_option maxRecDepth 16384

noncomputable section

namespace Cert.LateMid

open Cert.LateMidExpertsIdeal Cert.LateMidExpertsIdeal.Gen
open Cert.Moe (refillsAt chunk gateStrip linStrip gateW linW downW outBlk upto_zero upto_writes upto_all ldChunk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The table word a load at offset `off` gives. -/
abbrev word (arg1 : Memref sig .tc .smem S72 .i32) (f1 : arg1.view.ty.Contents (Elt F)) (off : Fin 1 → ℕ) (inb : ∀ a, off a + S1.size a ≤ S72.size a) : BitVec 32 :=
  ((arg1.access (Rect.unit (s := S72) off S1.size inb)).read (Elt F) f1 (Shape.Idx.first (numel1_S1.symm ▸ Nat.one_pos)))

set_option maxHeartbeats 4000000 in
/-- The body at a point whose scratch buffers already hold the point's expert unless it refills them: the output block is
    the block of results, the scratch buffers hold the point's expert afterwards, the rest is as it was. -/
theorem kernelRun (c : Dev nD) (i : grid0.Coords) (arg1 : Memref sig .tc .smem S72 .i32) (harg1 : arg1.IsWhole) (arg2 : Memref sig .tc .vmem S512x1024 .bf16) (harg2 : arg2.IsWhole) (arg3 : Memref sig .tc .vmem S1x1x1024x2048 .f32) (harg3 : arg3.IsWhole) (arg4 : Memref sig .tc .vmem S256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .hbm S147456x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (q : PosShare TreeShare) (f1 : arg1.view.ty.Contents (Elt F))
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (i 0).val (word arg1 f1 (k0_off1 i) (k0_off1_inb i)) (word arg1 f1 (k0_off2 i) (k0_off2_inb i)) → g = gateW x3 x4 ∧ l = linW x3 x4 ∧ d = downW x7)
    (K : PUnit → sProp 𝕄) :
    iprop((arg1.view.loc (c : Thread nD τ) ↦[arg1.view.set]{q} f1) ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg10 fullShare d)
        ∗ owns (c : Thread nD τ) arg11 fullShare g ∗ owns (c : Thread nD τ) arg12 fullShare l ∗ owns (c : Thread nD τ) arg13 fullShare d
        ∗ (iprop((arg1.view.loc (c : Thread nD τ) ↦[arg1.view.set]{q} f1) ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg10 fullShare (outBlk x2 (gateW x3 x4) (linW x3 x4) (downW x7) x5 x6 x8)
            ∗ owns (c : Thread nD τ) arg11 fullShare (gateW x3 x4) ∗ owns (c : Thread nD τ) arg12 fullShare (linW x3 x4) ∗ owns (c : Thread nD τ) arg13 fullShare (downW x7)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%f11, %h11, H11⟩, ⟨%f12, %h12, H12⟩, ⟨%f13, %h13, H13⟩, Hk⟩
  sl_exec
  sl_step
  have hv : kernelRun.sl.v10 i arg1 f1 = 1#1 ↔ refillsAt (i 0).val (word arg1 f1 (k0_off1 i) (k0_off1_inb i)) (word arg1 f1 (k0_off2 i) (k0_off2_inb i)) := by
    delta kernelRun.sl.v10
    exact Iff.rfl
  have e4 : View.readAt (Elt F) arg4.view (Rect.unit (s := S256x256) ![0, 0] S256x256.size inb_S256x256_S256x256_0_0).toLoadRect f4 = x4 := by
    rw [View.readAt_full arg4.view f4, h4]
  have ek : ∀ (k : Fin 8) {off : Fin 4 → ℕ} (inb), off = ![0, 0, 0, 256 * k.val] →
      View.readAt (Elt F) arg3.view (Rect.unit (s := S1x1x1024x2048) off S1x1x1024x256.size inb).toLoadRect f3 = chunk x3 k :=
    fun k off inb h => h3 ▸ ldChunk arg3.view f3 inb k h
  have e12 : kernelRun.sl.v12 c i arg1 arg3 arg4 arg11 f1 f3 f4 f11 = gateW x3 x4 := by
    delta kernelRun.sl.v12
    rw [View.readAt_full arg11.view]
    by_cases hr : kernelRun.sl.v10 i arg1 f1 = 1#1
    · rw [dif_pos hr]
      refine upto_all (gateStrip x3 x4) _ ?_
      refine upto_writes _ _ _ _ 7 _ _ rfl (by rw [e4]; exact congrArg (k0_pay25 · x4) (ek 7 _ rfl)) ?_
      refine upto_writes _ _ _ _ 6 _ _ rfl (by delta kernelRun.sl.r_2; rw [e4]; exact congrArg (fun w => k0_pay22 (k0_pay20 w) x4) (ek 6 _ rfl)) ?_
      refine upto_writes _ _ _ _ 5 _ _ rfl (by rw [e4]; exact congrArg (k0_pay18 · x4) (ek 5 _ rfl)) ?_
      refine upto_writes _ _ _ _ 4 _ _ rfl (by rw [e4]; exact congrArg (k0_pay15 · x4) (ek 4 _ rfl)) ?_
      refine upto_writes _ _ _ _ 3 _ _ rfl (by rw [e4]; exact congrArg (k0_pay12 · x4) (ek 3 _ rfl)) ?_
      refine upto_writes _ _ _ _ 2 _ _ rfl (by rw [e4]; exact congrArg (k0_pay9 · x4) (ek 2 _ rfl)) ?_
      refine upto_writes _ _ _ _ 1 _ _ rfl (by rw [e4]; exact congrArg (k0_pay6 · x4) (ek 1 _ rfl)) ?_
      refine upto_writes _ _ _ _ 0 _ _ rfl (by rw [e4]; exact congrArg (k0_pay3 · x4) (ek 0 _ rfl)) ?_
      exact upto_zero _ _
    · rw [dif_neg hr, h11]
      exact (hc fun h => hr (hv.2 h)).1
  have e18 : kernelRun.sl.v18 c i arg1 arg3 arg4 arg12 f1 f3 f4 f12 = linW x3 x4 := by
    delta kernelRun.sl.v18
    rw [View.readAt_full arg12.view]
    by_cases hr : kernelRun.sl.v10 i arg1 f1 = 1#1
    · rw [dif_pos hr]
      refine upto_all (linStrip x3 x4) _ ?_
      refine upto_writes _ _ _ _ 7 _ _ rfl (by rw [e4]; exact congrArg (k0_pay26 · x4) (ek 7 _ rfl)) ?_
      refine upto_writes _ _ _ _ 6 _ _ rfl (by delta kernelRun.sl.r_2; rw [e4]; exact congrArg (fun w => k0_pay23 (k0_pay20 w) x4) (ek 6 _ rfl)) ?_
      refine upto_writes _ _ _ _ 5 _ _ rfl (by rw [e4]; exact congrArg (k0_pay19 · x4) (ek 5 _ rfl)) ?_
      refine upto_writes _ _ _ _ 4 _ _ rfl (by rw [e4]; exact congrArg (k0_pay16 · x4) (ek 4 _ rfl)) ?_
      refine upto_writes _ _ _ _ 3 _ _ rfl (by rw [e4]; exact congrArg (k0_pay13 · x4) (ek 3 _ rfl)) ?_
      refine upto_writes _ _ _ _ 2 _ _ rfl (by rw [e4]; exact congrArg (k0_pay10 · x4) (ek 2 _ rfl)) ?_
      refine upto_writes _ _ _ _ 1 _ _ rfl (by rw [e4]; exact congrArg (k0_pay7 · x4) (ek 1 _ rfl)) ?_
      refine upto_writes _ _ _ _ 0 _ _ rfl (by rw [e4]; exact congrArg (k0_pay4 · x4) (ek 0 _ rfl)) ?_
      exact upto_zero _ _
    · rw [dif_neg hr, h12]
      exact (hc fun h => hr (hv.2 h)).2.1
  have e38 : kernelRun.sl.v38 c i arg1 arg7 arg13 f1 f7 f13 = downW x7 := by
    delta kernelRun.sl.v38
    refine (View.readAt_full arg13.view _ inb_S1024x1024_S1024x1024_0_0).trans ?_
    by_cases hr : kernelRun.sl.v10 i arg1 f1 = 1#1
    · rw [dif_pos hr, View.read_writes_full]
      delta kernelRun.sl.r_3
      rw [View.readAt_full arg7.view f7, h7]
      rfl
    · rw [dif_neg hr, h13]
      exact (hc fun h => hr (hv.2 h)).2.2
  iapply Hk
  isplitl [H1]; · iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H10]
  · iexists _; isplitr; swap; · iexact H10
    ipureintro
    refine (View.read_writes_full _ _ _ _ _).trans ?_
    rw [e38]
    delta kernelRun.sl.r_4 kernelRun.sl.r_5
    rw [e12, e18, View.readAt_full arg2.view f2, h2, View.readAt_full arg6.view f6, h6, View.readAt_full arg5.view f5, h5]
    refine congrArg (fun z => outBlk x2 (gateW x3 x4) (linW x3 x4) (downW x7) x5 x6 z) ?_
    exact (View.readAt_full arg8.view f8 inb_S1x1x1024_S1x1x1024_0_0_0).trans h8
  isplitl [H11]
  · iexists _; isplitr; swap; · iexact H11
    ipureintro
    exact (View.readAt_full arg11.view _ inb_S1024x1024_S1024x1024_0_0).symm.trans e12
  isplitl [H12]
  · iexists _; isplitr; swap; · iexact H12
    ipureintro
    exact (View.readAt_full arg12.view _ inb_S1024x1024_S1024x1024_0_0).symm.trans e18
  · iexists _; isplitr; swap; · iexact H13
    ipureintro
    exact (View.readAt_full arg13.view _ inb_S1024x1024_S1024x1024_0_0).symm.trans e38

end Cert.LateMid

end
-- ==== Proof.LateMidLaunch.lean ====
/- The layer 1 middle experts' pipeline: its tables, its blocks by expert, and its proof data. -/
module

public import proofs.«01_k».proof.Proof.LateMidBody
public import Idealize.ShloMosaic.Lib.Pipeline.ValueKit
public import Idealize.ShloMosaic.Lib.Tactic

@[expose] public section

set_option maxRecDepth 16384

noncomputable section

namespace Cert.LateMid

open Cert.LateMidExpertsIdeal Cert.LateMidExpertsIdeal.Gen
open Cert.Moe (refillsAt refillsAt_false gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 72 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S72.size k) (h : 0 < (Rect.unit (s := S72) off S1.size inb).shape.numel) :
    (a.1 0 ((Rect.unit (s := S72) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![1, (ex a t).toNat, 0, 0] := by
  have h : (a.1.at 0 (Rect.unit (s := S72) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![1, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S72) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![63 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 1 e (y 2) (y 3))
def slab2 (w : Vec F S2x32x1024x1024 .f32) (e : Fin 32) : Vec F S1x1x1024x1024 .f32 := fun y => w (ValueIdx.ix4 1 e (y 2) (y 3))
def slabB (w : Vec F S32x1x1024 .f32) (e : Fin 32) : Vec F S1x1x1024 .f32 := fun y => w (ValueIdx.ix3 e (y 1) (y 2))
def rows (x : Vec F S36864x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![1, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![1, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![63 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.LateMid

end
-- ==== Proof.LateMidRun.lean ====
/- The layer 1 middle experts' body at every point, and the run of the whole call. -/
module

public import proofs.«01_k».proof.Proof.LateMidLaunch

@[expose] public section

set_option maxRecDepth 16384

noncomputable section

namespace Cert.LateMid

open Cert.LateMidExpertsIdeal Cert.LateMidExpertsIdeal.Gen
open Cert.Moe (refillsAt gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.LateMid

end
-- ==== Proof.LateMidFrames.lean ====
/- The frames of the layer 1 middle experts' programs: a table of known experts is admissible, and the run at any values is read at the word
   values and at the extended reals. -/
module

public import proofs.«01_k».proof.Defs
public import proofs.«01_k».proof.Proof.LateMidSame
public import proofs.«01_k».proof.Proof.Gen.Pre_known_late_mid_experts
public import proofs.«01_k».proof.Proof.Gen.LateMidExpertsReferenceIdeal.Run
public import proofs.«01_k».proof.Proof.LateMidRun
public import proofs.«01_k».proof.Proof.MoeFrames
public import Idealize.ShloMosaic.Lib.StableHlo.Predicate

@[expose] public section

set_option maxRecDepth 16384

noncomputable section

namespace Cert.LateMid

open Cert.LateMidExpertsIdeal Cert.LateMidExpertsIdeal.Gen
open Cert.Moe (lt_of_cmpi)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S72 .i32) : Prop := ∀ i : S72.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![1, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![1, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

theorem known_of [Cert.Pre_known_late_mid_experts.Facts] {x1 : Vec F S36864x1024 .bf16} {x2 : Vec F S2x32x1024x2048 .f32} {x3 : Vec F S32x2048 .f32} {x4 : Vec F S2x32x1024x1024 .f32} {x5 : Vec F S32x1024 .f32} {x6 : Vec F S147456x1024 .bf16}
    (e : Vec F S72 .i32) (h : (Cert.Pre_known_late_mid_experts.fn (F := F) e x1 x2 x3 x4 x5 x6).1 = (fun _ => 1#1) ∧ (Cert.Pre_known_late_mid_experts.fn (F := F) e x1 x2 x3 x4 x5 x6).2 = (fun _ => 1#1)) : Known e :=
  fun i => lt_of_cmpi (e i) (congrFun h.1 i) (congrFun h.2 i)

instance : Cert.Pre_known_late_mid_experts.Facts := Cert.Pre_known_late_mid_experts.Gen.facts

theorem frame_LateMidExperts : Cert.quiescent_LateMidExperts := fun m ρ hp => by
  have h := frame_at (F := Bits) m ρ fun c => known_of _ (hp c)
  rw [← main_same, ← defs_same] at h
  exact h

theorem frame_LateMidExpertsIdeal : Cert.quiescent_LateMidExpertsIdeal := fun m ρ hp => frame_at (F := Ideal) m ρ fun c => known_of _ (hp c)

theorem frame_LateMidExpertsReferenceIdeal : Cert.quiescent_LateMidExpertsReferenceIdeal := fun m ρ _ =>
  (θ_run Cert.LateMidExpertsReferenceIdeal.defs _ _).mono (fun r h => ⟨fun c => (h c).2, Idealize.ShloMosaic.sem_eq_zero_of_no_sems (by decide) r.2⟩)
    (Cert.LateMidExpertsReferenceIdeal.Value.run (F := Ideal) m ρ)

end Cert.LateMid

end
-- ==== Proof.LateMidHost.lean ====
/- The arrays the host prepares for the layer 1 middle experts' call, read at an index of the arguments. -/
module

public import proofs.«01_k».proof.Proof.MoeHost
public import proofs.«01_k».proof.Proof.LateMidLaunch
public import Idealize.ShloMosaic.Lib.Tactic
public import Idealize.ShloMosaic.Lib.StableHlo.ReadAt
public import Idealize.ShloMosaic.Lib.IdealHost

@[expose] public section

set_option maxRecDepth 16384

noncomputable section

namespace Cert.LateMid

open Cert.LateMidExpertsIdeal Cert.LateMidExpertsIdeal.Gen
open Cert.Moe (IsPerm src src_word word_inj bit_value)
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.LateMid

end
-- ==== Proof.LateMidArray.lean ====
/- The layer 1 middle experts' result array in closed form over the arguments. -/
module

public import proofs.«01_k».proof.Proof.LateMidHost
public import proofs.«01_k».proof.Proof.MoeArray
public import proofs.«01_k».proof.Proof.LateMidFrames
public import Idealize.ShloMosaic.Lib.Pipeline.ValueKit

@[expose] public section

set_option maxRecDepth 16384

noncomputable section

namespace Cert.LateMid

open Cert.LateMidExpertsIdeal Cert.LateMidExpertsIdeal.Gen
open Cert.Moe (act tokenAt gateW linW downW outBlk)
open Idealize.ShloMosaic
open Idealize.ShloMosaic.TcCoe Idealize.SL.Sem
open Idealize.ShloMosaic.Pipeline (Dat)

/-- One element of one block of tokens, with the block's expert. -/
def blockAt (e : Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (n : Fin 36864) (j : Fin 1024) : EReal :=
  tokenAt (fun i => x (ix2 n i)) (fun i k => w1 (ix4 1 e i k)) (fun k => b1 (ix2 e k)) (fun y => w2 (ix4 1 e y j)) (b2 (ix2 e j))

/-- The result array: the rows of this part from their experts, the other rows as they were. -/
def outArr (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) : Vec Ideal S147456x1024 .bf16 :=
  fun z => if h : 32256 ≤ (z 0).val ∧ (z 0).val < 69120 then
      blockAt (e ⟨((z 0).val - 32256) / 512, by have : (z 0).val < 147456 := (z 0).isLt; omega⟩) x w1 b1 w2 b2
        ⟨(z 0).val - 32256, by have : (z 0).val < 147456 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 36864) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [Cert.Moe.outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 36864 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 1 (exf a t) i ⟨2 * y.val, by omega⟩) := fun i y => Cert.Moe.gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 1 (exf a t) i ⟨2 * y.val + 1, by omega⟩) := fun i y => Cert.Moe.linW_apply _ _ (perm_isPerm m c) i y
  have hd : ∀ y : Fin 1024, downW (slab2 (m ((c : Thread nD τ).loc main_arg4)) (exf a t)) (ix2 y j)
      = m ((c : Thread nD τ).loc main_arg4) (ix4 1 (exf a t) y j) := fun y => Cert.Moe.downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

/-- What the body leaves at one index of its block. -/
theorem point (c : Dev nD) (t : Fin (cfg0 a).N) (r : Fin 512) (j : Fin 1024) (n : Fin 36864) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (Cert.Moe.of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 63 ≤ β (0 : Fin 2) ∧ β (0 : Fin 2) < 135) := by decide +kernel

theorem covers : ((cfg0 a).win 7).CoversWhere (fun β => 63 ≤ β (0 : Fin 2) ∧ β (0 : Fin 2) < 135) := covers_zeros

/-- The closed form at an index of block `t`. -/
theorem outArr_block (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) (t : Fin 72) (r : Fin 512) (j : Fin 1024)
    (z : S147456x1024.Idx) (e0 : (z 0).val = 512 * (63 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 32256) / 512, by have : (z 0).val < 147456 := (z 0).isLt; omega⟩ : Fin 72) = t := Fin.ext (by show ((z 0).val - 32256) / 512 = _; omega)
  have h2 : (⟨(z 0).val - 32256, by have : (z 0).val < 147456 := (z 0).isLt; omega⟩ : Fin 36864) = ⟨512 * t.val + r.val, by omega⟩ := Fin.ext (by show (z 0).val - 32256 = 512 * t.val + r.val; omega)
  have h3 : (z 1 : Fin 1024) = j := Fin.ext e1
  rw [h1, h2]
  exact congrArg _ h3

/-- The closed form in the rows of the other parts. -/
theorem outArr_other (e : Fin 72 → Fin 32) (x : Vec Ideal S36864x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16)
    (z : S147456x1024.Idx) (e0 : ¬ (32256 ≤ (z 0).val ∧ (z 0).val < 69120)) : outArr e x w1 b1 w2 b2 yb z = yb z := by
  unfold outArr
  rw [dif_neg e0]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 63 ≤ β (0 : Fin 2) ∧ β (0 : Fin 2) < 135) (covers a) (fun t hf y => ?_) (fun j hj => ?_)
  · blk_simp
    rw [after0_7]
    have w7 : ((cfg0 a).win 7).index t = ![63 + t.val, 0] := win7 a t
    have e0 : (((((cfg0 a).win 7).blk t).view.emb y) (0 : Fin 2)).val = 512 * (63 + t.val) + (y (0 : Fin 2)).val := by
      blk_simp
      rw [w7]
      show (63 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : ¬ (32256 ≤ (j (0 : Fin 2)).val ∧ (j (0 : Fin 2)).val < 69120) := fun h =>
      hj ⟨show 63 ≤ (j (0 : Fin 2)).val / 512 by omega, show (j (0 : Fin 2)).val / 512 < 135 by omega⟩
    rw [A_eq]
    exact (congrFun (before_eq m c) _).trans (outArr_other _ _ _ _ _ _ _ _ hc).symm

end Cert.LateMid

end
-- ==== Proof.LateMidRef.lean ====
/- The layer 1 middle experts' reference as named stages, and each stage read at an index. -/
module

public import proofs.«01_k».proof.Proof.Gen.LateMidExpertsReferenceIdeal.Run
public import proofs.«01_k».proof.Proof.LateMidArray
public import proofs.«01_k».proof.Proof.MidRef
public import Idealize.ShloMosaic.Lib.Pointwise
public import Idealize.ShloMosaic.Lib.IdealHost

@[expose] public section

set_option maxRecDepth 16384

noncomputable section

namespace Cert.LateMid.Ref

open Cert.LateMidExpertsReferenceIdeal Cert.LateMidExpertsReferenceIdeal.Gen
open Cert.Moe (act tokenAt)
open Cert.Mid.Ref (tokensR firstOf firstBiasR secondOf secondBiasR hiddenR actR downR tokensR_apply hiddenR_apply downR_apply actR_apply firstOf_apply secondOf_apply
  firstBiasR_apply secondBiasR_apply)
open Idealize.ShloMosaic
open Idealize.ShloMosaic.TcCoe

section stages
variable {F : FTy → Type} [FloatOps F]

/-- Each block's first-layer matrix. -/
def firstR (e : IVec S72 32) (w1 : FVec F S2x32x1024x2048 .f32) : FVec F S72x1024x2048 .f32 :=
  firstOf e (shapeCast _ (extractStridedSlice S1x32x1024x2048 ![1, 0, 0, 0] w1 slices_S2x32x1024x2048_S1x32x1024x2048_1_0_0_0) shapeCasts_S1x32x1024x2048_S32x1024x2048)

/-- Each block's second-layer matrix. -/
def secondR (e : IVec S72 32) (w2 : FVec F S2x32x1024x1024 .f32) : FVec F S72x1024x1024 .f32 :=
  secondOf e (shapeCast _ (extractStridedSlice S1x32x1024x1024 ![1, 0, 0, 0] w2 slices_S2x32x1024x1024_S1x32x1024x1024_1_0_0_0) shapeCasts_S1x32x1024x1024_S32x1024x1024)

/-- The earlier rows, this part's and the later rows, one below the other. -/
def stackR (yb : FVec F S147456x1024 .bf16) (y : FVec F S72x512x1024 .f32) : FVec F S147456x1024 .bf16 :=
  concatenate S147456x1024 0 [⟨S32256x1024, (extractStridedSlice S32256x1024 ![0, 0] yb slices_S147456x1024_S32256x1024_0_0)⟩,
    ⟨S36864x1024, (truncf .bf16 (shapeCast _ y shapeCasts_S72x512x1024_S36864x1024) bitsLt_bf16_f32)⟩,
    ⟨S78336x1024, (extractStridedSlice S78336x1024 ![69120, 0] yb slices_S147456x1024_S78336x1024_69120_0)⟩] concatenates_S32256x1024_S36864x1024_S78336x1024_S147456x1024_d0

def outR (e : IVec S72 32) (x : FVec F S36864x1024 .bf16) (w1 : FVec F S2x32x1024x2048 .f32) (b1 : FVec F S32x2048 .f32) (w2 : FVec F S2x32x1024x1024 .f32) (b2 : FVec F S32x1024 .f32) (yb : FVec F S147456x1024 .bf16) : FVec F S147456x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.LateMidExpertsReferenceIdeal.Value.res_main_v63 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.LateMidExpertsReferenceIdeal.Value.res_main_v63
  rfl

end stages

section known
variable (e : IVec S72 32) (ef : Fin 72 → Fin 32) (he : ∀ t, (e (ix1 t)).toNat = (ef t).val)
include he

theorem firstR_apply (w1 : FVec Ideal S2x32x1024x2048 .f32) (t : Fin 72) (i : Fin 1024) (k : Fin 2048) :
    firstR e w1 (ix3 t i k) = w1 (ix4 1 (ef t) i k) := by
  unfold firstR
  rw [firstOf_apply e ef he]
  pointwise

theorem secondR_apply (w2 : FVec Ideal S2x32x1024x1024 .f32) (t : Fin 72) (i : Fin 1024) (k : Fin 1024) :
    secondR e w2 (ix3 t i k) = w2 (ix4 1 (ef t) i k) := by
  unfold secondR
  rw [secondOf_apply e ef he]
  pointwise

/-- Both layers of one token of one block. -/
theorem layers_apply (x : FVec Ideal S36864x1024 .bf16) (w1 : FVec Ideal S2x32x1024x2048 .f32) (b1 : FVec Ideal S32x2048 .f32) (w2 : FVec Ideal S2x32x1024x1024 .f32) (b2 : FVec Ideal S32x1024 .f32)
    (t : Fin 72) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 1 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S147456x1024 .bf16) (y : FVec Ideal S72x512x1024 .f32) (n : Fin 147456) (j : Fin 1024) (hn : n.val < 32256) :
    stackR yb y (ix2 n j) = yb (ix2 n j) := by
  pointwise [stackR]
  exact dif_pos hn

theorem stackR_after (yb : FVec Ideal S147456x1024 .bf16) (y : FVec Ideal S72x512x1024 .f32) (n : Fin 147456) (j : Fin 1024) (hn : 69120 ≤ n.val) :
    stackR yb y (ix2 n j) = yb (ix2 n j) := by
  pointwise [stackR]
  have h1 : ¬ n.val < 32256 := by omega
  have h2 : ¬ n.val - 32256 < 36864 := by omega
  exact (dif_neg h1).trans ((dif_neg h2).trans (congrArg (fun k : Fin 147456 => yb (ix2 k j)) (Fin.ext (by
    show 69120 + (n.val - 32256 - 36864) = n.val
    omega))))

theorem stackR_block (yb : FVec Ideal S147456x1024 .bf16) (y : FVec Ideal S72x512x1024 .f32) (n : Fin 147456) (j : Fin 1024) (hn : 32256 ≤ n.val) (hu : n.val < 69120) :
    @Eq EReal (stackR yb y (ix2 n j)) (y (ix3 ⟨(n.val - 32256) / 512, by omega⟩ ⟨(n.val - 32256) % 512, by omega⟩ j)) := by
  pointwise [stackR]
  exact (dif_neg (Nat.not_lt.mpr hn)).trans (dif_pos (by omega))

/-- The reference's result is the closed form. -/
theorem outR_eq (e : IVec S72 32) (ef : Fin 72 → Fin 32) (he : ∀ t, (e (ix1 t)).toNat = (ef t).val) (x : FVec Ideal S36864x1024 .bf16)
    (w1 : FVec Ideal S2x32x1024x2048 .f32) (b1 : FVec Ideal S32x2048 .f32) (w2 : FVec Ideal S2x32x1024x1024 .f32) (b2 : FVec Ideal S32x1024 .f32) (yb : FVec Ideal S147456x1024 .bf16) :
    outR e x w1 b1 w2 b2 yb = outArr ef x w1 b1 w2 b2 yb := by
  funext z
  have hz : z = ix2 (z 0) (z 1) := by funext b; fin_cases b <;> rfl
  by_cases h : 32256 ≤ (z 0).val ∧ (z 0).val < 69120
  swap
  · rw [outArr_other _ _ _ _ _ _ _ _ h, hz]
    by_cases hb : (z 0).val < 32256
    · exact stackR_before yb _ (z 0) (z 1) hb
    · exact stackR_after yb _ (z 0) (z 1) (show 69120 ≤ (z 0).val by omega)
  · obtain ⟨hge, hu⟩ := h
    refine Eq.trans ?_ (outArr_block ef x w1 b1 w2 b2 yb ⟨((z 0).val - 32256) / 512, by omega⟩ ⟨((z 0).val - 32256) % 512, by omega⟩ (z 1) z (by show (z 0).val = 512 * (63 + ((z 0).val - 32256) / 512) + ((z 0).val - 32256) % 512; omega) rfl).symm
    refine (congrArg _ hz).trans ?_
    refine (stackR_block yb _ (z 0) (z 1) hge hu).trans ((layers_apply e ef he x w1 b1 w2 b2 _ _ (z 1)).trans ?_)
    exact congrArg (fun n : Fin 36864 => blockAt _ x w1 b1 w2 b2 n (z 1)) (Fin.ext (by
      show ((z 0).val - 32256) / 512 * 512 + ((z 0).val - 32256) % 512 = 512 * (((z 0).val - 32256) / 512) + ((z 0).val - 32256) % 512
      omega))

end Cert.LateMid.Ref

end
-- ==== Proof.LateMidValue.lean ====
/- The layer 1 middle experts' call and its reference leave the same result. -/
module

public import proofs.«01_k».proof.Proof.LateMidRef

@[expose] public section

set_option maxRecDepth 16384

noncomputable section

namespace Cert.LateMid

open Idealize.ShloMosaic
open Idealize.ShloMosaic.TcCoe Idealize.SL.Sem

section run
open Cert.LateMidExpertsIdeal Cert.LateMidExpertsIdeal.Gen

variable (m : (ℓ : Loc nD τ sig) → Buf (Elt Ideal) ℓ) (hk : ∀ c : Dev nD, Known (m ((c : Thread nD τ).loc main_arg0)))

/-- The experts of the blocks. -/
def experts (t : Fin 72) : Fin 32 := exf (adm m hk) t

theorem experts_word (c : Dev nD) (t : Fin 72) : (m ((c : Thread nD τ).loc main_arg0) (ix1 t) : BitVec 32).toNat = (experts m hk t).val := by
  obtain rfl : c = 0 := Subsingleton.elim _ _
  exact congrArg (fun i : S72.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_LateMidExpertsIdeal_LateMidExpertsReferenceIdeal := by
  intro m g m' g' hpre hagree
  have hk := fun c => known_of _ (hpre c)
  refine ⟨_, run_value m hk g, (θ_run Cert.LateMidExpertsReferenceIdeal.defs _ _).mono (fun r h c => ⟨(h c).1.trans ?_, (h c).2⟩) (Cert.LateMidExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.LateMid

end
-- ==== Proof.LowSame.lean ====
/- The two printings of the layer 0 early experts' program, for the word values and for the extended reals, are one text. -/
module

public import proofs.«01_k».proof.Proof.Gen.LowExperts
public import proofs.«01_k».proof.Proof.Gen.LowExpertsIdeal

@[expose] public section

noncomputable section

namespace Cert.Low

open Idealize.ShloMosaic Idealize.SL.Sem

variable {F : FTy → Type} [FloatOps F]

set_option maxHeartbeats 4000000
theorem main_same : Cert.LowExperts.main (F := F) = Cert.LowExpertsIdeal.main (F := F) := rfl

theorem defs₀_same : Cert.LowExperts.defs₀ (F := F) = Cert.LowExpertsIdeal.defs₀ (F := F) := by
  unfold Cert.LowExperts.defs₀ Cert.LowExpertsIdeal.defs₀
  refine congrArg (Defs.onTc (nD := 1) (τ := Cert.LowExpertsIdeal.τ) (sig := Cert.LowExpertsIdeal.sig) (Val := Elt F) (Λ := Cert.LowExpertsIdeal.Λ₀)) (funext fun ℓ => funext fun x => ?_)
  match ℓ, x with
  | ⟨0, _⟩, (t, s) => rfl

theorem defs_same : Cert.LowExperts.defs (F := F) = Cert.LowExpertsIdeal.defs (F := F) := by
  unfold Cert.LowExperts.defs Cert.LowExpertsIdeal.defs
  rw [defs₀_same]; rfl

end Cert.Low

end
-- ==== Proof.LowBody.lean ====
module

public import proofs.«01_k».proof.Proof.MoeStep
public import proofs.«01_k».proof.Proof.Gen.LowExpertsIdeal.Launch
public import proofs.«01_k».proof.Proof.Gen.LowExpertsIdeal.Skeleton
public import Idealize.ShloMosaic.Lib.Tactic

@[expose] public section

set_option maxRecDepth 16384

noncomputable section

namespace Cert.Low

open Cert.LowExpertsIdeal Cert.LowExpertsIdeal.Gen
open Cert.Moe (refillsAt chunk gateStrip linStrip gateW linW downW outBlk upto_zero upto_writes upto_all ldChunk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The table word a load at offset `off` gives. -/
abbrev word (arg1 : Memref sig .tc .smem S36 .i32) (f1 : arg1.view.ty.Contents (Elt F)) (off : Fin 1 → ℕ) (inb : ∀ a, off a + S1.size a ≤ S36.size a) : BitVec 32 :=
  ((arg1.access (Rect.unit (s := S36) off S1.size inb)).read (Elt F) f1 (Shape.Idx.first (numel1_S1.symm ▸ Nat.one_pos)))

set_option maxHeartbeats 4000000 in
/-- The body at a point whose scratch buffers already hold the point's expert unless it refills them: the output block is
    the block of results, the scratch buffers hold the point's expert afterwards, the rest is as it was. -/
theorem kernelRun (c : Dev nD) (i : grid0.Coords) (arg1 : Memref sig .tc .smem S36 .i32) (harg1 : arg1.IsWhole) (arg2 : Memref sig .tc .vmem S512x1024 .bf16) (harg2 : arg2.IsWhole) (arg3 : Memref sig .tc .vmem S1x1x1024x2048 .f32) (harg3 : arg3.IsWhole) (arg4 : Memref sig .tc .vmem S256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .hbm S149504x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (q : PosShare TreeShare) (f1 : arg1.view.ty.Contents (Elt F))
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (i 0).val (word arg1 f1 (k0_off1 i) (k0_off1_inb i)) (word arg1 f1 (k0_off2 i) (k0_off2_inb i)) → g = gateW x3 x4 ∧ l = linW x3 x4 ∧ d = downW x7)
    (K : PUnit → sProp 𝕄) :
    iprop((arg1.view.loc (c : Thread nD τ) ↦[arg1.view.set]{q} f1) ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg10 fullShare d)
        ∗ owns (c : Thread nD τ) arg11 fullShare g ∗ owns (c : Thread nD τ) arg12 fullShare l ∗ owns (c : Thread nD τ) arg13 fullShare d
        ∗ (iprop((arg1.view.loc (c : Thread nD τ) ↦[arg1.view.set]{q} f1) ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg10 fullShare (outBlk x2 (gateW x3 x4) (linW x3 x4) (downW x7) x5 x6 x8)
            ∗ owns (c : Thread nD τ) arg11 fullShare (gateW x3 x4) ∗ owns (c : Thread nD τ) arg12 fullShare (linW x3 x4) ∗ owns (c : Thread nD τ) arg13 fullShare (downW x7)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%f11, %h11, H11⟩, ⟨%f12, %h12, H12⟩, ⟨%f13, %h13, H13⟩, Hk⟩
  sl_exec
  sl_step
  have hv : kernelRun.sl.v10 i arg1 f1 = 1#1 ↔ refillsAt (i 0).val (word arg1 f1 (k0_off1 i) (k0_off1_inb i)) (word arg1 f1 (k0_off2 i) (k0_off2_inb i)) := by
    delta kernelRun.sl.v10
    exact Iff.rfl
  have e4 : View.readAt (Elt F) arg4.view (Rect.unit (s := S256x256) ![0, 0] S256x256.size inb_S256x256_S256x256_0_0).toLoadRect f4 = x4 := by
    rw [View.readAt_full arg4.view f4, h4]
  have ek : ∀ (k : Fin 8) {off : Fin 4 → ℕ} (inb), off = ![0, 0, 0, 256 * k.val] →
      View.readAt (Elt F) arg3.view (Rect.unit (s := S1x1x1024x2048) off S1x1x1024x256.size inb).toLoadRect f3 = chunk x3 k :=
    fun k off inb h => h3 ▸ ldChunk arg3.view f3 inb k h
  have e12 : kernelRun.sl.v12 c i arg1 arg3 arg4 arg11 f1 f3 f4 f11 = gateW x3 x4 := by
    delta kernelRun.sl.v12
    rw [View.readAt_full arg11.view]
    by_cases hr : kernelRun.sl.v10 i arg1 f1 = 1#1
    · rw [dif_pos hr]
      refine upto_all (gateStrip x3 x4) _ ?_
      refine upto_writes _ _ _ _ 7 _ _ rfl (by rw [e4]; exact congrArg (k0_pay25 · x4) (ek 7 _ rfl)) ?_
      refine upto_writes _ _ _ _ 6 _ _ rfl (by delta kernelRun.sl.r_2; rw [e4]; exact congrArg (fun w => k0_pay22 (k0_pay20 w) x4) (ek 6 _ rfl)) ?_
      refine upto_writes _ _ _ _ 5 _ _ rfl (by rw [e4]; exact congrArg (k0_pay18 · x4) (ek 5 _ rfl)) ?_
      refine upto_writes _ _ _ _ 4 _ _ rfl (by rw [e4]; exact congrArg (k0_pay15 · x4) (ek 4 _ rfl)) ?_
      refine upto_writes _ _ _ _ 3 _ _ rfl (by rw [e4]; exact congrArg (k0_pay12 · x4) (ek 3 _ rfl)) ?_
      refine upto_writes _ _ _ _ 2 _ _ rfl (by rw [e4]; exact congrArg (k0_pay9 · x4) (ek 2 _ rfl)) ?_
      refine upto_writes _ _ _ _ 1 _ _ rfl (by rw [e4]; exact congrArg (k0_pay6 · x4) (ek 1 _ rfl)) ?_
      refine upto_writes _ _ _ _ 0 _ _ rfl (by rw [e4]; exact congrArg (k0_pay3 · x4) (ek 0 _ rfl)) ?_
      exact upto_zero _ _
    · rw [dif_neg hr, h11]
      exact (hc fun h => hr (hv.2 h)).1
  have e18 : kernelRun.sl.v18 c i arg1 arg3 arg4 arg12 f1 f3 f4 f12 = linW x3 x4 := by
    delta kernelRun.sl.v18
    rw [View.readAt_full arg12.view]
    by_cases hr : kernelRun.sl.v10 i arg1 f1 = 1#1
    · rw [dif_pos hr]
      refine upto_all (linStrip x3 x4) _ ?_
      refine upto_writes _ _ _ _ 7 _ _ rfl (by rw [e4]; exact congrArg (k0_pay26 · x4) (ek 7 _ rfl)) ?_
      refine upto_writes _ _ _ _ 6 _ _ rfl (by delta kernelRun.sl.r_2; rw [e4]; exact congrArg (fun w => k0_pay23 (k0_pay20 w) x4) (ek 6 _ rfl)) ?_
      refine upto_writes _ _ _ _ 5 _ _ rfl (by rw [e4]; exact congrArg (k0_pay19 · x4) (ek 5 _ rfl)) ?_
      refine upto_writes _ _ _ _ 4 _ _ rfl (by rw [e4]; exact congrArg (k0_pay16 · x4) (ek 4 _ rfl)) ?_
      refine upto_writes _ _ _ _ 3 _ _ rfl (by rw [e4]; exact congrArg (k0_pay13 · x4) (ek 3 _ rfl)) ?_
      refine upto_writes _ _ _ _ 2 _ _ rfl (by rw [e4]; exact congrArg (k0_pay10 · x4) (ek 2 _ rfl)) ?_
      refine upto_writes _ _ _ _ 1 _ _ rfl (by rw [e4]; exact congrArg (k0_pay7 · x4) (ek 1 _ rfl)) ?_
      refine upto_writes _ _ _ _ 0 _ _ rfl (by rw [e4]; exact congrArg (k0_pay4 · x4) (ek 0 _ rfl)) ?_
      exact upto_zero _ _
    · rw [dif_neg hr, h12]
      exact (hc fun h => hr (hv.2 h)).2.1
  have e38 : kernelRun.sl.v38 c i arg1 arg7 arg13 f1 f7 f13 = downW x7 := by
    delta kernelRun.sl.v38
    refine (View.readAt_full arg13.view _ inb_S1024x1024_S1024x1024_0_0).trans ?_
    by_cases hr : kernelRun.sl.v10 i arg1 f1 = 1#1
    · rw [dif_pos hr, View.read_writes_full]
      delta kernelRun.sl.r_3
      rw [View.readAt_full arg7.view f7, h7]
      rfl
    · rw [dif_neg hr, h13]
      exact (hc fun h => hr (hv.2 h)).2.2
  iapply Hk
  isplitl [H1]; · iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H10]
  · iexists _; isplitr; swap; · iexact H10
    ipureintro
    refine (View.read_writes_full _ _ _ _ _).trans ?_
    rw [e38]
    delta kernelRun.sl.r_4 kernelRun.sl.r_5
    rw [e12, e18, View.readAt_full arg2.view f2, h2, View.readAt_full arg6.view f6, h6, View.readAt_full arg5.view f5, h5]
    refine congrArg (fun z => outBlk x2 (gateW x3 x4) (linW x3 x4) (downW x7) x5 x6 z) ?_
    exact (View.readAt_full arg8.view f8 inb_S1x1x1024_S1x1x1024_0_0_0).trans h8
  isplitl [H11]
  · iexists _; isplitr; swap; · iexact H11
    ipureintro
    exact (View.readAt_full arg11.view _ inb_S1024x1024_S1024x1024_0_0).symm.trans e12
  isplitl [H12]
  · iexists _; isplitr; swap; · iexact H12
    ipureintro
    exact (View.readAt_full arg12.view _ inb_S1024x1024_S1024x1024_0_0).symm.trans e18
  · iexists _; isplitr; swap; · iexact H13
    ipureintro
    exact (View.readAt_full arg13.view _ inb_S1024x1024_S1024x1024_0_0).symm.trans e38

end Cert.Low

end
-- ==== Proof.LowLaunch.lean ====
/- The layer 0 early experts' pipeline: its tables, its blocks by expert, and its proof data. -/
module

public import proofs.«01_k».proof.Proof.LowBody
public import Idealize.ShloMosaic.Lib.Pipeline.ValueKit
public import Idealize.ShloMosaic.Lib.Tactic

@[expose] public section

set_option maxRecDepth 16384

noncomputable section

namespace Cert.Low

open Cert.LowExpertsIdeal Cert.LowExpertsIdeal.Gen
open Cert.Moe (refillsAt refillsAt_false gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 36 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S36.size k) (h : 0 < (Rect.unit (s := S36) off S1.size inb).shape.numel) :
    (a.1 0 ((Rect.unit (s := S36) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![0, (ex a t).toNat, 0, 0] := by
  have h : (a.1.at 0 (Rect.unit (s := S36) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![0, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S36) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![27 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 0 e (y 2) (y 3))
def slab2 (w : Vec F S2x32x1024x1024 .f32) (e : Fin 32) : Vec F S1x1x1024x1024 .f32 := fun y => w (ValueIdx.ix4 0 e (y 2) (y 3))
def slabB (w : Vec F S32x1x1024 .f32) (e : Fin 32) : Vec F S1x1x1024 .f32 := fun y => w (ValueIdx.ix3 e (y 1) (y 2))
def rows (x : Vec F S18432x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![0, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![0, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![27 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.Low

end
-- ==== Proof.LowRun.lean ====
/- The layer 0 early experts' body at every point, and the run of the whole call. -/
module

public import proofs.«01_k».proof.Proof.LowLaunch

@[expose] public section

set_option maxRecDepth 16384

noncomputable section

namespace Cert.Low

open Cert.LowExpertsIdeal Cert.LowExpertsIdeal.Gen
open Cert.Moe (refillsAt gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.Low

end
-- ==== Proof.LowFrames.lean ====
/- The frames of the layer 0 early experts' programs: a table of known experts is admissible, and the run at any values is read at the word
   values and at the extended reals. -/
module

public import proofs.«01_k».proof.Defs
public import proofs.«01_k».proof.Proof.LowSame
public import proofs.«01_k».proof.Proof.Gen.Pre_known_low_experts
public import proofs.«01_k».proof.Proof.Gen.LowExpertsReferenceIdeal.Run
public import proofs.«01_k».proof.Proof.LowRun
public import proofs.«01_k».proof.Proof.MoeFrames
public import Idealize.ShloMosaic.Lib.StableHlo.Predicate

@[expose] public section

set_option maxRecDepth 16384

noncomputable section

namespace Cert.Low

open Cert.LowExpertsIdeal Cert.LowExpertsIdeal.Gen
open Cert.Moe (lt_of_cmpi)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S36 .i32) : Prop := ∀ i : S36.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![0, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![0, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

theorem known_of [Cert.Pre_known_low_experts.Facts] {x1 : Vec F S18432x1024 .bf16} {x2 : Vec F S2x32x1024x2048 .f32} {x3 : Vec F S32x2048 .f32} {x4 : Vec F S2x32x1024x1024 .f32} {x5 : Vec F S32x1024 .f32} {x6 : Vec F S149504x1024 .bf16}
    (e : Vec F S36 .i32) (h : (Cert.Pre_known_low_experts.fn (F := F) e x1 x2 x3 x4 x5 x6).1 = (fun _ => 1#1) ∧ (Cert.Pre_known_low_experts.fn (F := F) e x1 x2 x3 x4 x5 x6).2 = (fun _ => 1#1)) : Known e :=
  fun i => lt_of_cmpi (e i) (congrFun h.1 i) (congrFun h.2 i)

instance : Cert.Pre_known_low_experts.Facts := Cert.Pre_known_low_experts.Gen.facts

theorem frame_LowExperts : Cert.quiescent_LowExperts := fun m ρ hp => by
  have h := frame_at (F := Bits) m ρ fun c => known_of _ (hp c)
  rw [← main_same, ← defs_same] at h
  exact h

theorem frame_LowExpertsIdeal : Cert.quiescent_LowExpertsIdeal := fun m ρ hp => frame_at (F := Ideal) m ρ fun c => known_of _ (hp c)

theorem frame_LowExpertsReferenceIdeal : Cert.quiescent_LowExpertsReferenceIdeal := fun m ρ _ =>
  (θ_run Cert.LowExpertsReferenceIdeal.defs _ _).mono (fun r h => ⟨fun c => (h c).2, Idealize.ShloMosaic.sem_eq_zero_of_no_sems (by decide) r.2⟩)
    (Cert.LowExpertsReferenceIdeal.Value.run (F := Ideal) m ρ)

end Cert.Low

end
-- ==== Proof.LowHost.lean ====
/- The arrays the host prepares for the layer 0 early experts' call, read at an index of the arguments. -/
module

public import proofs.«01_k».proof.Proof.MoeHost
public import proofs.«01_k».proof.Proof.LowLaunch
public import Idealize.ShloMosaic.Lib.Tactic
public import Idealize.ShloMosaic.Lib.StableHlo.ReadAt
public import Idealize.ShloMosaic.Lib.IdealHost

@[expose] public section

set_option maxRecDepth 16384

noncomputable section

namespace Cert.Low

open Cert.LowExpertsIdeal Cert.LowExpertsIdeal.Gen
open Cert.Moe (IsPerm src src_word word_inj bit_value)
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.Low

end
-- ==== Proof.LowArray.lean ====
/- The layer 0 early experts' result array in closed form over the arguments. -/
module

public import proofs.«01_k».proof.Proof.LowHost
public import proofs.«01_k».proof.Proof.MoeArray
public import proofs.«01_k».proof.Proof.LowFrames
public import Idealize.ShloMosaic.Lib.Pipeline.ValueKit

@[expose] public section

set_option maxRecDepth 16384

noncomputable section

namespace Cert.Low

open Cert.LowExpertsIdeal Cert.LowExpertsIdeal.Gen
open Cert.Moe (act tokenAt gateW linW downW outBlk)
open Idealize.ShloMosaic
open Idealize.ShloMosaic.TcCoe Idealize.SL.Sem
open Idealize.ShloMosaic.Pipeline (Dat)

/-- One element of one block of tokens, with the block's expert. -/
def blockAt (e : Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (n : Fin 18432) (j : Fin 1024) : EReal :=
  tokenAt (fun i => x (ix2 n i)) (fun i k => w1 (ix4 0 e i k)) (fun k => b1 (ix2 e k)) (fun y => w2 (ix4 0 e y j)) (b2 (ix2 e j))

/-- The result array: the rows of this part from their experts, the other rows as they were. -/
def outArr (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) : Vec Ideal S149504x1024 .bf16 :=
  fun z => if h : 13824 ≤ (z 0).val ∧ (z 0).val < 32256 then
      blockAt (e ⟨((z 0).val - 13824) / 512, by have : (z 0).val < 149504 := (z 0).isLt; omega⟩) x w1 b1 w2 b2
        ⟨(z 0).val - 13824, by have : (z 0).val < 149504 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 18432) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [Cert.Moe.outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 18432 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 0 (exf a t) i ⟨2 * y.val, by omega⟩) := fun i y => Cert.Moe.gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 0 (exf a t) i ⟨2 * y.val + 1, by omega⟩) := fun i y => Cert.Moe.linW_apply _ _ (perm_isPerm m c) i y
  have hd : ∀ y : Fin 1024, downW (slab2 (m ((c : Thread nD τ).loc main_arg4)) (exf a t)) (ix2 y j)
      = m ((c : Thread nD τ).loc main_arg4) (ix4 0 (exf a t) y j) := fun y => Cert.Moe.downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

/-- What the body leaves at one index of its block. -/
theorem point (c : Dev nD) (t : Fin (cfg0 a).N) (r : Fin 512) (j : Fin 1024) (n : Fin 18432) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (Cert.Moe.of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 27 ≤ β (0 : Fin 2) ∧ β (0 : Fin 2) < 63) := by decide +kernel

theorem covers : ((cfg0 a).win 7).CoversWhere (fun β => 27 ≤ β (0 : Fin 2) ∧ β (0 : Fin 2) < 63) := covers_zeros

/-- The closed form at an index of block `t`. -/
theorem outArr_block (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16) (t : Fin 36) (r : Fin 512) (j : Fin 1024)
    (z : S149504x1024.Idx) (e0 : (z 0).val = 512 * (27 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 13824) / 512, by have : (z 0).val < 149504 := (z 0).isLt; omega⟩ : Fin 36) = t := Fin.ext (by show ((z 0).val - 13824) / 512 = _; omega)
  have h2 : (⟨(z 0).val - 13824, by have : (z 0).val < 149504 := (z 0).isLt; omega⟩ : Fin 18432) = ⟨512 * t.val + r.val, by omega⟩ := Fin.ext (by show (z 0).val - 13824 = 512 * t.val + r.val; omega)
  have h3 : (z 1 : Fin 1024) = j := Fin.ext e1
  rw [h1, h2]
  exact congrArg _ h3

/-- The closed form in the rows of the other parts. -/
theorem outArr_other (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S149504x1024 .bf16)
    (z : S149504x1024.Idx) (e0 : ¬ (13824 ≤ (z 0).val ∧ (z 0).val < 32256)) : outArr e x w1 b1 w2 b2 yb z = yb z := by
  unfold outArr
  rw [dif_neg e0]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 27 ≤ β (0 : Fin 2) ∧ β (0 : Fin 2) < 63) (covers a) (fun t hf y => ?_) (fun j hj => ?_)
  · blk_simp
    rw [after0_7]
    have w7 : ((cfg0 a).win 7).index t = ![27 + t.val, 0] := win7 a t
    have e0 : (((((cfg0 a).win 7).blk t).view.emb y) (0 : Fin 2)).val = 512 * (27 + t.val) + (y (0 : Fin 2)).val := by
      blk_simp
      rw [w7]
      show (27 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : ¬ (13824 ≤ (j (0 : Fin 2)).val ∧ (j (0 : Fin 2)).val < 32256) := fun h =>
      hj ⟨show 27 ≤ (j (0 : Fin 2)).val / 512 by omega, show (j (0 : Fin 2)).val / 512 < 63 by omega⟩
    rw [A_eq]
    exact (congrFun (before_eq m c) _).trans (outArr_other _ _ _ _ _ _ _ _ hc).symm

end Cert.Low

end
-- ==== Proof.LowRef.lean ====
/- The layer 0 early experts' reference as named stages, and each stage read at an index. -/
module

public import proofs.«01_k».proof.Proof.Gen.LowExpertsReferenceIdeal.Run
public import proofs.«01_k».proof.Proof.LowArray
public import proofs.«01_k».proof.Proof.MoeRef
public import Idealize.ShloMosaic.Lib.Pointwise
public import Idealize.ShloMosaic.Lib.IdealHost

@[expose] public section

set_option maxRecDepth 16384

noncomputable section

namespace Cert.Low.Ref

open Cert.LowExpertsReferenceIdeal Cert.LowExpertsReferenceIdeal.Gen
open Cert.Moe (act tokenAt)
open Idealize.ShloMosaic
open Idealize.ShloMosaic.TcCoe

section stages
variable {F : FTy → Type} [FloatOps F]

/-- The block's expert as the position to read at, a negative one counted from the end. -/
def posR (e : IVec S36 32) : IVec S36x1 32 :=
  broadcastInDim S36x1 ![0] bcast_S36_S36x1_0 (select (cmpi .slt e (broadcastInDim S36 ![] bcast_S_S36 (constantI S_ 32 0#32))) (addi e (broadcastInDim S36 ![] bcast_S_S36 (constantI S_ 32 32#32))) e)

/-- The tokens by block. -/
def tokensR (x : FVec F S18432x1024 .bf16) : FVec F S36x512x1024 .f32 :=
  shapeCast _ (extf .f32 x bitsLt_bf16_f32) shapeCasts_S18432x1024_S36x512x1024

/-- Each block's matrix of those of one layer. -/
def firstOf (e : IVec S36 32) (w : FVec F S32x1024x2048 .f32) : FVec F S36x1024x2048 .f32 := Host.gather gather_S32x1024x2048_S36x1_S36x1024x2048_12_0_n_n_0_1_110242048 w (posR e)

/-- Each block's first-layer matrix. -/
def firstR (e : IVec S36 32) (w1 : FVec F S2x32x1024x2048 .f32) : FVec F S36x1024x2048 .f32 :=
  firstOf e (shapeCast _ (extractStridedSlice S1x32x1024x2048 ![0, 0, 0, 0] w1 slices_S2x32x1024x2048_S1x32x1024x2048_0_0_0_0) shapeCasts_S1x32x1024x2048_S32x1024x2048)

/-- Each block's first-layer bias. -/
def firstBiasR (e : IVec S36 32) (b1 : FVec F S32x2048 .f32) : FVec F S36x2048 .f32 :=
  Host.gather gather_S32x2048_S36x1_S36x2048_1_0_n_n_0_1_12048 b1 (posR e)

/-- Each block's matrix of those of one layer. -/
def secondOf (e : IVec S36 32) (w : FVec F S32x1024x1024 .f32) : FVec F S36x1024x1024 .f32 := Host.gather gather_S32x1024x1024_S36x1_S36x1024x1024_12_0_n_n_0_1_110241024 w (posR e)

/-- Each block's second-layer matrix. -/
def secondR (e : IVec S36 32) (w2 : FVec F S2x32x1024x1024 .f32) : FVec F S36x1024x1024 .f32 :=
  secondOf e (shapeCast _ (extractStridedSlice S1x32x1024x1024 ![0, 0, 0, 0] w2 slices_S2x32x1024x1024_S1x32x1024x1024_0_0_0_0) shapeCasts_S1x32x1024x1024_S32x1024x1024)

/-- Each block's second-layer bias. -/
def secondBiasR (e : IVec S36 32) (b2 : FVec F S32x1024 .f32) : FVec F S36x1024 .f32 :=
  Host.gather gather_S32x1024_S36x1_S36x1024_1_0_n_n_0_1_11024 b2 (posR e)

/-- The first layer. -/
def hiddenR (x : FVec F S36x512x1024 .f32) (w : FVec F S36x1024x2048 .f32) (b : FVec F S36x2048 .f32) : FVec F S36x512x2048 .f32 :=
  addf (Host.dotGeneral dot_S36x512x1024_S36x1024x2048_S36x512x2048_2_1_1_2_0_0 none x w)
    (broadcastInDim S36x512x2048 ![0, 1, 2] bcast_S36x1x2048_S36x512x2048_0_1_2 (broadcastInDim S36x1x2048 ![0, 2] bcast_S36x2048_S36x1x2048_0_2 b))

def all (k : BitVec 32) : FVec F S36x512x1024 .f32 := broadcastInDim S36x512x1024 ![] bcast_S_S36x512x1024 (constant S_ .f32 k)

/-- The gate half, bounded above. -/
def gateR (h : FVec F S36x512x2048 .f32) : FVec F S36x512x1024 .f32 :=
  minimumf (Host.slice S36x512x1024 ![0, 0, 0] ![1, 1, 2] h slicesBy_S36x512x2048_S36x512x1024_0s1_0s1_0s2) (all 0x40E00000#32)

/-- The linear half, bounded on both sides. -/
def linearR (h : FVec F S36x512x2048 .f32) : FVec F S36x512x1024 .f32 :=
  minimumf (broadcastInDim S36x512x1024 ![] bcast_S_S36x512x1024 (id (constant S_ .f32 0x40E00000#32)))
    (maximumf (broadcastInDim S36x512x1024 ![] bcast_S_S36x512x1024 (id (constant S_ .f32 0xC0E00000#32)))
      (Host.slice S36x512x1024 ![0, 0, 1] ![1, 1, 2] h slicesBy_S36x512x2048_S36x512x1024_0s1_0s1_1s2))

/-- The gated product. -/
def actR (h : FVec F S36x512x2048 .f32) : FVec F S36x512x1024 .f32 :=
  mulf (mulf (gateR h) (Host.divf (all 0x3F800000#32) (addf (all 0x3F800000#32) (Host.exp (Host.negf (mulf (all 0x3FD9DB23#32) (gateR h)))))))
    (addf (linearR h) (all 0x3F800000#32))

/-- The second layer. -/
def downR (a : FVec F S36x512x1024 .f32) (w : FVec F S36x1024x1024 .f32) (b : FVec F S36x1024 .f32) : FVec F S36x512x1024 .f32 :=
  addf (Host.dotGeneral dot_S36x512x1024_S36x1024x1024_S36x512x1024_2_1_1_2_0_0 none a w)
    (broadcastInDim S36x512x1024 ![0, 1, 2] bcast_S36x1x1024_S36x512x1024_0_1_2 (broadcastInDim S36x1x1024 ![0, 2] bcast_S36x1024_S36x1x1024_0_2 b))

/-- The earlier rows, this part's and the later rows, one below the other. -/
def stackR (yb : FVec F S149504x1024 .bf16) (y : FVec F S36x512x1024 .f32) : FVec F S149504x1024 .bf16 :=
  concatenate S149504x1024 0 [⟨S13824x1024, (extractStridedSlice S13824x1024 ![0, 0] yb slices_S149504x1024_S13824x1024_0_0)⟩,
    ⟨S18432x1024, (truncf .bf16 (shapeCast _ y shapeCasts_S36x512x1024_S18432x1024) bitsLt_bf16_f32)⟩,
    ⟨S117248x1024, (extractStridedSlice S117248x1024 ![32256, 0] yb slices_S149504x1024_S117248x1024_32256_0)⟩] concatenates_S13824x1024_S18432x1024_S117248x1024_S149504x1024_d0

def outR (e : IVec S36 32) (x : FVec F S18432x1024 .bf16) (w1 : FVec F S2x32x1024x2048 .f32) (b1 : FVec F S32x2048 .f32) (w2 : FVec F S2x32x1024x1024 .f32) (b2 : FVec F S32x1024 .f32) (yb : FVec F S149504x1024 .bf16) : FVec F S149504x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.LowExpertsReferenceIdeal.Value.res_main_v63 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.LowExpertsReferenceIdeal.Value.res_main_v63
  rfl

end stages

theorem posR_apply (e : IVec S36 32) (he : ∀ i, (e i).toNat < 32) (t : Fin 36) : posR e (ix2 t 0) = e (ix1 t) := by
  have h : posR e (ix2 t 0) = Scalar.select (IntOp.cmpi .slt (e (ix1 t)) 0#32) (IntOp.addi (e (ix1 t)) 32#32) (e (ix1 t)) := by
    pointwise [posR]
  rw [h]
  have h0 : ¬ IntOp.cmpi .slt (e (ix1 t)) 0#32 = 1#1 := by
    rw [IntOp.cmpi_slt]
    have := he (ix1 t)
    simp only [BitVec.slt_iff_toInt_lt, BitVec.toInt_eq_toNat_cond]
    simp; omega
  exact if_neg h0

theorem tokensR_apply (x : FVec Ideal S18432x1024 .bf16) (t : Fin 36) (r : Fin 512) (i : Fin 1024) :
    @Eq EReal (tokensR x (ix3 t r i)) (x (ix2 ⟨t.val * 512 + r.val, by omega⟩ i)) := by
  pointwise [tokensR]

theorem hiddenR_apply (x : FVec Ideal S36x512x1024 .f32) (w : FVec Ideal S36x1024x2048 .f32) (b : FVec Ideal S36x2048 .f32) (t : Fin 36) (r : Fin 512) (k : Fin 2048) :
    hiddenR x w b (ix3 t r k) = (∑ i : Fin 1024, x (ix3 t r i) * w (ix3 t i k)) + b (ix2 t k) := by
  pointwise [hiddenR]

theorem downR_apply (x : FVec Ideal S36x512x1024 .f32) (w : FVec Ideal S36x1024x1024 .f32) (b : FVec Ideal S36x1024 .f32) (t : Fin 36) (r : Fin 512) (k : Fin 1024) :
    downR x w b (ix3 t r k) = (∑ i : Fin 1024, x (ix3 t r i) * w (ix3 t i k)) + b (ix2 t k) := by
  pointwise [downR]

theorem actR_apply (h : FVec Ideal S36x512x2048 .f32) (t : Fin 36) (r : Fin 512) (y : Fin 1024) :
    actR h (ix3 t r y) = act (h (ix3 t r ⟨2 * y.val, by omega⟩)) (h (ix3 t r ⟨2 * y.val + 1, by omega⟩)) := by
  have h1 : (⟨2 * y.val + 1, by omega⟩ : Fin 2048) = ⟨1 + 2 * y.val, by omega⟩ := Fin.ext (Nat.add_comm _ _)
  rw [h1]
  unfold act
  pointwise [actR, gateR, linearR, all]
  rfl

/-- The gather of first-layer matrices reads the matrix its word names. -/
theorem first_take (x : FVec Ideal S32x1024x2048 .f32) (idx : IVec S36x1 32) (t : Fin 36) (i : Fin 1024) (k : Fin 2048) (e : Fin 32)
    (he : (idx (ix2 t 0)).toNat = e.val) :
    Host.gather gather_S32x1024x2048_S36x1_S36x1024x2048_12_0_n_n_0_1_110242048 x idx (ix3 t i k) = x (ix3 e i k) := by
  unfold Host.gather
  refine congrArg x (funext fun a => Fin.ext ?_)
  have hs : gather_S32x1024x2048_S36x1_S36x1024x2048_12_0_n_n_0_1_110242048.siIdx (ix3 t i k) ⟨0, by decide⟩ = ix2 t 0 := by
    funext b; fin_cases b <;> rfl
  fin_cases a
  · show min (idx (gather_S32x1024x2048_S36x1_S36x1024x2048_12_0_n_n_0_1_110242048.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

/-- The gather of second-layer matrices reads the matrix its word names. -/
theorem second_take (x : FVec Ideal S32x1024x1024 .f32) (idx : IVec S36x1 32) (t : Fin 36) (i : Fin 1024) (k : Fin 1024) (e : Fin 32)
    (he : (idx (ix2 t 0)).toNat = e.val) :
    Host.gather gather_S32x1024x1024_S36x1_S36x1024x1024_12_0_n_n_0_1_110241024 x idx (ix3 t i k) = x (ix3 e i k) := by
  unfold Host.gather
  refine congrArg x (funext fun a => Fin.ext ?_)
  have hs : gather_S32x1024x1024_S36x1_S36x1024x1024_12_0_n_n_0_1_110241024.siIdx (ix3 t i k) ⟨0, by decide⟩ = ix2 t 0 := by
    funext b; fin_cases b <;> rfl
  fin_cases a
  · show min (idx (gather_S32x1024x1024_S36x1_S36x1024x1024_12_0_n_n_0_1_110241024.siIdx (ix3 t i k) ⟨0, by decide⟩)).toInt.toNat 31 + 0 + 0 = e.val
    rw [hs, Cert.Moe.Ref.word_int _ e he]
    omega
  · show 0 + 0 + i.val = i.val
    omega
  · show 0 + 0 + k.val = k.val
    omega

theorem firstBias_take (x : FVec Ideal S32x2048 .f32) (idx : IVec S36x1 32) (t : Fin 36) (k : Fin 2048) (e : Fin 32)
    (he : (idx (ix2 t 0)).toNat = e.val) :
    Host.gather gather_S32x2048_S36x1_S36x2048_1_0_n_n_0_1_12048 x idx (ix2 t k) = x (ix2 e k) := by
  unfold Host.gather
  refine congrArg x (funext fun a => Fin.ext ?_)
  have hs : gather_S32x2048_S36x1_S36x2048_1_0_n_n_0_1_12048.siIdx (ix2 t k) ⟨0, by decide⟩ = ix2 t 0 := by
    funext b; fin_cases b <;> rfl
  fin_cases a
  · show min (idx (gather_S32x2048_S36x1_S36x2048_1_0_n_n_0_1_12048.siIdx (ix2 t k) ⟨0, by decide⟩)).toInt.toNat 31 + 0 + 0 = e.val
    rw [hs, Cert.Moe.Ref.word_int _ e he]
    omega
  · show 0 + 0 + k.val = k.val
    omega

theorem secondBias_take (x : FVec Ideal S32x1024 .f32) (idx : IVec S36x1 32) (t : Fin 36) (k : Fin 1024) (e : Fin 32)
    (he : (idx (ix2 t 0)).toNat = e.val) :
    Host.gather gather_S32x1024_S36x1_S36x1024_1_0_n_n_0_1_11024 x idx (ix2 t k) = x (ix2 e k) := by
  unfold Host.gather
  refine congrArg x (funext fun a => Fin.ext ?_)
  have hs : gather_S32x1024_S36x1_S36x1024_1_0_n_n_0_1_11024.siIdx (ix2 t k) ⟨0, by decide⟩ = ix2 t 0 := by
    funext b; fin_cases b <;> rfl
  fin_cases a
  · show min (idx (gather_S32x1024_S36x1_S36x1024_1_0_n_n_0_1_11024.siIdx (ix2 t k) ⟨0, by decide⟩)).toInt.toNat 31 + 0 + 0 = e.val
    rw [hs, Cert.Moe.Ref.word_int _ e he]
    omega
  · show 0 + 0 + k.val = k.val
    omega

section known
variable (e : IVec S36 32) (ef : Fin 36 → Fin 32) (he : ∀ t, (e (ix1 t)).toNat = (ef t).val)
include he

theorem pos_word (t : Fin 36) : (posR e (ix2 t 0)).toNat = (ef t).val := by
  rw [posR_apply e (fun i => ?_) t, he]
  have hi : i = ix1 (i 0) := by funext b; fin_cases b; rfl
  rw [hi]
  exact lt_of_eq_of_lt (he (i 0)) (ef (i 0)).isLt

theorem firstOf_apply (w : FVec Ideal S32x1024x2048 .f32) (t : Fin 36) (i : Fin 1024) (k : Fin 2048) : firstOf e w (ix3 t i k) = w (ix3 (ef t) i k) :=
  first_take _ _ t i k (ef t) (pos_word e ef he t)

theorem firstR_apply (w1 : FVec Ideal S2x32x1024x2048 .f32) (t : Fin 36) (i : Fin 1024) (k : Fin 2048) :
    firstR e w1 (ix3 t i k) = w1 (ix4 0 (ef t) i k) := by
  unfold firstR
  rw [firstOf_apply e ef he]
  pointwise

theorem secondOf_apply (w : FVec Ideal S32x1024x1024 .f32) (t : Fin 36) (i : Fin 1024) (k : Fin 1024) : secondOf e w (ix3 t i k) = w (ix3 (ef t) i k) :=
  second_take _ _ t i k (ef t) (pos_word e ef he t)

theorem secondR_apply (w2 : FVec Ideal S2x32x1024x1024 .f32) (t : Fin 36) (i : Fin 1024) (k : Fin 1024) :
    secondR e w2 (ix3 t i k) = w2 (ix4 0 (ef t) i k) := by
  unfold secondR
  rw [secondOf_apply e ef he]
  pointwise

theorem firstBiasR_apply (b : FVec Ideal S32x2048 .f32) (t : Fin 36) (k : Fin 2048) : firstBiasR e b (ix2 t k) = b (ix2 (ef t) k) :=
  firstBias_take b _ t k (ef t) (pos_word e ef he t)

theorem secondBiasR_apply (b : FVec Ideal S32x1024 .f32) (t : Fin 36) (k : Fin 1024) : secondBiasR e b (ix2 t k) = b (ix2 (ef t) k) :=
  secondBias_take b _ t k (ef t) (pos_word e ef he t)

/-- Both layers of one token of one block. -/
theorem layers_apply (x : FVec Ideal S18432x1024 .bf16) (w1 : FVec Ideal S2x32x1024x2048 .f32) (b1 : FVec Ideal S32x2048 .f32) (w2 : FVec Ideal S2x32x1024x1024 .f32) (b2 : FVec Ideal S32x1024 .f32)
    (t : Fin 36) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 0 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S149504x1024 .bf16) (y : FVec Ideal S36x512x1024 .f32) (n : Fin 149504) (j : Fin 1024) (hn : n.val < 13824) :
    stackR yb y (ix2 n j) = yb (ix2 n j) := by
  pointwise [stackR]
  exact dif_pos hn

theorem stackR_after (yb : FVec Ideal S149504x1024 .bf16) (y : FVec Ideal S36x512x1024 .f32) (n : Fin 149504) (j : Fin 1024) (hn : 32256 ≤ n.val) :
    stackR yb y (ix2 n j) = yb (ix2 n j) := by
  pointwise [stackR]
  have h1 : ¬ n.val < 13824 := by omega
  have h2 : ¬ n.val - 13824 < 18432 := by omega
  exact (dif_neg h1).trans ((dif_neg h2).trans (congrArg (fun k : Fin 149504 => yb (ix2 k j)) (Fin.ext (by
    show 32256 + (n.val - 13824 - 18432) = n.val
    omega))))

theorem stackR_block (yb : FVec Ideal S149504x1024 .bf16) (y : FVec Ideal S36x512x1024 .f32) (n : Fin 149504) (j : Fin 1024) (hn : 13824 ≤ n.val) (hu : n.val < 32256) :
    @Eq EReal (stackR yb y (ix2 n j)) (y (ix3 ⟨(n.val - 13824) / 512, by omega⟩ ⟨(n.val - 13824) % 512, by omega⟩ j)) := by
  pointwise [stackR]
  exact (dif_neg (Nat.not_lt.mpr hn)).trans (dif_pos (by omega))

/-- The reference's result is the closed form. -/
theorem outR_eq (e : IVec S36 32) (ef : Fin 36 → Fin 32) (he : ∀ t, (e (ix1 t)).toNat = (ef t).val) (x : FVec Ideal S18432x1024 .bf16)
    (w1 : FVec Ideal S2x32x1024x2048 .f32) (b1 : FVec Ideal S32x2048 .f32) (w2 : FVec Ideal S2x32x1024x1024 .f32) (b2 : FVec Ideal S32x1024 .f32) (yb : FVec Ideal S149504x1024 .bf16) :
    outR e x w1 b1 w2 b2 yb = outArr ef x w1 b1 w2 b2 yb := by
  funext z
  have hz : z = ix2 (z 0) (z 1) := by funext b; fin_cases b <;> rfl
  by_cases h : 13824 ≤ (z 0).val ∧ (z 0).val < 32256
  swap
  · rw [outArr_other _ _ _ _ _ _ _ _ h, hz]
    by_cases hb : (z 0).val < 13824
    · exact stackR_before yb _ (z 0) (z 1) hb
    · exact stackR_after yb _ (z 0) (z 1) (show 32256 ≤ (z 0).val by omega)
  · obtain ⟨hge, hu⟩ := h
    refine Eq.trans ?_ (outArr_block ef x w1 b1 w2 b2 yb ⟨((z 0).val - 13824) / 512, by omega⟩ ⟨((z 0).val - 13824) % 512, by omega⟩ (z 1) z (by show (z 0).val = 512 * (27 + ((z 0).val - 13824) / 512) + ((z 0).val - 13824) % 512; omega) rfl).symm
    refine (congrArg _ hz).trans ?_
    refine (stackR_block yb _ (z 0) (z 1) hge hu).trans ((layers_apply e ef he x w1 b1 w2 b2 _ _ (z 1)).trans ?_)
    exact congrArg (fun n : Fin 18432 => blockAt _ x w1 b1 w2 b2 n (z 1)) (Fin.ext (by
      show ((z 0).val - 13824) / 512 * 512 + ((z 0).val - 13824) % 512 = 512 * (((z 0).val - 13824) / 512) + ((z 0).val - 13824) % 512
      omega))

end Cert.Low.Ref

end
-- ==== Proof.LowValue.lean ====
/- The layer 0 early experts' call and its reference leave the same result. -/
module

public import proofs.«01_k».proof.Proof.LowRef

@[expose] public section

set_option maxRecDepth 16384

noncomputable section

namespace Cert.Low

open Idealize.ShloMosaic
open Idealize.ShloMosaic.TcCoe Idealize.SL.Sem

section run
open Cert.LowExpertsIdeal Cert.LowExpertsIdeal.Gen

variable (m : (ℓ : Loc nD τ sig) → Buf (Elt Ideal) ℓ) (hk : ∀ c : Dev nD, Known (m ((c : Thread nD τ).loc main_arg0)))

/-- The experts of the blocks. -/
def experts (t : Fin 36) : Fin 32 := exf (adm m hk) t

theorem experts_word (c : Dev nD) (t : Fin 36) : (m ((c : Thread nD τ).loc main_arg0) (ix1 t) : BitVec 32).toNat = (experts m hk t).val := by
  obtain rfl : c = 0 := Subsingleton.elim _ _
  exact congrArg (fun i : S36.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_LowExpertsIdeal_LowExpertsReferenceIdeal := by
  intro m g m' g' hpre hagree
  have hk := fun c => known_of _ (hpre c)
  refine ⟨_, run_value m hk g, (θ_run Cert.LowExpertsReferenceIdeal.defs _ _).mono (fun r h c => ⟨(h c).1.trans ?_, (h c).2⟩) (Cert.LowExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.Low

end
-- ==== Proof.LateLowSame.lean ====
/- The two printings of the layer 1 early experts' program, for the word values and for the extended reals, are one text. -/
module

public import proofs.«01_k».proof.Proof.Gen.LateLowExperts
public import proofs.«01_k».proof.Proof.Gen.LateLowExpertsIdeal

@[expose] public section

noncomputable section

namespace Cert.LateLow

open Idealize.ShloMosaic Idealize.SL.Sem

variable {F : FTy → Type} [FloatOps F]

set_option maxHeartbeats 4000000
theorem main_same : Cert.LateLowExperts.main (F := F) = Cert.LateLowExpertsIdeal.main (F := F) := rfl

theorem defs₀_same : Cert.LateLowExperts.defs₀ (F := F) = Cert.LateLowExpertsIdeal.defs₀ (F := F) := by
  unfold Cert.LateLowExperts.defs₀ Cert.LateLowExpertsIdeal.defs₀
  refine congrArg (Defs.onTc (nD := 1) (τ := Cert.LateLowExpertsIdeal.τ) (sig := Cert.LateLowExpertsIdeal.sig) (Val := Elt F) (Λ := Cert.LateLowExpertsIdeal.Λ₀)) (funext fun ℓ => funext fun x => ?_)
  match ℓ, x with
  | ⟨0, _⟩, (t, s) => rfl

theorem defs_same : Cert.LateLowExperts.defs (F := F) = Cert.LateLowExpertsIdeal.defs (F := F) := by
  unfold Cert.LateLowExperts.defs Cert.LateLowExpertsIdeal.defs
  rw [defs₀_same]; rfl

end Cert.LateLow

end
-- ==== Proof.LateLowBody.lean ====
module

public import proofs.«01_k».proof.Proof.MoeStep
public import proofs.«01_k».proof.Proof.Gen.LateLowExpertsIdeal.Launch
public import proofs.«01_k».proof.Proof.Gen.LateLowExpertsIdeal.Skeleton
public import Idealize.ShloMosaic.Lib.Tactic

@[expose] public section

set_option maxRecDepth 16384

noncomputable section

namespace Cert.LateLow

open Cert.LateLowExpertsIdeal Cert.LateLowExpertsIdeal.Gen
open Cert.Moe (refillsAt chunk gateStrip linStrip gateW linW downW outBlk upto_zero upto_writes upto_all ldChunk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The table word a load at offset `off` gives. -/
abbrev word (arg1 : Memref sig .tc .smem S36 .i32) (f1 : arg1.view.ty.Contents (Elt F)) (off : Fin 1 → ℕ) (inb : ∀ a, off a + S1.size a ≤ S36.size a) : BitVec 32 :=
  ((arg1.access (Rect.unit (s := S36) off S1.size inb)).read (Elt F) f1 (Shape.Idx.first (numel1_S1.symm ▸ Nat.one_pos)))

set_option maxHeartbeats 4000000 in
/-- The body at a point whose scratch buffers already hold the point's expert unless it refills them: the output block is
    the block of results, the scratch buffers hold the point's expert afterwards, the rest is as it was. -/
theorem kernelRun (c : Dev nD) (i : grid0.Coords) (arg1 : Memref sig .tc .smem S36 .i32) (harg1 : arg1.IsWhole) (arg2 : Memref sig .tc .vmem S512x1024 .bf16) (harg2 : arg2.IsWhole) (arg3 : Memref sig .tc .vmem S1x1x1024x2048 .f32) (harg3 : arg3.IsWhole) (arg4 : Memref sig .tc .vmem S256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .hbm S147456x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (q : PosShare TreeShare) (f1 : arg1.view.ty.Contents (Elt F))
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (i 0).val (word arg1 f1 (k0_off1 i) (k0_off1_inb i)) (word arg1 f1 (k0_off2 i) (k0_off2_inb i)) → g = gateW x3 x4 ∧ l = linW x3 x4 ∧ d = downW x7)
    (K : PUnit → sProp 𝕄) :
    iprop((arg1.view.loc (c : Thread nD τ) ↦[arg1.view.set]{q} f1) ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg10 fullShare d)
        ∗ owns (c : Thread nD τ) arg11 fullShare g ∗ owns (c : Thread nD τ) arg12 fullShare l ∗ owns (c : Thread nD τ) arg13 fullShare d
        ∗ (iprop((arg1.view.loc (c : Thread nD τ) ↦[arg1.view.set]{q} f1) ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg10 fullShare (outBlk x2 (gateW x3 x4) (linW x3 x4) (downW x7) x5 x6 x8)
            ∗ owns (c : Thread nD τ) arg11 fullShare (gateW x3 x4) ∗ owns (c : Thread nD τ) arg12 fullShare (linW x3 x4) ∗ owns (c : Thread nD τ) arg13 fullShare (downW x7)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%f11, %h11, H11⟩, ⟨%f12, %h12, H12⟩, ⟨%f13, %h13, H13⟩, Hk⟩
  sl_exec
  sl_step
  have hv : kernelRun.sl.v10 i arg1 f1 = 1#1 ↔ refillsAt (i 0).val (word arg1 f1 (k0_off1 i) (k0_off1_inb i)) (word arg1 f1 (k0_off2 i) (k0_off2_inb i)) := by
    delta kernelRun.sl.v10
    exact Iff.rfl
  have e4 : View.readAt (Elt F) arg4.view (Rect.unit (s := S256x256) ![0, 0] S256x256.size inb_S256x256_S256x256_0_0).toLoadRect f4 = x4 := by
    rw [View.readAt_full arg4.view f4, h4]
  have ek : ∀ (k : Fin 8) {off : Fin 4 → ℕ} (inb), off = ![0, 0, 0, 256 * k.val] →
      View.readAt (Elt F) arg3.view (Rect.unit (s := S1x1x1024x2048) off S1x1x1024x256.size inb).toLoadRect f3 = chunk x3 k :=
    fun k off inb h => h3 ▸ ldChunk arg3.view f3 inb k h
  have e12 : kernelRun.sl.v12 c i arg1 arg3 arg4 arg11 f1 f3 f4 f11 = gateW x3 x4 := by
    delta kernelRun.sl.v12
    rw [View.readAt_full arg11.view]
    by_cases hr : kernelRun.sl.v10 i arg1 f1 = 1#1
    · rw [dif_pos hr]
      refine upto_all (gateStrip x3 x4) _ ?_
      refine upto_writes _ _ _ _ 7 _ _ rfl (by rw [e4]; exact congrArg (k0_pay25 · x4) (ek 7 _ rfl)) ?_
      refine upto_writes _ _ _ _ 6 _ _ rfl (by delta kernelRun.sl.r_2; rw [e4]; exact congrArg (fun w => k0_pay22 (k0_pay20 w) x4) (ek 6 _ rfl)) ?_
      refine upto_writes _ _ _ _ 5 _ _ rfl (by rw [e4]; exact congrArg (k0_pay18 · x4) (ek 5 _ rfl)) ?_
      refine upto_writes _ _ _ _ 4 _ _ rfl (by rw [e4]; exact congrArg (k0_pay15 · x4) (ek 4 _ rfl)) ?_
      refine upto_writes _ _ _ _ 3 _ _ rfl (by rw [e4]; exact congrArg (k0_pay12 · x4) (ek 3 _ rfl)) ?_
      refine upto_writes _ _ _ _ 2 _ _ rfl (by rw [e4]; exact congrArg (k0_pay9 · x4) (ek 2 _ rfl)) ?_
      refine upto_writes _ _ _ _ 1 _ _ rfl (by rw [e4]; exact congrArg (k0_pay6 · x4) (ek 1 _ rfl)) ?_
      refine upto_writes _ _ _ _ 0 _ _ rfl (by rw [e4]; exact congrArg (k0_pay3 · x4) (ek 0 _ rfl)) ?_
      exact upto_zero _ _
    · rw [dif_neg hr, h11]
      exact (hc fun h => hr (hv.2 h)).1
  have e18 : kernelRun.sl.v18 c i arg1 arg3 arg4 arg12 f1 f3 f4 f12 = linW x3 x4 := by
    delta kernelRun.sl.v18
    rw [View.readAt_full arg12.view]
    by_cases hr : kernelRun.sl.v10 i arg1 f1 = 1#1
    · rw [dif_pos hr]
      refine upto_all (linStrip x3 x4) _ ?_
      refine upto_writes _ _ _ _ 7 _ _ rfl (by rw [e4]; exact congrArg (k0_pay26 · x4) (ek 7 _ rfl)) ?_
      refine upto_writes _ _ _ _ 6 _ _ rfl (by delta kernelRun.sl.r_2; rw [e4]; exact congrArg (fun w => k0_pay23 (k0_pay20 w) x4) (ek 6 _ rfl)) ?_
      refine upto_writes _ _ _ _ 5 _ _ rfl (by rw [e4]; exact congrArg (k0_pay19 · x4) (ek 5 _ rfl)) ?_
      refine upto_writes _ _ _ _ 4 _ _ rfl (by rw [e4]; exact congrArg (k0_pay16 · x4) (ek 4 _ rfl)) ?_
      refine upto_writes _ _ _ _ 3 _ _ rfl (by rw [e4]; exact congrArg (k0_pay13 · x4) (ek 3 _ rfl)) ?_
      refine upto_writes _ _ _ _ 2 _ _ rfl (by rw [e4]; exact congrArg (k0_pay10 · x4) (ek 2 _ rfl)) ?_
      refine upto_writes _ _ _ _ 1 _ _ rfl (by rw [e4]; exact congrArg (k0_pay7 · x4) (ek 1 _ rfl)) ?_
      refine upto_writes _ _ _ _ 0 _ _ rfl (by rw [e4]; exact congrArg (k0_pay4 · x4) (ek 0 _ rfl)) ?_
      exact upto_zero _ _
    · rw [dif_neg hr, h12]
      exact (hc fun h => hr (hv.2 h)).2.1
  have e38 : kernelRun.sl.v38 c i arg1 arg7 arg13 f1 f7 f13 = downW x7 := by
    delta kernelRun.sl.v38
    refine (View.readAt_full arg13.view _ inb_S1024x1024_S1024x1024_0_0).trans ?_
    by_cases hr : kernelRun.sl.v10 i arg1 f1 = 1#1
    · rw [dif_pos hr, View.read_writes_full]
      delta kernelRun.sl.r_3
      rw [View.readAt_full arg7.view f7, h7]
      rfl
    · rw [dif_neg hr, h13]
      exact (hc fun h => hr (hv.2 h)).2.2
  iapply Hk
  isplitl [H1]; · iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H10]
  · iexists _; isplitr; swap; · iexact H10
    ipureintro
    refine (View.read_writes_full _ _ _ _ _).trans ?_
    rw [e38]
    delta kernelRun.sl.r_4 kernelRun.sl.r_5
    rw [e12, e18, View.readAt_full arg2.view f2, h2, View.readAt_full arg6.view f6, h6, View.readAt_full arg5.view f5, h5]
    refine congrArg (fun z => outBlk x2 (gateW x3 x4) (linW x3 x4) (downW x7) x5 x6 z) ?_
    exact (View.readAt_full arg8.view f8 inb_S1x1x1024_S1x1x1024_0_0_0).trans h8
  isplitl [H11]
  · iexists _; isplitr; swap; · iexact H11
    ipureintro
    exact (View.readAt_full arg11.view _ inb_S1024x1024_S1024x1024_0_0).symm.trans e12
  isplitl [H12]
  · iexists _; isplitr; swap; · iexact H12
    ipureintro
    exact (View.readAt_full arg12.view _ inb_S1024x1024_S1024x1024_0_0).symm.trans e18
  · iexists _; isplitr; swap; · iexact H13
    ipureintro
    exact (View.readAt_full arg13.view _ inb_S1024x1024_S1024x1024_0_0).symm.trans e38

end Cert.LateLow

end
-- ==== Proof.LateLowLaunch.lean ====
/- The layer 1 early experts' pipeline: its tables, its blocks by expert, and its proof data. -/
module

public import proofs.«01_k».proof.Proof.LateLowBody
public import Idealize.ShloMosaic.Lib.Pipeline.ValueKit
public import Idealize.ShloMosaic.Lib.Tactic

@[expose] public section

set_option maxRecDepth 16384

noncomputable section

namespace Cert.LateLow

open Cert.LateLowExpertsIdeal Cert.LateLowExpertsIdeal.Gen
open Cert.Moe (refillsAt refillsAt_false gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations ahead of the region, and the buffers' contents where it begins. -/
abbrev hostOps : List (List (HloOp τ sig (Elt F))) := [hostOps0, hostOps0_1, hostOps0_2]
abbrev V (c : Dev nD) (b : Ref sig .tc) : Buf (Elt F) ((c : Thread nD τ).loc b) := StableHlo.after (hostOps (F := F)).flatten (fun b => m (c, b)) b

variable (a : (pcfg0 (F := F)).Adm)

theorem offs : ∀ t : Fin grid0.N, k0_off1 (grid0.coords t) = ![t.val] ∧ k0_off2 (grid0.coords t) = ![t.val - 1] ∧ (grid0.coords t 0).val = t.val := by decide +kernel

theorem t_lt (t : Fin grid0.N) : t.val < 36 := lt_of_lt_of_eq t.isLt N_0

/-- The table's word at a point: the expert of the point's rows. -/
def ex (t : Fin grid0.N) : BitVec 32 := a.1 0 (fun k => ⟨t.val, by fin_cases k; exact t_lt t⟩)

theorem word_eq (t : Fin grid0.N) {off : Fin 1 → ℕ} (ho : off = ![t.val]) (inb : ∀ k, off k + S1.size k ≤ S36.size k) (h : 0 < (Rect.unit (s := S36) off S1.size inb).shape.numel) :
    (a.1 0 ((Rect.unit (s := S36) off S1.size inb).emb (Shape.Idx.first h)) : BitVec 32) = ex a t := by
  subst ho
  unfold ex
  refine congrArg (a.1 0) (funext fun k => Fin.ext ?_)
  fin_cases k
  show t.val + 1 * ((Shape.Idx.first h) (0 : Fin 1)).val = t.val
  have h0 : ((Shape.Idx.first h) (0 : Fin 1)).val < 1 := ((Shape.Idx.first h) (0 : Fin 1)).isLt
  omega

theorem idx1 (t : Fin grid0.N) : cc0_transform_1 k0_off1_inb numel1_S1 a.1 (grid0.coords t) = ![1, (ex a t).toNat, 0, 0] := by
  have h : (a.1.at 0 (Rect.unit (s := S36) (k0_off1 (grid0.coords t)) S1.size (k0_off1_inb (grid0.coords t))) numel1_S1 : BitVec 32) = ex a t := word_eq a t (offs t).1 _ _
  rw [← h]; rfl
theorem idx5 (t : Fin grid0.N) : cc0_transform_5 k0_off1_inb numel1_S1 a.1 (grid0.coords t) = ![1, (ex a t).toNat, 0, 0] := idx1 a t
theorem idx3 (t : Fin grid0.N) : cc0_transform_3 k0_off1_inb numel1_S1 a.1 (grid0.coords t) = ![(ex a t).toNat, 0, 0] := by
  have h : (a.1.at 0 (Rect.unit (s := S36) (k0_off1 (grid0.coords t)) S1.size (k0_off1_inb (grid0.coords t))) numel1_S1 : BitVec 32) = ex a t := word_eq a t (offs t).1 _ _
  rw [← h]; rfl
theorem idx4 (t : Fin grid0.N) : cc0_transform_4 k0_off1_inb numel1_S1 a.1 (grid0.coords t) = ![(ex a t).toNat, 0, 0] := idx3 a t
theorem idx6 (t : Fin grid0.N) : cc0_transform_6 k0_off1_inb numel1_S1 a.1 (grid0.coords t) = ![(ex a t).toNat, 0, 0] := idx3 a t
theorem idx0 : ∀ t : Fin grid0.N, cc0_transform_0 (grid0.coords t) = ![t.val, 0] := by decide +kernel
theorem idx2 : ∀ t : Fin grid0.N, cc0_transform_2 (grid0.coords t) = ![0, 0] := by decide +kernel
theorem idx7 : ∀ t : Fin grid0.N, cc0_transform_8 (grid0.coords t) = ![27 + t.val, 0] := by decide +kernel

/-- Every word of an admissible table names one of the 32 experts. -/
theorem ex_lt (t : Fin grid0.N) : (ex a t).toNat < 32 := by
  obtain ⟨h, -⟩ := a.2.1 (grid0.coords t)
  have h1 := h 1
  rw [idx1] at h1
  have : ((ex a t).toNat + 1) * 1 ≤ 32 := h1
  omega

def exf (t : Fin grid0.N) : Fin 32 := ⟨(ex a t).toNat, ex_lt a t⟩

/-- Window `w`'s block at point `t`, of the arrays the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- One expert's slab of each operand. -/
def slab1 (w : Vec F S2x32x1024x2048 .f32) (e : Fin 32) : Vec F S1x1x1024x2048 .f32 := fun y => w (ValueIdx.ix4 1 e (y 2) (y 3))
def slab2 (w : Vec F S2x32x1024x1024 .f32) (e : Fin 32) : Vec F S1x1x1024x1024 .f32 := fun y => w (ValueIdx.ix4 1 e (y 2) (y 3))
def slabB (w : Vec F S32x1x1024 .f32) (e : Fin 32) : Vec F S1x1x1024 .f32 := fun y => w (ValueIdx.ix3 e (y 1) (y 2))
def rows (x : Vec F S18432x1024 .bf16) (t : Fin grid0.N) : Vec F S512x1024 .bf16 := fun y =>
  x (ValueIdx.ix2 ⟨512 * t.val + (y 0).val, by have := t_lt t; have : (y 0).val < 512 := (y 0).isLt; omega⟩ (y 1))

theorem win0 (t : Fin (cfg0 a).N) : (pcfg0.win a 0).index t = ![t.val, 0] := idx0 t
theorem win1 (t : Fin (cfg0 a).N) : (pcfg0.win a 1).index t = ![1, (ex a t).toNat, 0, 0] := idx1 a t
theorem win2 (t : Fin (cfg0 a).N) : (pcfg0.win a 2).index t = ![0, 0] := idx2 t
theorem win3 (t : Fin (cfg0 a).N) : (pcfg0.win a 3).index t = ![(ex a t).toNat, 0, 0] := idx3 a t
theorem win4 (t : Fin (cfg0 a).N) : (pcfg0.win a 4).index t = ![(ex a t).toNat, 0, 0] := idx4 a t
theorem win5 (t : Fin (cfg0 a).N) : (pcfg0.win a 5).index t = ![1, (ex a t).toNat, 0, 0] := idx5 a t
theorem win6 (t : Fin (cfg0 a).N) : (pcfg0.win a 6).index t = ![(ex a t).toNat, 0, 0] := idx6 a t
theorem win7 (t : Fin (cfg0 a).N) : (pcfg0.win a 7).index t = ![27 + t.val, 0] := idx7 t

theorem blk0 (c : Dev nD) (t : Fin (cfg0 a).N) : iblk m a c 0 t = rows (V m c main_arg1) t := by
  funext y
  unfold rows
  blk_ext [iblk, win0 a t]
  all_goals (try (rw [win0]; dsimp [ValueIdx.ix2, ValueIdx.ix3, ValueIdx.ix4]; omega))
theorem blk1 (c : Dev nD) (t : Fin (cfg0 a).N) : iblk m a c 1 t = slab1 (V m c main_arg2) (exf a t) := by
  funext y
  unfold slab1 exf
  blk_ext [iblk, win1 a t]
  all_goals (try (rw [win1]; dsimp [ValueIdx.ix2, ValueIdx.ix3, ValueIdx.ix4]; omega))
theorem blk2 (c : Dev nD) (t : Fin (cfg0 a).N) : iblk m a c 2 t = V m c main_v23 := by
  funext y
  blk_ext [iblk, win2 a t]
  all_goals (try (rw [win2]; dsimp [ValueIdx.ix2, ValueIdx.ix3, ValueIdx.ix4]; omega))
theorem blk3 (c : Dev nD) (t : Fin (cfg0 a).N) : iblk m a c 3 t = slabB (V m c main_v1) (exf a t) := by
  funext y
  unfold slabB exf
  blk_ext [iblk, win3 a t]
  all_goals (try (rw [win3]; dsimp [ValueIdx.ix2, ValueIdx.ix3, ValueIdx.ix4]; omega))
theorem blk4 (c : Dev nD) (t : Fin (cfg0 a).N) : iblk m a c 4 t = slabB (V m c main_v3) (exf a t) := by
  funext y
  unfold slabB exf
  blk_ext [iblk, win4 a t]
  all_goals (try (rw [win4]; dsimp [ValueIdx.ix2, ValueIdx.ix3, ValueIdx.ix4]; omega))
theorem blk5 (c : Dev nD) (t : Fin (cfg0 a).N) : iblk m a c 5 t = slab2 (V m c main_arg4) (exf a t) := by
  funext y
  unfold slab2 exf
  blk_ext [iblk, win5 a t]
  all_goals (try (rw [win5]; dsimp [ValueIdx.ix2, ValueIdx.ix3, ValueIdx.ix4]; omega))
theorem blk6 (c : Dev nD) (t : Fin (cfg0 a).N) : iblk m a c 6 t = slabB (V m c main_v4) (exf a t) := by
  funext y
  unfold slabB exf
  blk_ext [iblk, win6 a t]
  all_goals (try (rw [win6]; dsimp [ValueIdx.ix2, ValueIdx.ix3, ValueIdx.ix4]; omega))

/-- What the scratch buffers hold before point `t`: after the first point, the three weights of the point before. -/
def Track (c : Dev nD) (n : ℕ) (g l d : Vec F S1024x1024 .bf16) : Prop :=
  ∀ s : Fin (cfg0 a).N, s.val + 1 = n → g = gateW (iblk m a c 1 s) (iblk m a c 2 s) ∧ l = linW (iblk m a c 1 s) (iblk m a c 2 s) ∧ d = downW (iblk m a c 5 s)

def Phi (c : Dev nD) (n : ℕ) : sProp 𝕄 :=
  iprop((∃ g, ∃ l, ∃ d, ⌜Track m a c n g l d⌝ ∗ owns (c : Thread nD τ) (Memref.whole cc0_scratch0) fullShare g
      ∗ owns (c : Thread nD τ) (Memref.whole cc0_scratch1) fullShare l ∗ owns (c : Thread nD τ) (Memref.whole cc0_scratch2) fullShare d)
    ∗ (∃ r, prngReg c r) ∗ ((Memref.whole main_arg0).view.loc (c : Thread nD τ) ↦[(Memref.whole main_arg0).view.set]{fullShare.right} a.1 0))

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlk (iblk m a c 0 t) (gateW (iblk m a c 1 t) (iblk m a c 2 t)) (linW (iblk m a c 1 t) (iblk m a c 2 t)) (downW (iblk m a c 5 t)) (iblk m a c 3 t) (iblk m a c 4 t) (iblk m a c 6 t)
  Φ t := Phi m a c t.val
  q _ := fullShare
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after 0 t = iblk m a c 0 t := by unfold dats; rfl
theorem after0_1 (c : Dev nD) (t : Fin (cfg0 a).N) : (dats m a 0 c).after 1 t = iblk m a c 1 t := by unfold dats; rfl
theorem after0_2 (c : Dev nD) (t : Fin (cfg0 a).N) : (dats m a 0 c).after 2 t = iblk m a c 2 t := by unfold dats; rfl
theorem after0_3 (c : Dev nD) (t : Fin (cfg0 a).N) : (dats m a 0 c).after 3 t = iblk m a c 3 t := by unfold dats; rfl
theorem after0_4 (c : Dev nD) (t : Fin (cfg0 a).N) : (dats m a 0 c).after 4 t = iblk m a c 4 t := by unfold dats; rfl
theorem after0_5 (c : Dev nD) (t : Fin (cfg0 a).N) : (dats m a 0 c).after 5 t = iblk m a c 5 t := by unfold dats; rfl
theorem after0_6 (c : Dev nD) (t : Fin (cfg0 a).N) : (dats m a 0 c).after 6 t = iblk m a c 6 t := by unfold dats; rfl
theorem after0_7 (c : Dev nD) (t : Fin (cfg0 a).N) : (dats m a 0 c).after 7 t = outBlk (iblk m a c 0 t) (gateW (iblk m a c 1 t) (iblk m a c 2 t)) (linW (iblk m a c 1 t) (iblk m a c 2 t)) (downW (iblk m a c 5 t)) (iblk m a c 3 t) (iblk m a c 4 t) (iblk m a c 6 t) := by unfold dats; rfl
theorem before0_0 (c : Dev nD) (t : Fin (cfg0 a).N) (d) : (dats m a 0 c).before 0 t d = iblk m a c 0 t :=
  (dats m a 0 c).before_in_eq_fetched 0 rfl (fun _ => rfl) (fun _ _ _ => rfl) (after0_0 m a c) t d
theorem before0_1 (c : Dev nD) (t : Fin (cfg0 a).N) (d) : (dats m a 0 c).before 1 t d = iblk m a c 1 t :=
  (dats m a 0 c).before_in_eq_fetched 1 rfl (fun _ => rfl) (fun _ _ _ => rfl) (after0_1 m a c) t d
theorem before0_2 (c : Dev nD) (t : Fin (cfg0 a).N) (d) : (dats m a 0 c).before 2 t d = iblk m a c 2 t :=
  (dats m a 0 c).before_in_eq_fetched 2 rfl (fun _ => rfl) (fun _ _ _ => rfl) (after0_2 m a c) t d
theorem before0_3 (c : Dev nD) (t : Fin (cfg0 a).N) (d) : (dats m a 0 c).before 3 t d = iblk m a c 3 t :=
  (dats m a 0 c).before_in_eq_fetched 3 rfl (fun _ => rfl) (fun _ _ _ => rfl) (after0_3 m a c) t d
theorem before0_4 (c : Dev nD) (t : Fin (cfg0 a).N) (d) : (dats m a 0 c).before 4 t d = iblk m a c 4 t :=
  (dats m a 0 c).before_in_eq_fetched 4 rfl (fun _ => rfl) (fun _ _ _ => rfl) (after0_4 m a c) t d
theorem before0_5 (c : Dev nD) (t : Fin (cfg0 a).N) (d) : (dats m a 0 c).before 5 t d = iblk m a c 5 t :=
  (dats m a 0 c).before_in_eq_fetched 5 rfl (fun _ => rfl) (fun _ _ _ => rfl) (after0_5 m a c) t d
theorem before0_6 (c : Dev nD) (t : Fin (cfg0 a).N) (d) : (dats m a 0 c).before 6 t d = iblk m a c 6 t :=
  (dats m a 0 c).before_in_eq_fetched 6 rfl (fun _ => rfl) (fun _ _ _ => rfl) (after0_6 m a c) t d

def bodyPre (c : Dev nD) (t : Fin (cfg0 a).N) : sProp 𝕄 :=
  iprop((dats m a 0 c).Φ t.castSucc ∗ (dats m a 0 c).owesAt () t.castSucc
    ∗ (∃ d, owns (c : Thread nD τ) (spec0_0.stage ((cfg0 a).slots t 0)) fullShare ((dats m a 0 c).before 0 t d))
    ∗ (∃ d, owns (c : Thread nD τ) (spec0_1.stage ((cfg0 a).slots t 1)) fullShare ((dats m a 0 c).before 1 t d))
    ∗ (∃ d, owns (c : Thread nD τ) (spec0_2.stage ((cfg0 a).slots t 2)) fullShare ((dats m a 0 c).before 2 t d))
    ∗ (∃ d, owns (c : Thread nD τ) (spec0_3.stage ((cfg0 a).slots t 3)) fullShare ((dats m a 0 c).before 3 t d))
    ∗ (∃ d, owns (c : Thread nD τ) (spec0_4.stage ((cfg0 a).slots t 4)) fullShare ((dats m a 0 c).before 4 t d))
    ∗ (∃ d, owns (c : Thread nD τ) (spec0_5.stage ((cfg0 a).slots t 5)) fullShare ((dats m a 0 c).before 5 t d))
    ∗ (∃ d, owns (c : Thread nD τ) (spec0_6.stage ((cfg0 a).slots t 6)) fullShare ((dats m a 0 c).before 6 t d))
    ∗ (∃ d, owns (c : Thread nD τ) (spec0_7.stage ((cfg0 a).slots t 7)) fullShare ((dats m a 0 c).before 7 t d)))
def bodyPost (c : Dev nD) (t : Fin (cfg0 a).N) : sProp 𝕄 :=
  iprop((dats m a 0 c).Φ t.succ ∗ (dats m a 0 c).owesAt () t.succ
    ∗ owns (c : Thread nD τ) (spec0_0.stage ((cfg0 a).slots t 0)) fullShare ((dats m a 0 c).after 0 t)
    ∗ owns (c : Thread nD τ) (spec0_1.stage ((cfg0 a).slots t 1)) fullShare ((dats m a 0 c).after 1 t)
    ∗ owns (c : Thread nD τ) (spec0_2.stage ((cfg0 a).slots t 2)) fullShare ((dats m a 0 c).after 2 t)
    ∗ owns (c : Thread nD τ) (spec0_3.stage ((cfg0 a).slots t 3)) fullShare ((dats m a 0 c).after 3 t)
    ∗ owns (c : Thread nD τ) (spec0_4.stage ((cfg0 a).slots t 4)) fullShare ((dats m a 0 c).after 4 t)
    ∗ owns (c : Thread nD τ) (spec0_5.stage ((cfg0 a).slots t 5)) fullShare ((dats m a 0 c).after 5 t)
    ∗ owns (c : Thread nD τ) (spec0_6.stage ((cfg0 a).slots t 6)) fullShare ((dats m a 0 c).after 6 t)
    ∗ owns (c : Thread nD τ) (spec0_7.stage ((cfg0 a).slots t 7)) fullShare ((dats m a 0 c).after 7 t))

def bodyAt0 (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt0 a t := by
  unfold defs₀; rw [Defs.onTc_tc]; rfl

/-- Where the body keeps the scratch weights, they are those of its own blocks. -/
theorem kept (c : Dev nD) (t : Fin (cfg0 a).N) (g l d : Vec F S1024x1024 .bf16) (hT : Track m a c t.val g l d)
    (h : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t)))) :
    g = gateW (iblk m a c 1 t) (iblk m a c 2 t) ∧ l = linW (iblk m a c 1 t) (iblk m a c 2 t) ∧ d = downW (iblk m a c 5 t) := by
  obtain ⟨o1, o2, oc⟩ := offs t
  obtain ⟨h0, he⟩ := refillsAt_false _ _ _ h
  rw [oc] at h0
  have hs : t.val - 1 < grid0.N := by have := t.isLt; have e : (cfg0 a).N = grid0.N := rfl; omega
  have e1 : word (Memref.whole main_arg0) (a.1 0) (k0_off1 (grid0.coords t)) (k0_off1_inb (grid0.coords t)) = ex a t := word_eq a t o1 _ _
  have e2 : word (Memref.whole main_arg0) (a.1 0) (k0_off2 (grid0.coords t)) (k0_off2_inb (grid0.coords t)) = ex a ⟨t.val - 1, hs⟩ := word_eq a ⟨t.val - 1, hs⟩ o2 _ _
  have en : ex a ⟨t.val - 1, hs⟩ = ex a t := by rw [← e2, ← he, e1]
  have ef : exf a ⟨t.val - 1, hs⟩ = exf a t := Fin.ext (by show (ex a _).toNat = (ex a t).toNat; rw [en])
  have b1 : iblk m a c 1 ⟨t.val - 1, hs⟩ = iblk m a c 1 t := (blk1 m a c _).trans ((congrArg (slab1 _) ef).trans (blk1 m a c t).symm)
  have b2 : iblk m a c 2 ⟨t.val - 1, hs⟩ = iblk m a c 2 t := (blk2 m a c _).trans (blk2 m a c t).symm
  have b5 : iblk m a c 5 ⟨t.val - 1, hs⟩ = iblk m a c 5 t := (blk5 m a c _).trans ((congrArg (slab2 _) ef).trans (blk5 m a c t).symm)
  obtain ⟨r1, r2, r3⟩ := hT ⟨t.val - 1, hs⟩ (by show t.val - 1 + 1 = t.val; omega)
  exact ⟨r1.trans (congrArg₂ gateW b1 b2), r2.trans (congrArg₂ linW b1 b2), r3.trans (congrArg downW b5)⟩

end Cert.LateLow

end
-- ==== Proof.LateLowRun.lean ====
/- The layer 1 early experts' body at every point, and the run of the whole call. -/
module

public import proofs.«01_k».proof.Proof.LateLowLaunch

@[expose] public section

set_option maxRecDepth 16384

noncomputable section

namespace Cert.LateLow

open Cert.LateLowExpertsIdeal Cert.LateLowExpertsIdeal.Gen
open Cert.Moe (refillsAt gateW linW downW outBlk)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- The body at a point, its blocks and its scratch at any contents. -/
theorem body_point (c : Dev nD) (t : Fin (cfg0 a).N)
    (x2 : Vec F S512x1024 .bf16) (x3 : Vec F S1x1x1024x2048 .f32) (x4 : Vec F S256x256 .bf16) (x5 x6 x8 : Vec F S1x1x1024 .f32) (x7 : Vec F S1x1x1024x1024 .f32)
    (g l d : Vec F S1024x1024 .bf16)
    (hc : ¬ refillsAt (grid0.coords t 0).val (word (Memref.whole main_arg0) (a.1 0) (k0_off1 (grid0.coords t)) (k0_off1_inb (grid0.coords t))) (word (Memref.whole main_arg0) (a.1 0) (k0_off2 (grid0.coords t)) (k0_off2_inb (grid0.coords t))) → g = gateW x3 x4 ∧ l = linW x3 x4 ∧ d = downW x7)
    (K : PUnit → sProp 𝕄) :
    iprop(((Memref.whole main_arg0).view.loc (c : Thread nD τ) ↦[(Memref.whole main_arg0).view.set]{fullShare.right} a.1 0)
        ∗ owns (c : Thread nD τ) (spec0_0.stage ((cfg0 a).slots t 0)) fullShare x2
        ∗ owns (c : Thread nD τ) (spec0_1.stage ((cfg0 a).slots t 1)) fullShare x3
        ∗ owns (c : Thread nD τ) (spec0_2.stage ((cfg0 a).slots t 2)) fullShare x4
        ∗ owns (c : Thread nD τ) (spec0_3.stage ((cfg0 a).slots t 3)) fullShare x5
        ∗ owns (c : Thread nD τ) (spec0_4.stage ((cfg0 a).slots t 4)) fullShare x6
        ∗ owns (c : Thread nD τ) (spec0_5.stage ((cfg0 a).slots t 5)) fullShare x7
        ∗ owns (c : Thread nD τ) (spec0_6.stage ((cfg0 a).slots t 6)) fullShare x8
        ∗ (∃ d, owns (c : Thread nD τ) (spec0_7.stage ((cfg0 a).slots t 7)) fullShare d)
        ∗ owns (c : Thread nD τ) (Memref.whole cc0_scratch0) fullShare g
        ∗ owns (c : Thread nD τ) (Memref.whole cc0_scratch1) fullShare l
        ∗ owns (c : Thread nD τ) (Memref.whole cc0_scratch2) fullShare d
        ∗ (iprop(((Memref.whole main_arg0).view.loc (c : Thread nD τ) ↦[(Memref.whole main_arg0).view.set]{fullShare.right} a.1 0)
            ∗ owns (c : Thread nD τ) (spec0_0.stage ((cfg0 a).slots t 0)) fullShare x2
            ∗ owns (c : Thread nD τ) (spec0_1.stage ((cfg0 a).slots t 1)) fullShare x3
            ∗ owns (c : Thread nD τ) (spec0_2.stage ((cfg0 a).slots t 2)) fullShare x4
            ∗ owns (c : Thread nD τ) (spec0_3.stage ((cfg0 a).slots t 3)) fullShare x5
            ∗ owns (c : Thread nD τ) (spec0_4.stage ((cfg0 a).slots t 4)) fullShare x6
            ∗ owns (c : Thread nD τ) (spec0_5.stage ((cfg0 a).slots t 5)) fullShare x7
            ∗ owns (c : Thread nD τ) (spec0_6.stage ((cfg0 a).slots t 6)) fullShare x8
            ∗ owns (c : Thread nD τ) (spec0_7.stage ((cfg0 a).slots t 7)) fullShare (outBlk x2 (gateW x3 x4) (linW x3 x4) (downW x7) x5 x6 x8)
            ∗ owns (c : Thread nD τ) (Memref.whole cc0_scratch0) fullShare (gateW x3 x4)
            ∗ owns (c : Thread nD τ) (Memref.whole cc0_scratch1) fullShare (linW x3 x4)
            ∗ owns (c : Thread nD τ) (Memref.whole cc0_scratch2) fullShare (downW x7)) -∗ K ⟨⟩))
      ⊢ wp frame (wpE (defs₀ (F := F)) Variants.none c none) Set.univ (bodyAt0 a t) K :=
  kernelRun c (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole main_arg6) (Memref.isWhole_whole _) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) fullShare.right (a.1 0) x2 x3 x4 x5 x6 x8 x7 g l d hc K

/-- The body at a point. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost
  rw [show (dats m a 0 c).Φ t.succ = Phi m a c (t.val + 1) from rfl,
    show (dats m a 0 c).owesAt () t.succ = (dats m a 0 c).owesAt () t.castSucc from rfl,
    show (dats m a 0 c).Φ t.castSucc = Phi m a c t.val from rfl, after0_0, after0_1, after0_2, after0_3, after0_4, after0_5, after0_6, after0_7]
  simp only [before0_0, before0_1, before0_2, before0_3, before0_4, before0_5, before0_6]
  unfold Phi
  iintro ⟨⟨⟨%g, %l, %d, %hT, S0, S1, S2⟩, Hg, HT⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_point a c t (iblk m a c 0 t) (iblk m a c 1 t) (iblk m a c 2 t) (iblk m a c 3 t) (iblk m a c 4 t) (iblk m a c 6 t) (iblk m a c 5 t) g l d (kept m a c t g l d hT) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  iintro ⟨HT, H0, H1, H2, H3, H4, H5, H6, H7, S0, S1, S2⟩
  isplitl [S0 S1 S2 Hg HT]
  · isplitl [S0 S1 S2]
    · iexists _, _, _
      isplitr
      · ipureintro
        exact fun s hs => by
          have : s = t := Fin.ext (by omega)
          subst this
          exact ⟨rfl, rfl, rfl⟩
      isplitl [S0]; · iexact S0
      isplitl [S1]; · iexact S1
      iexact S2
    isplitl [Hg]; · iexact Hg
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem table_whole (c : Dev nD) : (Pipeline.ΦT pre0 a.1 c : sProp 𝕄) = ((Memref.whole main_arg0).view.loc (c : Thread nD τ) ↦[(Memref.whole main_arg0).view.set]{fullShare.right} a.1 0) := by
  unfold Pipeline.ΦT Pipeline.prefHeld
  rw [View.set_whole]
  exact (bigSep_univ_eq_bigSepL [(0 : Fin 1)] (by decide) (by decide) _).trans (by rfl)

theorem hin (c : Dev nD) : iprop(Pipeline.ΦA spec0 c ∗ Pipeline.ΦT pre0 a.1 c) ⊢ (dats m a 0 c).Φ 0 := by
  rw [show (dats m a 0 c).Φ 0 = Phi m a c 0 from rfl, table_whole]
  unfold Phi Pipeline.ΦA
  rw [scopedRest0_eq]
  simp only [owns_whole]
  iintro ⟨⟨⟨⟨%d0, S0⟩, ⟨%d1, S1⟩, ⟨%d2, S2⟩⟩, Hg⟩, HT⟩
  isplitl [S0 S1 S2]
  · iexists d0, d1, d2
    isplitr
    · ipureintro
      exact fun s hs => absurd hs (by omega)
    isplitl [S0]; · iexact S0
    isplitl [S1]; · iexact S1
    iexact S2
  isplitl [Hg]; · iexact Hg
  iexact HT

theorem hout (c : Dev nD) : (dats m a 0 c).Φ (Fin.last (cfg0 a).N) ⊢ Pipeline.ΦA spec0 c := by
  rw [show (dats m a 0 c).Φ (Fin.last (cfg0 a).N) = Phi m a c (cfg0 a).N from rfl]
  unfold Phi Pipeline.ΦA
  rw [scopedRest0_eq]
  simp only [owns_whole]
  iintro ⟨⟨%g, %l, %d, -, S0, S1, S2⟩, Hg, -⟩
  isplitl [S0 S1 S2]
  · isplitl [S0]; · iexists _; iexact S0
    isplitl [S1]; · iexists _; iexact S1
    iexists _; iexact S2
  iexact Hg

theorem fresh0 : (hostOps0 : List (HloOp τ sig (Elt F))).Forall fun op => op.fresh = ∅ := by
  unfold hostOps0; simp only [List.Forall]; repeat' constructor
theorem fresh1 : (hostOps0_1 : List (HloOp τ sig (Elt F))).Forall fun op => op.fresh = ∅ := by
  unfold hostOps0_1; simp only [List.Forall]; repeat' constructor
theorem fresh2 : (hostOps0_2 : List (HloOp τ sig (Elt F))).Forall fun op => op.fresh = ∅ := by
  unfold hostOps0_2; simp only [List.Forall]; repeat' constructor

set_option backward.isDefEq.respectTransparency.types false in
/-- Every weakly fair execution from a memory whose table is admissible ends, with each window's array at the write-backs of its
    blocks, every other unscoped buffer as the region found it, and every counter at zero. -/
theorem run_main (hpf : ∀ c k, V m c (pre0.ref k) = a.1 k) :
    θ_run defs (onTc (τ := τ) (main (F := F))) (s₀ m ρ)
      (fun r => Pipeline.FramePost (Pipeline.pin pcfgs fun _ => a) (dats m a) 0 (V m) r ∧ r.2.sem = fun _ => 0) :=
  Pipeline.θ_run_frameP_track (Q' := fun r => Pipeline.FramePost (Pipeline.pin pcfgs fun _ => a) (dats m a) 0 (V m) r ∧ r.2.sem = fun _ => 0)
    pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main (hostOps (F := F)) ⟨hostOps0_sub, hostOps0_1_sub, hostOps0_2_sub⟩ ⟨fresh0, fresh1, fresh2⟩ main_chain)
    (hA := A_eq m a) (hpf := hpf) (hin := hin m a) (hout := hout m a)

end Cert.LateLow

end
-- ==== Proof.LateLowFrames.lean ====
/- The frames of the layer 1 early experts' programs: a table of known experts is admissible, and the run at any values is read at the word
   values and at the extended reals. -/
module

public import proofs.«01_k».proof.Defs
public import proofs.«01_k».proof.Proof.LateLowSame
public import proofs.«01_k».proof.Proof.Gen.Pre_known_late_low_experts
public import proofs.«01_k».proof.Proof.Gen.LateLowExpertsReferenceIdeal.Run
public import proofs.«01_k».proof.Proof.LateLowRun
public import proofs.«01_k».proof.Proof.MoeFrames
public import Idealize.ShloMosaic.Lib.StableHlo.Predicate

@[expose] public section

set_option maxRecDepth 16384

noncomputable section

namespace Cert.LateLow

open Cert.LateLowExpertsIdeal Cert.LateLowExpertsIdeal.Gen
open Cert.Moe (lt_of_cmpi)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Every word of the table names one of the 32 experts. -/
def Known (e : Vec F S36 .i32) : Prop := ∀ i : S36.Idx, (e i : BitVec 32).toNat < 32

variable (m : (ℓ : Loc nD τ sig) → Buf (Elt F) ℓ) (ρ : Dev nD → PrngReg)

/-- No host operation writes an argument. -/
theorem V_arg (c : Dev nD) (b : Ref sig .tc) (hb : ∀ o ∈ ([main_v0, main_v1, main_v2, main_v3, main_v4, main_v5, main_v6, main_v7, main_v8, main_c, main_v9, main_v10, main_c_0, main_v11, main_v12, main_c_1, main_v13, main_v14, main_c_2, main_v15, main_v16, main_c_3, main_v17, main_v18, main_v19, main_v20, main_v21, main_v22, main_v23, main_v24] : List (Ref sig .tc)), b ≠ o) :
    V m c b = m ((c : Thread nD τ).loc b) :=
  StableHlo.after_of_forall_not_mem (b := Proc.devRef .tc b) _ _ (List.forall_iff_forall_mem.mp (by
    simp only [List.forall_mem_cons] at hb
    simp only [hostOps, hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals first
      | exact StableHlo.devRef_ne_of_ne (by tauto)
      | (show _ ∉ ({Proc.devRef .tc main_v19} : Finset _)
         rw [Finset.mem_singleton]
         exact StableHlo.devRef_ne_of_ne (by tauto))))

/-- The table's contents at the start, on the one device. -/
def tab : pre0.Contents (Elt F) := fun k => m ((0 : Dev nD), pre0.ref k)

theorem slab_fits4 (n : ℕ) (h : n < 32) : ∀ k, ((![1, n, 0, 0] : Fin 4 → ℕ) k + 1) * (![1, 1, 1024, 2048] : Fin 4 → ℕ) k ≤ (![2, 32, 1024, 2048] : Fin 4 → ℕ) k := by
  intro k; fin_cases k <;> simp <;> omega
theorem slab_fits4' (n : ℕ) (h : n < 32) : ∀ k, ((![1, n, 0, 0] : Fin 4 → ℕ) k + 1) * (![1, 1, 1024, 1024] : Fin 4 → ℕ) k ≤ (![2, 32, 1024, 1024] : Fin 4 → ℕ) k := by
  intro k; fin_cases k <;> simp <;> omega
theorem slab_fits3 (n : ℕ) (h : n < 32) : ∀ k, ((![n, 0, 0] : Fin 3 → ℕ) k + 1) * (![1, 1, 1024] : Fin 3 → ℕ) k ≤ (![32, 1, 1024] : Fin 3 → ℕ) k := by
  intro k; fin_cases k <;> simp <;> omega

theorem ok_tab (hk : ∀ c : Dev nD, Known (m ((c : Thread nD τ).loc main_arg0))) : ok0 (tab m) :=
  ⟨fun i => ⟨slab_fits4 _ (hk 0 _), .inl rfl⟩, fun i => ⟨slab_fits3 _ (hk 0 _), .inl rfl⟩, fun i => ⟨slab_fits3 _ (hk 0 _), .inl rfl⟩,
    fun i => ⟨slab_fits4' _ (hk 0 _), .inl rfl⟩, fun i => ⟨slab_fits3 _ (hk 0 _), .inl rfl⟩⟩

/-- The table of a memory that knows its experts, as an admissible one. -/
def adm (hk : ∀ c : Dev nD, Known (m ((c : Thread nD τ).loc main_arg0))) : (pcfg0 (F := F)).Adm := ⟨tab m, ok_tab m hk⟩

theorem table_held (hk : ∀ c : Dev nD, Known (m ((c : Thread nD τ).loc main_arg0))) (c : Dev nD) (k) : V m c (pre0.ref k) = (adm m hk).1 k := by
  obtain rfl : c = 0 := Subsingleton.elim _ _
  fin_cases k
  exact V_arg m 0 main_arg0 (by decide)

theorem run (hk : ∀ c : Dev nD, Known (m ((c : Thread nD τ).loc main_arg0))) :
    θ_run defs (onTc (τ := τ) (main (F := F))) (s₀ m ρ)
      (fun r => Pipeline.FramePost (Pipeline.pin pcfgs fun _ => adm m hk) (dats m (adm m hk)) 0 (V m) r ∧ r.2.sem = fun _ => 0) :=
  run_main m ρ (adm m hk) (table_held m hk)

/-- The arguments are as they were. -/
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

theorem args_kept (hk : ∀ c : Dev nD, Known (m ((c : Thread nD τ).loc main_arg0))) (r : PUnit × MemSt nD τ sig (Elt F))
    (h : Pipeline.FramePost (Pipeline.pin pcfgs fun _ => adm m hk) (dats m (adm m hk)) 0 (V m) r ∧ r.2.sem = fun _ => 0) (c : Dev nD) :
    ArgsKept m r.2.mem c :=
  ⟨(h.1 c).2 main_arg0 (Pipeline.mem_restRefs_of main_arg0 (by decide) (show ∀ w : Fin 8, (spec0 w).arr.view.ref ≠ main_arg0 from by decide)) |>.trans (V_arg m c main_arg0 (by decide)),
      ((h.1 c).1 0).trans (((dats m (adm m hk) 0 c).arrAt_in 0 rfl _).trans (V_arg m c main_arg1 (by decide))),
      ((h.1 c).1 1).trans (((dats m (adm m hk) 0 c).arrAt_in 1 rfl _).trans (V_arg m c main_arg2 (by decide))),
      (h.1 c).2 main_arg3 (Pipeline.mem_restRefs_of main_arg3 (by decide) (show ∀ w : Fin 8, (spec0 w).arr.view.ref ≠ main_arg3 from by decide)) |>.trans (V_arg m c main_arg3 (by decide)),
      ((h.1 c).1 5).trans (((dats m (adm m hk) 0 c).arrAt_in 5 rfl _).trans (V_arg m c main_arg4 (by decide))),
      (h.1 c).2 main_arg5 (Pipeline.mem_restRefs_of main_arg5 (by decide) (show ∀ w : Fin 8, (spec0 w).arr.view.ref ≠ main_arg5 from by decide)) |>.trans (V_arg m c main_arg5 (by decide)),
      (h.1 c).2 main_arg6 (Pipeline.mem_restRefs_of main_arg6 (by decide) (show ∀ w : Fin 8, (spec0 w).arr.view.ref ≠ main_arg6 from by decide)) |>.trans (V_arg m c main_arg6 (by decide))⟩

/-- What a run says of the arguments and the counters. -/
theorem frame_at (hk : ∀ c : Dev nD, Known (m ((c : Thread nD τ).loc main_arg0))) :
    θ_run defs (onTc (τ := τ) (main (F := F))) ⟨m, fun _ => 0, ρ⟩ (fun r => (∀ c : Dev nD, ArgsKept m r.2.mem c)
      ∧ r.2.sem = fun _ => 0) :=
  (θ_run defs _ _).mono (fun r h => ⟨fun c => args_kept m hk r h c, h.2⟩) (run m ρ hk)

theorem known_of [Cert.Pre_known_late_low_experts.Facts] {x1 : Vec F S18432x1024 .bf16} {x2 : Vec F S2x32x1024x2048 .f32} {x3 : Vec F S32x2048 .f32} {x4 : Vec F S2x32x1024x1024 .f32} {x5 : Vec F S32x1024 .f32} {x6 : Vec F S147456x1024 .bf16}
    (e : Vec F S36 .i32) (h : (Cert.Pre_known_late_low_experts.fn (F := F) e x1 x2 x3 x4 x5 x6).1 = (fun _ => 1#1) ∧ (Cert.Pre_known_late_low_experts.fn (F := F) e x1 x2 x3 x4 x5 x6).2 = (fun _ => 1#1)) : Known e :=
  fun i => lt_of_cmpi (e i) (congrFun h.1 i) (congrFun h.2 i)

instance : Cert.Pre_known_late_low_experts.Facts := Cert.Pre_known_late_low_experts.Gen.facts

theorem frame_LateLowExperts : Cert.quiescent_LateLowExperts := fun m ρ hp => by
  have h := frame_at (F := Bits) m ρ fun c => known_of _ (hp c)
  rw [← main_same, ← defs_same] at h
  exact h

theorem frame_LateLowExpertsIdeal : Cert.quiescent_LateLowExpertsIdeal := fun m ρ hp => frame_at (F := Ideal) m ρ fun c => known_of _ (hp c)

theorem frame_LateLowExpertsReferenceIdeal : Cert.quiescent_LateLowExpertsReferenceIdeal := fun m ρ _ =>
  (θ_run Cert.LateLowExpertsReferenceIdeal.defs _ _).mono (fun r h => ⟨fun c => (h c).2, Idealize.ShloMosaic.sem_eq_zero_of_no_sems (by decide) r.2⟩)
    (Cert.LateLowExpertsReferenceIdeal.Value.run (F := Ideal) m ρ)

end Cert.LateLow

end
-- ==== Proof.LateLowHost.lean ====
/- The arrays the host prepares for the layer 1 early experts' call, read at an index of the arguments. -/
module

public import proofs.«01_k».proof.Proof.MoeHost
public import proofs.«01_k».proof.Proof.LateLowLaunch
public import Idealize.ShloMosaic.Lib.Tactic
public import Idealize.ShloMosaic.Lib.StableHlo.ReadAt
public import Idealize.ShloMosaic.Lib.IdealHost

@[expose] public section

set_option maxRecDepth 16384

noncomputable section

namespace Cert.LateLow

open Cert.LateLowExpertsIdeal Cert.LateLowExpertsIdeal.Gen
open Cert.Moe (IsPerm src src_word word_inj bit_value)
open Idealize.ShloMosaic
open Idealize.ShloMosaic.TcCoe

variable (m : (ℓ : Loc nD τ sig) → Buf (Elt Ideal) ℓ) (c : Dev nD)

theorem gateBias_apply (e : Fin 32) (j : Fin 1024) :
    V m c main_v1 (ix3 e 0 j) = m ((c : Thread nD τ).loc main_arg3) (ix2 e ⟨2 * j.val, by omega⟩) := by
  simp only [V, hostOps, hostOps0, hostOps0_1, hostOps0_2, List.flatten_cons, List.flatten_nil, List.append_nil, List.cons_append, List.nil_append]
  after_reads_at

theorem linBias_apply (e : Fin 32) (j : Fin 1024) :
    V m c main_v3 (ix3 e 0 j) = m ((c : Thread nD τ).loc main_arg3) (ix2 e ⟨2 * j.val + 1, by omega⟩) := by
  simp only [V, hostOps, hostOps0, hostOps0_1, hostOps0_2, List.flatten_cons, List.flatten_nil, List.append_nil, List.cons_append, List.nil_append]
  after_reads_at
  exact congrArg (fun k : Fin 2048 => m ((c : Thread nD τ).loc main_arg3) (ix2 e k)) (Fin.ext (Nat.add_comm _ _))

theorem outBias_apply (e : Fin 32) (j : Fin 1024) :
    V m c main_v4 (ix3 e 0 j) = m ((c : Thread nD τ).loc main_arg5) (ix2 e j) := by
  simp only [V, hostOps, hostOps0, hostOps0_1, hostOps0_2, List.flatten_cons, List.flatten_nil, List.append_nil, List.cons_append, List.nil_append]
  after_reads_at

theorem before_eq : V m c main_v24 = m ((c : Thread nD τ).loc main_arg6) := by
  simp only [V, hostOps, hostOps0, hostOps0_1, hostOps0_2, List.flatten_cons, List.flatten_nil, List.append_nil, List.cons_append, List.nil_append]
  after_reads_simp
  rfl

theorem perm_isPerm : IsPerm (V m c main_v23) := fun i j => by
  have h : @Eq EReal (V m c main_v23 (ix2 i j)) (FloatOps.uitofp (F := Ideal) .bf16 (IntOp.cmpi .eq (BitVec.ofNat 32 i.val)
      (Scalar.select (IntOp.cmpi .slt (BitVec.ofNat 32 j.val) 128#32) (IntOp.muli 2#32 (BitVec.ofNat 32 j.val))
        (IntOp.addi (IntOp.muli 2#32 (IntOp.subi (BitVec.ofNat 32 j.val) 128#32)) 1#32)))) := by
    simp only [V, hostOps, hostOps0, hostOps0_1, hostOps0_2, List.flatten_cons, List.flatten_nil, List.append_nil, List.cons_append, List.nil_append]
    after_reads_at
  rw [h, src_word, bit_value]
  refine if_congr ((IntOp.cmpi_eq ..).trans ⟨word_inj i (src j), fun h => h ▸ rfl⟩) rfl rfl

end Cert.LateLow

end
-- ==== Proof.LateLowArray.lean ====
/- The layer 1 early experts' result array in closed form over the arguments. -/
module

public import proofs.«01_k».proof.Proof.LateLowHost
public import proofs.«01_k».proof.Proof.MoeArray
public import proofs.«01_k».proof.Proof.LateLowFrames
public import Idealize.ShloMosaic.Lib.Pipeline.ValueKit

@[expose] public section

set_option maxRecDepth 16384

noncomputable section

namespace Cert.LateLow

open Cert.LateLowExpertsIdeal Cert.LateLowExpertsIdeal.Gen
open Cert.Moe (act tokenAt gateW linW downW outBlk)
open Idealize.ShloMosaic
open Idealize.ShloMosaic.TcCoe Idealize.SL.Sem
open Idealize.ShloMosaic.Pipeline (Dat)

/-- One element of one block of tokens, with the block's expert. -/
def blockAt (e : Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (n : Fin 18432) (j : Fin 1024) : EReal :=
  tokenAt (fun i => x (ix2 n i)) (fun i k => w1 (ix4 1 e i k)) (fun k => b1 (ix2 e k)) (fun y => w2 (ix4 1 e y j)) (b2 (ix2 e j))

/-- The result array: the rows of this part from their experts, the other rows as they were. -/
def outArr (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) : Vec Ideal S147456x1024 .bf16 :=
  fun z => if h : 13824 ≤ (z 0).val ∧ (z 0).val < 32256 then
      blockAt (e ⟨((z 0).val - 13824) / 512, by have : (z 0).val < 147456 := (z 0).isLt; omega⟩) x w1 b1 w2 b2
        ⟨(z 0).val - 13824, by have : (z 0).val < 147456 := (z 0).isLt; omega⟩ (z 1)
    else yb z

variable (m : (ℓ : Loc nD τ sig) → Buf (Elt Ideal) ℓ) (a : (pcfg0 (F := Ideal)).Adm)

/-- One element of a block, its tables the arguments' own. -/
theorem slabs (c : Dev nD) (t : Fin (cfg0 a).N) (r : Fin 512) (j : Fin 1024) (n : Fin 18432) (hn : n.val = 512 * t.val + r.val) :
    outBlk (F := Ideal) (rows (m ((c : Thread nD τ).loc main_arg1)) t) (gateW (slab1 (m ((c : Thread nD τ).loc main_arg2)) (exf a t)) (V m c main_v23)) (linW (slab1 (m ((c : Thread nD τ).loc main_arg2)) (exf a t)) (V m c main_v23))
        (downW (slab2 (m ((c : Thread nD τ).loc main_arg4)) (exf a t))) (slabB (V m c main_v1) (exf a t)) (slabB (V m c main_v3) (exf a t)) (slabB (V m c main_v4) (exf a t)) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j := by
  rw [Cert.Moe.outBlk_apply]
  unfold blockAt tokenAt
  have hx : ∀ i : Fin 1024, rows (m ((c : Thread nD τ).loc main_arg1)) t (ix2 r i) = m ((c : Thread nD τ).loc main_arg1) (ix2 n i) := fun i => by
    unfold rows
    refine congrArg (fun k : Fin 18432 => m ((c : Thread nD τ).loc main_arg1) (ix2 k i)) (Fin.ext ?_)
    simp [hn]
    try omega
  have hg : ∀ i y : Fin 1024, gateW (slab1 (m ((c : Thread nD τ).loc main_arg2)) (exf a t)) (V m c main_v23) (ix2 i y)
      = m ((c : Thread nD τ).loc main_arg2) (ix4 1 (exf a t) i ⟨2 * y.val, by omega⟩) := fun i y => Cert.Moe.gateW_apply _ _ (perm_isPerm m c) i y
  have hl : ∀ i y : Fin 1024, linW (slab1 (m ((c : Thread nD τ).loc main_arg2)) (exf a t)) (V m c main_v23) (ix2 i y)
      = m ((c : Thread nD τ).loc main_arg2) (ix4 1 (exf a t) i ⟨2 * y.val + 1, by omega⟩) := fun i y => Cert.Moe.linW_apply _ _ (perm_isPerm m c) i y
  have hd : ∀ y : Fin 1024, downW (slab2 (m ((c : Thread nD τ).loc main_arg4)) (exf a t)) (ix2 y j)
      = m ((c : Thread nD τ).loc main_arg4) (ix4 1 (exf a t) y j) := fun y => Cert.Moe.downW_apply _ y j
  have hbg : ∀ y : Fin 1024, slabB (V m c main_v1) (exf a t) (ix3 0 0 y) = m ((c : Thread nD τ).loc main_arg3) (ix2 (exf a t) ⟨2 * y.val, by omega⟩) := fun y => gateBias_apply m c (exf a t) y
  have hbl : ∀ y : Fin 1024, slabB (V m c main_v3) (exf a t) (ix3 0 0 y) = m ((c : Thread nD τ).loc main_arg3) (ix2 (exf a t) ⟨2 * y.val + 1, by omega⟩) := fun y => linBias_apply m c (exf a t) y
  have hbd : slabB (V m c main_v4) (exf a t) (ix3 0 0 j) = m ((c : Thread nD τ).loc main_arg5) (ix2 (exf a t) j) := outBias_apply m c (exf a t) j
  refine congrArg₂ (fun (u v : EReal) => u + v) (Finset.sum_congr rfl fun y _ => ?_) hbd
  refine congrArg₂ (fun (u v : EReal) => u * v) (congrArg₂ act ?_ ?_) (hd y)
  · exact congrArg₂ (fun (u v : EReal) => u + v) (Finset.sum_congr rfl fun i _ => congrArg₂ (fun (u v : EReal) => u * v) (hx i) (hg i y)) (hbg y)
  · exact congrArg₂ (fun (u v : EReal) => u + v) (Finset.sum_congr rfl fun i _ => congrArg₂ (fun (u v : EReal) => u * v) (hx i) (hl i y)) (hbl y)

/-- What the body leaves at one index of its block. -/
theorem point (c : Dev nD) (t : Fin (cfg0 a).N) (r : Fin 512) (j : Fin 1024) (n : Fin 18432) (hn : n.val = 512 * t.val + r.val) :
    outBlk (F := Ideal) (iblk m a c 0 t) (gateW (iblk m a c 1 t) (iblk m a c 2 t)) (linW (iblk m a c 1 t) (iblk m a c 2 t)) (downW (iblk m a c 5 t)) (iblk m a c 3 t) (iblk m a c 4 t) (iblk m a c 6 t) (ix2 r j)
      = blockAt (exf a t) (m ((c : Thread nD τ).loc main_arg1)) (m ((c : Thread nD τ).loc main_arg2)) (m ((c : Thread nD τ).loc main_arg3))
          (m ((c : Thread nD τ).loc main_arg4)) (m ((c : Thread nD τ).loc main_arg5)) n j :=
  (congrFun (Cert.Moe.of_blocks _ _ _ _ _ _ _ _ _ _ _ _ _ _
    ((blk0 m a c t).trans (congrArg (fun x => rows x t) (V_arg m c main_arg1 (by decide))))
    ((blk1 m a c t).trans (congrArg (fun x => slab1 x (exf a t)) (V_arg m c main_arg2 (by decide))))
    (blk2 m a c t)
    ((blk5 m a c t).trans (congrArg (fun x => slab2 x (exf a t)) (V_arg m c main_arg4 (by decide))))
    (blk3 m a c t) (blk4 m a c t) (blk6 m a c t)) (ix2 r j)).trans (slabs m a c t r j n hn)

/-- A table of zeros, which window 7 does not read. -/
def zeroTab : pre0.Contents (Elt Ideal) := fun k => match k with
  | ⟨0, _⟩ => fun _ => (0#32 : BitVec 32)

def zeros : (pcfg0 (F := Ideal)).Adm := ⟨zeroTab,
  ⟨fun _ => ⟨slab_fits4 0 (by decide), .inl rfl⟩, fun _ => ⟨slab_fits3 0 (by decide), .inl rfl⟩, fun _ => ⟨slab_fits3 0 (by decide), .inl rfl⟩,
    fun _ => ⟨slab_fits4' 0 (by decide), .inl rfl⟩, fun _ => ⟨slab_fits3 0 (by decide), .inl rfl⟩⟩⟩

theorem covers_zeros : ((cfg0 zeros).win 7).CoversWhere (fun β => 27 ≤ β (0 : Fin 2) ∧ β (0 : Fin 2) < 63) := by decide +kernel

theorem covers : ((cfg0 a).win 7).CoversWhere (fun β => 27 ≤ β (0 : Fin 2) ∧ β (0 : Fin 2) < 63) := covers_zeros

/-- The closed form at an index of block `t`. -/
theorem outArr_block (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16) (t : Fin 36) (r : Fin 512) (j : Fin 1024)
    (z : S147456x1024.Idx) (e0 : (z 0).val = 512 * (27 + t.val) + r.val) (e1 : (z 1).val = j.val) :
    outArr e x w1 b1 w2 b2 yb z = blockAt (e t) x w1 b1 w2 b2 ⟨512 * t.val + r.val, by omega⟩ j := by
  unfold outArr
  rw [dif_pos (by omega)]
  have h1 : (⟨((z 0).val - 13824) / 512, by have : (z 0).val < 147456 := (z 0).isLt; omega⟩ : Fin 36) = t := Fin.ext (by show ((z 0).val - 13824) / 512 = _; omega)
  have h2 : (⟨(z 0).val - 13824, by have : (z 0).val < 147456 := (z 0).isLt; omega⟩ : Fin 18432) = ⟨512 * t.val + r.val, by omega⟩ := Fin.ext (by show (z 0).val - 13824 = 512 * t.val + r.val; omega)
  have h3 : (z 1 : Fin 1024) = j := Fin.ext e1
  rw [h1, h2]
  exact congrArg _ h3

/-- The closed form in the rows of the other parts. -/
theorem outArr_other (e : Fin 36 → Fin 32) (x : Vec Ideal S18432x1024 .bf16) (w1 : Vec Ideal S2x32x1024x2048 .f32) (b1 : Vec Ideal S32x2048 .f32)
    (w2 : Vec Ideal S2x32x1024x1024 .f32) (b2 : Vec Ideal S32x1024 .f32) (yb : Vec Ideal S147456x1024 .bf16)
    (z : S147456x1024.Idx) (e0 : ¬ (13824 ≤ (z 0).val ∧ (z 0).val < 32256)) : outArr e x w1 b1 w2 b2 yb z = yb z := by
  unfold outArr
  rw [dif_neg e0]

/-- The result array after the run. -/
theorem final (c : Dev nD) : (dats m a 0 c).arrAt 7 (cfg0 a).N
    = outArr (fun t => exf a t) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m a 0 c).arrAt_eq_of_coversWhere_of_agree 7 _ (fun β => 27 ≤ β (0 : Fin 2) ∧ β (0 : Fin 2) < 63) (covers a) (fun t hf y => ?_) (fun j hj => ?_)
  · blk_simp
    rw [after0_7]
    have w7 : ((cfg0 a).win 7).index t = ![27 + t.val, 0] := win7 a t
    have e0 : (((((cfg0 a).win 7).blk t).view.emb y) (0 : Fin 2)).val = 512 * (27 + t.val) + (y (0 : Fin 2)).val := by
      blk_simp
      rw [w7]
      show (27 + t.val) * 512 + (y (0 : Fin 2)).val = _
      omega
    have e1 : (((((cfg0 a).win 7).blk t).view.emb y) (1 : Fin 2)).val = (y (1 : Fin 2)).val := by
      blk_simp
      rw [w7]
      show 0 * 1024 + (y (1 : Fin 2)).val = _
      omega
    have hy : y = (ix2 (y (0 : Fin 2)) (y (1 : Fin 2)) : S512x1024.Idx) := by
      funext b; fin_cases b <;> rfl
    refine Eq.trans ?_ (outArr_block _ _ _ _ _ _ _ t (y (0 : Fin 2)) (y (1 : Fin 2)) _ e0 e1).symm
    refine Eq.trans ?_ (point m a c t (y (0 : Fin 2)) (y (1 : Fin 2)) _ rfl)
    exact congrArg _ hy
  · have hc : ¬ (13824 ≤ (j (0 : Fin 2)).val ∧ (j (0 : Fin 2)).val < 32256) := fun h =>
      hj ⟨show 27 ≤ (j (0 : Fin 2)).val / 512 by omega, show (j (0 : Fin 2)).val / 512 < 63 by omega⟩
    rw [A_eq]
    exact (congrFun (before_eq m c) _).trans (outArr_other _ _ _ _ _ _ _ _ hc).symm

end Cert.LateLow

end
-- ==== Proof.LateLowRef.lean ====
/- The layer 1 early experts' reference as named stages, and each stage read at an index. -/
module

public import proofs.«01_k».proof.Proof.Gen.LateLowExpertsReferenceIdeal.Run
public import proofs.«01_k».proof.Proof.LateLowArray
public import proofs.«01_k».proof.Proof.LowRef
public import Idealize.ShloMosaic.Lib.Pointwise
public import Idealize.ShloMosaic.Lib.IdealHost

@[expose] public section

set_option maxRecDepth 16384

noncomputable section

namespace Cert.LateLow.Ref

open Cert.LateLowExpertsReferenceIdeal Cert.LateLowExpertsReferenceIdeal.Gen
open Cert.Moe (act tokenAt)
open Cert.Low.Ref (tokensR firstOf firstBiasR secondOf secondBiasR hiddenR actR downR tokensR_apply hiddenR_apply downR_apply actR_apply firstOf_apply secondOf_apply
  firstBiasR_apply secondBiasR_apply)
open Idealize.ShloMosaic
open Idealize.ShloMosaic.TcCoe

section stages
variable {F : FTy → Type} [FloatOps F]

/-- Each block's first-layer matrix. -/
def firstR (e : IVec S36 32) (w1 : FVec F S2x32x1024x2048 .f32) : FVec F S36x1024x2048 .f32 :=
  firstOf e (shapeCast _ (extractStridedSlice S1x32x1024x2048 ![1, 0, 0, 0] w1 slices_S2x32x1024x2048_S1x32x1024x2048_1_0_0_0) shapeCasts_S1x32x1024x2048_S32x1024x2048)

/-- Each block's second-layer matrix. -/
def secondR (e : IVec S36 32) (w2 : FVec F S2x32x1024x1024 .f32) : FVec F S36x1024x1024 .f32 :=
  secondOf e (shapeCast _ (extractStridedSlice S1x32x1024x1024 ![1, 0, 0, 0] w2 slices_S2x32x1024x1024_S1x32x1024x1024_1_0_0_0) shapeCasts_S1x32x1024x1024_S32x1024x1024)

/-- The earlier rows, this part's and the later rows, one below the other. -/
def stackR (yb : FVec F S147456x1024 .bf16) (y : FVec F S36x512x1024 .f32) : FVec F S147456x1024 .bf16 :=
  concatenate S147456x1024 0 [⟨S13824x1024, (extractStridedSlice S13824x1024 ![0, 0] yb slices_S147456x1024_S13824x1024_0_0)⟩,
    ⟨S18432x1024, (truncf .bf16 (shapeCast _ y shapeCasts_S36x512x1024_S18432x1024) bitsLt_bf16_f32)⟩,
    ⟨S115200x1024, (extractStridedSlice S115200x1024 ![32256, 0] yb slices_S147456x1024_S115200x1024_32256_0)⟩] concatenates_S13824x1024_S18432x1024_S115200x1024_S147456x1024_d0

def outR (e : IVec S36 32) (x : FVec F S18432x1024 .bf16) (w1 : FVec F S2x32x1024x2048 .f32) (b1 : FVec F S32x2048 .f32) (w2 : FVec F S2x32x1024x1024 .f32) (b2 : FVec F S32x1024 .f32) (yb : FVec F S147456x1024 .bf16) : FVec F S147456x1024 .bf16 :=
  stackR yb (downR (actR (hiddenR (tokensR x) (firstR e w1) (firstBiasR e b1))) (secondR e w2) (secondBiasR e b2))

/-- The reference's result is these stages. -/
theorem res_eq (m : (ℓ : Loc nD τ sig) → Buf (Elt F) ℓ) (c : Dev nD) :
    Cert.LateLowExpertsReferenceIdeal.Value.res_main_v63 m c = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.LateLowExpertsReferenceIdeal.Value.res_main_v63
  rfl

end stages

section known
variable (e : IVec S36 32) (ef : Fin 36 → Fin 32) (he : ∀ t, (e (ix1 t)).toNat = (ef t).val)
include he

theorem firstR_apply (w1 : FVec Ideal S2x32x1024x2048 .f32) (t : Fin 36) (i : Fin 1024) (k : Fin 2048) :
    firstR e w1 (ix3 t i k) = w1 (ix4 1 (ef t) i k) := by
  unfold firstR
  rw [firstOf_apply e ef he]
  pointwise

theorem secondR_apply (w2 : FVec Ideal S2x32x1024x1024 .f32) (t : Fin 36) (i : Fin 1024) (k : Fin 1024) :
    secondR e w2 (ix3 t i k) = w2 (ix4 1 (ef t) i k) := by
  unfold secondR
  rw [secondOf_apply e ef he]
  pointwise

/-- Both layers of one token of one block. -/
theorem layers_apply (x : FVec Ideal S18432x1024 .bf16) (w1 : FVec Ideal S2x32x1024x2048 .f32) (b1 : FVec Ideal S32x2048 .f32) (w2 : FVec Ideal S2x32x1024x1024 .f32) (b2 : FVec Ideal S32x1024 .f32)
    (t : Fin 36) (r : Fin 512) (j : Fin 1024) :
    downR (actR (hiddenR (tokensR x) (firstR e w1) (firstBiasR e b1))) (secondR e w2) (secondBiasR e b2) (ix3 t r j)
      = blockAt (ef t) x w1 b1 w2 b2 ⟨t.val * 512 + r.val, by omega⟩ j := by
  have hh : ∀ k : Fin 2048, hiddenR (tokensR x) (firstR e w1) (firstBiasR e b1) (ix3 t r k)
      = (∑ i : Fin 1024, HMul.hMul (α := EReal) (β := EReal) (x (ix2 ⟨t.val * 512 + r.val, by omega⟩ i)) (w1 (ix4 1 (ef t) i k))) + b1 (ix2 (ef t) k) := fun k => by
    rw [hiddenR_apply]
    exact congrArg₂ (fun (u v : EReal) => u + v) (Finset.sum_congr rfl fun i _ => congrArg₂ (fun (u v : EReal) => u * v) (tokensR_apply x t r i) (firstR_apply e ef he w1 t i k)) (firstBiasR_apply e ef he b1 t k)
  rw [downR_apply]
  unfold blockAt tokenAt
  refine congrArg₂ (fun (u v : EReal) => u + v) (Finset.sum_congr rfl fun y _ => ?_) (secondBiasR_apply e ef he b2 t j)
  refine congrArg₂ (fun (u v : EReal) => u * v) ?_ (secondR_apply e ef he w2 t y j)
  exact (actR_apply _ t r y).trans (congrArg₂ act (hh _) (hh _))

end known

theorem stackR_before (yb : FVec Ideal S147456x1024 .bf16) (y : FVec Ideal S36x512x1024 .f32) (n : Fin 147456) (j : Fin 1024) (hn : n.val < 13824) :
    stackR yb y (ix2 n j) = yb (ix2 n j) := by
  pointwise [stackR]
  exact dif_pos hn

theorem stackR_after (yb : FVec Ideal S147456x1024 .bf16) (y : FVec Ideal S36x512x1024 .f32) (n : Fin 147456) (j : Fin 1024) (hn : 32256 ≤ n.val) :
    stackR yb y (ix2 n j) = yb (ix2 n j) := by
  pointwise [stackR]
  have h1 : ¬ n.val < 13824 := by omega
  have h2 : ¬ n.val - 13824 < 18432 := by omega
  exact (dif_neg h1).trans ((dif_neg h2).trans (congrArg (fun k : Fin 147456 => yb (ix2 k j)) (Fin.ext (by
    show 32256 + (n.val - 13824 - 18432) = n.val
    omega))))

theorem stackR_block (yb : FVec Ideal S147456x1024 .bf16) (y : FVec Ideal S36x512x1024 .f32) (n : Fin 147456) (j : Fin 1024) (hn : 13824 ≤ n.val) (hu : n.val < 32256) :
    @Eq EReal (stackR yb y (ix2 n j)) (y (ix3 ⟨(n.val - 13824) / 512, by omega⟩ ⟨(n.val - 13824) % 512, by omega⟩ j)) := by
  pointwise [stackR]
  exact (dif_neg (Nat.not_lt.mpr hn)).trans (dif_pos (by omega))

/-- The reference's result is the closed form. -/
theorem outR_eq (e : IVec S36 32) (ef : Fin 36 → Fin 32) (he : ∀ t, (e (ix1 t)).toNat = (ef t).val) (x : FVec Ideal S18432x1024 .bf16)
    (w1 : FVec Ideal S2x32x1024x2048 .f32) (b1 : FVec Ideal S32x2048 .f32) (w2 : FVec Ideal S2x32x1024x1024 .f32) (b2 : FVec Ideal S32x1024 .f32) (yb : FVec Ideal S147456x1024 .bf16) :
    outR e x w1 b1 w2 b2 yb = outArr ef x w1 b1 w2 b2 yb := by
  funext z
  have hz : z = ix2 (z 0) (z 1) := by funext b; fin_cases b <;> rfl
  by_cases h : 13824 ≤ (z 0).val ∧ (z 0).val < 32256
  swap
  · rw [outArr_other _ _ _ _ _ _ _ _ h, hz]
    by_cases hb : (z 0).val < 13824
    · exact stackR_before yb _ (z 0) (z 1) hb
    · exact stackR_after yb _ (z 0) (z 1) (show 32256 ≤ (z 0).val by omega)
  · obtain ⟨hge, hu⟩ := h
    refine Eq.trans ?_ (outArr_block ef x w1 b1 w2 b2 yb ⟨((z 0).val - 13824) / 512, by omega⟩ ⟨((z 0).val - 13824) % 512, by omega⟩ (z 1) z (by show (z 0).val = 512 * (27 + ((z 0).val - 13824) / 512) + ((z 0).val - 13824) % 512; omega) rfl).symm
    refine (congrArg _ hz).trans ?_
    refine (stackR_block yb _ (z 0) (z 1) hge hu).trans ((layers_apply e ef he x w1 b1 w2 b2 _ _ (z 1)).trans ?_)
    exact congrArg (fun n : Fin 18432 => blockAt _ x w1 b1 w2 b2 n (z 1)) (Fin.ext (by
      show ((z 0).val - 13824) / 512 * 512 + ((z 0).val - 13824) % 512 = 512 * (((z 0).val - 13824) / 512) + ((z 0).val - 13824) % 512
      omega))

end Cert.LateLow.Ref

end
-- ==== Proof.LateLowValue.lean ====
/- The layer 1 early experts' call and its reference leave the same result. -/
module

public import proofs.«01_k».proof.Proof.LateLowRef

@[expose] public section

set_option maxRecDepth 16384

noncomputable section

namespace Cert.LateLow

open Idealize.ShloMosaic
open Idealize.ShloMosaic.TcCoe Idealize.SL.Sem

section run
open Cert.LateLowExpertsIdeal Cert.LateLowExpertsIdeal.Gen

variable (m : (ℓ : Loc nD τ sig) → Buf (Elt Ideal) ℓ) (hk : ∀ c : Dev nD, Known (m ((c : Thread nD τ).loc main_arg0)))

/-- The experts of the blocks. -/
def experts (t : Fin 36) : Fin 32 := exf (adm m hk) t

theorem experts_word (c : Dev nD) (t : Fin 36) : (m ((c : Thread nD τ).loc main_arg0) (ix1 t) : BitVec 32).toNat = (experts m hk t).val := by
  obtain rfl : c = 0 := Subsingleton.elim _ _
  exact congrArg (fun i : S36.Idx => (m (((0 : Dev nD) : Thread nD τ).loc main_arg0) i : BitVec 32).toNat) (by funext b; fin_cases b; rfl)

/-- What a run of the call says of its result and its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v24) = outArr (experts m hk) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ ArgsKept m r.2.mem c) :=
  (θ_run defs _ _).mono (fun r h c => ⟨((h.1 c).1 7).trans (final m (adm m hk) c), args_kept m hk r h c⟩) (run m ρ hk)

end run

/-- The call and the reference leave the same result. -/
theorem value : Cert.algebraic_LateLowExpertsIdeal_LateLowExpertsReferenceIdeal := by
  intro m g m' g' hpre hagree
  have hk := fun c => known_of _ (hpre c)
  refine ⟨_, run_value m hk g, (θ_run Cert.LateLowExpertsReferenceIdeal.defs _ _).mono (fun r h c => ⟨(h c).1.trans ?_, (h c).2⟩) (Cert.LateLowExpertsReferenceIdeal.Value.run (F := Ideal) m' g')⟩
  obtain ⟨h0, h1, h2, h3, h4, h5, h6⟩ := hagree c
  refine (Ref.res_eq m' c).trans ?_
  rw [h0, h1, h2, h3, h4, h5, h6]
  exact Ref.outR_eq _ (experts m hk) (experts_word m hk c) _ _ _ _ _ _

end Cert.LateLow

end
-- ==== Proof.lean ====
/- The claims of the certificate: the frames, the idealization, which rewrites nothing, and the value of the result. -/
module

public import proofs.«01_k».proof.Defs
public import proofs.«01_k».proof.Proof.Gen.Kernel
public import proofs.«01_k».proof.Proof.Gen.ReferenceIdeal.Run
public import proofs.«01_k».proof.Proof.Gen.Pre_finite_values
public import proofs.«01_k».proof.Proof.Frames
public import proofs.«01_k».proof.Proof.Finite
public import proofs.«01_k».proof.Proof.Equal
public import proofs.«01_k».proof.Proof.Gen.Experts
public import proofs.«01_k».proof.Proof.Gen.ExpertsIdeal.Launch
public import proofs.«01_k».proof.Proof.Gen.ExpertsIdeal.Skeleton
public import proofs.«01_k».proof.Proof.Gen.ExpertsReferenceIdeal.Run
public import proofs.«01_k».proof.Proof.Gen.Pre_known_experts
public import proofs.«01_k».proof.Proof.Gen.LateExperts
public import proofs.«01_k».proof.Proof.Gen.LateExpertsIdeal.Launch
public import proofs.«01_k».proof.Proof.Gen.LateExpertsIdeal.Skeleton
public import proofs.«01_k».proof.Proof.Gen.LateExpertsReferenceIdeal.Run
public import proofs.«01_k».proof.Proof.Gen.Pre_known_late_experts
public import proofs.«01_k».proof.Proof.Gen.MidExperts
public import proofs.«01_k».proof.Proof.Gen.MidExpertsIdeal.Launch
public import proofs.«01_k».proof.Proof.Gen.MidExpertsIdeal.Skeleton
public import proofs.«01_k».proof.Proof.Gen.MidExpertsReferenceIdeal.Run
public import proofs.«01_k».proof.Proof.Gen.Pre_known_mid_experts
public import proofs.«01_k».proof.Proof.Gen.LateMidExperts
public import proofs.«01_k».proof.Proof.Gen.LateMidExpertsIdeal.Launch
public import proofs.«01_k».proof.Proof.Gen.LateMidExpertsIdeal.Skeleton
public import proofs.«01_k».proof.Proof.Gen.LateMidExpertsReferenceIdeal.Run
public import proofs.«01_k».proof.Proof.Gen.Pre_known_late_mid_experts
public import proofs.«01_k».proof.Proof.Gen.LowExperts
public import proofs.«01_k».proof.Proof.Gen.LowExpertsIdeal.Launch
public import proofs.«01_k».proof.Proof.Gen.LowExpertsIdeal.Skeleton
public import proofs.«01_k».proof.Proof.Gen.LowExpertsReferenceIdeal.Run
public import proofs.«01_k».proof.Proof.Gen.Pre_known_low_experts
public import proofs.«01_k».proof.Proof.Gen.LateLowExperts
public import proofs.«01_k».proof.Proof.Gen.LateLowExpertsIdeal.Launch
public import proofs.«01_k».proof.Proof.Gen.LateLowExpertsIdeal.Skeleton
public import proofs.«01_k».proof.Proof.Gen.LateLowExpertsReferenceIdeal.Run
public import proofs.«01_k».proof.Proof.Gen.Pre_known_late_low_experts
public import proofs.«01_k».proof.Proof.MoeFrames
public import proofs.«01_k».proof.Proof.MoeValue
public import proofs.«01_k».proof.Proof.LateFrames
public import proofs.«01_k».proof.Proof.LateValue
public import proofs.«01_k».proof.Proof.MidFrames
public import proofs.«01_k».proof.Proof.MidValue
public import proofs.«01_k».proof.Proof.LateMidFrames
public import proofs.«01_k».proof.Proof.LateMidValue
public import proofs.«01_k».proof.Proof.LowFrames
public import proofs.«01_k».proof.Proof.LowValue
public import proofs.«01_k».proof.Proof.LateLowFrames
public import proofs.«01_k».proof.Proof.LateLowValue

@[expose] public section

noncomputable section

namespace Cert.Proof

open Idealize.ShloMosaic
open Idealize.ShloMosaic.TcCoe Idealize.SL.Sem

open Cert.KernelIdeal Cert.KernelIdeal.Gen in
/-- What a run of the kernel says of its result and its arguments. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32) = Cert.Attn.outArr (V m c main_v30) (V m c main_v5) (V m c main_v9) (V m c main_v13) (V m c main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 5).trans (Cert.Attn.final m c),
      (h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c),
      (h.1 c).2 main_arg5 (Pipeline.mem_restRefs_of main_arg5 (by decide) (by decide)) |>.trans (V_main_arg5 m c),
      (h.1 c).2 main_arg6 (Pipeline.mem_restRefs_of main_arg6 (by decide) (by decide)) |>.trans (V_main_arg6 m c)⟩) (Cert.Attn.run_main m ρ)

/-- The kernel and the reference leave the same result. -/
theorem value : Cert.algebraic_KernelIdeal_ReferenceIdeal_pre_finite_values (hPre_finite_values := Cert.Pre_finite_values.Gen.facts) := by
  intro m g m' g' hpre hagree
  refine ⟨_, run_value m g, (θ_run Cert.ReferenceIdeal.defs _ _).mono (fun r h c => ⟨(h c).1.trans ?_, (h c).2⟩) (Cert.ReferenceIdeal.Value.run (F := Ideal) m' g')⟩
  obtain ⟨h0, h1, h2, h3, h4, h5, h6⟩ := hagree c
  obtain ⟨hv, hvc, hl⟩ := Cert.Attn.pre_read m hpre c
  refine (Cert.Attn.Ref.res_eq m' c).trans ?_
  rw [h0, h1, h2, h3, h4, h5, h6]
  exact (Cert.Attn.result_eq m c hv hvc hl).symm

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.LateExperts.Gen.facts, Cert.LateExpertsIdeal.Gen.facts, Cert.LateExpertsReferenceIdeal.Gen.facts,
  Cert.MidExperts.Gen.facts, Cert.MidExpertsIdeal.Gen.facts, Cert.MidExpertsReferenceIdeal.Gen.facts,
  Cert.LateMidExperts.Gen.facts, Cert.LateMidExpertsIdeal.Gen.facts, Cert.LateMidExpertsReferenceIdeal.Gen.facts,
  Cert.LowExperts.Gen.facts, Cert.LowExpertsIdeal.Gen.facts, Cert.LowExpertsReferenceIdeal.Gen.facts,
  Cert.LateLowExperts.Gen.facts, Cert.LateLowExpertsIdeal.Gen.facts, Cert.LateLowExpertsReferenceIdeal.Gen.facts,
  Cert.Pre_finite_values.Gen.facts, Cert.Pre_known_experts.Gen.facts, Cert.Pre_known_late_experts.Gen.facts,
  Cert.Pre_known_mid_experts.Gen.facts, Cert.Pre_known_late_mid_experts.Gen.facts,
  Cert.Pre_known_low_experts.Gen.facts, Cert.Pre_known_late_low_experts.Gen.facts,
  Cert.Attn.frame_Kernel, Cert.Attn.frame_KernelIdeal, fun m ρ _ => Cert.Attn.frame_at (F := Ideal) m ρ,
  Cert.Attn.frame_ReferenceIdeal, fun m ρ _ => Cert.Attn.frame_ReferenceIdeal m ρ trivial,
  Cert.Moe.frame_Experts, Cert.Moe.frame_ExpertsIdeal, Cert.Moe.frame_ExpertsReferenceIdeal, fun m ρ _ => Cert.Moe.frame_ExpertsReferenceIdeal m ρ trivial,
  Cert.Late.frame_LateExperts, Cert.Late.frame_LateExpertsIdeal, Cert.Late.frame_LateExpertsReferenceIdeal, fun m ρ _ => Cert.Late.frame_LateExpertsReferenceIdeal m ρ trivial,
  Cert.Mid.frame_MidExperts, Cert.Mid.frame_MidExpertsIdeal, Cert.Mid.frame_MidExpertsReferenceIdeal, fun m ρ _ => Cert.Mid.frame_MidExpertsReferenceIdeal m ρ trivial,
  Cert.LateMid.frame_LateMidExperts, Cert.LateMid.frame_LateMidExpertsIdeal, Cert.LateMid.frame_LateMidExpertsReferenceIdeal, fun m ρ _ => Cert.LateMid.frame_LateMidExpertsReferenceIdeal m ρ trivial,
  Cert.Low.frame_LowExperts, Cert.Low.frame_LowExpertsIdeal, Cert.Low.frame_LowExpertsReferenceIdeal, fun m ρ _ => Cert.Low.frame_LowExpertsReferenceIdeal m ρ trivial,
  Cert.LateLow.frame_LateLowExperts, Cert.LateLow.frame_LateLowExpertsIdeal, Cert.LateLow.frame_LateLowExpertsReferenceIdeal, fun m ρ _ => Cert.LateLow.frame_LateLowExpertsReferenceIdeal m ρ trivial,
  trivial, value, trivial, Cert.Moe.value, trivial, Cert.Late.value, trivial, Cert.Mid.value, trivial, Cert.LateMid.value,
  trivial, Cert.Low.value, trivial, Cert.LateLow.value⟩

end Cert.Proof

end
